-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AttnKeys (m : (ℓ : Loc Cert.AttnKeys.nD Cert.AttnKeys.τ Cert.AttnKeys.sig) → Buf (Elt Bits) ℓ) : Prop :=
  True

def Pre_AttnKeysIdeal (m : (ℓ : Loc Cert.AttnKeysIdeal.nD Cert.AttnKeysIdeal.τ Cert.AttnKeysIdeal.sig) → Buf (Elt Ideal) ℓ) : Prop :=
  True

def Pre_AttnKeysRefIdeal (m : (ℓ : Loc Cert.AttnKeysRefIdeal.nD Cert.AttnKeysRefIdeal.τ Cert.AttnKeysRefIdeal.sig) → Buf (Elt Ideal) ℓ) : Prop :=
  True

def Pre_GmlpSample (m : (ℓ : Loc Cert.GmlpSample.nD Cert.GmlpSample.τ Cert.GmlpSample.sig) → Buf (Elt Bits) ℓ) : Prop :=
  True

def Pre_GmlpSampleIdeal (m : (ℓ : Loc Cert.GmlpSampleIdeal.nD Cert.GmlpSampleIdeal.τ Cert.GmlpSampleIdeal.sig) → Buf (Elt Ideal) ℓ) : Prop :=
  True

def Pre_GmlpSampleRefIdeal (m : (ℓ : Loc Cert.GmlpSampleRefIdeal.nD Cert.GmlpSampleRefIdeal.τ Cert.GmlpSampleRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeLast (m : (ℓ : Loc Cert.MergeLast.nD Cert.MergeLast.τ Cert.MergeLast.sig) → Buf (Elt Bits) ℓ) : Prop :=
  True

def Pre_MergeLastIdeal (m : (ℓ : Loc Cert.MergeLastIdeal.nD Cert.MergeLastIdeal.τ Cert.MergeLastIdeal.sig) → Buf (Elt Ideal) ℓ) : Prop :=
  True

def Pre_MergeLastRefIdeal (m : (ℓ : Loc Cert.MergeLastRefIdeal.nD Cert.MergeLastRefIdeal.τ Cert.MergeLastRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_AttnKeys [hAttnKeys : Cert.AttnKeys.Facts] : Prop :=
  ∀ (m : (ℓ : Loc Cert.AttnKeys.nD Cert.AttnKeys.τ Cert.AttnKeys.sig) → Buf (Elt Bits) ℓ) (g : Dev Cert.AttnKeys.nD → PrngReg), Pre_AttnKeys m →
    θ_run (Cert.AttnKeys.defs (F := Bits)) (onTc (τ := Cert.AttnKeys.τ) (Cert.AttnKeys.main (F := Bits))) ⟨m, fun _ => 0, g⟩ (fun r => (∀ c : Dev Cert.AttnKeys.nD,
      r.2.mem ((c.tc : Thread Cert.AttnKeys.nD Cert.AttnKeys.τ).loc Cert.AttnKeys.main_arg0) = m ((c.tc : Thread Cert.AttnKeys.nD Cert.AttnKeys.τ).loc Cert.AttnKeys.main_arg0)
      ∧ r.2.mem ((c.tc : Thread Cert.AttnKeys.nD Cert.AttnKeys.τ).loc Cert.AttnKeys.main_arg1) = m ((c.tc : Thread Cert.AttnKeys.nD Cert.AttnKeys.τ).loc Cert.AttnKeys.main_arg1)
      ∧ r.2.mem ((c.tc : Thread Cert.AttnKeys.nD Cert.AttnKeys.τ).loc Cert.AttnKeys.main_arg2) = m ((c.tc : Thread Cert.AttnKeys.nD Cert.AttnKeys.τ).loc Cert.AttnKeys.main_arg2))
      ∧ r.2.sem = fun _ => 0)

def quiescent_AttnKeysIdeal [hAttnKeysIdeal : Cert.AttnKeysIdeal.Facts] : Prop :=
  ∀ (m : (ℓ : Loc Cert.AttnKeysIdeal.nD Cert.AttnKeysIdeal.τ Cert.AttnKeysIdeal.sig) → Buf (Elt Ideal) ℓ) (g : Dev Cert.AttnKeysIdeal.nD → PrngReg), Pre_AttnKeysIdeal m →
    θ_run (Cert.AttnKeysIdeal.defs (F := Ideal)) (onTc (τ := Cert.AttnKeysIdeal.τ) (Cert.AttnKeysIdeal.main (F := Ideal))) ⟨m, fun _ => 0, g⟩ (fun r => (∀ c : Dev Cert.AttnKeysIdeal.nD,
      r.2.mem ((c.tc : Thread Cert.AttnKeysIdeal.nD Cert.AttnKeysIdeal.τ).loc Cert.AttnKeysIdeal.main_arg0) = m ((c.tc : Thread Cert.AttnKeysIdeal.nD Cert.AttnKeysIdeal.τ).loc Cert.AttnKeysIdeal.main_arg0)
      ∧ r.2.mem ((c.tc : Thread Cert.AttnKeysIdeal.nD Cert.AttnKeysIdeal.τ).loc Cert.AttnKeysIdeal.main_arg1) = m ((c.tc : Thread Cert.AttnKeysIdeal.nD Cert.AttnKeysIdeal.τ).loc Cert.AttnKeysIdeal.main_arg1)
      ∧ r.2.mem ((c.tc : Thread Cert.AttnKeysIdeal.nD Cert.AttnKeysIdeal.τ).loc Cert.AttnKeysIdeal.main_arg2) = m ((c.tc : Thread Cert.AttnKeysIdeal.nD Cert.AttnKeysIdeal.τ).loc Cert.AttnKeysIdeal.main_arg2))
      ∧ r.2.sem = fun _ => 0)

def quiescent_AttnKeysRefIdeal [hAttnKeysRefIdeal : Cert.AttnKeysRefIdeal.Facts] : Prop :=
  ∀ (m : (ℓ : Loc Cert.AttnKeysRefIdeal.nD Cert.AttnKeysRefIdeal.τ Cert.AttnKeysRefIdeal.sig) → Buf (Elt Ideal) ℓ) (g : Dev Cert.AttnKeysRefIdeal.nD → PrngReg), Pre_AttnKeysRefIdeal m →
    θ_run (Cert.AttnKeysRefIdeal.defs (F := Ideal)) (onTc (τ := Cert.AttnKeysRefIdeal.τ) (Cert.AttnKeysRefIdeal.main (F := Ideal))) ⟨m, fun _ => 0, g⟩ (fun r => (∀ c : Dev Cert.AttnKeysRefIdeal.nD,
      r.2.mem ((c.tc : Thread Cert.AttnKeysRefIdeal.nD Cert.AttnKeysRefIdeal.τ).loc Cert.AttnKeysRefIdeal.main_arg0) = m ((c.tc : Thread Cert.AttnKeysRefIdeal.nD Cert.AttnKeysRefIdeal.τ).loc Cert.AttnKeysRefIdeal.main_arg0)
      ∧ r.2.mem ((c.tc : Thread Cert.AttnKeysRefIdeal.nD Cert.AttnKeysRefIdeal.τ).loc Cert.AttnKeysRefIdeal.main_arg1) = m ((c.tc : Thread Cert.AttnKeysRefIdeal.nD Cert.AttnKeysRefIdeal.τ).loc Cert.AttnKeysRefIdeal.main_arg1)
      ∧ r.2.mem ((c.tc : Thread Cert.AttnKeysRefIdeal.nD Cert.AttnKeysRefIdeal.τ).loc Cert.AttnKeysRefIdeal.main_arg2) = m ((c.tc : Thread Cert.AttnKeysRefIdeal.nD Cert.AttnKeysRefIdeal.τ).loc Cert.AttnKeysRefIdeal.main_arg2))
      ∧ r.2.sem = fun _ => 0)

def quiescent_GmlpSample [hGmlpSample : Cert.GmlpSample.Facts] : Prop :=
  ∀ (m : (ℓ : Loc Cert.GmlpSample.nD Cert.GmlpSample.τ Cert.GmlpSample.sig) → Buf (Elt Bits) ℓ) (g : Dev Cert.GmlpSample.nD → PrngReg), Pre_GmlpSample m →
    θ_run (Cert.GmlpSample.defs (F := Bits)) (onTc (τ := Cert.GmlpSample.τ) (Cert.GmlpSample.main (F := Bits))) ⟨m, fun _ => 0, g⟩ (fun r => (∀ c : Dev Cert.GmlpSample.nD,
      r.2.mem ((c.tc : Thread Cert.GmlpSample.nD Cert.GmlpSample.τ).loc Cert.GmlpSample.main_arg0) = m ((c.tc : Thread Cert.GmlpSample.nD Cert.GmlpSample.τ).loc Cert.GmlpSample.main_arg0)
      ∧ r.2.mem ((c.tc : Thread Cert.GmlpSample.nD Cert.GmlpSample.τ).loc Cert.GmlpSample.main_arg1) = m ((c.tc : Thread Cert.GmlpSample.nD Cert.GmlpSample.τ).loc Cert.GmlpSample.main_arg1)
      ∧ r.2.mem ((c.tc : Thread Cert.GmlpSample.nD Cert.GmlpSample.τ).loc Cert.GmlpSample.main_arg2) = m ((c.tc : Thread Cert.GmlpSample.nD Cert.GmlpSample.τ).loc Cert.GmlpSample.main_arg2)
      ∧ r.2.mem ((c.tc : Thread Cert.GmlpSample.nD Cert.GmlpSample.τ).loc Cert.GmlpSample.main_arg3) = m ((c.tc : Thread Cert.GmlpSample.nD Cert.GmlpSample.τ).loc Cert.GmlpSample.main_arg3)
      ∧ r.2.mem ((c.tc : Thread Cert.GmlpSample.nD Cert.GmlpSample.τ).loc Cert.GmlpSample.main_arg4) = m ((c.tc : Thread Cert.GmlpSample.nD Cert.GmlpSample.τ).loc Cert.GmlpSample.main_arg4)
      ∧ r.2.mem ((c.tc : Thread Cert.GmlpSample.nD Cert.GmlpSample.τ).loc Cert.GmlpSample.main_arg5) = m ((c.tc : Thread Cert.GmlpSample.nD Cert.GmlpSample.τ).loc Cert.GmlpSample.main_arg5))
      ∧ r.2.sem = fun _ => 0)

def quiescent_GmlpSampleIdeal [hGmlpSampleIdeal : Cert.GmlpSampleIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg), Pre_GmlpSampleIdeal m →
    θ_run (Cert.GmlpSampleIdeal.defs (F := Ideal)) (onTc (τ := Cert.GmlpSampleIdeal.τ) (Cert.GmlpSampleIdeal.main (F := Ideal))) ⟨m, fun _ => 0, g⟩ (fun r => (∀ c : Dev Cert.GmlpSampleIdeal.nD,
      r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
      ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
      ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
      ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
      ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4)
      ∧ r.2.mem ((c.tc : Thread Cert.GmlpSampleIdeal.nD Cert.GmlpSampleIdeal.τ).loc Cert.GmlpSampleIdeal.main_arg5) = m ((c.tc : Thread Cert.GmlpSampleIdeal.nD Cert.GmlpSampleIdeal.τ).loc Cert.GmlpSampleIdeal.main_arg5))
      ∧ r.2.sem = fun _ => 0)

def quiescent_GmlpSampleRefIdeal [hGmlpSampleRefIdeal : Cert.GmlpSampleRefIdeal.Facts] : Prop :=
  ∀ (m : (ℓ : Loc Cert.GmlpSampleRefIdeal.nD Cert.GmlpSampleRefIdeal.τ Cert.GmlpSampleRefIdeal.sig) → Buf (Elt Ideal) ℓ) (g : Dev Cert.GmlpSampleRefIdeal.nD → PrngReg), Pre_GmlpSampleRefIdeal m →
    θ_run (Cert.GmlpSampleRefIdeal.defs (F := Ideal)) (onTc (τ := Cert.GmlpSampleRefIdeal.τ) (Cert.GmlpSampleRefIdeal.main (F := Ideal))) ⟨m, fun _ => 0, g⟩ (fun r => (∀ c : Dev Cert.GmlpSampleRefIdeal.nD,
      r.2.mem ((c.tc : Thread Cert.GmlpSampleRefIdeal.nD Cert.GmlpSampleRefIdeal.τ).loc Cert.GmlpSampleRefIdeal.main_arg0) = m ((c.tc : Thread Cert.GmlpSampleRefIdeal.nD Cert.GmlpSampleRefIdeal.τ).loc Cert.GmlpSampleRefIdeal.main_arg0)
      ∧ r.2.mem ((c.tc : Thread Cert.GmlpSampleRefIdeal.nD Cert.GmlpSampleRefIdeal.τ).loc Cert.GmlpSampleRefIdeal.main_arg1) = m ((c.tc : Thread Cert.GmlpSampleRefIdeal.nD Cert.GmlpSampleRefIdeal.τ).loc Cert.GmlpSampleRefIdeal.main_arg1)
      ∧ r.2.mem ((c.tc : Thread Cert.GmlpSampleRefIdeal.nD Cert.GmlpSampleRefIdeal.τ).loc Cert.GmlpSampleRefIdeal.main_arg2) = m ((c.tc : Thread Cert.GmlpSampleRefIdeal.nD Cert.GmlpSampleRefIdeal.τ).loc Cert.GmlpSampleRefIdeal.main_arg2)
      ∧ r.2.mem ((c.tc : Thread Cert.GmlpSampleRefIdeal.nD Cert.GmlpSampleRefIdeal.τ).loc Cert.GmlpSampleRefIdeal.main_arg3) = m ((c.tc : Thread Cert.GmlpSampleRefIdeal.nD Cert.GmlpSampleRefIdeal.τ).loc Cert.GmlpSampleRefIdeal.main_arg3)
      ∧ r.2.mem ((c.tc : Thread Cert.GmlpSampleRefIdeal.nD Cert.GmlpSampleRefIdeal.τ).loc Cert.GmlpSampleRefIdeal.main_arg4) = m ((c.tc : Thread Cert.GmlpSampleRefIdeal.nD Cert.GmlpSampleRefIdeal.τ).loc Cert.GmlpSampleRefIdeal.main_arg4)
      ∧ r.2.mem ((c.tc : Thread Cert.GmlpSampleRefIdeal.nD Cert.GmlpSampleRefIdeal.τ).loc Cert.GmlpSampleRefIdeal.main_arg5) = m ((c.tc : Thread Cert.GmlpSampleRefIdeal.nD Cert.GmlpSampleRefIdeal.τ).loc Cert.GmlpSampleRefIdeal.main_arg5))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5)
      ∧ r.2.mem ((c.tc : Thread Cert.ConvSample.nD Cert.ConvSample.τ).loc Cert.ConvSample.main_arg6) = m ((c.tc : Thread Cert.ConvSample.nD Cert.ConvSample.τ).loc Cert.ConvSample.main_arg6))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
      ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
      ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4)
      ∧ r.2.mem ((c.tc : Thread Cert.ConvSampleRefIdeal.nD Cert.ConvSampleRefIdeal.τ).loc Cert.ConvSampleRefIdeal.main_arg5) = m ((c.tc : Thread Cert.ConvSampleRefIdeal.nD Cert.ConvSampleRefIdeal.τ).loc Cert.ConvSampleRefIdeal.main_arg5)
      ∧ r.2.mem ((c.tc : Thread Cert.ConvSampleRefIdeal.nD Cert.ConvSampleRefIdeal.τ).loc Cert.ConvSampleRefIdeal.main_arg6) = m ((c.tc : Thread Cert.ConvSampleRefIdeal.nD Cert.ConvSampleRefIdeal.τ).loc Cert.ConvSampleRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18))
      ∧ r.2.sem = fun _ => 0)

def quiescent_MergeLast [hMergeLast : Cert.MergeLast.Facts] : Prop :=
  ∀ (m : (ℓ : Loc Cert.MergeLast.nD Cert.MergeLast.τ Cert.MergeLast.sig) → Buf (Elt Bits) ℓ) (g : Dev Cert.MergeLast.nD → PrngReg), Pre_MergeLast m →
    θ_run (Cert.MergeLast.defs (F := Bits)) (onTc (τ := Cert.MergeLast.τ) (Cert.MergeLast.main (F := Bits))) ⟨m, fun _ => 0, g⟩ (fun r => (∀ c : Dev Cert.MergeLast.nD,
      r.2.mem ((c.tc : Thread Cert.MergeLast.nD Cert.MergeLast.τ).loc Cert.MergeLast.main_arg0) = m ((c.tc : Thread Cert.MergeLast.nD Cert.MergeLast.τ).loc Cert.MergeLast.main_arg0)
      ∧ r.2.mem ((c.tc : Thread Cert.MergeLast.nD Cert.MergeLast.τ).loc Cert.MergeLast.main_arg1) = m ((c.tc : Thread Cert.MergeLast.nD Cert.MergeLast.τ).loc Cert.MergeLast.main_arg1)
      ∧ r.2.mem ((c.tc : Thread Cert.MergeLast.nD Cert.MergeLast.τ).loc Cert.MergeLast.main_arg2) = m ((c.tc : Thread Cert.MergeLast.nD Cert.MergeLast.τ).loc Cert.MergeLast.main_arg2)
      ∧ r.2.mem ((c.tc : Thread Cert.MergeLast.nD Cert.MergeLast.τ).loc Cert.MergeLast.main_arg3) = m ((c.tc : Thread Cert.MergeLast.nD Cert.MergeLast.τ).loc Cert.MergeLast.main_arg3)
      ∧ r.2.mem ((c.tc : Thread Cert.MergeLast.nD Cert.MergeLast.τ).loc Cert.MergeLast.main_arg4) = m ((c.tc : Thread Cert.MergeLast.nD Cert.MergeLast.τ).loc Cert.MergeLast.main_arg4)
      ∧ r.2.mem ((c.tc : Thread Cert.MergeLast.nD Cert.MergeLast.τ).loc Cert.MergeLast.main_arg5) = m ((c.tc : Thread Cert.MergeLast.nD Cert.MergeLast.τ).loc Cert.MergeLast.main_arg5)
      ∧ r.2.mem ((c.tc : Thread Cert.MergeLast.nD Cert.MergeLast.τ).loc Cert.MergeLast.main_arg6) = m ((c.tc : Thread Cert.MergeLast.nD Cert.MergeLast.τ).loc Cert.MergeLast.main_arg6)
      ∧ r.2.mem ((c.tc : Thread Cert.MergeLast.nD Cert.MergeLast.τ).loc Cert.MergeLast.main_arg7) = m ((c.tc : Thread Cert.MergeLast.nD Cert.MergeLast.τ).loc Cert.MergeLast.main_arg7)
      ∧ r.2.mem ((c.tc : Thread Cert.MergeLast.nD Cert.MergeLast.τ).loc Cert.MergeLast.main_arg8) = m ((c.tc : Thread Cert.MergeLast.nD Cert.MergeLast.τ).loc Cert.MergeLast.main_arg8)
      ∧ r.2.mem ((c.tc : Thread Cert.MergeLast.nD Cert.MergeLast.τ).loc Cert.MergeLast.main_arg9) = m ((c.tc : Thread Cert.MergeLast.nD Cert.MergeLast.τ).loc Cert.MergeLast.main_arg9)
      ∧ r.2.mem ((c.tc : Thread Cert.MergeLast.nD Cert.MergeLast.τ).loc Cert.MergeLast.main_arg10) = m ((c.tc : Thread Cert.MergeLast.nD Cert.MergeLast.τ).loc Cert.MergeLast.main_arg10)
      ∧ r.2.mem ((c.tc : Thread Cert.MergeLast.nD Cert.MergeLast.τ).loc Cert.MergeLast.main_arg11) = m ((c.tc : Thread Cert.MergeLast.nD Cert.MergeLast.τ).loc Cert.MergeLast.main_arg11)
      ∧ r.2.mem ((c.tc : Thread Cert.MergeLast.nD Cert.MergeLast.τ).loc Cert.MergeLast.main_arg12) = m ((c.tc : Thread Cert.MergeLast.nD Cert.MergeLast.τ).loc Cert.MergeLast.main_arg12)
      ∧ r.2.mem ((c.tc : Thread Cert.MergeLast.nD Cert.MergeLast.τ).loc Cert.MergeLast.main_arg13) = m ((c.tc : Thread Cert.MergeLast.nD Cert.MergeLast.τ).loc Cert.MergeLast.main_arg13)
      ∧ r.2.mem ((c.tc : Thread Cert.MergeLast.nD Cert.MergeLast.τ).loc Cert.MergeLast.main_arg14) = m ((c.tc : Thread Cert.MergeLast.nD Cert.MergeLast.τ).loc Cert.MergeLast.main_arg14)
      ∧ r.2.mem ((c.tc : Thread Cert.MergeLast.nD Cert.MergeLast.τ).loc Cert.MergeLast.main_arg15) = m ((c.tc : Thread Cert.MergeLast.nD Cert.MergeLast.τ).loc Cert.MergeLast.main_arg15)
      ∧ r.2.mem ((c.tc : Thread Cert.MergeLast.nD Cert.MergeLast.τ).loc Cert.MergeLast.main_arg16) = m ((c.tc : Thread Cert.MergeLast.nD Cert.MergeLast.τ).loc Cert.MergeLast.main_arg16)
      ∧ r.2.mem ((c.tc : Thread Cert.MergeLast.nD Cert.MergeLast.τ).loc Cert.MergeLast.main_arg17) = m ((c.tc : Thread Cert.MergeLast.nD Cert.MergeLast.τ).loc Cert.MergeLast.main_arg17))
      ∧ r.2.sem = fun _ => 0)

def quiescent_MergeLastIdeal [hMergeLastIdeal : Cert.MergeLastIdeal.Facts] : Prop :=
  ∀ (m : (ℓ : Loc Cert.MergeLastIdeal.nD Cert.MergeLastIdeal.τ Cert.MergeLastIdeal.sig) → Buf (Elt Ideal) ℓ) (g : Dev Cert.MergeLastIdeal.nD → PrngReg), Pre_MergeLastIdeal m →
    θ_run (Cert.MergeLastIdeal.defs (F := Ideal)) (onTc (τ := Cert.MergeLastIdeal.τ) (Cert.MergeLastIdeal.main (F := Ideal))) ⟨m, fun _ => 0, g⟩ (fun r => (∀ c : Dev Cert.MergeLastIdeal.nD,
      r.2.mem ((c.tc : Thread Cert.MergeLastIdeal.nD Cert.MergeLastIdeal.τ).loc Cert.MergeLastIdeal.main_arg0) = m ((c.tc : Thread Cert.MergeLastIdeal.nD Cert.MergeLastIdeal.τ).loc Cert.MergeLastIdeal.main_arg0)
      ∧ r.2.mem ((c.tc : Thread Cert.MergeLastIdeal.nD Cert.MergeLastIdeal.τ).loc Cert.MergeLastIdeal.main_arg1) = m ((c.tc : Thread Cert.MergeLastIdeal.nD Cert.MergeLastIdeal.τ).loc Cert.MergeLastIdeal.main_arg1)
      ∧ r.2.mem ((c.tc : Thread Cert.MergeLastIdeal.nD Cert.MergeLastIdeal.τ).loc Cert.MergeLastIdeal.main_arg2) = m ((c.tc : Thread Cert.MergeLastIdeal.nD Cert.MergeLastIdeal.τ).loc Cert.MergeLastIdeal.main_arg2)
      ∧ r.2.mem ((c.tc : Thread Cert.MergeLastIdeal.nD Cert.MergeLastIdeal.τ).loc Cert.MergeLastIdeal.main_arg3) = m ((c.tc : Thread Cert.MergeLastIdeal.nD Cert.MergeLastIdeal.τ).loc Cert.MergeLastIdeal.main_arg3)
      ∧ r.2.mem ((c.tc : Thread Cert.MergeLastIdeal.nD Cert.MergeLastIdeal.τ).loc Cert.MergeLastIdeal.main_arg4) = m ((c.tc : Thread Cert.MergeLastIdeal.nD Cert.MergeLastIdeal.τ).loc Cert.MergeLastIdeal.main_arg4)
      ∧ r.2.mem ((c.tc : Thread Cert.MergeLastIdeal.nD Cert.MergeLastIdeal.τ).loc Cert.MergeLastIdeal.main_arg5) = m ((c.tc : Thread Cert.MergeLastIdeal.nD Cert.MergeLastIdeal.τ).loc Cert.MergeLastIdeal.main_arg5)
      ∧ r.2.mem ((c.tc : Thread Cert.MergeLastIdeal.nD Cert.MergeLastIdeal.τ).loc Cert.MergeLastIdeal.main_arg6) = m ((c.tc : Thread Cert.MergeLastIdeal.nD Cert.MergeLastIdeal.τ).loc Cert.MergeLastIdeal.main_arg6)
      ∧ r.2.mem ((c.tc : Thread Cert.MergeLastIdeal.nD Cert.MergeLastIdeal.τ).loc Cert.MergeLastIdeal.main_arg7) = m ((c.tc : Thread Cert.MergeLastIdeal.nD Cert.MergeLastIdeal.τ).loc Cert.MergeLastIdeal.main_arg7)
      ∧ r.2.mem ((c.tc : Thread Cert.MergeLastIdeal.nD Cert.MergeLastIdeal.τ).loc Cert.MergeLastIdeal.main_arg8) = m ((c.tc : Thread Cert.MergeLastIdeal.nD Cert.MergeLastIdeal.τ).loc Cert.MergeLastIdeal.main_arg8)
      ∧ r.2.mem ((c.tc : Thread Cert.MergeLastIdeal.nD Cert.MergeLastIdeal.τ).loc Cert.MergeLastIdeal.main_arg9) = m ((c.tc : Thread Cert.MergeLastIdeal.nD Cert.MergeLastIdeal.τ).loc Cert.MergeLastIdeal.main_arg9)
      ∧ r.2.mem ((c.tc : Thread Cert.MergeLastIdeal.nD Cert.MergeLastIdeal.τ).loc Cert.MergeLastIdeal.main_arg10) = m ((c.tc : Thread Cert.MergeLastIdeal.nD Cert.MergeLastIdeal.τ).loc Cert.MergeLastIdeal.main_arg10)
      ∧ r.2.mem ((c.tc : Thread Cert.MergeLastIdeal.nD Cert.MergeLastIdeal.τ).loc Cert.MergeLastIdeal.main_arg11) = m ((c.tc : Thread Cert.MergeLastIdeal.nD Cert.MergeLastIdeal.τ).loc Cert.MergeLastIdeal.main_arg11)
      ∧ r.2.mem ((c.tc : Thread Cert.MergeLastIdeal.nD Cert.MergeLastIdeal.τ).loc Cert.MergeLastIdeal.main_arg12) = m ((c.tc : Thread Cert.MergeLastIdeal.nD Cert.MergeLastIdeal.τ).loc Cert.MergeLastIdeal.main_arg12)
      ∧ r.2.mem ((c.tc : Thread Cert.MergeLastIdeal.nD Cert.MergeLastIdeal.τ).loc Cert.MergeLastIdeal.main_arg13) = m ((c.tc : Thread Cert.MergeLastIdeal.nD Cert.MergeLastIdeal.τ).loc Cert.MergeLastIdeal.main_arg13)
      ∧ r.2.mem ((c.tc : Thread Cert.MergeLastIdeal.nD Cert.MergeLastIdeal.τ).loc Cert.MergeLastIdeal.main_arg14) = m ((c.tc : Thread Cert.MergeLastIdeal.nD Cert.MergeLastIdeal.τ).loc Cert.MergeLastIdeal.main_arg14)
      ∧ r.2.mem ((c.tc : Thread Cert.MergeLastIdeal.nD Cert.MergeLastIdeal.τ).loc Cert.MergeLastIdeal.main_arg15) = m ((c.tc : Thread Cert.MergeLastIdeal.nD Cert.MergeLastIdeal.τ).loc Cert.MergeLastIdeal.main_arg15)
      ∧ r.2.mem ((c.tc : Thread Cert.MergeLastIdeal.nD Cert.MergeLastIdeal.τ).loc Cert.MergeLastIdeal.main_arg16) = m ((c.tc : Thread Cert.MergeLastIdeal.nD Cert.MergeLastIdeal.τ).loc Cert.MergeLastIdeal.main_arg16)
      ∧ r.2.mem ((c.tc : Thread Cert.MergeLastIdeal.nD Cert.MergeLastIdeal.τ).loc Cert.MergeLastIdeal.main_arg17) = m ((c.tc : Thread Cert.MergeLastIdeal.nD Cert.MergeLastIdeal.τ).loc Cert.MergeLastIdeal.main_arg17))
      ∧ r.2.sem = fun _ => 0)

def quiescent_MergeLastRefIdeal [hMergeLastRefIdeal : Cert.MergeLastRefIdeal.Facts] : Prop :=
  ∀ (m : (ℓ : Loc Cert.MergeLastRefIdeal.nD Cert.MergeLastRefIdeal.τ Cert.MergeLastRefIdeal.sig) → Buf (Elt Ideal) ℓ) (g : Dev Cert.MergeLastRefIdeal.nD → PrngReg), Pre_MergeLastRefIdeal m →
    θ_run (Cert.MergeLastRefIdeal.defs (F := Ideal)) (onTc (τ := Cert.MergeLastRefIdeal.τ) (Cert.MergeLastRefIdeal.main (F := Ideal))) ⟨m, fun _ => 0, g⟩ (fun r => (∀ c : Dev Cert.MergeLastRefIdeal.nD,
      r.2.mem ((c.tc : Thread Cert.MergeLastRefIdeal.nD Cert.MergeLastRefIdeal.τ).loc Cert.MergeLastRefIdeal.main_arg0) = m ((c.tc : Thread Cert.MergeLastRefIdeal.nD Cert.MergeLastRefIdeal.τ).loc Cert.MergeLastRefIdeal.main_arg0)
      ∧ r.2.mem ((c.tc : Thread Cert.MergeLastRefIdeal.nD Cert.MergeLastRefIdeal.τ).loc Cert.MergeLastRefIdeal.main_arg1) = m ((c.tc : Thread Cert.MergeLastRefIdeal.nD Cert.MergeLastRefIdeal.τ).loc Cert.MergeLastRefIdeal.main_arg1)
      ∧ r.2.mem ((c.tc : Thread Cert.MergeLastRefIdeal.nD Cert.MergeLastRefIdeal.τ).loc Cert.MergeLastRefIdeal.main_arg2) = m ((c.tc : Thread Cert.MergeLastRefIdeal.nD Cert.MergeLastRefIdeal.τ).loc Cert.MergeLastRefIdeal.main_arg2)
      ∧ r.2.mem ((c.tc : Thread Cert.MergeLastRefIdeal.nD Cert.MergeLastRefIdeal.τ).loc Cert.MergeLastRefIdeal.main_arg3) = m ((c.tc : Thread Cert.MergeLastRefIdeal.nD Cert.MergeLastRefIdeal.τ).loc Cert.MergeLastRefIdeal.main_arg3)
      ∧ r.2.mem ((c.tc : Thread Cert.MergeLastRefIdeal.nD Cert.MergeLastRefIdeal.τ).loc Cert.MergeLastRefIdeal.main_arg4) = m ((c.tc : Thread Cert.MergeLastRefIdeal.nD Cert.MergeLastRefIdeal.τ).loc Cert.MergeLastRefIdeal.main_arg4)
      ∧ r.2.mem ((c.tc : Thread Cert.MergeLastRefIdeal.nD Cert.MergeLastRefIdeal.τ).loc Cert.MergeLastRefIdeal.main_arg5) = m ((c.tc : Thread Cert.MergeLastRefIdeal.nD Cert.MergeLastRefIdeal.τ).loc Cert.MergeLastRefIdeal.main_arg5)
      ∧ r.2.mem ((c.tc : Thread Cert.MergeLastRefIdeal.nD Cert.MergeLastRefIdeal.τ).loc Cert.MergeLastRefIdeal.main_arg6) = m ((c.tc : Thread Cert.MergeLastRefIdeal.nD Cert.MergeLastRefIdeal.τ).loc Cert.MergeLastRefIdeal.main_arg6)
      ∧ r.2.mem ((c.tc : Thread Cert.MergeLastRefIdeal.nD Cert.MergeLastRefIdeal.τ).loc Cert.MergeLastRefIdeal.main_arg7) = m ((c.tc : Thread Cert.MergeLastRefIdeal.nD Cert.MergeLastRefIdeal.τ).loc Cert.MergeLastRefIdeal.main_arg7)
      ∧ r.2.mem ((c.tc : Thread Cert.MergeLastRefIdeal.nD Cert.MergeLastRefIdeal.τ).loc Cert.MergeLastRefIdeal.main_arg8) = m ((c.tc : Thread Cert.MergeLastRefIdeal.nD Cert.MergeLastRefIdeal.τ).loc Cert.MergeLastRefIdeal.main_arg8)
      ∧ r.2.mem ((c.tc : Thread Cert.MergeLastRefIdeal.nD Cert.MergeLastRefIdeal.τ).loc Cert.MergeLastRefIdeal.main_arg9) = m ((c.tc : Thread Cert.MergeLastRefIdeal.nD Cert.MergeLastRefIdeal.τ).loc Cert.MergeLastRefIdeal.main_arg9)
      ∧ r.2.mem ((c.tc : Thread Cert.MergeLastRefIdeal.nD Cert.MergeLastRefIdeal.τ).loc Cert.MergeLastRefIdeal.main_arg10) = m ((c.tc : Thread Cert.MergeLastRefIdeal.nD Cert.MergeLastRefIdeal.τ).loc Cert.MergeLastRefIdeal.main_arg10)
      ∧ r.2.mem ((c.tc : Thread Cert.MergeLastRefIdeal.nD Cert.MergeLastRefIdeal.τ).loc Cert.MergeLastRefIdeal.main_arg11) = m ((c.tc : Thread Cert.MergeLastRefIdeal.nD Cert.MergeLastRefIdeal.τ).loc Cert.MergeLastRefIdeal.main_arg11)
      ∧ r.2.mem ((c.tc : Thread Cert.MergeLastRefIdeal.nD Cert.MergeLastRefIdeal.τ).loc Cert.MergeLastRefIdeal.main_arg12) = m ((c.tc : Thread Cert.MergeLastRefIdeal.nD Cert.MergeLastRefIdeal.τ).loc Cert.MergeLastRefIdeal.main_arg12)
      ∧ r.2.mem ((c.tc : Thread Cert.MergeLastRefIdeal.nD Cert.MergeLastRefIdeal.τ).loc Cert.MergeLastRefIdeal.main_arg13) = m ((c.tc : Thread Cert.MergeLastRefIdeal.nD Cert.MergeLastRefIdeal.τ).loc Cert.MergeLastRefIdeal.main_arg13)
      ∧ r.2.mem ((c.tc : Thread Cert.MergeLastRefIdeal.nD Cert.MergeLastRefIdeal.τ).loc Cert.MergeLastRefIdeal.main_arg14) = m ((c.tc : Thread Cert.MergeLastRefIdeal.nD Cert.MergeLastRefIdeal.τ).loc Cert.MergeLastRefIdeal.main_arg14)
      ∧ r.2.mem ((c.tc : Thread Cert.MergeLastRefIdeal.nD Cert.MergeLastRefIdeal.τ).loc Cert.MergeLastRefIdeal.main_arg15) = m ((c.tc : Thread Cert.MergeLastRefIdeal.nD Cert.MergeLastRefIdeal.τ).loc Cert.MergeLastRefIdeal.main_arg15)
      ∧ r.2.mem ((c.tc : Thread Cert.MergeLastRefIdeal.nD Cert.MergeLastRefIdeal.τ).loc Cert.MergeLastRefIdeal.main_arg16) = m ((c.tc : Thread Cert.MergeLastRefIdeal.nD Cert.MergeLastRefIdeal.τ).loc Cert.MergeLastRefIdeal.main_arg16)
      ∧ r.2.mem ((c.tc : Thread Cert.MergeLastRefIdeal.nD Cert.MergeLastRefIdeal.τ).loc Cert.MergeLastRefIdeal.main_arg17) = m ((c.tc : Thread Cert.MergeLastRefIdeal.nD Cert.MergeLastRefIdeal.τ).loc Cert.MergeLastRefIdeal.main_arg17))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)) (v6 : (c : Dev Cert.ProjIdeal.nD) → Buf (Elt Ideal) ((c.tc : Thread Cert.ProjIdeal.nD Cert.ProjIdeal.τ).loc Cert.ProjIdeal.main_v3_6)) (v7 : (c : Dev Cert.ProjIdeal.nD) → Buf (Elt Ideal) ((c.tc : Thread Cert.ProjIdeal.nD Cert.ProjIdeal.τ).loc Cert.ProjIdeal.main_v3_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_v3_6) = v6 c
          ∧ r.2.mem ((c.tc : Thread Cert.ProjIdeal.nD Cert.ProjIdeal.τ).loc Cert.ProjIdeal.main_v3_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v21) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_v23) = v2 c
          ∧ r.2.mem ((c.tc : Thread Cert.ProjRefIdeal.nD Cert.ProjRefIdeal.τ).loc Cert.ProjRefIdeal.main_v24) = v3 c
          ∧ r.2.mem ((c.tc : Thread Cert.ProjRefIdeal.nD Cert.ProjRefIdeal.τ).loc Cert.ProjRefIdeal.main_v25) = v4 c
          ∧ r.2.mem ((c.tc : Thread Cert.ProjRefIdeal.nD Cert.ProjRefIdeal.τ).loc Cert.ProjRefIdeal.main_v26) = v5 c
          ∧ r.2.mem ((c.tc : Thread Cert.ProjRefIdeal.nD Cert.ProjRefIdeal.τ).loc Cert.ProjRefIdeal.main_v27) = v6 c
          ∧ r.2.mem ((c.tc : Thread Cert.ProjRefIdeal.nD Cert.ProjRefIdeal.τ).loc Cert.ProjRefIdeal.main_v28) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_AttnKeys_AttnKeysIdeal : Prop :=
  True

def algebraic_AttnKeysIdeal_AttnKeysRefIdeal [hAttnKeysIdeal : Cert.AttnKeysIdeal.Facts] [hAttnKeysRefIdeal : Cert.AttnKeysRefIdeal.Facts] : Prop :=
  ∀ (m : (ℓ : Loc Cert.AttnKeysIdeal.nD Cert.AttnKeysIdeal.τ Cert.AttnKeysIdeal.sig) → Buf (Elt Ideal) ℓ) (g : Dev Cert.AttnKeysIdeal.nD → PrngReg)
    (m' : (ℓ : Loc Cert.AttnKeysRefIdeal.nD Cert.AttnKeysRefIdeal.τ Cert.AttnKeysRefIdeal.sig) → Buf (Elt Ideal) ℓ) (g' : Dev Cert.AttnKeysRefIdeal.nD → PrngReg), Pre_AttnKeysIdeal m →
    (∀ c : Dev Cert.AttnKeysIdeal.nD,
      m' ((c.tc : Thread Cert.AttnKeysRefIdeal.nD Cert.AttnKeysRefIdeal.τ).loc Cert.AttnKeysRefIdeal.main_arg0) = m ((c.tc : Thread Cert.AttnKeysIdeal.nD Cert.AttnKeysIdeal.τ).loc Cert.AttnKeysIdeal.main_arg0)
      ∧ m' ((c.tc : Thread Cert.AttnKeysRefIdeal.nD Cert.AttnKeysRefIdeal.τ).loc Cert.AttnKeysRefIdeal.main_arg1) = m ((c.tc : Thread Cert.AttnKeysIdeal.nD Cert.AttnKeysIdeal.τ).loc Cert.AttnKeysIdeal.main_arg1)
      ∧ m' ((c.tc : Thread Cert.AttnKeysRefIdeal.nD Cert.AttnKeysRefIdeal.τ).loc Cert.AttnKeysRefIdeal.main_arg2) = m ((c.tc : Thread Cert.AttnKeysIdeal.nD Cert.AttnKeysIdeal.τ).loc Cert.AttnKeysIdeal.main_arg2)) →
    ∃ (v0 : (c : Dev Cert.AttnKeysIdeal.nD) → Buf (Elt Ideal) ((c.tc : Thread Cert.AttnKeysIdeal.nD Cert.AttnKeysIdeal.τ).loc Cert.AttnKeysIdeal.main_v0_1)) (v1 : (c : Dev Cert.AttnKeysIdeal.nD) → Buf (Elt Ideal) ((c.tc : Thread Cert.AttnKeysIdeal.nD Cert.AttnKeysIdeal.τ).loc Cert.AttnKeysIdeal.main_v0_2)) (v2 : (c : Dev Cert.AttnKeysIdeal.nD) → Buf (Elt Ideal) ((c.tc : Thread Cert.AttnKeysIdeal.nD Cert.AttnKeysIdeal.τ).loc Cert.AttnKeysIdeal.main_v0_3)),
      θ_run (Cert.AttnKeysIdeal.defs (F := Ideal)) (onTc (τ := Cert.AttnKeysIdeal.τ) (Cert.AttnKeysIdeal.main (F := Ideal))) ⟨m, fun _ => 0, g⟩ (fun r => ∀ c : Dev Cert.AttnKeysIdeal.nD,
          r.2.mem ((c.tc : Thread Cert.AttnKeysIdeal.nD Cert.AttnKeysIdeal.τ).loc Cert.AttnKeysIdeal.main_v0_1) = v0 c
          ∧ r.2.mem ((c.tc : Thread Cert.AttnKeysIdeal.nD Cert.AttnKeysIdeal.τ).loc Cert.AttnKeysIdeal.main_v0_2) = v1 c
          ∧ r.2.mem ((c.tc : Thread Cert.AttnKeysIdeal.nD Cert.AttnKeysIdeal.τ).loc Cert.AttnKeysIdeal.main_v0_3) = v2 c
          ∧ r.2.mem ((c.tc : Thread Cert.AttnKeysIdeal.nD Cert.AttnKeysIdeal.τ).loc Cert.AttnKeysIdeal.main_arg0) = m ((c.tc : Thread Cert.AttnKeysIdeal.nD Cert.AttnKeysIdeal.τ).loc Cert.AttnKeysIdeal.main_arg0)
          ∧ r.2.mem ((c.tc : Thread Cert.AttnKeysIdeal.nD Cert.AttnKeysIdeal.τ).loc Cert.AttnKeysIdeal.main_arg1) = m ((c.tc : Thread Cert.AttnKeysIdeal.nD Cert.AttnKeysIdeal.τ).loc Cert.AttnKeysIdeal.main_arg1)
          ∧ r.2.mem ((c.tc : Thread Cert.AttnKeysIdeal.nD Cert.AttnKeysIdeal.τ).loc Cert.AttnKeysIdeal.main_arg2) = m ((c.tc : Thread Cert.AttnKeysIdeal.nD Cert.AttnKeysIdeal.τ).loc Cert.AttnKeysIdeal.main_arg2))
      ∧ θ_run (Cert.AttnKeysRefIdeal.defs (F := Ideal)) (onTc (τ := Cert.AttnKeysRefIdeal.τ) (Cert.AttnKeysRefIdeal.main (F := Ideal))) ⟨m', fun _ => 0, g'⟩ (fun r => ∀ c : Dev Cert.AttnKeysRefIdeal.nD,
          r.2.mem ((c.tc : Thread Cert.AttnKeysRefIdeal.nD Cert.AttnKeysRefIdeal.τ).loc Cert.AttnKeysRefIdeal.main_v6) = v0 c
          ∧ r.2.mem ((c.tc : Thread Cert.AttnKeysRefIdeal.nD Cert.AttnKeysRefIdeal.τ).loc Cert.AttnKeysRefIdeal.main_v7) = v1 c
          ∧ r.2.mem ((c.tc : Thread Cert.AttnKeysRefIdeal.nD Cert.AttnKeysRefIdeal.τ).loc Cert.AttnKeysRefIdeal.main_v8) = v2 c
          ∧ r.2.mem ((c.tc : Thread Cert.AttnKeysRefIdeal.nD Cert.AttnKeysRefIdeal.τ).loc Cert.AttnKeysRefIdeal.main_arg0) = m' ((c.tc : Thread Cert.AttnKeysRefIdeal.nD Cert.AttnKeysRefIdeal.τ).loc Cert.AttnKeysRefIdeal.main_arg0)
          ∧ r.2.mem ((c.tc : Thread Cert.AttnKeysRefIdeal.nD Cert.AttnKeysRefIdeal.τ).loc Cert.AttnKeysRefIdeal.main_arg1) = m' ((c.tc : Thread Cert.AttnKeysRefIdeal.nD Cert.AttnKeysRefIdeal.τ).loc Cert.AttnKeysRefIdeal.main_arg1)
          ∧ r.2.mem ((c.tc : Thread Cert.AttnKeysRefIdeal.nD Cert.AttnKeysRefIdeal.τ).loc Cert.AttnKeysRefIdeal.main_arg2) = m' ((c.tc : Thread Cert.AttnKeysRefIdeal.nD Cert.AttnKeysRefIdeal.τ).loc Cert.AttnKeysRefIdeal.main_arg2))

def preserves_GmlpSample_GmlpSampleIdeal : Prop :=
  True

def algebraic_GmlpSampleIdeal_GmlpSampleRefIdeal [hGmlpSampleIdeal : Cert.GmlpSampleIdeal.Facts] [hGmlpSampleRefIdeal : Cert.GmlpSampleRefIdeal.Facts] : Prop :=
  ∀ (m : (ℓ : Loc Cert.GmlpSampleIdeal.nD Cert.GmlpSampleIdeal.τ Cert.GmlpSampleIdeal.sig) → Buf (Elt Ideal) ℓ) (g : Dev Cert.GmlpSampleIdeal.nD → PrngReg)
    (m' : (ℓ : Loc Cert.GmlpSampleRefIdeal.nD Cert.GmlpSampleRefIdeal.τ Cert.GmlpSampleRefIdeal.sig) → Buf (Elt Ideal) ℓ) (g' : Dev Cert.GmlpSampleRefIdeal.nD → PrngReg), Pre_GmlpSampleIdeal m →
    (∀ c : Dev Cert.GmlpSampleIdeal.nD,
      m' ((c.tc : Thread Cert.GmlpSampleRefIdeal.nD Cert.GmlpSampleRefIdeal.τ).loc Cert.GmlpSampleRefIdeal.main_arg0) = m ((c.tc : Thread Cert.GmlpSampleIdeal.nD Cert.GmlpSampleIdeal.τ).loc Cert.GmlpSampleIdeal.main_arg0)
      ∧ m' ((c.tc : Thread Cert.GmlpSampleRefIdeal.nD Cert.GmlpSampleRefIdeal.τ).loc Cert.GmlpSampleRefIdeal.main_arg1) = m ((c.tc : Thread Cert.GmlpSampleIdeal.nD Cert.GmlpSampleIdeal.τ).loc Cert.GmlpSampleIdeal.main_arg1)
      ∧ m' ((c.tc : Thread Cert.GmlpSampleRefIdeal.nD Cert.GmlpSampleRefIdeal.τ).loc Cert.GmlpSampleRefIdeal.main_arg2) = m ((c.tc : Thread Cert.GmlpSampleIdeal.nD Cert.GmlpSampleIdeal.τ).loc Cert.GmlpSampleIdeal.main_arg2)
      ∧ m' ((c.tc : Thread Cert.GmlpSampleRefIdeal.nD Cert.GmlpSampleRefIdeal.τ).loc Cert.GmlpSampleRefIdeal.main_arg3) = m ((c.tc : Thread Cert.GmlpSampleIdeal.nD Cert.GmlpSampleIdeal.τ).loc Cert.GmlpSampleIdeal.main_arg3)
      ∧ m' ((c.tc : Thread Cert.GmlpSampleRefIdeal.nD Cert.GmlpSampleRefIdeal.τ).loc Cert.GmlpSampleRefIdeal.main_arg4) = m ((c.tc : Thread Cert.GmlpSampleIdeal.nD Cert.GmlpSampleIdeal.τ).loc Cert.GmlpSampleIdeal.main_arg4)
      ∧ m' ((c.tc : Thread Cert.GmlpSampleRefIdeal.nD Cert.GmlpSampleRefIdeal.τ).loc Cert.GmlpSampleRefIdeal.main_arg5) = m ((c.tc : Thread Cert.GmlpSampleIdeal.nD Cert.GmlpSampleIdeal.τ).loc Cert.GmlpSampleIdeal.main_arg5)) →
    ∃ (v0 : (c : Dev Cert.GmlpSampleIdeal.nD) → Buf (Elt Ideal) ((c.tc : Thread Cert.GmlpSampleIdeal.nD Cert.GmlpSampleIdeal.τ).loc Cert.GmlpSampleIdeal.main_v20_0)) (v1 : (c : Dev Cert.GmlpSampleIdeal.nD) → Buf (Elt Ideal) ((c.tc : Thread Cert.GmlpSampleIdeal.nD Cert.GmlpSampleIdeal.τ).loc Cert.GmlpSampleIdeal.main_v20_1)),
      θ_run (Cert.GmlpSampleIdeal.defs (F := Ideal)) (onTc (τ := Cert.GmlpSampleIdeal.τ) (Cert.GmlpSampleIdeal.main (F := Ideal))) ⟨m, fun _ => 0, g⟩ (fun r => ∀ c : Dev Cert.GmlpSampleIdeal.nD,
          r.2.mem ((c.tc : Thread Cert.GmlpSampleIdeal.nD Cert.GmlpSampleIdeal.τ).loc Cert.GmlpSampleIdeal.main_v20_0) = v0 c
          ∧ r.2.mem ((c.tc : Thread Cert.GmlpSampleIdeal.nD Cert.GmlpSampleIdeal.τ).loc Cert.GmlpSampleIdeal.main_v20_1) = v1 c
          ∧ r.2.mem ((c.tc : Thread Cert.GmlpSampleIdeal.nD Cert.GmlpSampleIdeal.τ).loc Cert.GmlpSampleIdeal.main_arg0) = m ((c.tc : Thread Cert.GmlpSampleIdeal.nD Cert.GmlpSampleIdeal.τ).loc Cert.GmlpSampleIdeal.main_arg0)
          ∧ r.2.mem ((c.tc : Thread Cert.GmlpSampleIdeal.nD Cert.GmlpSampleIdeal.τ).loc Cert.GmlpSampleIdeal.main_arg1) = m ((c.tc : Thread Cert.GmlpSampleIdeal.nD Cert.GmlpSampleIdeal.τ).loc Cert.GmlpSampleIdeal.main_arg1)
          ∧ r.2.mem ((c.tc : Thread Cert.GmlpSampleIdeal.nD Cert.GmlpSampleIdeal.τ).loc Cert.GmlpSampleIdeal.main_arg2) = m ((c.tc : Thread Cert.GmlpSampleIdeal.nD Cert.GmlpSampleIdeal.τ).loc Cert.GmlpSampleIdeal.main_arg2)
          ∧ r.2.mem ((c.tc : Thread Cert.GmlpSampleIdeal.nD Cert.GmlpSampleIdeal.τ).loc Cert.GmlpSampleIdeal.main_arg3) = m ((c.tc : Thread Cert.GmlpSampleIdeal.nD Cert.GmlpSampleIdeal.τ).loc Cert.GmlpSampleIdeal.main_arg3)
          ∧ r.2.mem ((c.tc : Thread Cert.GmlpSampleIdeal.nD Cert.GmlpSampleIdeal.τ).loc Cert.GmlpSampleIdeal.main_arg4) = m ((c.tc : Thread Cert.GmlpSampleIdeal.nD Cert.GmlpSampleIdeal.τ).loc Cert.GmlpSampleIdeal.main_arg4)
          ∧ r.2.mem ((c.tc : Thread Cert.GmlpSampleIdeal.nD Cert.GmlpSampleIdeal.τ).loc Cert.GmlpSampleIdeal.main_arg5) = m ((c.tc : Thread Cert.GmlpSampleIdeal.nD Cert.GmlpSampleIdeal.τ).loc Cert.GmlpSampleIdeal.main_arg5))
      ∧ θ_run (Cert.GmlpSampleRefIdeal.defs (F := Ideal)) (onTc (τ := Cert.GmlpSampleRefIdeal.τ) (Cert.GmlpSampleRefIdeal.main (F := Ideal))) ⟨m', fun _ => 0, g'⟩ (fun r => ∀ c : Dev Cert.GmlpSampleRefIdeal.nD,
          r.2.mem ((c.tc : Thread Cert.GmlpSampleRefIdeal.nD Cert.GmlpSampleRefIdeal.τ).loc Cert.GmlpSampleRefIdeal.main_v58) = v0 c
          ∧ r.2.mem ((c.tc : Thread Cert.GmlpSampleRefIdeal.nD Cert.GmlpSampleRefIdeal.τ).loc Cert.GmlpSampleRefIdeal.main_v31) = v1 c
          ∧ r.2.mem ((c.tc : Thread Cert.GmlpSampleRefIdeal.nD Cert.GmlpSampleRefIdeal.τ).loc Cert.GmlpSampleRefIdeal.main_arg0) = m' ((c.tc : Thread Cert.GmlpSampleRefIdeal.nD Cert.GmlpSampleRefIdeal.τ).loc Cert.GmlpSampleRefIdeal.main_arg0)
          ∧ r.2.mem ((c.tc : Thread Cert.GmlpSampleRefIdeal.nD Cert.GmlpSampleRefIdeal.τ).loc Cert.GmlpSampleRefIdeal.main_arg1) = m' ((c.tc : Thread Cert.GmlpSampleRefIdeal.nD Cert.GmlpSampleRefIdeal.τ).loc Cert.GmlpSampleRefIdeal.main_arg1)
          ∧ r.2.mem ((c.tc : Thread Cert.GmlpSampleRefIdeal.nD Cert.GmlpSampleRefIdeal.τ).loc Cert.GmlpSampleRefIdeal.main_arg2) = m' ((c.tc : Thread Cert.GmlpSampleRefIdeal.nD Cert.GmlpSampleRefIdeal.τ).loc Cert.GmlpSampleRefIdeal.main_arg2)
          ∧ r.2.mem ((c.tc : Thread Cert.GmlpSampleRefIdeal.nD Cert.GmlpSampleRefIdeal.τ).loc Cert.GmlpSampleRefIdeal.main_arg3) = m' ((c.tc : Thread Cert.GmlpSampleRefIdeal.nD Cert.GmlpSampleRefIdeal.τ).loc Cert.GmlpSampleRefIdeal.main_arg3)
          ∧ r.2.mem ((c.tc : Thread Cert.GmlpSampleRefIdeal.nD Cert.GmlpSampleRefIdeal.τ).loc Cert.GmlpSampleRefIdeal.main_arg4) = m' ((c.tc : Thread Cert.GmlpSampleRefIdeal.nD Cert.GmlpSampleRefIdeal.τ).loc Cert.GmlpSampleRefIdeal.main_arg4)
          ∧ r.2.mem ((c.tc : Thread Cert.GmlpSampleRefIdeal.nD Cert.GmlpSampleRefIdeal.τ).loc Cert.GmlpSampleRefIdeal.main_arg5) = m' ((c.tc : Thread Cert.GmlpSampleRefIdeal.nD Cert.GmlpSampleRefIdeal.τ).loc Cert.GmlpSampleRefIdeal.main_arg5))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)
      ∧ m' ((c.tc : Thread Cert.ConvSampleRefIdeal.nD Cert.ConvSampleRefIdeal.τ).loc Cert.ConvSampleRefIdeal.main_arg4) = m ((c.tc : Thread Cert.ConvSampleIdeal.nD Cert.ConvSampleIdeal.τ).loc Cert.ConvSampleIdeal.main_arg4)
      ∧ m' ((c.tc : Thread Cert.ConvSampleRefIdeal.nD Cert.ConvSampleRefIdeal.τ).loc Cert.ConvSampleRefIdeal.main_arg5) = m ((c.tc : Thread Cert.ConvSampleIdeal.nD Cert.ConvSampleIdeal.τ).loc Cert.ConvSampleIdeal.main_arg5)
      ∧ m' ((c.tc : Thread Cert.ConvSampleRefIdeal.nD Cert.ConvSampleRefIdeal.τ).loc Cert.ConvSampleRefIdeal.main_arg6) = m ((c.tc : Thread Cert.ConvSampleIdeal.nD Cert.ConvSampleIdeal.τ).loc Cert.ConvSampleIdeal.main_arg6)) →
    ∃ (v0 : (c : Dev Cert.ConvSampleIdeal.nD) → Buf (Elt Ideal) ((c.tc : Thread Cert.ConvSampleIdeal.nD Cert.ConvSampleIdeal.τ).loc Cert.ConvSampleIdeal.main_v5_0)) (v1 : (c : Dev Cert.ConvSampleIdeal.nD) → Buf (Elt Ideal) ((c.tc : Thread Cert.ConvSampleIdeal.nD Cert.ConvSampleIdeal.τ).loc Cert.ConvSampleIdeal.main_v5_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v5_0) = v0 c
          ∧ r.2.mem ((c.tc : Thread Cert.ConvSampleIdeal.nD Cert.ConvSampleIdeal.τ).loc Cert.ConvSampleIdeal.main_v5_1) = v1 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
          ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v259) = v0 c
          ∧ r.2.mem ((c.tc : Thread Cert.ConvSampleRefIdeal.nD Cert.ConvSampleRefIdeal.τ).loc Cert.ConvSampleRefIdeal.main_v254) = v1 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3)
          ∧ r.2.mem ((c.tc : Thread Cert.ConvSampleRefIdeal.nD Cert.ConvSampleRefIdeal.τ).loc Cert.ConvSampleRefIdeal.main_arg4) = m' ((c.tc : Thread Cert.ConvSampleRefIdeal.nD Cert.ConvSampleRefIdeal.τ).loc Cert.ConvSampleRefIdeal.main_arg4)
          ∧ r.2.mem ((c.tc : Thread Cert.ConvSampleRefIdeal.nD Cert.ConvSampleRefIdeal.τ).loc Cert.ConvSampleRefIdeal.main_arg5) = m' ((c.tc : Thread Cert.ConvSampleRefIdeal.nD Cert.ConvSampleRefIdeal.τ).loc Cert.ConvSampleRefIdeal.main_arg5)
          ∧ r.2.mem ((c.tc : Thread Cert.ConvSampleRefIdeal.nD Cert.ConvSampleRefIdeal.τ).loc Cert.ConvSampleRefIdeal.main_arg6) = m' ((c.tc : Thread Cert.ConvSampleRefIdeal.nD Cert.ConvSampleRefIdeal.τ).loc Cert.ConvSampleRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v100) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18))

def preserves_MergeLast_MergeLastIdeal : Prop :=
  True

def algebraic_MergeLastIdeal_MergeLastRefIdeal [hMergeLastIdeal : Cert.MergeLastIdeal.Facts] [hMergeLastRefIdeal : Cert.MergeLastRefIdeal.Facts] : Prop :=
  ∀ (m : (ℓ : Loc Cert.MergeLastIdeal.nD Cert.MergeLastIdeal.τ Cert.MergeLastIdeal.sig) → Buf (Elt Ideal) ℓ) (g : Dev Cert.MergeLastIdeal.nD → PrngReg)
    (m' : (ℓ : Loc Cert.MergeLastRefIdeal.nD Cert.MergeLastRefIdeal.τ Cert.MergeLastRefIdeal.sig) → Buf (Elt Ideal) ℓ) (g' : Dev Cert.MergeLastRefIdeal.nD → PrngReg), Pre_MergeLastIdeal m →
    (∀ c : Dev Cert.MergeLastIdeal.nD,
      m' ((c.tc : Thread Cert.MergeLastRefIdeal.nD Cert.MergeLastRefIdeal.τ).loc Cert.MergeLastRefIdeal.main_arg0) = m ((c.tc : Thread Cert.MergeLastIdeal.nD Cert.MergeLastIdeal.τ).loc Cert.MergeLastIdeal.main_arg0)
      ∧ m' ((c.tc : Thread Cert.MergeLastRefIdeal.nD Cert.MergeLastRefIdeal.τ).loc Cert.MergeLastRefIdeal.main_arg1) = m ((c.tc : Thread Cert.MergeLastIdeal.nD Cert.MergeLastIdeal.τ).loc Cert.MergeLastIdeal.main_arg1)
      ∧ m' ((c.tc : Thread Cert.MergeLastRefIdeal.nD Cert.MergeLastRefIdeal.τ).loc Cert.MergeLastRefIdeal.main_arg2) = m ((c.tc : Thread Cert.MergeLastIdeal.nD Cert.MergeLastIdeal.τ).loc Cert.MergeLastIdeal.main_arg2)
      ∧ m' ((c.tc : Thread Cert.MergeLastRefIdeal.nD Cert.MergeLastRefIdeal.τ).loc Cert.MergeLastRefIdeal.main_arg3) = m ((c.tc : Thread Cert.MergeLastIdeal.nD Cert.MergeLastIdeal.τ).loc Cert.MergeLastIdeal.main_arg3)
      ∧ m' ((c.tc : Thread Cert.MergeLastRefIdeal.nD Cert.MergeLastRefIdeal.τ).loc Cert.MergeLastRefIdeal.main_arg4) = m ((c.tc : Thread Cert.MergeLastIdeal.nD Cert.MergeLastIdeal.τ).loc Cert.MergeLastIdeal.main_arg4)
      ∧ m' ((c.tc : Thread Cert.MergeLastRefIdeal.nD Cert.MergeLastRefIdeal.τ).loc Cert.MergeLastRefIdeal.main_arg5) = m ((c.tc : Thread Cert.MergeLastIdeal.nD Cert.MergeLastIdeal.τ).loc Cert.MergeLastIdeal.main_arg5)
      ∧ m' ((c.tc : Thread Cert.MergeLastRefIdeal.nD Cert.MergeLastRefIdeal.τ).loc Cert.MergeLastRefIdeal.main_arg6) = m ((c.tc : Thread Cert.MergeLastIdeal.nD Cert.MergeLastIdeal.τ).loc Cert.MergeLastIdeal.main_arg6)
      ∧ m' ((c.tc : Thread Cert.MergeLastRefIdeal.nD Cert.MergeLastRefIdeal.τ).loc Cert.MergeLastRefIdeal.main_arg7) = m ((c.tc : Thread Cert.MergeLastIdeal.nD Cert.MergeLastIdeal.τ).loc Cert.MergeLastIdeal.main_arg7)
      ∧ m' ((c.tc : Thread Cert.MergeLastRefIdeal.nD Cert.MergeLastRefIdeal.τ).loc Cert.MergeLastRefIdeal.main_arg8) = m ((c.tc : Thread Cert.MergeLastIdeal.nD Cert.MergeLastIdeal.τ).loc Cert.MergeLastIdeal.main_arg8)
      ∧ m' ((c.tc : Thread Cert.MergeLastRefIdeal.nD Cert.MergeLastRefIdeal.τ).loc Cert.MergeLastRefIdeal.main_arg9) = m ((c.tc : Thread Cert.MergeLastIdeal.nD Cert.MergeLastIdeal.τ).loc Cert.MergeLastIdeal.main_arg9)
      ∧ m' ((c.tc : Thread Cert.MergeLastRefIdeal.nD Cert.MergeLastRefIdeal.τ).loc Cert.MergeLastRefIdeal.main_arg10) = m ((c.tc : Thread Cert.MergeLastIdeal.nD Cert.MergeLastIdeal.τ).loc Cert.MergeLastIdeal.main_arg10)
      ∧ m' ((c.tc : Thread Cert.MergeLastRefIdeal.nD Cert.MergeLastRefIdeal.τ).loc Cert.MergeLastRefIdeal.main_arg11) = m ((c.tc : Thread Cert.MergeLastIdeal.nD Cert.MergeLastIdeal.τ).loc Cert.MergeLastIdeal.main_arg11)
      ∧ m' ((c.tc : Thread Cert.MergeLastRefIdeal.nD Cert.MergeLastRefIdeal.τ).loc Cert.MergeLastRefIdeal.main_arg12) = m ((c.tc : Thread Cert.MergeLastIdeal.nD Cert.MergeLastIdeal.τ).loc Cert.MergeLastIdeal.main_arg12)
      ∧ m' ((c.tc : Thread Cert.MergeLastRefIdeal.nD Cert.MergeLastRefIdeal.τ).loc Cert.MergeLastRefIdeal.main_arg13) = m ((c.tc : Thread Cert.MergeLastIdeal.nD Cert.MergeLastIdeal.τ).loc Cert.MergeLastIdeal.main_arg13)
      ∧ m' ((c.tc : Thread Cert.MergeLastRefIdeal.nD Cert.MergeLastRefIdeal.τ).loc Cert.MergeLastRefIdeal.main_arg14) = m ((c.tc : Thread Cert.MergeLastIdeal.nD Cert.MergeLastIdeal.τ).loc Cert.MergeLastIdeal.main_arg14)
      ∧ m' ((c.tc : Thread Cert.MergeLastRefIdeal.nD Cert.MergeLastRefIdeal.τ).loc Cert.MergeLastRefIdeal.main_arg15) = m ((c.tc : Thread Cert.MergeLastIdeal.nD Cert.MergeLastIdeal.τ).loc Cert.MergeLastIdeal.main_arg15)
      ∧ m' ((c.tc : Thread Cert.MergeLastRefIdeal.nD Cert.MergeLastRefIdeal.τ).loc Cert.MergeLastRefIdeal.main_arg16) = m ((c.tc : Thread Cert.MergeLastIdeal.nD Cert.MergeLastIdeal.τ).loc Cert.MergeLastIdeal.main_arg16)
      ∧ m' ((c.tc : Thread Cert.MergeLastRefIdeal.nD Cert.MergeLastRefIdeal.τ).loc Cert.MergeLastRefIdeal.main_arg17) = m ((c.tc : Thread Cert.MergeLastIdeal.nD Cert.MergeLastIdeal.τ).loc Cert.MergeLastIdeal.main_arg17)) →
    ∃ (v0 : (c : Dev Cert.MergeLastIdeal.nD) → Buf (Elt Ideal) ((c.tc : Thread Cert.MergeLastIdeal.nD Cert.MergeLastIdeal.τ).loc Cert.MergeLastIdeal.main_v10_0)) (v1 : (c : Dev Cert.MergeLastIdeal.nD) → Buf (Elt Ideal) ((c.tc : Thread Cert.MergeLastIdeal.nD Cert.MergeLastIdeal.τ).loc Cert.MergeLastIdeal.main_v10_1)),
      θ_run (Cert.MergeLastIdeal.defs (F := Ideal)) (onTc (τ := Cert.MergeLastIdeal.τ) (Cert.MergeLastIdeal.main (F := Ideal))) ⟨m, fun _ => 0, g⟩ (fun r => ∀ c : Dev Cert.MergeLastIdeal.nD,
          r.2.mem ((c.tc : Thread Cert.MergeLastIdeal.nD Cert.MergeLastIdeal.τ).loc Cert.MergeLastIdeal.main_v10_0) = v0 c
          ∧ r.2.mem ((c.tc : Thread Cert.MergeLastIdeal.nD Cert.MergeLastIdeal.τ).loc Cert.MergeLastIdeal.main_v10_1) = v1 c
          ∧ r.2.mem ((c.tc : Thread Cert.MergeLastIdeal.nD Cert.MergeLastIdeal.τ).loc Cert.MergeLastIdeal.main_arg0) = m ((c.tc : Thread Cert.MergeLastIdeal.nD Cert.MergeLastIdeal.τ).loc Cert.MergeLastIdeal.main_arg0)
          ∧ r.2.mem ((c.tc : Thread Cert.MergeLastIdeal.nD Cert.MergeLastIdeal.τ).loc Cert.MergeLastIdeal.main_arg1) = m ((c.tc : Thread Cert.MergeLastIdeal.nD Cert.MergeLastIdeal.τ).loc Cert.MergeLastIdeal.main_arg1)
          ∧ r.2.mem ((c.tc : Thread Cert.MergeLastIdeal.nD Cert.MergeLastIdeal.τ).loc Cert.MergeLastIdeal.main_arg2) = m ((c.tc : Thread Cert.MergeLastIdeal.nD Cert.MergeLastIdeal.τ).loc Cert.MergeLastIdeal.main_arg2)
          ∧ r.2.mem ((c.tc : Thread Cert.MergeLastIdeal.nD Cert.MergeLastIdeal.τ).loc Cert.MergeLastIdeal.main_arg3) = m ((c.tc : Thread Cert.MergeLastIdeal.nD Cert.MergeLastIdeal.τ).loc Cert.MergeLastIdeal.main_arg3)
          ∧ r.2.mem ((c.tc : Thread Cert.MergeLastIdeal.nD Cert.MergeLastIdeal.τ).loc Cert.MergeLastIdeal.main_arg4) = m ((c.tc : Thread Cert.MergeLastIdeal.nD Cert.MergeLastIdeal.τ).loc Cert.MergeLastIdeal.main_arg4)
          ∧ r.2.mem ((c.tc : Thread Cert.MergeLastIdeal.nD Cert.MergeLastIdeal.τ).loc Cert.MergeLastIdeal.main_arg5) = m ((c.tc : Thread Cert.MergeLastIdeal.nD Cert.MergeLastIdeal.τ).loc Cert.MergeLastIdeal.main_arg5)
          ∧ r.2.mem ((c.tc : Thread Cert.MergeLastIdeal.nD Cert.MergeLastIdeal.τ).loc Cert.MergeLastIdeal.main_arg6) = m ((c.tc : Thread Cert.MergeLastIdeal.nD Cert.MergeLastIdeal.τ).loc Cert.MergeLastIdeal.main_arg6)
          ∧ r.2.mem ((c.tc : Thread Cert.MergeLastIdeal.nD Cert.MergeLastIdeal.τ).loc Cert.MergeLastIdeal.main_arg7) = m ((c.tc : Thread Cert.MergeLastIdeal.nD Cert.MergeLastIdeal.τ).loc Cert.MergeLastIdeal.main_arg7)
          ∧ r.2.mem ((c.tc : Thread Cert.MergeLastIdeal.nD Cert.MergeLastIdeal.τ).loc Cert.MergeLastIdeal.main_arg8) = m ((c.tc : Thread Cert.MergeLastIdeal.nD Cert.MergeLastIdeal.τ).loc Cert.MergeLastIdeal.main_arg8)
          ∧ r.2.mem ((c.tc : Thread Cert.MergeLastIdeal.nD Cert.MergeLastIdeal.τ).loc Cert.MergeLastIdeal.main_arg9) = m ((c.tc : Thread Cert.MergeLastIdeal.nD Cert.MergeLastIdeal.τ).loc Cert.MergeLastIdeal.main_arg9)
          ∧ r.2.mem ((c.tc : Thread Cert.MergeLastIdeal.nD Cert.MergeLastIdeal.τ).loc Cert.MergeLastIdeal.main_arg10) = m ((c.tc : Thread Cert.MergeLastIdeal.nD Cert.MergeLastIdeal.τ).loc Cert.MergeLastIdeal.main_arg10)
          ∧ r.2.mem ((c.tc : Thread Cert.MergeLastIdeal.nD Cert.MergeLastIdeal.τ).loc Cert.MergeLastIdeal.main_arg11) = m ((c.tc : Thread Cert.MergeLastIdeal.nD Cert.MergeLastIdeal.τ).loc Cert.MergeLastIdeal.main_arg11)
          ∧ r.2.mem ((c.tc : Thread Cert.MergeLastIdeal.nD Cert.MergeLastIdeal.τ).loc Cert.MergeLastIdeal.main_arg12) = m ((c.tc : Thread Cert.MergeLastIdeal.nD Cert.MergeLastIdeal.τ).loc Cert.MergeLastIdeal.main_arg12)
          ∧ r.2.mem ((c.tc : Thread Cert.MergeLastIdeal.nD Cert.MergeLastIdeal.τ).loc Cert.MergeLastIdeal.main_arg13) = m ((c.tc : Thread Cert.MergeLastIdeal.nD Cert.MergeLastIdeal.τ).loc Cert.MergeLastIdeal.main_arg13)
          ∧ r.2.mem ((c.tc : Thread Cert.MergeLastIdeal.nD Cert.MergeLastIdeal.τ).loc Cert.MergeLastIdeal.main_arg14) = m ((c.tc : Thread Cert.MergeLastIdeal.nD Cert.MergeLastIdeal.τ).loc Cert.MergeLastIdeal.main_arg14)
          ∧ r.2.mem ((c.tc : Thread Cert.MergeLastIdeal.nD Cert.MergeLastIdeal.τ).loc Cert.MergeLastIdeal.main_arg15) = m ((c.tc : Thread Cert.MergeLastIdeal.nD Cert.MergeLastIdeal.τ).loc Cert.MergeLastIdeal.main_arg15)
          ∧ r.2.mem ((c.tc : Thread Cert.MergeLastIdeal.nD Cert.MergeLastIdeal.τ).loc Cert.MergeLastIdeal.main_arg16) = m ((c.tc : Thread Cert.MergeLastIdeal.nD Cert.MergeLastIdeal.τ).loc Cert.MergeLastIdeal.main_arg16)
          ∧ r.2.mem ((c.tc : Thread Cert.MergeLastIdeal.nD Cert.MergeLastIdeal.τ).loc Cert.MergeLastIdeal.main_arg17) = m ((c.tc : Thread Cert.MergeLastIdeal.nD Cert.MergeLastIdeal.τ).loc Cert.MergeLastIdeal.main_arg17))
      ∧ θ_run (Cert.MergeLastRefIdeal.defs (F := Ideal)) (onTc (τ := Cert.MergeLastRefIdeal.τ) (Cert.MergeLastRefIdeal.main (F := Ideal))) ⟨m', fun _ => 0, g'⟩ (fun r => ∀ c : Dev Cert.MergeLastRefIdeal.nD,
          r.2.mem ((c.tc : Thread Cert.MergeLastRefIdeal.nD Cert.MergeLastRefIdeal.τ).loc Cert.MergeLastRefIdeal.main_v112) = v0 c
          ∧ r.2.mem ((c.tc : Thread Cert.MergeLastRefIdeal.nD Cert.MergeLastRefIdeal.τ).loc Cert.MergeLastRefIdeal.main_v125) = v1 c
          ∧ r.2.mem ((c.tc : Thread Cert.MergeLastRefIdeal.nD Cert.MergeLastRefIdeal.τ).loc Cert.MergeLastRefIdeal.main_arg0) = m' ((c.tc : Thread Cert.MergeLastRefIdeal.nD Cert.MergeLastRefIdeal.τ).loc Cert.MergeLastRefIdeal.main_arg0)
          ∧ r.2.mem ((c.tc : Thread Cert.MergeLastRefIdeal.nD Cert.MergeLastRefIdeal.τ).loc Cert.MergeLastRefIdeal.main_arg1) = m' ((c.tc : Thread Cert.MergeLastRefIdeal.nD Cert.MergeLastRefIdeal.τ).loc Cert.MergeLastRefIdeal.main_arg1)
          ∧ r.2.mem ((c.tc : Thread Cert.MergeLastRefIdeal.nD Cert.MergeLastRefIdeal.τ).loc Cert.MergeLastRefIdeal.main_arg2) = m' ((c.tc : Thread Cert.MergeLastRefIdeal.nD Cert.MergeLastRefIdeal.τ).loc Cert.MergeLastRefIdeal.main_arg2)
          ∧ r.2.mem ((c.tc : Thread Cert.MergeLastRefIdeal.nD Cert.MergeLastRefIdeal.τ).loc Cert.MergeLastRefIdeal.main_arg3) = m' ((c.tc : Thread Cert.MergeLastRefIdeal.nD Cert.MergeLastRefIdeal.τ).loc Cert.MergeLastRefIdeal.main_arg3)
          ∧ r.2.mem ((c.tc : Thread Cert.MergeLastRefIdeal.nD Cert.MergeLastRefIdeal.τ).loc Cert.MergeLastRefIdeal.main_arg4) = m' ((c.tc : Thread Cert.MergeLastRefIdeal.nD Cert.MergeLastRefIdeal.τ).loc Cert.MergeLastRefIdeal.main_arg4)
          ∧ r.2.mem ((c.tc : Thread Cert.MergeLastRefIdeal.nD Cert.MergeLastRefIdeal.τ).loc Cert.MergeLastRefIdeal.main_arg5) = m' ((c.tc : Thread Cert.MergeLastRefIdeal.nD Cert.MergeLastRefIdeal.τ).loc Cert.MergeLastRefIdeal.main_arg5)
          ∧ r.2.mem ((c.tc : Thread Cert.MergeLastRefIdeal.nD Cert.MergeLastRefIdeal.τ).loc Cert.MergeLastRefIdeal.main_arg6) = m' ((c.tc : Thread Cert.MergeLastRefIdeal.nD Cert.MergeLastRefIdeal.τ).loc Cert.MergeLastRefIdeal.main_arg6)
          ∧ r.2.mem ((c.tc : Thread Cert.MergeLastRefIdeal.nD Cert.MergeLastRefIdeal.τ).loc Cert.MergeLastRefIdeal.main_arg7) = m' ((c.tc : Thread Cert.MergeLastRefIdeal.nD Cert.MergeLastRefIdeal.τ).loc Cert.MergeLastRefIdeal.main_arg7)
          ∧ r.2.mem ((c.tc : Thread Cert.MergeLastRefIdeal.nD Cert.MergeLastRefIdeal.τ).loc Cert.MergeLastRefIdeal.main_arg8) = m' ((c.tc : Thread Cert.MergeLastRefIdeal.nD Cert.MergeLastRefIdeal.τ).loc Cert.MergeLastRefIdeal.main_arg8)
          ∧ r.2.mem ((c.tc : Thread Cert.MergeLastRefIdeal.nD Cert.MergeLastRefIdeal.τ).loc Cert.MergeLastRefIdeal.main_arg9) = m' ((c.tc : Thread Cert.MergeLastRefIdeal.nD Cert.MergeLastRefIdeal.τ).loc Cert.MergeLastRefIdeal.main_arg9)
          ∧ r.2.mem ((c.tc : Thread Cert.MergeLastRefIdeal.nD Cert.MergeLastRefIdeal.τ).loc Cert.MergeLastRefIdeal.main_arg10) = m' ((c.tc : Thread Cert.MergeLastRefIdeal.nD Cert.MergeLastRefIdeal.τ).loc Cert.MergeLastRefIdeal.main_arg10)
          ∧ r.2.mem ((c.tc : Thread Cert.MergeLastRefIdeal.nD Cert.MergeLastRefIdeal.τ).loc Cert.MergeLastRefIdeal.main_arg11) = m' ((c.tc : Thread Cert.MergeLastRefIdeal.nD Cert.MergeLastRefIdeal.τ).loc Cert.MergeLastRefIdeal.main_arg11)
          ∧ r.2.mem ((c.tc : Thread Cert.MergeLastRefIdeal.nD Cert.MergeLastRefIdeal.τ).loc Cert.MergeLastRefIdeal.main_arg12) = m' ((c.tc : Thread Cert.MergeLastRefIdeal.nD Cert.MergeLastRefIdeal.τ).loc Cert.MergeLastRefIdeal.main_arg12)
          ∧ r.2.mem ((c.tc : Thread Cert.MergeLastRefIdeal.nD Cert.MergeLastRefIdeal.τ).loc Cert.MergeLastRefIdeal.main_arg13) = m' ((c.tc : Thread Cert.MergeLastRefIdeal.nD Cert.MergeLastRefIdeal.τ).loc Cert.MergeLastRefIdeal.main_arg13)
          ∧ r.2.mem ((c.tc : Thread Cert.MergeLastRefIdeal.nD Cert.MergeLastRefIdeal.τ).loc Cert.MergeLastRefIdeal.main_arg14) = m' ((c.tc : Thread Cert.MergeLastRefIdeal.nD Cert.MergeLastRefIdeal.τ).loc Cert.MergeLastRefIdeal.main_arg14)
          ∧ r.2.mem ((c.tc : Thread Cert.MergeLastRefIdeal.nD Cert.MergeLastRefIdeal.τ).loc Cert.MergeLastRefIdeal.main_arg15) = m' ((c.tc : Thread Cert.MergeLastRefIdeal.nD Cert.MergeLastRefIdeal.τ).loc Cert.MergeLastRefIdeal.main_arg15)
          ∧ r.2.mem ((c.tc : Thread Cert.MergeLastRefIdeal.nD Cert.MergeLastRefIdeal.τ).loc Cert.MergeLastRefIdeal.main_arg16) = m' ((c.tc : Thread Cert.MergeLastRefIdeal.nD Cert.MergeLastRefIdeal.τ).loc Cert.MergeLastRefIdeal.main_arg16)
          ∧ r.2.mem ((c.tc : Thread Cert.MergeLastRefIdeal.nD Cert.MergeLastRefIdeal.τ).loc Cert.MergeLastRefIdeal.main_arg17) = m' ((c.tc : Thread Cert.MergeLastRefIdeal.nD Cert.MergeLastRefIdeal.τ).loc Cert.MergeLastRefIdeal.main_arg17))

def Claim : Prop :=
  ∃ (hProj : Cert.Proj.Facts) (hProjIdeal : Cert.ProjIdeal.Facts) (hProjRefIdeal : Cert.ProjRefIdeal.Facts) (hAttnKeys : Cert.AttnKeys.Facts) (hAttnKeysIdeal : Cert.AttnKeysIdeal.Facts) (hAttnKeysRefIdeal : Cert.AttnKeysRefIdeal.Facts) (hGmlpSample : Cert.GmlpSample.Facts) (hGmlpSampleIdeal : Cert.GmlpSampleIdeal.Facts) (hGmlpSampleRefIdeal : Cert.GmlpSampleRefIdeal.Facts) (hConvSample : Cert.ConvSample.Facts) (hConvSampleIdeal : Cert.ConvSampleIdeal.Facts) (hConvSampleRefIdeal : Cert.ConvSampleRefIdeal.Facts) (hMerge : Cert.Merge.Facts) (hMergeIdeal : Cert.MergeIdeal.Facts) (hMergeRefIdeal : Cert.MergeRefIdeal.Facts) (hMergeLast : Cert.MergeLast.Facts) (hMergeLastIdeal : Cert.MergeLastIdeal.Facts) (hMergeLastRefIdeal : Cert.MergeLastRefIdeal.Facts),
    quiescent_Proj (hProj := hProj)
    ∧ quiescent_ProjIdeal (hProjIdeal := hProjIdeal)
    ∧ quiescent_ProjRefIdeal (hProjRefIdeal := hProjRefIdeal)
    ∧ quiescent_AttnKeys (hAttnKeys := hAttnKeys)
    ∧ quiescent_AttnKeysIdeal (hAttnKeysIdeal := hAttnKeysIdeal)
    ∧ quiescent_AttnKeysRefIdeal (hAttnKeysRefIdeal := hAttnKeysRefIdeal)
    ∧ quiescent_GmlpSample (hGmlpSample := hGmlpSample)
    ∧ quiescent_GmlpSampleIdeal (hGmlpSampleIdeal := hGmlpSampleIdeal)
    ∧ quiescent_GmlpSampleRefIdeal (hGmlpSampleRefIdeal := hGmlpSampleRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeLast (hMergeLast := hMergeLast)
    ∧ quiescent_MergeLastIdeal (hMergeLastIdeal := hMergeLastIdeal)
    ∧ quiescent_MergeLastRefIdeal (hMergeLastRefIdeal := hMergeLastRefIdeal)
    ∧ preserves_Proj_ProjIdeal
    ∧ algebraic_ProjIdeal_ProjRefIdeal (hProjIdeal := hProjIdeal) (hProjRefIdeal := hProjRefIdeal)
    ∧ preserves_AttnKeys_AttnKeysIdeal
    ∧ algebraic_AttnKeysIdeal_AttnKeysRefIdeal (hAttnKeysIdeal := hAttnKeysIdeal) (hAttnKeysRefIdeal := hAttnKeysRefIdeal)
    ∧ preserves_GmlpSample_GmlpSampleIdeal
    ∧ algebraic_GmlpSampleIdeal_GmlpSampleRefIdeal (hGmlpSampleIdeal := hGmlpSampleIdeal) (hGmlpSampleRefIdeal := hGmlpSampleRefIdeal)
    ∧ preserves_ConvSample_ConvSampleIdeal
    ∧ algebraic_ConvSampleIdeal_ConvSampleRefIdeal (hConvSampleIdeal := hConvSampleIdeal) (hConvSampleRefIdeal := hConvSampleRefIdeal)
    ∧ preserves_Merge_MergeIdeal
    ∧ algebraic_MergeIdeal_MergeRefIdeal (hMergeIdeal := hMergeIdeal) (hMergeRefIdeal := hMergeRefIdeal)
    ∧ preserves_MergeLast_MergeLastIdeal
    ∧ algebraic_MergeLastIdeal_MergeLastRefIdeal (hMergeLastIdeal := hMergeLastIdeal) (hMergeLastRefIdeal := hMergeLastRefIdeal)
-- ==== Proj.lean ====
abbrev S8x2048x1024 : Shape := ⟨3, ![8, 2048, 1024]⟩
abbrev S32x32x1024 : Shape := ⟨3, ![32, 32, 1024]⟩
abbrev S1024 : Shape := ⟨1, ![1024]⟩
abbrev S2x7936x1024 : Shape := ⟨3, ![2, 7936, 1024]⟩
abbrev S16384x1024 : Shape := ⟨2, ![16384, 1024]⟩
abbrev S1024x1024 : Shape := ⟨2, ![1024, 1024]⟩
abbrev S1x1024 : Shape := ⟨2, ![1, 1024]⟩
abbrev S17408x896 : Shape := ⟨2, ![17408, 896]⟩
abbrev S17408x384 : Shape := ⟨2, ![17408, 384]⟩
abbrev S17408x512 : Shape := ⟨2, ![17408, 512]⟩
abbrev S17408x1024 : Shape := ⟨2, ![17408, 1024]⟩
abbrev S17408x3072 : Shape := ⟨2, ![17408, 3072]⟩
abbrev S256x1024 : Shape := ⟨2, ![256, 1024]⟩
abbrev S1x7936x1024 : Shape := ⟨3, ![1, 7936, 1024]⟩
abbrev S256x896 : Shape := ⟨2, ![256, 896]⟩
abbrev S256x384 : Shape := ⟨2, ![256, 384]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S1x384x1024 : Shape := ⟨3, ![1, 384, 1024]⟩
abbrev S384x1024 : Shape := ⟨2, ![384, 1024]⟩

abbrev nBuf : Space → Nat
  | .hbm => 15
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S32x32x1024, .f32⟩
  | .hbm, ⟨2, _⟩ => ⟨S1024, .f32⟩
  | .hbm, ⟨3, _⟩ => ⟨S2x7936x1024, .bf16⟩
  | .hbm, ⟨4, _⟩ => ⟨S16384x1024, .f32⟩
  | .hbm, ⟨5, _⟩ => ⟨S1024x1024, .f32⟩
  | .hbm, ⟨6, _⟩ => ⟨S1x1024, .f32⟩
  | .hbm, ⟨7, _⟩ => ⟨S17408x896, .f32⟩
  | .hbm, ⟨8, _⟩ => ⟨S17408x384, .f32⟩
  | .hbm, ⟨9, _⟩ => ⟨S17408x512, .f32⟩
  | .hbm, ⟨10, _⟩ => ⟨S17408x1024, .f32⟩
  | .hbm, ⟨11, _⟩ => ⟨S17408x512, .f32⟩
  | .hbm, ⟨12, _⟩ => ⟨S17408x1024, .f32⟩
  | .hbm, ⟨13, _⟩ => ⟨S17408x512, .f32⟩
  | .hbm, ⟨14, _⟩ => ⟨S17408x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x7936x1024, .bf16⟩
  | .local _ .vmem, ⟨6, _⟩ => ⟨S256x896, .f32⟩
  | .local _ .vmem, ⟨7, _⟩ => ⟨S256x896, .f32⟩
  | .local _ .vmem, ⟨8, _⟩ => ⟨S256x384, .f32⟩
  | .local _ .vmem, ⟨9, _⟩ => ⟨S256x384, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S256x3072, .f32⟩
  | .local _ .vmem, ⟨21, _⟩ => ⟨S256x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7936x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S8x2048x1024 : Shape := ⟨3, ![8, 2048, 1024]⟩
abbrev S32x32x1024 : Shape := ⟨3, ![32, 32, 1024]⟩
abbrev S1024 : Shape := ⟨1, ![1024]⟩
abbrev S2x7936x1024 : Shape := ⟨3, ![2, 7936, 1024]⟩
abbrev S16384x1024 : Shape := ⟨2, ![16384, 1024]⟩
abbrev S1024x1024 : Shape := ⟨2, ![1024, 1024]⟩
abbrev S17408x1024 : Shape := ⟨2, ![17408, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S1x7936x1024 : Shape := ⟨3, ![1, 7936, 1024]⟩
abbrev S7936x1024 : Shape := ⟨2, ![7936, 1024]⟩
abbrev S1024x7936 : Shape := ⟨2, ![1024, 7936]⟩
abbrev S17408x7936 : Shape := ⟨2, ![17408, 7936]⟩
abbrev S17408x896 : Shape := ⟨2, ![17408, 896]⟩
abbrev S17408x384 : Shape := ⟨2, ![17408, 384]⟩
abbrev S17408x512 : Shape := ⟨2, ![17408, 512]⟩
abbrev S17408x3072 : Shape := ⟨2, ![17408, 3072]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S32x32x1024, .f32⟩
  | .hbm, ⟨2, _⟩ => ⟨S1024, .f32⟩
  | .hbm, ⟨3, _⟩ => ⟨S2x7936x1024, .bf16⟩
  | .hbm, ⟨4, _⟩ => ⟨S16384x1024, .f32⟩
  | .hbm, ⟨5, _⟩ => ⟨S1024x1024, .f32⟩
  | .hbm, ⟨6, _⟩ => ⟨S17408x1024, .f32⟩
  | .hbm, ⟨7, _⟩ => ⟨S17408x1024, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x1024, .f32⟩
  | .hbm, ⟨19, _⟩ => ⟨S17408x1024, .f32⟩
  | .hbm, ⟨20, _⟩ => ⟨S1x1024, .f32⟩
  | .hbm, ⟨21, _⟩ => ⟨S17408x1024, .f32⟩
  | .hbm, ⟨22, _⟩ => ⟨S17408x1024, .f32⟩
  | .hbm, ⟨23, _⟩ => ⟨S1x7936x1024, .bf16⟩
  | .hbm, ⟨24, _⟩ => ⟨S7936x1024, .bf16⟩
  | .hbm, ⟨25, _⟩ => ⟨S7936x1024, .f32⟩
  | .hbm, ⟨26, _⟩ => ⟨S1024x7936, .f32⟩
  | .hbm, ⟨27, _⟩ => ⟨S17408x7936, .f32⟩
  | .hbm, ⟨28, _⟩ => ⟨S17408x896, .f32⟩
  | .hbm, ⟨29, _⟩ => ⟨S17408x384, .f32⟩
  | .hbm, ⟨30, _⟩ => ⟨S17408x512, .f32⟩
  | .hbm, ⟨31, _⟩ => ⟨S17408x1024, .f32⟩
  | .hbm, ⟨32, _⟩ => ⟨S17408x512, .f32⟩
  | .hbm, ⟨33, _⟩ => ⟨S17408x1024, .f32⟩
  | .hbm, ⟨34, _⟩ => ⟨S17408x512, .f32⟩
  | .hbm, ⟨35, _⟩ => ⟨S17408x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== AttnKeys.lean ====
abbrev S17408x896 : Shape := ⟨2, ![17408, 896]⟩
abbrev S17408x384 : Shape := ⟨2, ![17408, 384]⟩
abbrev S17408x512 : Shape := ⟨2, ![17408, 512]⟩
abbrev S16384x512 : Shape := ⟨2, ![16384, 512]⟩
abbrev S1024x2048 : Shape := ⟨2, ![1024, 2048]⟩
abbrev S512x2048 : Shape := ⟨2, ![512, 2048]⟩
abbrev S256x896 : Shape := ⟨2, ![256, 896]⟩
abbrev S2048x384 : Shape := ⟨2, ![2048, 384]⟩
abbrev S256x512 : Shape := ⟨2, ![256, 512]⟩
abbrev S128x2048 : Shape := ⟨2, ![128, 2048]⟩
abbrev S64x2048 : Shape := ⟨2, ![64, 2048]⟩
abbrev S2048x128 : Shape := ⟨2, ![2048, 128]⟩
abbrev S8x2x64x256 : Shape := ⟨4, ![8, 2, 64, 256]⟩
abbrev S8x256x256 : Shape := ⟨3, ![8, 256, 256]⟩
abbrev S2x256x1024 : Shape := ⟨3, ![2, 256, 1024]⟩
abbrev S2x64x1024 : Shape := ⟨3, ![2, 64, 1024]⟩
abbrev S256x128 : Shape := ⟨2, ![256, 128]⟩
abbrev S128x128 : Shape := ⟨2, ![128, 128]⟩
abbrev S128x256 : Shape := ⟨2, ![128, 256]⟩
abbrev S64x256 : Shape := ⟨2, ![64, 256]⟩
abbrev S1x1x64x256 : Shape := ⟨4, ![1, 1, 64, 256]⟩
abbrev S256x256 : Shape := ⟨2, ![256, 256]⟩
abbrev S1024x128 : Shape := ⟨2, ![1024, 128]⟩
abbrev S1x256 : Shape := ⟨2, ![1, 256]⟩
abbrev S8x256 : Shape := ⟨2, ![8, 256]⟩
abbrev S256x1024 : Shape := ⟨2, ![256, 1024]⟩
abbrev S1x256x256 : Shape := ⟨3, ![1, 256, 256]⟩
abbrev S1x8x256 : Shape := ⟨3, ![1, 8, 256]⟩
abbrev S1 : Shape := ⟨1, ![1]⟩
abbrev S1x1x1 : Shape := ⟨3, ![1, 1, 1]⟩
abbrev S256 : Shape := ⟨1, ![256]⟩
abbrev S1x256x1024 : Shape := ⟨3, ![1, 256, 1024]⟩
abbrev S8x1024 : Shape := ⟨2, ![8, 1024]⟩
abbrev S64x1024 : Shape := ⟨2, ![64, 1024]⟩
abbrev S1x64x1024 : Shape := ⟨3, ![1, 64, 1024]⟩

abbrev nBuf : Space → Nat
  | .hbm => 7
  | .vmem => 21
  | .smem => 0
  | _ => 0

abbrev bufTy : (tb : Table) → Fin (tcTables nBuf tb) → BufTy
  | .hbm, ⟨0, _⟩ => ⟨S17408x896, .f32⟩
  | .hbm, ⟨1, _⟩ => ⟨S17408x384, .f32⟩
  | .hbm, ⟨2, _⟩ => ⟨S17408x512, .f32⟩
  | .hbm, ⟨3, _⟩ => ⟨S16384x512, .bf16⟩
  | .hbm, ⟨4, _⟩ => ⟨S1024x2048, .f32⟩
  | .hbm, ⟨5, _⟩ => ⟨S1024x2048, .f32⟩
  | .hbm, ⟨6, _⟩ => ⟨S512x2048, .f32⟩
  | .local _ .vmem, ⟨0, _⟩ => ⟨S256x896, .f32⟩
  | .local _ .vmem, ⟨1, _⟩ => ⟨S256x896, .f32⟩
  | .local _ .vmem, ⟨2, _⟩ => ⟨S2048x384, .f32⟩
  | .local _ .vmem, ⟨3, _⟩ => ⟨S2048x384, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S64x2048, .f32⟩
  | .local _ .vmem, ⟨13, _⟩ => ⟨S64x2048, .f32⟩
  | .local _ .vmem, ⟨14, _⟩ => ⟨S2048x128, .bf16⟩
  | .local _ .vmem, ⟨15, _⟩ => ⟨S8x2x64x256, .bf16⟩
  | .local _ .vmem, ⟨16, _⟩ => ⟨S2048x128, .bf16⟩
  | .local _ .vmem, ⟨17, _⟩ => ⟨S8x256x256, .f32⟩
  | .local _ .vmem, ⟨18, _⟩ => ⟨S2x256x1024, .f32⟩
  | .local _ .vmem, ⟨19, _⟩ => ⟨S2x256x1024, .bf16⟩
  | .local _ .vmem, ⟨20, _⟩ => ⟨S2x64x1024, .f32⟩
  | _, _ => ⟨S17408x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_44 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v134 : BitVec 32 := Scalar.subi v23 c0_i32_44
  let c1_i32_45 : BitVec 32 := 1#32
  let v136 : BitVec 32 := Scalar.divsi v134 c1_i32_45
  let v137 : BitVec 32 := Scalar.muli v136 c1_i32_45
  let v138 : BitVec 32 := Scalar.addi c0_i32_44 v137
  let c1_i32_46 : BitVec 32 := 1#32
  ⟨c0_i32_44, v138, c1_i32_46⟩
def k0_mult1 (i : grid0.Coords) (k0_t1 : Fin (k0_t1_loop i).trips) : BitVec 32 :=
  let c0_i32_44 : BitVec 32 := 0#32
  let c1_i32_46 : BitVec 32 := 1#32
  let arg16 : BitVec 32 := Scf.iv c0_i32_44 c1_i32_46 k0_t1
  let c256_i32_164 : BitVec 32 := 256#32
  let v460 : BitVec 32 := Scalar.muli arg16 c256_i32_164
  v460
def k0_off1 (i : grid0.Coords) (k0_t1 : Fin (k0_t1_loop i).trips) : Fin 2 → Nat :=
  let c0_i32_44 : BitVec 32 := 0#32
  let c1_i32_46 : BitVec 32 := 1#32
  let arg16 : BitVec 32 := Scf.iv c0_i32_44 c1_i32_46 k0_t1
  let c256_i32_164 : BitVec 32 := 256#32
  let v460 : BitVec 32 := Scalar.muli arg16 c256_i32_164
  let v461 : BitVec 32 := v460
  let v462 : Index := Scalar.indexCast v461
  let c0_165 : Index := 0#32
  ![v462.toNat, 0]
def k0_off2 (i : grid0.Coords) (k0_t1 : Fin (k0_t1_loop i).trips) : Fin 3 → Nat :=
  let c0_i32_44 : BitVec 32 := 0#32
  let c1_i32_46 : BitVec 32 := 1#32
  let arg16 : BitVec 32 := Scf.iv c0_i32_44 c1_i32_46 k0_t1
  let v496 : Index := Scalar.indexCast arg16
  let c0_174 : Index := 0#32
  let c0_175 : Index := 0#32
  ![v496.toNat, 0, 0]
@[reducible] def k0_t2_loop (i : grid0.Coords) : Scf.Loop 32 :=
  let c0_i32_44 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v134 : BitVec 32 := Scalar.subi v23 c0_i32_44
  let c1_i32_45 : BitVec 32 := 1#32
  let v136 : BitVec 32 := Scalar.divsi v134 c1_i32_45
  let v137 : BitVec 32 := Scalar.muli v136 c1_i32_45
  let v138 : BitVec 32 := Scalar.addi c0_i32_44 v137
  let v135 : BitVec 32 := Scalar.addi c0_i32_44 v134
  let c1_i32_47 : BitVec 32 := 1#32
  ⟨v138, v135, c1_i32_47⟩
def k0_mult2 (i : grid0.Coords) (k0_t2 : Fin (k0_t2_loop i).trips) : BitVec 32 :=
  let c0_i32_44 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v134 : BitVec 32 := Scalar.subi v23 c0_i32_44
  let c1_i32_45 : BitVec 32 := 1#32
  let v136 : BitVec 32 := Scalar.divsi v134 c1_i32_45
  let v137 : BitVec 32 := Scalar.muli v136 c1_i32_45
  let v138 : BitVec 32 := Scalar.addi c0_i32_44 v137
  let c1_i32_47 : BitVec 32 := 1#32
  let arg16 : BitVec 32 := Scf.iv v138 c1_i32_47 k0_t2
  let c256_i32_164 : BitVec 32 := 256#32
  let v460 : BitVec 32 := Scalar.muli arg16 c256_i32_164
  v460
def k0_off3 (i : grid0.Coords) (k0_t2 : Fin (k0_t2_loop i).trips) : Fin 2 → Nat :=
  let c0_i32_44 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v134 : BitVec 32 := Scalar.subi v23 c0_i32_44
  let c1_i32_45 : BitVec 32 := 1#32
  let v136 : BitVec 32 := Scalar.divsi v134 c1_i32_45
  let v137 : BitVec 32 := Scalar.muli v136 c1_i32_45
  let v138 : BitVec 32 := Scalar.addi c0_i32_44 v137
  let c1_i32_47 : BitVec 32 := 1#32
  let arg16 : BitVec 32 := Scf.iv v138 c1_i32_47 k0_t2
  let c256_i32_164 : BitVec 32 := 256#32
  let v460 : BitVec 32 := Scalar.muli arg16 c256_i32_164
  let v461 : BitVec 32 := v460
  let v462 : Index := Scalar.indexCast v461
  let c0_165 : Index := 0#32
  ![v462.toNat, 0]
def k0_off4 (i : grid0.Coords) (k0_t2 : Fin (k0_t2_loop i).trips) : Fin 3 → Nat :=
  let c0_i32_44 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v134 : BitVec 32 := Scalar.subi v23 c0_i32_44
  let c1_i32_45 : BitVec 32 := 1#32
  let v136 : BitVec 32 := Scalar.divsi v134 c1_i32_45
  let v137 : BitVec 32 := Scalar.muli v136 c1_i32_45
  let v138 : BitVec 32 := Scalar.addi c0_i32_44 v137
  let c1_i32_47 : BitVec 32 := 1#32
  let arg16 : BitVec 32 := Scf.iv v138 c1_i32_47 k0_t2
  let v496 : Index := Scalar.indexCast arg16
  let c0_174 : Index := 0#32
  let c0_175 : Index := 0#32
  ![v496.toNat, 0, 0]
@[reducible] def k0_t3_loop : Scf.Loop 32 :=
  let c0_i32_72 : BitVec 32 := 0#32
  let c16_i32 : BitVec 32 := 16#32
  let v213 : BitVec 32 := Scalar.addi c0_i32_72 c16_i32
  let c1_i32_73 : BitVec 32 := 1#32
  ⟨c0_i32_72, v213, c1_i32_73⟩
@[reducible] def k0_t4_loop (i : grid0.Coords) : Scf.Loop 32 :=
  let c0_i32_166 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v468 : BitVec 32 := Scalar.subi v23 c0_i32_166
  let c1_i32_167 : BitVec 32 := 1#32
  let v470 : BitVec 32 := Scalar.divsi v468 c1_i32_167
  let v471 : BitVec 32 := Scalar.muli v470 c1_i32_167
  let v472 : BitVec 32 := Scalar.addi c0_i32_166 v471
  let c1_i32_168 : BitVec 32 := 1#32
  ⟨c0_i32_166, v472, c1_i32_168⟩
def k0_off5 (i : grid0.Coords) (k0_t4 : Fin (k0_t4_loop i).trips) : Fin 3 → Nat :=
  let c0_i32_166 : BitVec 32 := 0#32
  let c1_i32_168 : BitVec 32 := 1#32
  let arg21 : BitVec 32 := Scf.iv c0_i32_166 c1_i32_168 k0_t4
  let v489 : Index := Scalar.indexCast arg21
  let c0_173 : Index := 0#32
  let c0_174 : Index := 0#32
  ![v489.toNat, 0, 0]
@[reducible] def k0_t5_loop (i : grid0.Coords) : Scf.Loop 32 :=
  let c0_i32_166 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v468 : BitVec 32 := Scalar.subi v23 c0_i32_166
  let c1_i32_167 : BitVec 32 := 1#32
  let v470 : BitVec 32 := Scalar.divsi v468 c1_i32_167
  let v471 : BitVec 32 := Scalar.muli v470 c1_i32_167
  let v472 : BitVec 32 := Scalar.addi c0_i32_166 v471
  let v469 : BitVec 32 := Scalar.addi c0_i32_166 v468
  let c1_i32_169 : BitVec 32 := 1#32
  ⟨v472, v469, c1_i32_169⟩
def k0_off6 (i : grid0.Coords) (k0_t5 : Fin (k0_t5_loop i).trips) : Fin 3 → Nat :=
  let c0_i32_166 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v468 : BitVec 32 := Scalar.subi v23 c0_i32_166
  let c1_i32_167 : BitVec 32 := 1#32
  let v470 : BitVec 32 := Scalar.divsi v468 c1_i32_167
  let v471 : BitVec 32 := Scalar.muli v470 c1_i32_167
  let v472 : BitVec 32 := Scalar.addi c0_i32_166 v471
  let c1_i32_169 : BitVec 32 := 1#32
  let arg21 : BitVec 32 := Scf.iv v472 c1_i32_169 k0_t5
  let v489 : Index := Scalar.indexCast arg21
  let c0_173 : Index := 0#32
  let c0_174 : Index := 0#32
  ![v489.toNat, 0, 0]
@[reducible] def k0_t6_loop (i : grid0.Coords) : Scf.Loop 32 :=
  let c0_i32_165 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v461 : BitVec 32 := Scalar.subi v23 c0_i32_165
  let c1_i32_166 : BitVec 32 := 1#32
  let v463 : BitVec 32 := Scalar.divsi v461 c1_i32_166
  let v464 : BitVec 32 := Scalar.muli v463 c1_i32_166
  let v465 : BitVec 32 := Scalar.addi c0_i32_165 v464
  let c1_i32_167 : BitVec 32 := 1#32
  ⟨c0_i32_165, v465, c1_i32_167⟩
def k0_off7 (i : grid0.Coords) (k0_t6 : Fin (k0_t6_loop i).trips) : Fin 3 → Nat :=
  let c0_i32_165 : BitVec 32 := 0#32
  let c1_i32_167 : BitVec 32 := 1#32
  let arg22 : BitVec 32 := Scf.iv c0_i32_165 c1_i32_167 k0_t6
  let v508 : Index := Scalar.indexCast arg22
  let c0_187 : Index := 0#32
  let c0_188 : Index := 0#32
  ![v508.toNat, 0, 0]
@[reducible] def k0_t7_loop (i : grid0.Coords) : Scf.Loop 32 :=
  let c0_i32_165 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v461 : BitVec 32 := Scalar.subi v23 c0_i32_165
  let c1_i32_166 : BitVec 32 := 1#32
  let v463 : BitVec 32 := Scalar.divsi v461 c1_i32_166
  let v464 : BitVec 32 := Scalar.muli v463 c1_i32_166
  let v465 : BitVec 32 := Scalar.addi c0_i32_165 v464
  let v462 : BitVec 32 := Scalar.addi c0_i32_165 v461
  let c1_i32_168 : BitVec 32 := 1#32
  ⟨v465, v462, c1_i32_168⟩
def k0_off8 (i : grid0.Coords) (k0_t7 : Fin (k0_t7_loop i).trips) : Fin 3 → Nat :=
  let c0_i32_165 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v461 : BitVec 32 := Scalar.subi v23 c0_i32_165
  let c1_i32_166 : BitVec 32 := 1#32
  let v463 : BitVec 32 := Scalar.divsi v461 c1_i32_166
  let v464 : BitVec 32 := Scalar.muli v463 c1_i32_166
  let v465 : BitVec 32 := Scalar.addi c0_i32_165 v464
  let c1_i32_168 : BitVec 32 := 1#32
  let arg22 : BitVec 32 := Scf.iv v465 c1_i32_168 k0_t7
  let v508 : Index := Scalar.indexCast arg22
  let c0_187 : Index := 0#32
  let c0_188 : Index := 0#32
  ![v508.toNat, 0, 0]
@[reducible] def k0_t8_loop (i : grid0.Coords) : Scf.Loop 32 :=
  let c0_i32_173 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v475 : BitVec 32 := Scalar.subi v23 c0_i32_173
  let c1_i32_174 : BitVec 32 := 1#32
  let v477 : BitVec 32 := Scalar.divsi v475 c1_i32_174
  let v478 : BitVec 32 := Scalar.muli v477 c1_i32_174
  let v479 : BitVec 32 := Scalar.addi c0_i32_173 v478
  let c1_i32_175 : BitVec 32 := 1#32
  ⟨c0_i32_173, v479, c1_i32_175⟩
def k0_off9 (i : grid0.Coords) (k0_t8 : Fin (k0_t8_loop i).trips) : Fin 3 → Nat :=
  let c0_i32_173 : BitVec 32 := 0#32
  let c1_i32_175 : BitVec 32 := 1#32
  let arg22 : BitVec 32 := Scf.iv c0_i32_173 c1_i32_175 k0_t8
  let v508 : Index := Scalar.indexCast arg22
  let c0_187 : Index := 0#32
  let c0_188 : Index := 0#32
  ![v508.toNat, 0, 0]
@[reducible] def k0_t9_loop (i : grid0.Coords) : Scf.Loop 32 :=
  let c0_i32_173 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v475 : BitVec 32 := Scalar.subi v23 c0_i32_173
  let c1_i32_174 : BitVec 32 := 1#32
  let v477 : BitVec 32 := Scalar.divsi v475 c1_i32_174
  let v478 : BitVec 32 := Scalar.muli v477 c1_i32_174
  let v479 : BitVec 32 := Scalar.addi c0_i32_173 v478
  let v476 : BitVec 32 := Scalar.addi c0_i32_173 v475
  let c1_i32_176 : BitVec 32 := 1#32
  ⟨v479, v476, c1_i32_176⟩
def k0_off10 (i : grid0.Coords) (k0_t9 : Fin (k0_t9_loop i).trips) : Fin 3 → Nat :=
  let c0_i32_173 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v475 : BitVec 32 := Scalar.subi v23 c0_i32_173
  let c1_i32_174 : BitVec 32 := 1#32
  let v477 : BitVec 32 := Scalar.divsi v475 c1_i32_174
  let v478 : BitVec 32 := Scalar.muli v477 c1_i32_174
  let v479 : BitVec 32 := Scalar.addi c0_i32_173 v478
  let c1_i32_176 : BitVec 32 := 1#32
  let arg22 : BitVec 32 := Scf.iv v479 c1_i32_176 k0_t9
  let v508 : Index := Scalar.indexCast arg22
  let c0_187 : Index := 0#32
  let c0_188 : Index := 0#32
  ![v508.toNat, 0, 0]
@[reducible] def k0_t10_loop (i : grid0.Coords) : Scf.Loop 32 :=
  let c0_i32_80 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v237 : BitVec 32 := Scalar.subi v23 c0_i32_80
  let c1_i32_81 : BitVec 32 := 1#32
  let v239 : BitVec 32 := Scalar.divsi v237 c1_i32_81
  let v240 : BitVec 32 := Scalar.muli v239 c1_i32_81
  let v241 : BitVec 32 := Scalar.addi c0_i32_80 v240
  let c1_i32_82 : BitVec 32 := 1#32
  ⟨c0_i32_80, v241, c1_i32_82⟩
def k0_off11 (i : grid0.Coords) (k0_t10 : Fin (k0_t10_loop i).trips) : Fin 3 → Nat :=
  let c0_i32_80 : BitVec 32 := 0#32
  let c1_i32_82 : BitVec 32 := 1#32
  let arg16 : BitVec 32 := Scf.iv c0_i32_80 c1_i32_82 k0_t10
  let v460 : Index := Scalar.indexCast arg16
  let c0_164 : Index := 0#32
  let c0_165 : Index := 0#32
  ![v460.toNat, 0, 0]
@[reducible] def k0_t11_loop (i : grid0.Coords) : Scf.Loop 32 :=
  let c0_i32_80 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v237 : BitVec 32 := Scalar.subi v23 c0_i32_80
  let c1_i32_81 : BitVec 32 := 1#32
  let v239 : BitVec 32 := Scalar.divsi v237 c1_i32_81
  let v240 : BitVec 32 := Scalar.muli v239 c1_i32_81
  let v241 : BitVec 32 := Scalar.addi c0_i32_80 v240
  let v238 : BitVec 32 := Scalar.addi c0_i32_80 v237
  let c1_i32_83 : BitVec 32 := 1#32
  ⟨v241, v238, c1_i32_83⟩
def k0_off12 (i : grid0.Coords) (k0_t11 : Fin (k0_t11_loop i).trips) : Fin 3 → Nat :=
  let c0_i32_80 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v237 : BitVec 32 := Scalar.subi v23 c0_i32_80
  let c1_i32_81 : BitVec 32 := 1#32
  let v239 : BitVec 32 := Scalar.divsi v237 c1_i32_81
  let v240 : BitVec 32 := Scalar.muli v239 c1_i32_81
  let v241 : BitVec 32 := Scalar.addi c0_i32_80 v240
  let c1_i32_83 : BitVec 32 := 1#32
  let arg16 : BitVec 32 := Scf.iv v241 c1_i32_83 k0_t11
  let v460 : Index := Scalar.indexCast arg16
  let c0_164 : Index := 0#32
  let c0_165 : Index := 0#32
  ![v460.toNat, 0, 0]
@[reducible] def k0_t12_loop (i : grid0.Coords) : Scf.Loop 32 :=
  let c0_i32_138 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v361 : BitVec 32 := Scalar.subi v23 c0_i32_138
  let c1_i32_139 : BitVec 32 := 1#32
  let v363 : BitVec 32 := Scalar.divsi v361 c1_i32_139
  let v364 : BitVec 32 := Scalar.muli v363 c1_i32_139
  let v365 : BitVec 32 := Scalar.addi c0_i32_138 v364
  let c1_i32_140 : BitVec 32 := 1#32
  ⟨c0_i32_138, v365, c1_i32_140⟩
def k0_mult3 (i : grid0.Coords) (k0_t12 : Fin (k0_t12_loop i).trips) : BitVec 32 :=
  let c0_i32_138 : BitVec 32 := 0#32
  let c1_i32_140 : BitVec 32 := 1#32
  let arg16 : BitVec 32 := Scf.iv c0_i32_138 c1_i32_140 k0_t12
  let c256_i32_164 : BitVec 32 := 256#32
  let v460 : BitVec 32 := Scalar.muli arg16 c256_i32_164
  v460
def k0_off13 (i : grid0.Coords) (k0_t12 : Fin (k0_t12_loop i).trips) : Fin 2 → Nat :=
  let c0_i32_138 : BitVec 32 := 0#32
  let c1_i32_140 : BitVec 32 := 1#32
  let arg16 : BitVec 32 := Scf.iv c0_i32_138 c1_i32_140 k0_t12
  let c256_i32_164 : BitVec 32 := 256#32
  let v460 : BitVec 32 := Scalar.muli arg16 c256_i32_164
  let v461 : BitVec 32 := v460
  let v462 : Index := Scalar.indexCast v461
  let c0_165 : Index := 0#32
  ![v462.toNat, 0]
def k0_off14 (i : grid0.Coords) (k0_t12 : Fin (k0_t12_loop i).trips) : Fin 3 → Nat :=
  let c0_i32_138 : BitVec 32 := 0#32
  let c1_i32_140 : BitVec 32 := 1#32
  let arg16 : BitVec 32 := Scf.iv c0_i32_138 c1_i32_140 k0_t12
  let v464 : Index := Scalar.indexCast arg16
  let c0_166 : Index := 0#32
  let c0_167 : Index := 0#32
  ![v464.toNat, 0, 0]
def k0_off15 (i : grid0.Coords) (k0_t12 : Fin (k0_t12_loop i).trips) : Fin 4 → Nat :=
  let c0_i32_138 : BitVec 32 := 0#32
  let c1_i32_140 : BitVec 32 := 1#32
  let arg16 : BitVec 32 := Scf.iv c0_i32_138 c1_i32_140 k0_t12
  let c1_i32_176 : BitVec 32 := 1#32
  let v475 : BitVec 32 := Scalar.subi arg16 c1_i32_176
  let c0_i32_177 : BitVec 32 := 0#32
  let v476 : BitVec 32 := Scalar.maxsi v475 c0_i32_177
  let v477 : Index := Scalar.indexCast v476
  let c1_178 : Index := 1#32
  let c0_179 : Index := 0#32
  let c0_180 : Index := 0#32
  ![v477.toNat, 1, 0, 0]
def k0_off16 (i : grid0.Coords) (k0_t12 : Fin (k0_t12_loop i).trips) : Fin 4 → Nat :=
  let c0_i32_138 : BitVec 32 := 0#32
  let c1_i32_140 : BitVec 32 := 1#32
  let arg16 : BitVec 32 := Scf.iv c0_i32_138 c1_i32_140 k0_t12
  let v1519 : Index := Scalar.indexCast arg16
  let c0_248 : Index := 0#32
  let c0_249 : Index := 0#32
  let c0_250 : Index := 0#32
  ![v1519.toNat, 0, 0, 0]
@[reducible] def k0_t13_loop (i : grid0.Coords) : Scf.Loop 32 :=
  let c0_i32_138 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v361 : BitVec 32 := Scalar.subi v23 c0_i32_138
  let c1_i32_139 : BitVec 32 := 1#32
  let v363 : BitVec 32 := Scalar.divsi v361 c1_i32_139
  let v364 : BitVec 32 := Scalar.muli v363 c1_i32_139
  let v365 : BitVec 32 := Scalar.addi c0_i32_138 v364
  let v362 : BitVec 32 := Scalar.addi c0_i32_138 v361
  let c1_i32_141 : BitVec 32 := 1#32
  ⟨v365, v362, c1_i32_141⟩
def k0_mult4 (i : grid0.Coords) (k0_t13 : Fin (k0_t13_loop i).trips) : BitVec 32 :=
  let c0_i32_138 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v361 : BitVec 32 := Scalar.subi v23 c0_i32_138
  let c1_i32_139 : BitVec 32 := 1#32
  let v363 : BitVec 32 := Scalar.divsi v361 c1_i32_139
  let v364 : BitVec 32 := Scalar.muli v363 c1_i32_139
  let v365 : BitVec 32 := Scalar.addi c0_i32_138 v364
  let c1_i32_141 : BitVec 32 := 1#32
  let arg16 : BitVec 32 := Scf.iv v365 c1_i32_141 k0_t13
  let c256_i32_164 : BitVec 32 := 256#32
  let v460 : BitVec 32 := Scalar.muli arg16 c256_i32_164
  v460
def k0_off17 (i : grid0.Coords) (k0_t13 : Fin (k0_t13_loop i).trips) : Fin 2 → Nat :=
  let c0_i32_138 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v361 : BitVec 32 := Scalar.subi v23 c0_i32_138
  let c1_i32_139 : BitVec 32 := 1#32
  let v363 : BitVec 32 := Scalar.divsi v361 c1_i32_139
  let v364 : BitVec 32 := Scalar.muli v363 c1_i32_139
  let v365 : BitVec 32 := Scalar.addi c0_i32_138 v364
  let c1_i32_141 : BitVec 32 := 1#32
  let arg16 : BitVec 32 := Scf.iv v365 c1_i32_141 k0_t13
  let c256_i32_164 : BitVec 32 := 256#32
  let v460 : BitVec 32 := Scalar.muli arg16 c256_i32_164
  let v461 : BitVec 32 := v460
  let v462 : Index := Scalar.indexCast v461
  let c0_165 : Index := 0#32
  ![v462.toNat, 0]
def k0_off18 (i : grid0.Coords) (k0_t13 : Fin (k0_t13_loop i).trips) : Fin 3 → Nat :=
  let c0_i32_138 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v361 : BitVec 32 := Scalar.subi v23 c0_i32_138
  let c1_i32_139 : BitVec 32 := 1#32
  let v363 : BitVec 32 := Scalar.divsi v361 c1_i32_139
  let v364 : BitVec 32 := Scalar.muli v363 c1_i32_139
  let v365 : BitVec 32 := Scalar.addi c0_i32_138 v364
  let c1_i32_141 : BitVec 32 := 1#32
  let arg16 : BitVec 32 := Scf.iv v365 c1_i32_141 k0_t13
  let v464 : Index := Scalar.indexCast arg16
  let c0_166 : Index := 0#32
  let c0_167 : Index := 0#32
  ![v464.toNat, 0, 0]
def k0_off19 (i : grid0.Coords) (k0_t13 : Fin (k0_t13_loop i).trips) : Fin 4 → Nat :=
  let c0_i32_138 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v361 : BitVec 32 := Scalar.subi v23 c0_i32_138
  let c1_i32_139 : BitVec 32 := 1#32
  let v363 : BitVec 32 := Scalar.divsi v361 c1_i32_139
  let v364 : BitVec 32 := Scalar.muli v363 c1_i32_139
  let v365 : BitVec 32 := Scalar.addi c0_i32_138 v364
  let c1_i32_141 : BitVec 32 := 1#32
  let arg16 : BitVec 32 := Scf.iv v365 c1_i32_141 k0_t13
  let c1_i32_176 : BitVec 32 := 1#32
  let v475 : BitVec 32 := Scalar.subi arg16 c1_i32_176
  let c0_i32_177 : BitVec 32 := 0#32
  let v476 : BitVec 32 := Scalar.maxsi v475 c0_i32_177
  let v477 : Index := Scalar.indexCast v476
  let c1_178 : Index := 1#32
  let c0_179 : Index := 0#32
  let c0_180 : Index := 0#32
  ![v477.toNat, 1, 0, 0]
def k0_off20 (i : grid0.Coords) (k0_t13 : Fin (k0_t13_loop i).trips) : Fin 4 → Nat :=
  let c0_i32_138 : BitVec 32 := 0#32
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let v361 : BitVec 32 := Scalar.subi v23 c0_i32_138
  let c1_i32_139 : BitVec 32 := 1#32
  let v363 : BitVec 32 := Scalar.divsi v361 c1_i32_139
  let v364 : BitVec 32 := Scalar.muli v363 c1_i32_139
  let v365 : BitVec 32 := Scalar.addi c0_i32_138 v364
  let c1_i32_141 : BitVec 32 := 1#32
  let arg16 : BitVec 32 := Scf.iv v365 c1_i32_141 k0_t13
  let v1519 : Index := Scalar.indexCast arg16
  let c0_248 : Index := 0#32
  let c0_249 : Index := 0#32
  let c0_250 : Index := 0#32
  ![v1519.toNat, 0, 0, 0]
def k0_off21 (i : grid0.Coords) : Fin 4 → Nat :=
  let arg1 : BitVec 32 := BitVec.ofNat 32 (i 1).val
  let c256_i32 : BitVec 32 := 256#32
  let v3 : BitVec 32 := Scalar.muli arg1 c256_i32
  let c256_i32_1 : BitVec 32 := 256#32
  let v4 : BitVec 32 := Scalar.addi v3 c256_i32_1
  let c256_i32_2 : BitVec 32 := 256#32
  let v5 : BitVec 32 := Scalar.addi v4 c256_i32_2
  let c1_i32 : BitVec 32 := 1#32
  let v6 : BitVec 32 := Scalar.subi v5 c1_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c256_i32_3 : BitVec 32 := 256#32
  let c0_i32_6 : BitVec 32 := 0#32
  let v13 : BitVec 1 := Scalar.cmpi .sgt c256_i32_3 c0_i32_6
  let v14 : BitVec 32 := Scalar.extui v13
  let c0_i32_7 : BitVec 32 := 0#32
  let v15 : BitVec 1 := Scalar.cmpi .slt c256_i32_3 c0_i32_7
  let v16 : BitVec 32 := Scalar.extui v15
  let v17 : BitVec 32 := Scalar.subi v14 v16
  let v18 : BitVec 1 := Scalar.cmpi .ne v12 v17
  let v19 : BitVec 32 := Scalar.remsi v6 c256_i32_3
  let c0_i32_8 : BitVec 32 := 0#32
  let v20 : BitVec 1 := Scalar.cmpi .ne v19 c0_i32_8
  let v21 : BitVec 1 := Scalar.andi v18 v20
  let v7 : BitVec 32 := Scalar.divsi v6 c256_i32_3
  let c1_i32_9 : BitVec 32 := 1#32
  let v22 : BitVec 32 := Scalar.subi v7 c1_i32_9
  let v23 : BitVec 32 := Scalar.select v21 v22 v7
  let c1_i32_142 : BitVec 32 := 1#32
  let v368 : BitVec 32 := Scalar.subi v23 c1_i32_142
  let v369 : Index := Scalar.indexCast v368
  let c1_143 : Index := 1#32
  let c0_144 : Index := 0#32
  let c0_145 : Index := 0#32
  ![v369.toNat, 1, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnKeysRefIdeal.lean ====
abbrev S17408x896 : Shape := ⟨2, ![17408, 896]⟩
abbrev S17408x384 : Shape := ⟨2, ![17408, 384]⟩
abbrev S17408x512 : Shape := ⟨2, ![17408, 512]⟩
abbrev S16384x384 : Shape := ⟨2, ![16384, 384]⟩
abbrev S8x2048x384 : Shape := ⟨3, ![8, 2048, 384]⟩
abbrev S8x384x2048 : Shape := ⟨3, ![8, 384, 2048]⟩
abbrev S8x128x2048 : Shape := ⟨3, ![8, 128, 2048]⟩
abbrev S8x64x2048 : Shape := ⟨3, ![8, 64, 2048]⟩
abbrev S1024x2048 : Shape := ⟨2, ![1024, 2048]⟩
abbrev S512x2048 : Shape := ⟨2, ![512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S17408x896, .f32⟩
  | .hbm, ⟨1, _⟩ => ⟨S17408x384, .f32⟩
  | .hbm, ⟨2, _⟩ => ⟨S17408x512, .f32⟩
  | .hbm, ⟨3, _⟩ => ⟨S16384x384, .f32⟩
  | .hbm, ⟨4, _⟩ => ⟨S8x2048x384, .f32⟩
  | .hbm, ⟨5, _⟩ => ⟨S8x384x2048, .f32⟩
  | .hbm, ⟨6, _⟩ => ⟨S8x128x2048, .f32⟩
  | .hbm, ⟨7, _⟩ => ⟨S8x128x2048, .f32⟩
  | .hbm, ⟨8, _⟩ => ⟨S8x64x2048, .f32⟩
  | .hbm, ⟨9, _⟩ => ⟨S1024x2048, .f32⟩
  | .hbm, ⟨10, _⟩ => ⟨S1024x2048, .f32⟩
  | .hbm, ⟨11, _⟩ => ⟨S512x2048, .f32⟩
  | _, _ => ⟨S17408x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GmlpSample.lean ====
abbrev S17408x1024 : Shape := ⟨2, ![17408, 1024]⟩
abbrev S17408x512 : Shape := ⟨2, ![17408, 512]⟩
abbrev S512 : Shape := ⟨1, ![512]⟩
abbrev S4x128x128 : Shape := ⟨3, ![4, 128, 128]⟩
abbrev S4x128 : Shape := ⟨2, ![4, 128]⟩
abbrev S4x4 : Shape := ⟨2, ![4, 4]⟩
abbrev S_ : Shape := ⟨0, ![]⟩
abbrev S1x4x1x4x1 : Shape := ⟨5, ![1, 4, 1, 4, 1]⟩
abbrev S4x32x32 : Shape := ⟨3, ![4, 32, 32]⟩
abbrev S4x1x32x1x32 : Shape := ⟨5, ![4, 1, 32, 1, 32]⟩
abbrev S4x4x32x4x32 : Shape := ⟨5, ![4, 4, 32, 4, 32]⟩
abbrev S4x32 : Shape := ⟨2, ![4, 32]⟩
abbrev S1x4x1x32 : Shape := ⟨4, ![1, 4, 1, 32]⟩
abbrev S1x4x4x32 : Shape := ⟨4, ![1, 4, 4, 32]⟩
abbrev S4x128x1 : Shape := ⟨3, ![4, 128, 1]⟩
abbrev S1x512 : Shape := ⟨2, ![1, 512]⟩
abbrev S1024x512 : Shape := ⟨2, ![1024, 512]⟩
abbrev S512x1024 : Shape := ⟨2, ![512, 1024]⟩
abbrev S512x512 : Shape := ⟨2, ![512, 512]⟩
abbrev S1x128x128 : Shape := ⟨3, ![1, 128, 128]⟩
abbrev S128x128 : Shape := ⟨2, ![128, 128]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S1x128x1 : Shape := ⟨3, ![1, 128, 1]⟩

abbrev nBuf : Space → Nat
  | .hbm => 29
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S17408x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S1x4x1x4x1, .f32⟩
  | .hbm, ⟨14, _⟩ => ⟨S4x32x32, .f32⟩
  | .hbm, ⟨15, _⟩ => ⟨S4x1x32x1x32, .f32⟩
  | .hbm, ⟨16, _⟩ => ⟨S4x4x32x4x32, .f32⟩
  | .hbm, ⟨17, _⟩ => ⟨S4x4x32x4x32, .f32⟩
  | .hbm, ⟨18, _⟩ => ⟨S4x4x32x4x32, .f32⟩
  | .hbm, ⟨19, _⟩ => ⟨S4x128x128, .f32⟩
  | .hbm, ⟨20, _⟩ => ⟨S4x32, .f32⟩
  | .hbm, ⟨21, _⟩ => ⟨S1x4x1x32, .f32⟩
  | .hbm, ⟨22, _⟩ => ⟨S1x4x4x32, .f32⟩
  | .hbm, ⟨23, _⟩ => ⟨S4x128, .f32⟩
  | .hbm, ⟨24, _⟩ => ⟨S4x128x1, .f32⟩
  | .hbm, ⟨25, _⟩ => ⟨S1x512, .f32⟩
  | .hbm, ⟨26, _⟩ => ⟨S1x512, .f32⟩
  | .hbm, ⟨27, _⟩ => ⟨S1024x512, .bf16⟩
  | .hbm, ⟨28, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpSampleRefIdeal.lean ====
abbrev S17408x1024 : Shape := ⟨2, ![17408, 1024]⟩
abbrev S17408x512 : Shape := ⟨2, ![17408, 512]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x32x32 : Shape := ⟨3, ![4, 32, 32]⟩
abbrev S32x32x4x128 : Shape := ⟨4, ![32, 32, 4, 128]⟩
abbrev S4x32x128x32 : Shape := ⟨4, ![4, 32, 128, 32]⟩
abbrev S4x32 : Shape := ⟨2, ![4, 32]⟩
abbrev S32x4 : Shape := ⟨2, ![32, 4]⟩
abbrev S1x32x4x1 : Shape := ⟨4, ![1, 32, 4, 1]⟩

abbrev nBuf : Space → Nat
  | .hbm => 114
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024x512, .f32⟩
  | .hbm, ⟨38, _⟩ => ⟨S1024x512, .f32⟩
  | .hbm, ⟨39, _⟩ => ⟨S1x512, .f32⟩
  | .hbm, ⟨40, _⟩ => ⟨S1024x512, .f32⟩
  | .hbm, ⟨41, _⟩ => ⟨S1024x512, .f32⟩
  | .hbm, ⟨42, _⟩ => ⟨S1x512, .f32⟩
  | .hbm, ⟨43, _⟩ => ⟨S1024x512, .f32⟩
  | .hbm, ⟨44, _⟩ => ⟨S1024x512, .f32⟩
  | .hbm, ⟨45, _⟩ => ⟨S128, .i32⟩
  | .hbm, ⟨46, _⟩ => ⟨S1x128, .i32⟩
  | .hbm, ⟨47, _⟩ => ⟨S_, .i32⟩
  | .hbm, ⟨48, _⟩ => ⟨S_, .i32⟩
  | .hbm, ⟨49, _⟩ => ⟨S1x128, .i32⟩
  | .hbm, ⟨50, _⟩ => ⟨S1x128, .i32⟩
  | .hbm, ⟨51, _⟩ => ⟨S1x128, .i32⟩
  | .hbm, ⟨52, _⟩ => ⟨S_, .i32⟩
  | .hbm, ⟨53, _⟩ => ⟨S1x128, .i32⟩
  | .hbm, ⟨54, _⟩ => ⟨S1x128, .i1⟩
  | .hbm, ⟨55, _⟩ => ⟨S1x128, .i32⟩
  | .hbm, ⟨56, _⟩ => ⟨S1x128, .i32⟩
  | .hbm, ⟨57, _⟩ => ⟨S_, .i32⟩
  | .hbm, ⟨58, _⟩ => ⟨S1x128, .i32⟩
  | .hbm, ⟨59, _⟩ => ⟨S1x128, .i1⟩
  | .hbm, ⟨60, _⟩ => ⟨S1x128, .i1⟩
  | .hbm, ⟨61, _⟩ => ⟨S_, .i32⟩
  | .hbm, ⟨62, _⟩ => ⟨S1x128, .i32⟩
  | .hbm, ⟨63, _⟩ => ⟨S1x128, .i32⟩
  | .hbm, ⟨64, _⟩ => ⟨S1x128, .i32⟩
  | .hbm, ⟨65, _⟩ => ⟨S128x1, .i32⟩
  | .hbm, ⟨66, _⟩ => ⟨S_, .i32⟩
  | .hbm, ⟨67, _⟩ => ⟨S_, .i32⟩
  | .hbm, ⟨68, _⟩ => ⟨S128x1, .i32⟩
  | .hbm, ⟨69, _⟩ => ⟨S128x1, .i32⟩
  | .hbm, ⟨70, _⟩ => ⟨S128x1, .i32⟩
  | .hbm, ⟨71, _⟩ => ⟨S_, .i32⟩
  | .hbm, ⟨72, _⟩ => ⟨S128x1, .i32⟩
  | .hbm, ⟨73, _⟩ => ⟨S128x1, .i1⟩
  | .hbm, ⟨74, _⟩ => ⟨S128x1, .i32⟩
  | .hbm, ⟨75, _⟩ => ⟨S128x1, .i32⟩
  | .hbm, ⟨76, _⟩ => ⟨S_, .i32⟩
  | .hbm, ⟨77, _⟩ => ⟨S128x1, .i32⟩
  | .hbm, ⟨78, _⟩ => ⟨S128x1, .i1⟩
  | .hbm, ⟨79, _⟩ => ⟨S128x1, .i1⟩
  | .hbm, ⟨80, _⟩ => ⟨S_, .i32⟩
  | .hbm, ⟨81, _⟩ => ⟨S128x1, .i32⟩
  | .hbm, ⟨82, _⟩ => ⟨S128x1, .i32⟩
  | .hbm, ⟨83, _⟩ => ⟨S128x1, .i32⟩
  | .hbm, ⟨84, _⟩ => ⟨S128x128, .i32⟩
  | .hbm, ⟨85, _⟩ => ⟨S128x128, .i32⟩
  | .hbm, ⟨86, _⟩ => ⟨S128x128, .i1⟩
  | .hbm, ⟨87, _⟩ => ⟨S1x128x128, .i1⟩
  | .hbm, ⟨88, _⟩ => ⟨S1x128x128, .f32⟩
  | .hbm, ⟨89, _⟩ => ⟨S4x128x128, .f32⟩
  | .hbm, ⟨90, _⟩ => ⟨S4x128x128, .f32⟩
  | .hbm, ⟨91, _⟩ => ⟨S4x32x32, .f32⟩
  | .hbm, ⟨92, _⟩ => ⟨S32x32x4x128, .f32⟩
  | .hbm, ⟨93, _⟩ => ⟨S4x32x128x32, .f32⟩
  | .hbm, ⟨94, _⟩ => ⟨S32x32x4x128, .f32⟩
  | .hbm, ⟨95, _⟩ => ⟨S4x32, .f32⟩
  | .hbm, ⟨96, _⟩ => ⟨S32x4, .f32⟩
  | .hbm, ⟨97, _⟩ => ⟨S1x32x4x1, .f32⟩
  | .hbm, ⟨98, _⟩ => ⟨S32x32x4x128, .f32⟩
  | .hbm, ⟨99, _⟩ => ⟨S32x32x4x128, .f32⟩
  | .hbm, ⟨100, _⟩ => ⟨S1024x512, .f32⟩
  | .hbm, ⟨101, _⟩ => ⟨S1024x512, .f32⟩
  | .hbm, ⟨102, _⟩ => ⟨S1024x512, .f32⟩
  | .hbm, ⟨103, _⟩ => ⟨S1024x512, .f32⟩
  | .hbm, ⟨104, _⟩ => ⟨S1024x512, .f32⟩
  | .hbm, ⟨105, _⟩ => ⟨S_, .f32⟩
  | .hbm, ⟨106, _⟩ => ⟨S1024x512, .f32⟩
  | .hbm, ⟨107, _⟩ => ⟨S1024x512, .f32⟩
  | .hbm, ⟨108, _⟩ => ⟨S_, .f32⟩
  | .hbm, ⟨109, _⟩ => ⟨S1024x512, .f32⟩
  | .hbm, ⟨110, _⟩ => ⟨S1024x512, .f32⟩
  | .hbm, ⟨111, _⟩ => ⟨S1024x512, .f32⟩
  | .hbm, ⟨112, _⟩ => ⟨S1024x512, .f32⟩
  | .hbm, ⟨113, _⟩ => ⟨S1024x512, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_call2_v0 : Ref sig .tc := ⟨.hbm, 103, rfl⟩
abbrev main_call2_v1 : Ref sig .tc := ⟨.hbm, 104, rfl⟩
abbrev main_call2_cst : Ref sig .tc := ⟨.hbm, 105, rfl⟩
abbrev main_call2_v2 : Ref sig .tc := ⟨.hbm, 106, rfl⟩
abbrev main_call2_v3 : Ref sig .tc := ⟨.hbm, 107, rfl⟩
abbrev main_call2_cst_0 : Ref sig .tc := ⟨.hbm, 108, rfl⟩
abbrev main_call2_v4 : Ref sig .tc := ⟨.hbm, 109, rfl⟩
abbrev main_call2_v5 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩

abbrev nD : Nat := 1
abbrev τ : Topo := Topo.v7x

variable {F : FTy → Type} [FloatOps F]
-- ==== ConvSample.lean ====
abbrev S17408x1024 : Shape := ⟨2, ![17408, 1024]⟩
abbrev S17408x512 : Shape := ⟨2, ![17408, 512]⟩
abbrev S32x30x512 : Shape := ⟨3, ![32, 30, 512]⟩
abbrev S31x512 : Shape := ⟨2, ![31, 512]⟩
abbrev S512 : Shape := ⟨1, ![512]⟩
abbrev S31x8x512 : Shape := ⟨3, ![31, 8, 512]⟩
abbrev S248x512 : Shape := ⟨2, ![248, 512]⟩
abbrev S1x512 : Shape := ⟨2, ![1, 512]⟩
abbrev S1024x512 : Shape := ⟨2, ![1024, 512]⟩
abbrev S32x1024 : Shape := ⟨2, ![32, 1024]⟩
abbrev S32x512 : Shape := ⟨2, ![32, 512]⟩
abbrev S1x30x512 : Shape := ⟨3, ![1, 30, 512]⟩
abbrev S8x64x512 : Shape := ⟨3, ![8, 64, 512]⟩
abbrev S2x512 : Shape := ⟨2, ![2, 512]⟩
abbrev S1x2x512 : Shape := ⟨3, ![1, 2, 512]⟩
abbrev S30x512 : Shape := ⟨2, ![30, 512]⟩
abbrev S1x32x512 : Shape := ⟨3, ![1, 32, 512]⟩
abbrev S1x56x512 : Shape := ⟨3, ![1, 56, 512]⟩
abbrev S56x512 : Shape := ⟨2, ![56, 512]⟩
abbrev S8x512 : Shape := ⟨2, ![8, 512]⟩
abbrev S32 : Shape := ⟨1, ![32]⟩
abbrev S32x1 : Shape := ⟨2, ![32, 1]⟩

abbrev nBuf : Space → Nat
  | .hbm => 14
  | .vmem => 16
  | .smem => 0
  | _ => 0

abbrev bufTy : (tb : Table) → Fin (tcTables nBuf tb) → BufTy
  | .hbm, ⟨0, _⟩ => ⟨S17408x1024, .f32⟩
  | .hbm, ⟨1, _⟩ => ⟨S17408x512, .f32⟩
  | .hbm, ⟨2, _⟩ => ⟨S32x30x512, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S31x8x512, .f32⟩
  | .hbm, ⟨8, _⟩ => ⟨S248x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1024x512, .bf16⟩
  | .hbm, ⟨13, _⟩ => ⟨S32x30x512, .f32⟩
  | .local _ .vmem, ⟨0, _⟩ => ⟨S32x1024, .f32⟩
  | .local _ .vmem, ⟨1, _⟩ => ⟨S32x1024, .f32⟩
  | .local _ .vmem, ⟨2, _⟩ => ⟨S32x512, .f32⟩
  | .local _ .vmem, ⟨3, _⟩ => ⟨S32x512, .f32⟩
  | .local _ .vmem, ⟨4, _⟩ => ⟨S1x30x512, .f32⟩
  | .local _ .vmem, ⟨5, _⟩ => ⟨S1x30x512, .f32⟩
  | .local _ .vmem, ⟨6, _⟩ => ⟨S248x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S32x512, .bf16⟩
  | .local _ .vmem, ⟨11, _⟩ => ⟨S32x512, .bf16⟩
  | .local _ .vmem, ⟨12, _⟩ => ⟨S1x30x512, .f32⟩
  | .local _ .vmem, ⟨13, _⟩ => ⟨S1x30x512, .f32⟩
  | .local _ .vmem, ⟨14, _⟩ => ⟨S8x64x512, .f32⟩
  | .local _ .vmem, ⟨15, _⟩ => ⟨S32x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c32_i32 : BitVec 32 := 32#32
  let v51 : BitVec 32 := Scalar.muli c0_i32 c32_i32
  v51
def k0_off1 (c0_i32_51 : BitVec 32) : Fin 3 → Nat :=
  let c2_52 : Index := 2#32
  let c0_i32 : BitVec 32 := 0#32
  let c32_i32 : BitVec 32 := 32#32
  let v51 : BitVec 32 := Scalar.muli c0_i32 c32_i32
  let v52 : BitVec 32 := v51
  let v56 : BitVec 32 := Scalar.addi v52 c0_i32_51
  let v57 : Index := Scalar.indexCast v56
  let c0_53 : Index := 0#32
  ![2, v57.toNat, 0]
def k0_off2 (c0_i32_55 : BitVec 32) : Fin 3 → Nat :=
  let c3_56 : Index := 3#32
  let c0_i32 : BitVec 32 := 0#32
  let c32_i32 : BitVec 32 := 32#32
  let v51 : BitVec 32 := Scalar.muli c0_i32 c32_i32
  let v52 : BitVec 32 := v51
  let v72 : BitVec 32 := Scalar.addi v52 c0_i32_55
  let v73 : Index := Scalar.indexCast v72
  let c0_57 : Index := 0#32
  ![3, v73.toNat, 0]
def k0_off3 (c0_i32_59 : BitVec 32) : Fin 3 → Nat :=
  let c4_60 : Index := 4#32
  let c0_i32 : BitVec 32 := 0#32
  let c32_i32 : BitVec 32 := 32#32
  let v51 : BitVec 32 := Scalar.muli c0_i32 c32_i32
  let v52 : BitVec 32 := v51
  let v88 : BitVec 32 := Scalar.addi v52 c0_i32_59
  let v89 : Index := Scalar.indexCast v88
  let c0_61 : Index := 0#32
  ![4, v89.toNat, 0]
def k0_off4 (c0_i32_63 : BitVec 32) : Fin 3 → Nat :=
  let c5_64 : Index := 5#32
  let c0_i32 : BitVec 32 := 0#32
  let c32_i32 : BitVec 32 := 32#32
  let v51 : BitVec 32 := Scalar.muli c0_i32 c32_i32
  let v52 : BitVec 32 := v51
  let v104 : BitVec 32 := Scalar.addi v52 c0_i32_63
  let v105 : Index := Scalar.indexCast v104
  let c0_65 : Index := 0#32
  ![5, v105.toNat, 0]
def k0_off5 (c0_i32_68 : BitVec 32) : Fin 3 → Nat :=
  let c6_69 : Index := 6#32
  let c0_i32 : BitVec 32 := 0#32
  let c32_i32 : BitVec 32 := 32#32
  let v51 : BitVec 32 := Scalar.muli c0_i32 c32_i32
  let v52 : BitVec 32 := v51
  let v120 : BitVec 32 := Scalar.addi v52 c0_i32_68
  let v121 : Index := Scalar.indexCast v120
  let c0_70 : Index := 0#32
  ![6, v121.toNat, 0]
def k0_off6 (c0_i32_72 : BitVec 32) : Fin 3 → Nat :=
  let c7_73 : Index := 7#32
  let c0_i32 : BitVec 32 := 0#32
  let c32_i32 : BitVec 32 := 32#32
  let v51 : BitVec 32 := Scalar.muli c0_i32 c32_i32
  let v52 : BitVec 32 := v51
  let v136 : BitVec 32 := Scalar.addi v52 c0_i32_72
  let v137 : Index := Scalar.indexCast v136
  let c0_74 : Index := 0#32
  ![7, v137.toNat, 0]
def k0_off7 (c8_i32 : BitVec 32) : Fin 3 → Nat :=
  let c0_76 : Index := 0#32
  let c0_i32 : BitVec 32 := 0#32
  let c32_i32 : BitVec 32 := 32#32
  let v51 : BitVec 32 := Scalar.muli c0_i32 c32_i32
  let v52 : BitVec 32 := v51
  let v152 : BitVec 32 := Scalar.addi v52 c8_i32
  let v153 : Index := Scalar.indexCast v152
  let c0_77 : Index := 0#32
  ![0, v153.toNat, 0]
def k0_off8 (c8_i32_79 : BitVec 32) : Fin 3 → Nat :=
  let c1_80 : Index := 1#32
  let c0_i32 : BitVec 32 := 0#32
  let c32_i32 : BitVec 32 := 32#32
  let v51 : BitVec 32 := Scalar.muli c0_i32 c32_i32
  let v52 : BitVec 32 := v51
  let v168 : BitVec 32 := Scalar.addi v52 c8_i32_79
  let v169 : Index := Scalar.indexCast v168
  let c0_81 : Index := 0#32
  ![1, v169.toNat, 0]
def k0_off9 : Fin 2 → Nat :=
  let c0_i32 : BitVec 32 := 0#32
  let c32_i32 : BitVec 32 := 32#32
  let v51 : BitVec 32 := Scalar.muli c0_i32 c32_i32
  let v52 : BitVec 32 := v51
  let v550 : Index := Scalar.indexCast v52
  let c0_172 : Index := 0#32
  ![v550.toNat, 0]
def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x30x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S248x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x30x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvSampleRefIdeal.lean ====
abbrev S17408x1024 : Shape := ⟨2, ![17408, 1024]⟩
abbrev S17408x512 : Shape := ⟨2, ![17408, 512]⟩
abbrev S32x30x512 : Shape := ⟨3, ![32, 30, 512]⟩
abbrev S31x512 : Shape := ⟨2, ![31, 512]⟩
abbrev S512 : Shape := ⟨1, ![512]⟩
abbrev S1024x1024 : Shape := ⟨2, ![1024, 1024]⟩
abbrev S32x32x1024 : Shape := ⟨3, ![32, 32, 1024]⟩
abbrev S32x32x512 : Shape := ⟨3, ![32, 32, 512]⟩
abbrev S_ : Shape := ⟨0, ![]⟩
abbrev S32x62x512 : Shape := ⟨3, ![32, 62, 512]⟩
abbrev S1x512 : Shape := ⟨2, ![1, 512]⟩
abbrev S1x1x512 : Shape := ⟨3, ![1, 1, 512]⟩
abbrev S32x32 : Shape := ⟨2, ![32, 32]⟩
abbrev S32x32x1 : Shape := ⟨3, ![32, 32, 1]⟩
abbrev S1024x512 : Shape := ⟨2, ![1024, 512]⟩

abbrev nBuf : Space → Nat
  | .hbm => 290
  | .vmem => 0
  | .smem => 0
  | _ => 0

abbrev hbmTy0_0 (i : Nat) : BufTy := match i % 128 with
  | 0 => ⟨S17408x1024, .f32⟩
  | 1 => ⟨S17408x512, .f32⟩
  | 2 => ⟨S32x30x512, .f32⟩
  | 3 => ⟨S31x512, .f32⟩
  | 4 => ⟨S512, .f32⟩
  | 5 => ⟨S512, .f32⟩
  | 6 => ⟨S512, .f32⟩
  | 7 => ⟨S1024x1024, .f32⟩
  | 8 => ⟨S32x32x1024, .f32⟩
  | 9 => ⟨S32x32x512, .f32⟩
  | 10 => ⟨S32x32x512, .f32⟩
  | 11 => ⟨S32x32x512, .f32⟩
  | 12 => ⟨S32x32x512, .f32⟩
  | 13 => ⟨S_, .f32⟩
  | 14 => ⟨S32x32x512, .f32⟩
  | 15 => ⟨S32x32x512, .f32⟩
  | 16 => ⟨S_, .f32⟩
  | 17 => ⟨S32x32x512, .f32⟩
  | 18 => ⟨S32x32x512, .f32⟩
  | 19 => ⟨S32x32x512, .f32⟩
  | 20 => ⟨S32x62x512, .f32⟩
  | 21 => ⟨S32x32x512, .f32⟩
  | 22 => ⟨S1x512, .f32⟩
  | 23 => ⟨S512, .f32⟩
  | 24 => ⟨S1x1x512, .f32⟩
  | 25 => ⟨S32x32x512, .f32⟩
  | 26 => ⟨S32x32x512, .f32⟩
  | 27 => ⟨S32x32x512, .f32⟩
  | 28 => ⟨S1x512, .f32⟩
  | 29 => ⟨S512, .f32⟩
  | 30 => ⟨S1x1x512, .f32⟩
  | 31 => ⟨S32x32x512, .f32⟩
  | 32 => ⟨S32x32x512, .f32⟩
  | 33 => ⟨S32x32x512, .f32⟩
  | 34 => ⟨S32x32x512, .f32⟩
  | 35 => ⟨S1x512, .f32⟩
  | 36 => ⟨S512, .f32⟩
  | 37 => ⟨S1x1x512, .f32⟩
  | 38 => ⟨S32x32x512, .f32⟩
  | 39 => ⟨S32x32x512, .f32⟩
  | 40 => ⟨S32x32x512, .f32⟩
  | 41 => ⟨S32x32x512, .f32⟩
  | 42 => ⟨S1x512, .f32⟩
  | 43 => ⟨S512, .f32⟩
  | 44 => ⟨S1x1x512, .f32⟩
  | 45 => ⟨S32x32x512, .f32⟩
  | 46 => ⟨S32x32x512, .f32⟩
  | 47 => ⟨S32x32x512, .f32⟩
  | 48 => ⟨S32x32x512, .f32⟩
  | 49 => ⟨S1x512, .f32⟩
  | 50 => ⟨S512, .f32⟩
  | 51 => ⟨S1x1x512, .f32⟩
  | 52 => ⟨S32x32x512, .f32⟩
  | 53 => ⟨S32x32x512, .f32⟩
  | 54 => ⟨S32x32x512, .f32⟩
  | 55 => ⟨S32x32x512, .f32⟩
  | 56 => ⟨S1x512, .f32⟩
  | 57 => ⟨S512, .f32⟩
  | 58 => ⟨S1x1x512, .f32⟩
  | 59 => ⟨S32x32x512, .f32⟩
  | 60 => ⟨S32x32x512, .f32⟩
  | 61 => ⟨S32x32x512, .f32⟩
  | 62 => ⟨S32x32x512, .f32⟩
  | 63 => ⟨S1x512, .f32⟩
  | 64 => ⟨S512, .f32⟩
  | 65 => ⟨S1x1x512, .f32⟩
  | 66 => ⟨S32x32x512, .f32⟩
  | 67 => ⟨S32x32x512, .f32⟩
  | 68 => ⟨S32x32x512, .f32⟩
  | 69 => ⟨S32x32x512, .f32⟩
  | 70 => ⟨S1x512, .f32⟩
  | 71 => ⟨S512, .f32⟩
  | 72 => ⟨S1x1x512, .f32⟩
  | 73 => ⟨S32x32x512, .f32⟩
  | 74 => ⟨S32x32x512, .f32⟩
  | 75 => ⟨S32x32x512, .f32⟩
  | 76 => ⟨S32x32x512, .f32⟩
  | 77 => ⟨S1x512, .f32⟩
  | 78 => ⟨S512, .f32⟩
  | 79 => ⟨S1x1x512, .f32⟩
  | 80 => ⟨S32x32x512, .f32⟩
  | 81 => ⟨S32x32x512, .f32⟩
  | 82 => ⟨S32x32x512, .f32⟩
  | 83 => ⟨S32x32x512, .f32⟩
  | 84 => ⟨S1x512, .f32⟩
  | 85 => ⟨S512, .f32⟩
  | 86 => ⟨S1x1x512, .f32⟩
  | 87 => ⟨S32x32x512, .f32⟩
  | 88 => ⟨S32x32x512, .f32⟩
  | 89 => ⟨S32x32x512, .f32⟩
  | 90 => ⟨S32x32x512, .f32⟩
  | 91 => ⟨S1x512, .f32⟩
  | 92 => ⟨S512, .f32⟩
  | 93 => ⟨S1x1x512, .f32⟩
  | 94 => ⟨S32x32x512, .f32⟩
  | 95 => ⟨S32x32x512, .f32⟩
  | 96 => ⟨S32x32x512, .f32⟩
  | 97 => ⟨S32x32x512, .f32⟩
  | 98 => ⟨S1x512, .f32⟩
  | 99 => ⟨S512, .f32⟩
  | 100 => ⟨S1x1x512, .f32⟩
  | 101 => ⟨S32x32x512, .f32⟩
  | 102 => ⟨S32x32x512, .f32⟩
  | 103 => ⟨S32x32x512, .f32⟩
  | 104 => ⟨S32x32x512, .f32⟩
  | 105 => ⟨S1x512, .f32⟩
  | 106 => ⟨S512, .f32⟩
  | 107 => ⟨S1x1x512, .f32⟩
  | 108 => ⟨S32x32x512, .f32⟩
  | 109 => ⟨S32x32x512, .f32⟩
  | 110 => ⟨S32x32x512, .f32⟩
  | 111 => ⟨S32x32x512, .f32⟩
  | 112 => ⟨S1x512, .f32⟩
  | 113 => ⟨S512, .f32⟩
  | 114 => ⟨S1x1x512, .f32⟩
  | 115 => ⟨S32x32x512, .f32⟩
  | 116 => ⟨S32x32x512, .f32⟩
  | 117 => ⟨S32x32x512, .f32⟩
  | 118 => ⟨S32x32x512, .f32⟩
  | 119 => ⟨S1x512, .f32⟩
  | 120 => ⟨S512, .f32⟩
  | 121 => ⟨S1x1x512, .f32⟩
  | 122 => ⟨S32x32x512, .f32⟩
  | 123 => ⟨S32x32x512, .f32⟩
  | 124 => ⟨S32x32x512, .f32⟩
  | 125 => ⟨S32x32x512, .f32⟩
  | 126 => ⟨S1x512, .f32⟩
  | 127 => ⟨S512, .f32⟩
  | _ => ⟨S17408x1024, .f32⟩

abbrev hbmTy0_1 (i : Nat) : BufTy := match i % 128 with
  | 0 => ⟨S1x1x512, .f32⟩
  | 1 => ⟨S32x32x512, .f32⟩
  | 2 => ⟨S32x32x512, .f32⟩
  | 3 => ⟨S32x32x512, .f32⟩
  | 4 => ⟨S32x32x512, .f32⟩
  | 5 => ⟨S1x512, .f32⟩
  | 6 => ⟨S512, .f32⟩
  | 7 => ⟨S1x1x512, .f32⟩
  | 8 => ⟨S32x32x512, .f32⟩
  | 9 => ⟨S32x32x512, .f32⟩
  | 10 => ⟨S32x32x512, .f32⟩
  | 11 => ⟨S32x32x512, .f32⟩
  | 12 => ⟨S1x512, .f32⟩
  | 13 => ⟨S512, .f32⟩
  | 14 => ⟨S1x1x512, .f32⟩
  | 15 => ⟨S32x32x512, .f32⟩
  | 16 => ⟨S32x32x512, .f32⟩
  | 17 => ⟨S32x32x512, .f32⟩
  | 18 => ⟨S32x32x512, .f32⟩
  | 19 => ⟨S1x512, .f32⟩
  | 20 => ⟨S512, .f32⟩
  | 21 => ⟨S1x1x512, .f32⟩
  | 22 => ⟨S32x32x512, .f32⟩
  | 23 => ⟨S32x32x512, .f32⟩
  | 24 => ⟨S32x32x512, .f32⟩
  | 25 => ⟨S32x32x512, .f32⟩
  | 26 => ⟨S1x512, .f32⟩
  | 27 => ⟨S512, .f32⟩
  | 28 => ⟨S1x1x512, .f32⟩
  | 29 => ⟨S32x32x512, .f32⟩
  | 30 => ⟨S32x32x512, .f32⟩
  | 31 => ⟨S32x32x512, .f32⟩
  | 32 => ⟨S32x32x512, .f32⟩
  | 33 => ⟨S1x512, .f32⟩
  | 34 => ⟨S512, .f32⟩
  | 35 => ⟨S1x1x512, .f32⟩
  | 36 => ⟨S32x32x512, .f32⟩
  | 37 => ⟨S32x32x512, .f32⟩
  | 38 => ⟨S32x32x512, .f32⟩
  | 39 => ⟨S32x32x512, .f32⟩
  | 40 => ⟨S1x512, .f32⟩
  | 41 => ⟨S512, .f32⟩
  | 42 => ⟨S1x1x512, .f32⟩
  | 43 => ⟨S32x32x512, .f32⟩
  | 44 => ⟨S32x32x512, .f32⟩
  | 45 => ⟨S32x32x512, .f32⟩
  | 46 => ⟨S32x32x512, .f32⟩
  | 47 => ⟨S1x512, .f32⟩
  | 48 => ⟨S512, .f32⟩
  | 49 => ⟨S1x1x512, .f32⟩
  | 50 => ⟨S32x32x512, .f32⟩
  | 51 => ⟨S32x32x512, .f32⟩
  | 52 => ⟨S32x32x512, .f32⟩
  | 53 => ⟨S32x32x512, .f32⟩
  | 54 => ⟨S1x512, .f32⟩
  | 55 => ⟨S512, .f32⟩
  | 56 => ⟨S1x1x512, .f32⟩
  | 57 => ⟨S32x32x512, .f32⟩
  | 58 => ⟨S32x32x512, .f32⟩
  | 59 => ⟨S32x32x512, .f32⟩
  | 60 => ⟨S32x32x512, .f32⟩
  | 61 => ⟨S1x512, .f32⟩
  | 62 => ⟨S512, .f32⟩
  | 63 => ⟨S1x1x512, .f32⟩
  | 64 => ⟨S32x32x512, .f32⟩
  | 65 => ⟨S32x32x512, .f32⟩
  | 66 => ⟨S32x32x512, .f32⟩
  | 67 => ⟨S32x32x512, .f32⟩
  | 68 => ⟨S1x512, .f32⟩
  | 69 => ⟨S512, .f32⟩
  | 70 => ⟨S1x1x512, .f32⟩
  | 71 => ⟨S32x32x512, .f32⟩
  | 72 => ⟨S32x32x512, .f32⟩
  | 73 => ⟨S32x32x512, .f32⟩
  | 74 => ⟨S32x32x512, .f32⟩
  | 75 => ⟨S1x512, .f32⟩
  | 76 => ⟨S512, .f32⟩
  | 77 => ⟨S1x1x512, .f32⟩
  | 78 => ⟨S32x32x512, .f32⟩
  | 79 => ⟨S32x32x512, .f32⟩
  | 80 => ⟨S32x32x512, .f32⟩
  | 81 => ⟨S32x32x512, .f32⟩
  | 82 => ⟨S1x512, .f32⟩
  | 83 => ⟨S512, .f32⟩
  | 84 => ⟨S1x1x512, .f32⟩
  | 85 => ⟨S32x32x512, .f32⟩
  | 86 => ⟨S32x32x512, .f32⟩
  | 87 => ⟨S32x32x512, .f32⟩
  | 88 => ⟨S32x32x512, .f32⟩
  | 89 => ⟨S1x512, .f32⟩
  | 90 => ⟨S512, .f32⟩
  | 91 => ⟨S1x1x512, .f32⟩
  | 92 => ⟨S32x32x512, .f32⟩
  | 93 => ⟨S32x32x512, .f32⟩
  | 94 => ⟨S32x32x512, .f32⟩
  | 95 => ⟨S32x32x512, .f32⟩
  | 96 => ⟨S1x512, .f32⟩
  | 97 => ⟨S512, .f32⟩
  | 98 => ⟨S1x1x512, .f32⟩
  | 99 => ⟨S32x32x512, .f32⟩
  | 100 => ⟨S32x32x512, .f32⟩
  | 101 => ⟨S32x32x512, .f32⟩
  | 102 => ⟨S32x32x512, .f32⟩
  | 103 => ⟨S1x512, .f32⟩
  | 104 => ⟨S512, .f32⟩
  | 105 => ⟨S1x1x512, .f32⟩
  | 106 => ⟨S32x32x512, .f32⟩
  | 107 => ⟨S32x32x512, .f32⟩
  | 108 => ⟨S32x32x512, .f32⟩
  | 109 => ⟨S1x1x512, .f32⟩
  | 110 => ⟨S32x32x512, .f32⟩
  | 111 => ⟨S32x32x512, .f32⟩
  | 112 => ⟨S_, .f32⟩
  | 113 => ⟨S32x32, .f32⟩
  | 114 => ⟨S32x32x1, .f32⟩
  | 115 => ⟨S_, .f32⟩
  | 116 => ⟨S32x32x1, .f32⟩
  | 117 => ⟨S32x32x1, .f32⟩
  | 118 => ⟨S32x32x512, .f32⟩
  | 119 => ⟨S32x32x512, .f32⟩
  | 120 => ⟨S32x32x512, .f32⟩
  | 121 => ⟨S_, .f32⟩
  | 122 => ⟨S32x32, .f32⟩
  | 123 => ⟨S32x32x1, .f32⟩
  | 124 => ⟨S_, .f32⟩
  | 125 => ⟨S32x32x1, .f32⟩
  | 126 => ⟨S32x32x1, .f32⟩
  | 127 => ⟨S_, .f32⟩
  | _ => ⟨S17408x1024, .f32⟩

abbrev hbmTy0_2 (i : Nat) : BufTy := match i % 128 with
  | 0 => ⟨S32x32x1, .f32⟩
  | 1 => ⟨S32x32x1, .f32⟩
  | 2 => ⟨S32x32x1, .f32⟩
  | 3 => ⟨S32x32x512, .f32⟩
  | 4 => ⟨S32x32x512, .f32⟩
  | 5 => ⟨S1x1x512, .f32⟩
  | 6 => ⟨S32x32x512, .f32⟩
  | 7 => ⟨S32x32x512, .f32⟩
  | 8 => ⟨S1x1x512, .f32⟩
  | 9 => ⟨S32x32x512, .f32⟩
  | 10 => ⟨S32x32x512, .f32⟩
  | 11 => ⟨S32x32x512, .f32⟩
  | 12 => ⟨S32x32x512, .f32⟩
  | 13 => ⟨S_, .f32⟩
  | 14 => ⟨S32x32x512, .f32⟩
  | 15 => ⟨S32x32x512, .f32⟩
  | 16 => ⟨S_, .f32⟩
  | 17 => ⟨S32x32x512, .f32⟩
  | 18 => ⟨S32x32x512, .f32⟩
  | 19 => ⟨S32x32x512, .f32⟩
  | 20 => ⟨S32x30x512, .f32⟩
  | 21 => ⟨S1024x512, .f32⟩
  | 22 => ⟨S1024x512, .f32⟩
  | 23 => ⟨S1024x512, .f32⟩
  | 24 => ⟨S1024x512, .f32⟩
  | 25 => ⟨S_, .f32⟩
  | 26 => ⟨S1024x512, .f32⟩
  | 27 => ⟨S1024x512, .f32⟩
  | 28 => ⟨S_, .f32⟩
  | 29 => ⟨S1024x512, .f32⟩
  | 30 => ⟨S1024x512, .f32⟩
  | 31 => ⟨S1024x512, .f32⟩
  | 32 => ⟨S1024x512, .f32⟩
  | 33 => ⟨S1024x512, .bf16⟩
  | _ => ⟨S17408x1024, .f32⟩

abbrev hbmTy (i : Nat) : BufTy := match i / 128 with
  | 0 => hbmTy0_0 i
  | 1 => hbmTy0_1 i
  | 2 => hbmTy0_2 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_1 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_3 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_call0_v0 : Ref sig .tc := ⟨.hbm, 267, rfl⟩
abbrev main_call0_v1 : Ref sig .tc := ⟨.hbm, 268, rfl⟩
abbrev main_call0_cst : Ref sig .tc := ⟨.hbm, 269, rfl⟩
abbrev main_call0_v2 : Ref sig .tc := ⟨.hbm, 270, rfl⟩
abbrev main_call0_v3 : Ref sig .tc := ⟨.hbm, 271, rfl⟩
abbrev main_call0_cst_0 : Ref sig .tc := ⟨.hbm, 272, rfl⟩
abbrev main_call0_v4 : Ref sig .tc := ⟨.hbm, 273, rfl⟩
abbrev main_call0_v5 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_call1_v0 : Ref sig .tc := ⟨.hbm, 279, rfl⟩
abbrev main_call1_v1 : Ref sig .tc := ⟨.hbm, 280, rfl⟩
abbrev main_call1_cst : Ref sig .tc := ⟨.hbm, 281, rfl⟩
abbrev main_call1_v2 : Ref sig .tc := ⟨.hbm, 282, rfl⟩
abbrev main_call1_v3 : Ref sig .tc := ⟨.hbm, 283, rfl⟩
abbrev main_call1_cst_0 : Ref sig .tc := ⟨.hbm, 284, rfl⟩
abbrev main_call1_v4 : Ref sig .tc := ⟨.hbm, 285, rfl⟩
abbrev main_call1_v5 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩

abbrev nD : Nat := 1
abbrev τ : Topo := Topo.v7x

variable {F : FTy → Type} [FloatOps F]
-- ==== Merge.lean ====
abbrev S16384x512 : Shape := ⟨2, ![16384, 512]⟩
abbrev S1024x512 : Shape := ⟨2, ![1024, 512]⟩
abbrev S8x2048x1024 : Shape := ⟨3, ![8, 2048, 1024]⟩
abbrev S32x32x1024 : Shape := ⟨3, ![32, 32, 1024]⟩
abbrev S2x8x2048x256 : Shape := ⟨4, ![2, 8, 2048, 256]⟩
abbrev S2x32x32x256 : Shape := ⟨4, ![2, 32, 32, 256]⟩
abbrev S17408x3072 : Shape := ⟨2, ![17408, 3072]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S32768x256 : Shape := ⟨2, ![32768, 256]⟩
abbrev S2048x256 : Shape := ⟨2, ![2048, 256]⟩
abbrev S16384x1024 : Shape := ⟨2, ![16384, 1024]⟩
abbrev S1x1024 : Shape := ⟨2, ![1, 1024]⟩
abbrev S17408x1024 : Shape := ⟨2, ![17408, 1024]⟩
abbrev S256x512 : Shape := ⟨2, ![256, 512]⟩
abbrev S256x256 : Shape := ⟨2, ![256, 256]⟩
abbrev S256x3072 : Shape := ⟨2, ![256, 3072]⟩
abbrev S256 : Shape := ⟨1, ![256]⟩
abbrev S256x1 : Shape := ⟨2, ![256, 1]⟩

abbrev nBuf : Space → Nat
  | .hbm => 32
  | .vmem => 32
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x512, .bf16⟩
  | .hbm, ⟨3, _⟩ => ⟨S1024x512, .bf16⟩
  | .hbm, ⟨4, _⟩ => ⟨S16384x512, .bf16⟩
  | .hbm, ⟨5, _⟩ => ⟨S1024x512, .bf16⟩
  | .hbm, ⟨6, _⟩ => ⟨S8x2048x1024, .f32⟩
  | .hbm, ⟨7, _⟩ => ⟨S32x32x1024, .f32⟩
  | .hbm, ⟨8, _⟩ => ⟨S2x8x2048x256, .f32⟩
  | .hbm, ⟨9, _⟩ => ⟨S2x32x32x256, .f32⟩
  | .hbm, ⟨10, _⟩ => ⟨S17408x3072, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S256x1024, .f32⟩
  | .hbm, ⟨18, _⟩ => ⟨S1024, .f32⟩
  | .hbm, ⟨19, _⟩ => ⟨S32768x256, .f32⟩
  | .hbm, ⟨20, _⟩ => ⟨S2048x256, .f32⟩
  | .hbm, ⟨21, _⟩ => ⟨S16384x1024, .f32⟩
  | .hbm, ⟨22, _⟩ => ⟨S1024x1024, .f32⟩
  | .hbm, ⟨23, _⟩ => ⟨S512x1024, .bf16⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S1x1024, .f32⟩
  | .hbm, ⟨28, _⟩ => ⟨S1024x1024, .bf16⟩
  | .hbm, ⟨29, _⟩ => ⟨S256x1024, .bf16⟩
  | .hbm, ⟨30, _⟩ => ⟨S1x1024, .f32⟩
  | .hbm, ⟨31, _⟩ => ⟨S17408x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x3072, .f32⟩
  | .local _ .vmem, ⟨21, _⟩ => ⟨S256x3072, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x1024, .f32⟩
  | .local _ .vmem, ⟨27, _⟩ => ⟨S1024x1024, .bf16⟩
  | .local _ .vmem, ⟨28, _⟩ => ⟨S256x1024, .bf16⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S16384x512 : Shape := ⟨2, ![16384, 512]⟩
abbrev S1024x512 : Shape := ⟨2, ![1024, 512]⟩
abbrev S8x2048x1024 : Shape := ⟨3, ![8, 2048, 1024]⟩
abbrev S32x32x1024 : Shape := ⟨3, ![32, 32, 1024]⟩
abbrev S2x8x2048x256 : Shape := ⟨4, ![2, 8, 2048, 256]⟩
abbrev S2x32x32x256 : Shape := ⟨4, ![2, 32, 32, 256]⟩
abbrev S17408x3072 : Shape := ⟨2, ![17408, 3072]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S16384x1024 : Shape := ⟨2, ![16384, 1024]⟩
abbrev S1x8x2048x256 : Shape := ⟨4, ![1, 8, 2048, 256]⟩
abbrev S8x2048x256 : Shape := ⟨3, ![8, 2048, 256]⟩
abbrev S16384x256 : Shape := ⟨2, ![16384, 256]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x32x32x256 : Shape := ⟨4, ![1, 32, 32, 256]⟩
abbrev S32x32x256 : Shape := ⟨3, ![32, 32, 256]⟩
abbrev S1024x256 : Shape := ⟨2, ![1024, 256]⟩
abbrev S1024x3072 : Shape := ⟨2, ![1024, 3072]⟩
abbrev S1024x1 : Shape := ⟨2, ![1024, 1]⟩
abbrev S17408x1024 : Shape := ⟨2, ![17408, 1024]⟩

abbrev nBuf : Space → Nat
  | .hbm => 134
  | .vmem => 0
  | .smem => 0
  | _ => 0

abbrev hbmTy0_0 (i : Nat) : BufTy := match i % 128 with
  | 0 => ⟨S16384x512, .bf16⟩
  | 1 => ⟨S1024x512, .bf16⟩
  | 2 => ⟨S16384x512, .bf16⟩
  | 3 => ⟨S1024x512, .bf16⟩
  | 4 => ⟨S16384x512, .bf16⟩
  | 5 => ⟨S1024x512, .bf16⟩
  | 6 => ⟨S8x2048x1024, .f32⟩
  | 7 => ⟨S32x32x1024, .f32⟩
  | 8 => ⟨S2x8x2048x256, .f32⟩
  | 9 => ⟨S2x32x32x256, .f32⟩
  | 10 => ⟨S17408x3072, .f32⟩
  | 11 => ⟨S512x1024, .f32⟩
  | 12 => ⟨S512x1024, .f32⟩
  | 13 => ⟨S512x1024, .f32⟩
  | 14 => ⟨S1024x1024, .f32⟩
  | 15 => ⟨S1024, .f32⟩
  | 16 => ⟨S1024x1024, .f32⟩
  | 17 => ⟨S256x1024, .f32⟩
  | 18 => ⟨S1024, .f32⟩
  | 19 => ⟨S16384x512, .f32⟩
  | 20 => ⟨S16384x512, .f32⟩
  | 21 => ⟨S16384x512, .f32⟩
  | 22 => ⟨S16384x1024, .f32⟩
  | 23 => ⟨S1x8x2048x256, .f32⟩
  | 24 => ⟨S8x2048x256, .f32⟩
  | 25 => ⟨S16384x256, .f32⟩
  | 26 => ⟨S16384x3072, .f32⟩
  | 27 => ⟨S16384x3072, .f32⟩
  | 28 => ⟨S16384x3072, .f32⟩
  | 29 => ⟨S_, .f32⟩
  | 30 => ⟨S16384x3072, .f32⟩
  | 31 => ⟨S16384x3072, .f32⟩
  | 32 => ⟨S_, .f32⟩
  | 33 => ⟨S16384x3072, .f32⟩
  | 34 => ⟨S16384x3072, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x1024, .f32⟩
  | 60 => ⟨S16384x1024, .f32⟩
  | 61 => ⟨S1x1024, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S16384x1024, .f32⟩
  | 74 => ⟨S16384x1024, .f32⟩
  | 75 => ⟨S16384x1024, .f32⟩
  | 76 => ⟨S1024x512, .f32⟩
  | 77 => ⟨S1024x512, .f32⟩
  | 78 => ⟨S1024x512, .f32⟩
  | 79 => ⟨S1024x1024, .f32⟩
  | 80 => ⟨S1x32x32x256, .f32⟩
  | 81 => ⟨S32x32x256, .f32⟩
  | 82 => ⟨S1024x256, .f32⟩
  | 83 => ⟨S1024x3072, .f32⟩
  | 84 => ⟨S1024x3072, .f32⟩
  | 85 => ⟨S1024x3072, .f32⟩
  | 86 => ⟨S_, .f32⟩
  | 87 => ⟨S1024x3072, .f32⟩
  | 88 => ⟨S1024x3072, .f32⟩
  | 89 => ⟨S_, .f32⟩
  | 90 => ⟨S1024x3072, .f32⟩
  | 91 => ⟨S1024x3072, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S1024x1024, .f32⟩
  | 99 => ⟨S1024x1024, .f32⟩
  | 100 => ⟨S1024x1024, .f32⟩
  | 101 => ⟨S1024x1024, .f32⟩
  | 102 => ⟨S1024x1024, .f32⟩
  | 103 => ⟨S1024x1024, .f32⟩
  | 104 => ⟨S1024x1024, .f32⟩
  | 105 => ⟨S1024x1024, .f32⟩
  | 106 => ⟨S_, .f32⟩
  | 107 => ⟨S1024, .f32⟩
  | 108 => ⟨S1024x1, .f32⟩
  | 109 => ⟨S_, .f32⟩
  | 110 => ⟨S1024x1, .f32⟩
  | 111 => ⟨S1024x1, .f32⟩
  | 112 => ⟨S_, .f32⟩
  | 113 => ⟨S1024x1, .f32⟩
  | 114 => ⟨S1024x1, .f32⟩
  | 115 => ⟨S1024x1, .f32⟩
  | 116 => ⟨S1024x1024, .f32⟩
  | 117 => ⟨S1024x1024, .f32⟩
  | 118 => ⟨S1x1024, .f32⟩
  | 119 => ⟨S1024x1024, .f32⟩
  | 120 => ⟨S1024x1024, .f32⟩
  | 121 => ⟨S1024x1024, .f32⟩
  | 122 => ⟨S1024x1024, .f32⟩
  | 123 => ⟨S1024x1024, .f32⟩
  | 124 => ⟨S_, .f32⟩
  | 125 => ⟨S1024x1024, .f32⟩
  | 126 => ⟨S1024x1024, .f32⟩
  | 127 => ⟨S_, .f32⟩
  | _ => ⟨S16384x512, .bf16⟩

abbrev hbmTy0_1 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .f32⟩
  | 5 => ⟨S17408x1024, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_8 : Ref sig .tc := ⟨.hbm, 106, rfl⟩
abbrev main_v78 : Ref sig .tc := ⟨.hbm, 107, rfl⟩
abbrev main_v79 : Ref sig .tc := ⟨.hbm, 108, rfl⟩
abbrev main_cst_9 : Ref sig .tc := ⟨.hbm, 109, rfl⟩
abbrev main_v80 : Ref sig .tc := ⟨.hbm, 110, rfl⟩
abbrev main_v81 : Ref sig .tc := ⟨.hbm, 111, rfl⟩
abbrev main_cst_10 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_11 : Ref sig .tc := ⟨.hbm, 124, rfl⟩
abbrev main_v93 : Ref sig .tc := ⟨.hbm, 125, rfl⟩
abbrev main_v94 : Ref sig .tc := ⟨.hbm, 126, rfl⟩
abbrev main_cst_12 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== MergeLast.lean ====
abbrev S16384x512 : Shape := ⟨2, ![16384, 512]⟩
abbrev S1024x512 : Shape := ⟨2, ![1024, 512]⟩
abbrev S17408x1024 : Shape := ⟨2, ![17408, 1024]⟩
abbrev S2x8x2048x256 : Shape := ⟨4, ![2, 8, 2048, 256]⟩
abbrev S2x32x32x256 : Shape := ⟨4, ![2, 32, 32, 256]⟩
abbrev S17408x3072 : Shape := ⟨2, ![17408, 3072]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S32768x256 : Shape := ⟨2, ![32768, 256]⟩
abbrev S2048x256 : Shape := ⟨2, ![2048, 256]⟩
abbrev S1x1024 : Shape := ⟨2, ![1, 1024]⟩
abbrev S16384x1024 : Shape := ⟨2, ![16384, 1024]⟩
abbrev S256x512 : Shape := ⟨2, ![256, 512]⟩
abbrev S256x256 : Shape := ⟨2, ![256, 256]⟩
abbrev S256x3072 : Shape := ⟨2, ![256, 3072]⟩
abbrev S256 : Shape := ⟨1, ![256]⟩
abbrev S256x1 : Shape := ⟨2, ![256, 1]⟩

abbrev nBuf : Space → Nat
  | .hbm => 30
  | .vmem => 34
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x512, .bf16⟩
  | .hbm, ⟨3, _⟩ => ⟨S1024x512, .bf16⟩
  | .hbm, ⟨4, _⟩ => ⟨S16384x512, .bf16⟩
  | .hbm, ⟨5, _⟩ => ⟨S1024x512, .bf16⟩
  | .hbm, ⟨6, _⟩ => ⟨S17408x1024, .f32⟩
  | .hbm, ⟨7, _⟩ => ⟨S2x8x2048x256, .f32⟩
  | .hbm, ⟨8, _⟩ => ⟨S2x32x32x256, .f32⟩
  | .hbm, ⟨9, _⟩ => ⟨S17408x3072, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S256x1024, .f32⟩
  | .hbm, ⟨17, _⟩ => ⟨S1024, .f32⟩
  | .hbm, ⟨18, _⟩ => ⟨S32768x256, .f32⟩
  | .hbm, ⟨19, _⟩ => ⟨S2048x256, .f32⟩
  | .hbm, ⟨20, _⟩ => ⟨S512x1024, .bf16⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S1024x1024, .bf16⟩
  | .hbm, ⟨26, _⟩ => ⟨S256x1024, .bf16⟩
  | .hbm, ⟨27, _⟩ => ⟨S1x1024, .f32⟩
  | .hbm, ⟨28, _⟩ => ⟨S16384x1024, .f32⟩
  | .hbm, ⟨29, _⟩ => ⟨S1024x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x3072, .f32⟩
  | .local _ .vmem, ⟨21, _⟩ => ⟨S256x3072, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x1024, .f32⟩
  | .local _ .vmem, ⟨27, _⟩ => ⟨S1024x1024, .bf16⟩
  | .local _ .vmem, ⟨28, _⟩ => ⟨S256x1024, .bf16⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![68], ![false]⟩

def k0_cond1 (i : grid0.Coords) : BitVec 1 :=
  let arg0 : BitVec 32 := BitVec.ofNat 32 (i 0).val
  let c64_i32_54 : BitVec 32 := 64#32
  let v86 : BitVec 1 := Scalar.cmpi .slt arg0 c64_i32_54
  let v87 : BitVec 32 := Scalar.extui v86
  let c0_i32 : BitVec 32 := 0#32
  let v88 : BitVec 1 := Scalar.cmpi .ne v87 c0_i32
  v88

def k0_cond2 (i : grid0.Coords) : BitVec 1 :=
  let arg0 : BitVec 32 := BitVec.ofNat 32 (i 0).val
  let c64_i32_54 : BitVec 32 := 64#32
  let v86 : BitVec 1 := Scalar.cmpi .slt arg0 c64_i32_54
  let v_true : BitVec 1 := 1#1
  let v89 : BitVec 1 := Scalar.xori v86 v_true
  let v90 : BitVec 32 := Scalar.extui v89
  let c0_i32_55 : BitVec 32 := 0#32
  let v91 : BitVec 1 := Scalar.cmpi .ne v90 c0_i32_55
  v91

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c64_i32_0 : BitVec 32 := 64#32
  let v2 : BitVec 32 := Scalar.addi v1 c64_i32_0
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c64_i32 : BitVec 32 := 64#32
  let v1 : BitVec 32 := Scalar.addi v0 c64_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c4_i32 : BitVec 32 := 4#32
  let v2 : BitVec 32 := Scalar.addi v1 c4_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MergeLastRefIdeal.lean ====
abbrev S16384x512 : Shape := ⟨2, ![16384, 512]⟩
abbrev S1024x512 : Shape := ⟨2, ![1024, 512]⟩
abbrev S17408x1024 : Shape := ⟨2, ![17408, 1024]⟩
abbrev S2x8x2048x256 : Shape := ⟨4, ![2, 8, 2048, 256]⟩
abbrev S2x32x32x256 : Shape := ⟨4, ![2, 32, 32, 256]⟩
abbrev S17408x3072 : Shape := ⟨2, ![17408, 3072]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S16384x1024 : Shape := ⟨2, ![16384, 1024]⟩
abbrev S1x8x2048x256 : Shape := ⟨4, ![1, 8, 2048, 256]⟩
abbrev S8x2048x256 : Shape := ⟨3, ![8, 2048, 256]⟩
abbrev S16384x256 : Shape := ⟨2, ![16384, 256]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x32x32x256 : Shape := ⟨4, ![1, 32, 32, 256]⟩
abbrev S32x32x256 : Shape := ⟨3, ![32, 32, 256]⟩
abbrev S1024x256 : Shape := ⟨2, ![1024, 256]⟩
abbrev S1024x3072 : Shape := ⟨2, ![1024, 3072]⟩
abbrev S1024x1 : Shape := ⟨2, ![1024, 1]⟩

abbrev nBuf : Space → Nat
  | .hbm => 164
  | .vmem => 0
  | .smem => 0
  | _ => 0

abbrev hbmTy0_0 (i : Nat) : BufTy := match i % 128 with
  | 0 => ⟨S16384x512, .bf16⟩
  | 1 => ⟨S1024x512, .bf16⟩
  | 2 => ⟨S16384x512, .bf16⟩
  | 3 => ⟨S1024x512, .bf16⟩
  | 4 => ⟨S16384x512, .bf16⟩
  | 5 => ⟨S1024x512, .bf16⟩
  | 6 => ⟨S17408x1024, .f32⟩
  | 7 => ⟨S2x8x2048x256, .f32⟩
  | 8 => ⟨S2x32x32x256, .f32⟩
  | 9 => ⟨S17408x3072, .f32⟩
  | 10 => ⟨S512x1024, .f32⟩
  | 11 => ⟨S512x1024, .f32⟩
  | 12 => ⟨S512x1024, .f32⟩
  | 13 => ⟨S1024x1024, .f32⟩
  | 14 => ⟨S1024, .f32⟩
  | 15 => ⟨S1024x1024, .f32⟩
  | 16 => ⟨S256x1024, .f32⟩
  | 17 => ⟨S1024, .f32⟩
  | 18 => ⟨S16384x512, .f32⟩
  | 19 => ⟨S16384x512, .f32⟩
  | 20 => ⟨S16384x512, .f32⟩
  | 21 => ⟨S16384x1024, .f32⟩
  | 22 => ⟨S1x8x2048x256, .f32⟩
  | 23 => ⟨S8x2048x256, .f32⟩
  | 24 => ⟨S16384x256, .f32⟩
  | 25 => ⟨S16384x3072, .f32⟩
  | 26 => ⟨S16384x3072, .f32⟩
  | 27 => ⟨S16384x3072, .f32⟩
  | 28 => ⟨S_, .f32⟩
  | 29 => ⟨S16384x3072, .f32⟩
  | 30 => ⟨S16384x3072, .f32⟩
  | 31 => ⟨S_, .f32⟩
  | 32 => ⟨S16384x3072, .f32⟩
  | 33 => ⟨S16384x3072, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S_, .f32⟩
  | 55 => ⟨S16384x1, .f32⟩
  | 56 => ⟨S16384x1, .f32⟩
  | 57 => ⟨S16384x1, .f32⟩
  | 58 => ⟨S16384x1024, .f32⟩
  | 59 => ⟨S16384x1024, .f32⟩
  | 60 => ⟨S1x1024, .f32⟩
  | 61 => ⟨S16384x1024, .f32⟩
  | 62 => ⟨S16384x1024, .f32⟩
  | 63 => ⟨S16384x1024, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S1024x512, .f32⟩
  | 76 => ⟨S1024x512, .f32⟩
  | 77 => ⟨S1024x512, .f32⟩
  | 78 => ⟨S1024x1024, .f32⟩
  | 79 => ⟨S1x32x32x256, .f32⟩
  | 80 => ⟨S32x32x256, .f32⟩
  | 81 => ⟨S1024x256, .f32⟩
  | 82 => ⟨S1024x3072, .f32⟩
  | 83 => ⟨S1024x3072, .f32⟩
  | 84 => ⟨S1024x3072, .f32⟩
  | 85 => ⟨S_, .f32⟩
  | 86 => ⟨S1024x3072, .f32⟩
  | 87 => ⟨S1024x3072, .f32⟩
  | 88 => ⟨S_, .f32⟩
  | 89 => ⟨S1024x3072, .f32⟩
  | 90 => ⟨S1024x3072, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S1024x1024, .f32⟩
  | 99 => ⟨S1024x1024, .f32⟩
  | 100 => ⟨S1024x1024, .f32⟩
  | 101 => ⟨S1024x1024, .f32⟩
  | 102 => ⟨S1024x1024, .f32⟩
  | 103 => ⟨S1024x1024, .f32⟩
  | 104 => ⟨S1024x1024, .f32⟩
  | 105 => ⟨S_, .f32⟩
  | 106 => ⟨S1024, .f32⟩
  | 107 => ⟨S1024x1, .f32⟩
  | 108 => ⟨S_, .f32⟩
  | 109 => ⟨S1024x1, .f32⟩
  | 110 => ⟨S1024x1, .f32⟩
  | 111 => ⟨S_, .f32⟩
  | 112 => ⟨S1024x1, .f32⟩
  | 113 => ⟨S1024x1, .f32⟩
  | 114 => ⟨S1024x1, .f32⟩
  | 115 => ⟨S1024x1024, .f32⟩
  | 116 => ⟨S1024x1024, .f32⟩
  | 117 => ⟨S1x1024, .f32⟩
  | 118 => ⟨S1024x1024, .f32⟩
  | 119 => ⟨S1024x1024, .f32⟩
  | 120 => ⟨S1024x1024, .f32⟩
  | 121 => ⟨S1024x1024, .f32⟩
  | 122 => ⟨S1024x1024, .f32⟩
  | 123 => ⟨S_, .f32⟩
  | 124 => ⟨S1024x1024, .f32⟩
  | 125 => ⟨S1024x1024, .f32⟩
  | 126 => ⟨S_, .f32⟩
  | 127 => ⟨S1024x1024, .f32⟩
  | _ => ⟨S16384x512, .bf16⟩

abbrev hbmTy0_1 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S1024x1024, .f32⟩
  | 21 => ⟨S_, .f32⟩
  | 22 => ⟨S1024, .f32⟩
  | 23 => ⟨S1024x1, .f32⟩
  | 24 => ⟨S_, .f32⟩
  | 25 => ⟨S1024x1, .f32⟩
  | 26 => ⟨S1024x1, .f32⟩
  | 27 => ⟨S_, .f32⟩
  | 28 => ⟨S1024x1, .f32⟩
  | 29 => ⟨S1024x1, .f32⟩
  | 30 => ⟨S1024x1, .f32⟩
  | 31 => ⟨S1024x1024, .f32⟩
  | 32 => ⟨S1024x1024, .f32⟩
  | 33 => ⟨S1x1024, .f32⟩
  | 34 => ⟨S1024x1024, .f32⟩
  | 35 => ⟨S1024x1024, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_6 : Ref sig .tc := ⟨.hbm, 85, rfl⟩
abbrev main_v60 : Ref sig .tc := ⟨.hbm, 86, rfl⟩
abbrev main_v61 : Ref sig .tc := ⟨.hbm, 87, rfl⟩
abbrev main_cst_7 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_8 : Ref sig .tc := ⟨.hbm, 105, rfl⟩
abbrev main_v78 : Ref sig .tc := ⟨.hbm, 106, rfl⟩
abbrev main_v79 : Ref sig .tc := ⟨.hbm, 107, rfl⟩
abbrev main_cst_9 : Ref sig .tc := ⟨.hbm, 108, rfl⟩
abbrev main_v80 : Ref sig .tc := ⟨.hbm, 109, rfl⟩
abbrev main_v81 : Ref sig .tc := ⟨.hbm, 110, rfl⟩
abbrev main_cst_10 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_11 : Ref sig .tc := ⟨.hbm, 123, rfl⟩
abbrev main_v93 : Ref sig .tc := ⟨.hbm, 124, rfl⟩
abbrev main_v94 : Ref sig .tc := ⟨.hbm, 125, rfl⟩
abbrev main_cst_12 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_13 : Ref sig .tc := ⟨.hbm, 133, rfl⟩
abbrev main_v101 : Ref sig .tc := ⟨.hbm, 134, rfl⟩
abbrev main_v102 : Ref sig .tc := ⟨.hbm, 135, rfl⟩
abbrev main_cst_14 : Ref sig .tc := ⟨.hbm, 136, rfl⟩
abbrev main_v103 : Ref sig .tc := ⟨.hbm, 137, rfl⟩
abbrev main_v104 : Ref sig .tc := ⟨.hbm, 138, rfl⟩
abbrev main_cst_15 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_16 : Ref sig .tc := ⟨.hbm, 149, rfl⟩
abbrev main_v114 : Ref sig .tc := ⟨.hbm, 150, rfl⟩
abbrev main_v115 : Ref sig .tc := ⟨.hbm, 151, rfl⟩
abbrev main_cst_17 : Ref sig .tc := ⟨.hbm, 152, rfl⟩
abbrev main_v116 : Ref sig .tc := ⟨.hbm, 153, rfl⟩
abbrev main_v117 : Ref sig .tc := ⟨.hbm, 154, rfl⟩
abbrev main_cst_18 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩

abbrev nD : Nat := 1
abbrev τ : Topo := Topo.v7x

variable {F : FTy → Type} [FloatOps F]
-- ==== Proof.Rows.lean ====
module

public import Idealize.ShloMosaic.Lib.Pipeline.ValueKit

@[expose] public section

noncomputable section

/-! The arithmetic of one row, shared by the kernels and their references. -/

namespace Cert.Rows

open Idealize.ShloMosaic

/-- One row under root-mean-square normalisation: each entry over the root of the mean square (and a small
    constant), times its gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The first 64 grid points are the prompt's: the kernel's choice between two values, read as a plain `if`. -/
theorem select_prompt {α : Type} (n : ℕ) (hn : n < 68) (a b : α) :
    Scalar.select (Scalar.cmpi CmpIPredicate.slt (BitVec.ofNat 32 n) 64#32) a b = if n < 64 then a else b := by
  have key : ∀ n : Fin 68, Scalar.cmpi CmpIPredicate.slt (BitVec.ofNat 32 n.val) 64#32 = if n.val < 64 then 1#1 else 0#1 := by
    decide +kernel
  rw [show n = (⟨n, hn⟩ : Fin 68).val from rfl, key]
  split <;> rfl

/-- The three branches of one row, each through its own weight and under its own gate, added up. -/
def merged (ga gb gc : Fin 1024 → EReal) (a b c : Fin 512 → EReal) (wa wb wc : Fin 512 → Fin 1024 → EReal) (j : Fin 1024) : EReal :=
  Ideal.logistic (ga j) * (∑ k, a k * wa k j) + Ideal.logistic (gb j) * (∑ k, b k * wb k j) + Ideal.logistic (gc j) * (∑ k, c k * wc k j)

/-- A row plus another row times a weight. -/
def resid (x y : Fin 1024 → EReal) (w : Fin 1024 → Fin 1024 → EReal) (j : Fin 1024) : EReal :=
  x j + ∑ k, y k * w k j

/-- A row plus the gated per-layer embedding: the gate is read off the normalised row. -/
def gated (y g : Fin 1024 → EReal) (wg : Fin 1024 → Fin 1024 → EReal) (p : Fin 256 → EReal) (wp : Fin 256 → Fin 1024 → EReal) (j : Fin 1024) : EReal :=
  y j + Ideal.logistic (∑ k, normed y g k * wg k j) * ∑ k, p k * wp k j

/-- One row of the merge: the branches under their gates (three runs of `z`), the output weight, and the gated embedding. -/
def mergeRow (a b c : Fin 512 → EReal) (x : Fin 1024 → EReal) (p : Fin 256 → EReal) (z : Fin 3072 → EReal)
    (wa wb wc : Fin 512 → Fin 1024 → EReal) (wo : Fin 1024 → Fin 1024 → EReal) (g : Fin 1024 → EReal)
    (wg : Fin 1024 → Fin 1024 → EReal) (wp : Fin 256 → Fin 1024 → EReal) (j : Fin 1024) : EReal :=
  gated (resid x (merged (fun j => z ⟨j, by omega⟩) (fun j => z ⟨1024 + j, by omega⟩) (fun j => z ⟨2048 + j, by omega⟩)
    a b c wa wb wc) wo) g wg p wp j

end Cert.Rows
end
-- ==== Proof.ProjBody.lean ====
module

public import proofs.«01_k».proof.Proof.Rows
public import proofs.«01_k».proof.Proof.Gen.ProjIdeal.Value
public import proofs.«01_k».proof.Proof.Gen.ProjRefIdeal.Read
public import Idealize.ShloMosaic.Lib.Pipeline.ValueKit

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Rows

/-- What the body multiplies with every weight: the normalised rows of the block the point works on. -/
theorem pay4_apply (i : grid0.Coords) (x1 x2 : Vec Ideal S256x1024 .f32) (g : Vec Ideal S1x1024 .f32) (r : Fin 256) (k : Fin 1024) :
    k0_pay4 (F := Ideal) i x1 x2 g (ix2 r k) = normed (fun k => if (i 0).val < 64 then x1 (ix2 r k) else x2 (ix2 r k)) (fun k => g (ix2 0 k)) k := by
  unfold normed
  simp only [← select_prompt (i 0).val (i 0).isLt]
  pointwise [k0_pay4]

/-- The whole projection in closed form: row `i` of the prompt's rows followed by the sample's, normalised, times weight row `j`. -/
def proj (x0 : Vec Ideal S8x2048x1024 .f32) (x1 : Vec Ideal S32x32x1024 .f32) (g : Vec Ideal S1024 .f32) (w : Vec Ideal S2x7936x1024 .bf16)
    (i : Fin 17408) (j : Fin 7936) : EReal :=
  ∑ k : Fin 1024, normed (fun k => Cert.ProjRefIdeal.Read.val_main_v2 (F := Ideal) x0 x1 (ix2 i k)) (fun k => g (ix1 k)) k * w (ix3 0 j k)

open Cert.ProjRefIdeal.Read in
theorem ref_normed (x0 x1 g) (i : Fin 17408) (k : Fin 1024) :
    val_main_v15 (F := Ideal) x0 x1 g (ix2 i k) = normed (fun k => val_main_v2 (F := Ideal) x0 x1 (ix2 i k)) (fun k => g (ix1 k)) k := by
  unfold normed
  pointwise [val_main_v15,val_main_v14,val_main_v13,val_main_v12,val_main_v11,val_main_v10,val_main_v9,val_main_v8,val_main_v7,val_main_v6,val_main_v5,val_main_v4,val_main_v3, val_main_cst, val_main_cst_0, val_main_cst_1]

open Cert.ProjRefIdeal.Read in
theorem ref_proj (x0 x1 g w) (i : Fin 17408) (j : Fin 7936) :
    val_main_v20 (F := Ideal) x0 x1 g w (ix2 i j) = proj x0 x1 g w i j := by
  unfold proj
  pointwise [val_main_v20, val_main_v19, val_main_v18, val_main_v17, val_main_v16, ref_normed]

variable (m : (ℓ : Loc nD τ sig) → Buf (Elt Ideal) ℓ)

theorem idx : ∀ t : Fin cfg0.N, win0_0.index t = ![min t.val 63, 0] ∧ win0_1.index t = ![t.val - 64, 0] ∧ win0_2.index t = ![0, 0] ∧ win0_3.index t = ![0, 0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ (grid0.coords t 0).val = t.val :=
  (by decide +kernel : ∀ t : Fin grid0.N, _)

/-- What the region finds in the array of prompt rows: the prompt argument, its batches one after the other. -/
theorem entry0 (c : Dev nD) (a : Fin 16384) (k : Fin 1024) :
    V m c main_v0 (ix2 a k) = m (c, main_arg0) (ix3 ⟨a / 2048, by omega⟩ ⟨a % 2048, by omega⟩ k) := by
  entry_read; pointwise

/-- Likewise the sample's rows. -/
theorem entry1 (c : Dev nD) (a : Fin 1024) (k : Fin 1024) :
    V m c main_v1 (ix2 a k) = m (c, main_arg1) (ix3 ⟨a / 32, by omega⟩ ⟨a % 32, by omega⟩ k) := by
  entry_read; pointwise

/-- The gains, as one row. -/
theorem entry2 (c : Dev nD) (k : Fin 1024) : V m c main_v2 (ix2 0 k) = m (c, main_arg2) (ix1 k) := by
  entry_read; pointwise

open Cert.ProjRefIdeal.Read in
/-- The rows a point works on are rows `256 t + r` of the prompt's rows followed by the sample's. -/
theorem rows_eq (c : Dev nD) (t : Fin cfg0.N) (r : Fin 256) (i : Fin 17408) (hi : (i : ℕ) = 256 * t.val + r) (k : Fin 1024) :
    (if (grid0.coords t 0).val < 64 then iblk m c 0 t (ix2 r k) else iblk m c 1 t (ix2 r k))
      = val_main_v2 (F := Ideal) (m (c, main_arg0)) (m (c, main_arg1)) (ix2 i k) := by
  rw [(idx t).2.2.2.2.2.2.2.2.2.2.2.2]
  have ht : t.val < 68 := t.isLt
  pointwise [val_main_v2, val_main_v1, val_main_v0]
  by_cases h : t.val < 64
  · rw [if_pos h, dif_pos (by omega)]
    have e : iblk m c 0 t (ix2 r k) = V m c main_v0 (ix2 ⟨i, by omega⟩ k) := by
      blk_point [iblk, idx t]
    rw [e, entry0]
  · rw [if_neg h, dif_neg (by omega)]
    have e : iblk m c 1 t (ix2 r k) = V m c main_v1 (ix2 ⟨i - 16384, by omega⟩ k) := by
      blk_point [iblk, idx t]
    rw [e, entry1]

open Cert.ProjRefIdeal.Read in
theorem core (c : Dev nD) (t : Fin cfg0.N) (r : Fin 256) (i : Fin 17408) (hi : (i : ℕ) = 256 * t.val + r) (k : Fin 1024) :
    k0_pay4 (F := Ideal) (grid0.coords t) (iblk m c 0 t) (iblk m c 1 t) (iblk m c 2 t) (ix2 r k)
      = normed (fun k => val_main_v2 (F := Ideal) (m (c, main_arg0)) (m (c, main_arg1)) (ix2 i k)) (fun k => m (c, main_arg2) (ix1 k)) k := by
  rw [pay4_apply]
  have e1 : ∀ k : Fin 1024, iblk m c 2 t (ix2 0 k) = m (c, main_arg2) (ix1 k) := by
    intro k
    have e : iblk m c 2 t (ix2 0 k) = V m c main_v2 (ix2 0 k) := by
      blk_point [iblk, idx t]
    rw [e, entry2]
  simp only [rows_eq m c t r i hi, e1]

/-- One block of the result is one block of the projection. -/
theorem piece (c : Dev nD) (t : Fin cfg0.N) (r : Fin 256) (i : Fin 17408) (hi : (i : ℕ) = 256 * t.val + r) (j : Fin 7936)
    (w : Fin 1024 → EReal) (hw : ∀ k, w k = m (c, main_arg3) (ix3 0 j k)) :
    ∑ k : Fin 1024, k0_pay4 (F := Ideal) (grid0.coords t) (iblk m c 0 t) (iblk m c 1 t) (iblk m c 2 t) (ix2 r k) * w k
      = proj (m (c, main_arg0)) (m (c, main_arg1)) (m (c, main_arg2)) (m (c, main_arg3)) i j := by
  unfold proj
  refine Finset.sum_congr rfl fun k _ => ?_
  rw [core m c t r i hi, hw]

end Cert.ProjIdeal.Hand
end
-- ==== Proof.ProjFinal.lean ====
module

public import proofs.«01_k».proof.Proof.ProjBody

@[expose] public section

set_option maxRecDepth 16384

noncomputable section

/-! Each result of the projection is a run of the columns of `proj`: the body writes it in pieces of at most 512 columns. -/

namespace Cert.ProjIdeal.Hand

open Cert.ProjIdeal Cert.ProjIdeal.Gen Idealize.ShloMosaic Idealize.ShloMosaic.TcCoe Idealize.SL.Sem
open Idealize.ShloMosaic.Pipeline (Dat)
open Cert.ProjRefIdeal.Read

variable (m : (ℓ : Loc nD τ sig) → Buf (Elt Ideal) ℓ)

/-- Result 0 of the projection. -/
theorem final4 (c : Dev nD) : (dats m 0 c).arrAt 4 (cfgs 0).N
    = val_main_v21 (F := Ideal) (m (c, main_arg0)) (m (c, main_arg1)) (m (c, main_arg2)) (m (c, main_arg3)) := by
  refine (dats m 0 c).arrAt_eq_of_covers 4 _ (by decide +kernel) fun t _ y => ?_
  blk_simp
  rw [after0_4]
  unfold outsAt0
  frame_out
  canon_tiles x h using (View.cover_of_tiledBy _ ![256, 128] (by sl_kernel_rfl) y)
  all_goals
    pointwise [val_main_v21, ref_proj, k0_pay5, k0_pay6]
    refine piece m c t (x 0) _ ?_ _ _ fun k => ?_
    · blk_simp [idx t]; omega
    · blk_point [iblk, V, idx t]

/-- Result 1 of the projection. -/
theorem final5 (c : Dev nD) : (dats m 0 c).arrAt 5 (cfgs 0).N
    = val_main_v22 (F := Ideal) (m (c, main_arg0)) (m (c, main_arg1)) (m (c, main_arg2)) (m (c, main_arg3)) := by
  refine (dats m 0 c).arrAt_eq_of_covers 5 _ (by decide +kernel) fun t _ y => ?_
  blk_simp
  rw [after0_5]
  unfold outsAt0
  frame_out
  all_goals
    pointwise [val_main_v22, ref_proj, k0_pay8, k0_pay7]
    refine piece m c t (y 0) _ ?_ _ _ fun k => ?_
    · blk_simp [idx t]; omega
    · blk_point [iblk, V, idx t]

/-- Result 2 of the projection. -/
theorem final6 (c : Dev nD) : (dats m 0 c).arrAt 6 (cfgs 0).N
    = val_main_v23 (F := Ideal) (m (c, main_arg0)) (m (c, main_arg1)) (m (c, main_arg2)) (m (c, main_arg3)) := by
  refine (dats m 0 c).arrAt_eq_of_covers 6 _ (by decide +kernel) fun t _ y => ?_
  blk_simp
  rw [after0_6]
  unfold outsAt0
  frame_out
  all_goals
    pointwise [val_main_v23, ref_proj, k0_pay9]
    refine piece m c t (y 0) _ ?_ _ _ fun k => ?_
    · blk_simp [idx t]; omega
    · blk_point [iblk, V, idx t]

/-- Result 3 of the projection. -/
theorem final7 (c : Dev nD) : (dats m 0 c).arrAt 7 (cfgs 0).N
    = val_main_v24 (F := Ideal) (m (c, main_arg0)) (m (c, main_arg1)) (m (c, main_arg2)) (m (c, main_arg3)) := by
  refine (dats m 0 c).arrAt_eq_of_covers 7 _ (by decide +kernel) fun t _ y => ?_
  blk_simp
  rw [after0_7]
  unfold outsAt0
  frame_out
  canon_tiles x h
  all_goals
    pointwise [val_main_v24, ref_proj, k0_pay10, k0_pay11]
    refine piece m c t (x 0) _ ?_ _ _ fun k => ?_
    · blk_simp [idx t]; omega
    · blk_point [iblk, V, idx t]

/-- Result 4 of the projection. -/
theorem final8 (c : Dev nD) : (dats m 0 c).arrAt 8 (cfgs 0).N
    = val_main_v25 (F := Ideal) (m (c, main_arg0)) (m (c, main_arg1)) (m (c, main_arg2)) (m (c, main_arg3)) := by
  refine (dats m 0 c).arrAt_eq_of_covers 8 _ (by decide +kernel) fun t _ y => ?_
  blk_simp
  rw [after0_8]
  unfold outsAt0
  frame_out
  all_goals
    pointwise [val_main_v25, ref_proj, k0_pay12]
    refine piece m c t (y 0) _ ?_ _ _ fun k => ?_
    · blk_simp [idx t]; omega
    · blk_point [iblk, V, idx t]

/-- Result 5 of the projection. -/
theorem final9 (c : Dev nD) : (dats m 0 c).arrAt 9 (cfgs 0).N
    = val_main_v26 (F := Ideal) (m (c, main_arg0)) (m (c, main_arg1)) (m (c, main_arg2)) (m (c, main_arg3)) := by
  refine (dats m 0 c).arrAt_eq_of_covers 9 _ (by decide +kernel) fun t _ y => ?_
  blk_simp
  rw [after0_9]
  unfold outsAt0
  frame_out
  canon_tiles x h
  all_goals
    pointwise [val_main_v26, ref_proj, k0_pay13, k0_pay14]
    refine piece m c t (x 0) _ ?_ _ _ fun k => ?_
    · blk_simp [idx t]; omega
    · blk_point [iblk, V, idx t]

/-- Result 6 of the projection. -/
theorem final10 (c : Dev nD) : (dats m 0 c).arrAt 10 (cfgs 0).N
    = val_main_v27 (F := Ideal) (m (c, main_arg0)) (m (c, main_arg1)) (m (c, main_arg2)) (m (c, main_arg3)) := by
  refine (dats m 0 c).arrAt_eq_of_covers 10 _ (by decide +kernel) fun t _ y => ?_
  blk_simp
  rw [after0_10]
  unfold outsAt0
  frame_out
  all_goals
    pointwise [val_main_v27, ref_proj, k0_pay15]
    refine piece m c t (y 0) _ ?_ _ _ fun k => ?_
    · blk_simp [idx t]; omega
    · blk_point [iblk, V, idx t]

/-- Result 7 of the projection. -/
theorem final11 (c : Dev nD) : (dats m 0 c).arrAt 11 (cfgs 0).N
    = val_main_v28 (F := Ideal) (m (c, main_arg0)) (m (c, main_arg1)) (m (c, main_arg2)) (m (c, main_arg3)) := by
  refine (dats m 0 c).arrAt_eq_of_covers 11 _ (by decide +kernel) fun t _ y => ?_
  blk_simp
  rw [after0_11]
  unfold outsAt0
  frame_out
  canon_tiles x h
  all_goals
    pointwise [val_main_v28, ref_proj, k0_pay16, k0_pay17, k0_pay18, k0_pay1, k0_pay19, k0_pay2, k0_pay3]
    refine piece m c t (x 0) _ ?_ _ _ fun k => ?_
    · blk_simp [idx t]; omega
    · blk_point [iblk, V, idx t]

end Cert.ProjIdeal.Hand
end
-- ==== Proof.ProjClaim.lean ====
module

public import proofs.«01_k».proof.Defs
public import proofs.«01_k».proof.Proof.ProjFinal
public import proofs.«01_k».proof.Proof.Gen.ProjRefIdeal.Run

@[expose] public section

set_option maxRecDepth 16384
set_option maxHeartbeats 4000000

noncomputable section

namespace Cert.ProjIdeal.Hand

open Idealize.ShloMosaic Idealize.ShloMosaic.TcCoe Idealize.SL.Sem

/-- The projection and its reference, from equal arguments, end with equal results. -/
theorem algebraic : Cert.algebraic_ProjIdeal_ProjRefIdeal (hProjIdeal := Cert.ProjIdeal.Gen.facts) (hProjRefIdeal := Cert.ProjRefIdeal.Gen.facts) := by
  intro m g m' g' hpre hagree
  refine ⟨fun c => Cert.ProjRefIdeal.Read.val_main_v21 (F := Ideal) (m (c, Cert.ProjIdeal.main_arg0)) (m (c, Cert.ProjIdeal.main_arg1)) (m (c, Cert.ProjIdeal.main_arg2)) (m (c, Cert.ProjIdeal.main_arg3)), fun c => Cert.ProjRefIdeal.Read.val_main_v22 (F := Ideal) (m (c, Cert.ProjIdeal.main_arg0)) (m (c, Cert.ProjIdeal.main_arg1)) (m (c, Cert.ProjIdeal.main_arg2)) (m (c, Cert.ProjIdeal.main_arg3)), fun c => Cert.ProjRefIdeal.Read.val_main_v23 (F := Ideal) (m (c, Cert.ProjIdeal.main_arg0)) (m (c, Cert.ProjIdeal.main_arg1)) (m (c, Cert.ProjIdeal.main_arg2)) (m (c, Cert.ProjIdeal.main_arg3)), fun c => Cert.ProjRefIdeal.Read.val_main_v24 (F := Ideal) (m (c, Cert.ProjIdeal.main_arg0)) (m (c, Cert.ProjIdeal.main_arg1)) (m (c, Cert.ProjIdeal.main_arg2)) (m (c, Cert.ProjIdeal.main_arg3)), fun c => Cert.ProjRefIdeal.Read.val_main_v25 (F := Ideal) (m (c, Cert.ProjIdeal.main_arg0)) (m (c, Cert.ProjIdeal.main_arg1)) (m (c, Cert.ProjIdeal.main_arg2)) (m (c, Cert.ProjIdeal.main_arg3)), fun c => Cert.ProjRefIdeal.Read.val_main_v26 (F := Ideal) (m (c, Cert.ProjIdeal.main_arg0)) (m (c, Cert.ProjIdeal.main_arg1)) (m (c, Cert.ProjIdeal.main_arg2)) (m (c, Cert.ProjIdeal.main_arg3)), fun c => Cert.ProjRefIdeal.Read.val_main_v27 (F := Ideal) (m (c, Cert.ProjIdeal.main_arg0)) (m (c, Cert.ProjIdeal.main_arg1)) (m (c, Cert.ProjIdeal.main_arg2)) (m (c, Cert.ProjIdeal.main_arg3)), fun c => Cert.ProjRefIdeal.Read.val_main_v28 (F := Ideal) (m (c, Cert.ProjIdeal.main_arg0)) (m (c, Cert.ProjIdeal.main_arg1)) (m (c, Cert.ProjIdeal.main_arg2)) (m (c, Cert.ProjIdeal.main_arg3)), ?_, ?_⟩
  · run_from Cert.ProjIdeal.Gen.run_main m g
    · exact final4 m c
    · exact final5 m c
    · exact final6 m c
    · exact final7 m c
    · exact final8 m c
    · exact final9 m c
    · exact final10 m c
    · exact final11 m c
  · refine (θ_run _ _ _).mono (fun r h c => ?_) (Cert.ProjRefIdeal.Value.run m' g')
    obtain ⟨h0, h1, h2, h3⟩ := hagree c
    obtain ⟨r0, r1, r2, r3, r4, r5, r6, r7, a0, a1, a2, a3⟩ := h c
    refine ⟨r0.trans ?_, r1.trans ?_, r2.trans ?_, r3.trans ?_, r4.trans ?_, r5.trans ?_, r6.trans ?_, r7.trans ?_, a0, a1, a2, a3⟩
    · exact (Cert.ProjRefIdeal.Read.val_main_v21_eq ..).trans (by rw [h0, h1, h2, h3])
    · exact (Cert.ProjRefIdeal.Read.val_main_v22_eq ..).trans (by rw [h0, h1, h2, h3])
    · exact (Cert.ProjRefIdeal.Read.val_main_v23_eq ..).trans (by rw [h0, h1, h2, h3])
    · exact (Cert.ProjRefIdeal.Read.val_main_v24_eq ..).trans (by rw [h0, h1, h2, h3])
    · exact (Cert.ProjRefIdeal.Read.val_main_v25_eq ..).trans (by rw [h0, h1, h2, h3])
    · exact (Cert.ProjRefIdeal.Read.val_main_v26_eq ..).trans (by rw [h0, h1, h2, h3])
    · exact (Cert.ProjRefIdeal.Read.val_main_v27_eq ..).trans (by rw [h0, h1, h2, h3])
    · exact (Cert.ProjRefIdeal.Read.val_main_v28_eq ..).trans (by rw [h0, h1, h2, h3])

end Cert.ProjIdeal.Hand
end
-- ==== Proof.Owned.lean ====
/-
  Programs that keep what they own: a program that loads and stores only memrefs its resource lets it, whatever
  they hold, gives the resource back. Nothing is said of the values.
-/
module

public import Idealize.ShloMosaic.Lib.Memref
public import Idealize.ShloMosaic.Lib.Scf
public import Idealize.ShloMosaic.Rules.Step

@[expose] public section

noncomputable section

namespace Cert.Owned

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl]

/-- The program takes `S` to `S`. -/
def Keeps (S : sProp (MT nD τ sig Ix Val Name U Lvl)) (defs : Defs nD τ sig Val Λ) (𝒱 : Variants) (c : Thread nD τ) (E : Set Name) (bd : Option 𝒱.V) {α : Type} (p : Prog (TpuEff nD τ sig Val Λ c.2) α) : Prop :=
  S ⊢ wp frame (wpE defs 𝒱 c bd) E p (fun _ => S)

variable {S : sProp (MT nD τ sig Ix Val Name U Lvl)} {defs : Defs nD τ sig Val Λ} {𝒱 : Variants} {c : Thread nD τ} {E : Set Name} {bd : Option 𝒱.V}

theorem Keeps.pure {α : Type} (v : α) : Keeps S defs 𝒱 c E bd (Pure.pure v : Prog (TpuEff nD τ sig Val Λ c.2) α) := by
  unfold Keeps
  show S ⊢ wp frame (wpE defs 𝒱 c bd) E (.ret v) (fun _ => S)
  rw [wp_ret]
  iintro H; imodintro; iexact H

theorem Keeps.bind {α β : Type} {p : Prog (TpuEff nD τ sig Val Λ c.2) α} {f : α → Prog (TpuEff nD τ sig Val Λ c.2) β}
    (hp : Keeps S defs 𝒱 c E bd p) (hf : ∀ x, Keeps S defs 𝒱 c E bd (f x)) : Keeps S defs 𝒱 c E bd (p >>= f) := by
  unfold Keeps at *
  rw [wp_bind]
  exact hp.trans (wp_mono _ _ _ hf)

variable {s : Shape} {e : EltTy}

/-- The resource can lend the memref's elements, to be given back as they were. -/
def Reads (S : sProp (MT nD τ sig Ix Val Name U Lvl)) (c : Thread nD τ) {sp : Space} {s : Shape} {e : EltTy}
    (m : Memref sig c.2.kind sp s e) : Prop :=
  S ⊢ iprop(∃ f, (m.view.loc c ↦[m.view.set]{fullShare} f) ∗ ((m.view.loc c ↦[m.view.set]{fullShare} f) -∗ S))

/-- The resource can lend the memref's elements, to be given back at any contents. -/
def Writes (S : sProp (MT nD τ sig Ix Val Name U Lvl)) (c : Thread nD τ) {sp : Space} {s : Shape} {e : EltTy}
    (m : Memref sig c.2.kind sp s e) : Prop :=
  S ⊢ iprop(∃ f, (m.view.loc c ↦[m.view.set]{fullShare} f)
    ∗ (∀ g, (m.view.loc c ↦[m.view.set]{fullShare} g) -∗ S))

theorem Writes.reads {cs : Space} {m : Memref sig c.2.kind cs s e} (h : Writes S c m) : Reads S c m := by
  unfold Writes at h
  unfold Reads
  refine h.trans ?_
  iintro ⟨%f, H, HS⟩
  iexists f
  isplitl [H]; · iexact H
  iapply HS

/-- A load of a memref the resource lends. -/
theorem Keeps.load {cs : CoreSpace} {m : Memref sig c.2.kind cs s e} {r : LoadRect s} {hl : m.view.LoadsAt r}
    (hS : Reads S c m) : Keeps S defs 𝒱 c E bd (Prog.lift (.load m r hl)) := by
  unfold Keeps
  show S ⊢ wp frame (wpE defs 𝒱 c bd) E (.op (.load m r hl) .ret) (fun _ => S)
  refine BIBase.Entails.trans hS ?_
  iintro ⟨%f, H, HS⟩
  iapply (wp_load 𝒱 c bd E (S := m.view.set) (m.view.setOn_subset_set _)) $$ H
  iintro H
  rw [wp_ret]
  imodintro
  iapply HS
  iexact H

/-- A store to a memref the resource lends. -/
theorem Keeps.store {cs : CoreSpace} {m : Memref sig c.2.kind cs s e} {r : Rect s} {w : r.shape.Idx → Val e}
    {Mk : Finset r.shape.Idx} {hx : (m.access r).Stores Mk} {hm : Mk = Finset.univ ∨ ∀ a, r.stride a = 1}
    (hS : Writes S c m) : Keeps S defs 𝒱 c E bd (Prog.lift (.store m r w Mk hx hm)) := by
  unfold Keeps
  show S ⊢ wp frame (wpE defs 𝒱 c bd) E (.op (.store m r w Mk hx hm) .ret) (fun _ => S)
  refine BIBase.Entails.trans hS ?_
  iintro ⟨%f, H, HS⟩
  iapply (wp_store 𝒱 c bd E (S := m.view.set)
    (((m.access r).setOn_subset_set _).trans (m.view.set_slice_subset r))) $$ H
  iintro H
  rw [wp_ret]
  imodintro
  iapply HS
  iexact H

/-- A counted loop whose region does. -/
theorem Keeps.loop {w : Nat} {σ : Type} {l : Scf.Loop w} {hok : l.OK} {init : σ}
    {body : Fin l.trips → σ → Prog (TpuEff nD τ sig Val Λ c.2) σ}
    (h : ∀ k acc, Keeps S defs 𝒱 c E bd (body k acc)) : Keeps S defs 𝒱 c E bd (Scf.Loop.for l hok init body) := by
  unfold Keeps at *
  refine BIBase.Entails.trans ?_ (Scf.wp_for frame (wpE defs 𝒱 c bd) E l.lb l.ub l.st hok init body (fun _ _ => S) h)
  iintro H
  isplitl [H]; · iexact H
  iintro %acc H; iexact H

/-- A call whose body does, entered at a variant below the caller's. -/
theorem Keeps.call {ℓ : Λ.Label} {a : Λ.Args ℓ} (v : 𝒱.V) (hv : ∀ u ∈ bd, 𝒱.lt v u)
    (h : Keeps S defs 𝒱 c E (some v) (defs c.2 ℓ a)) : Keeps S defs 𝒱 c E bd (Prog.lift (.call ℓ a)) := by
  unfold Keeps at *
  show S ⊢ wp frame (wpE defs 𝒱 c bd) E (.op (.call ℓ a) .ret) (fun _ => S)
  refine BIBase.Entails.trans (h.trans (wp_mono _ _ _ fun _ => ?_)) (wp_call 𝒱 c bd E v hv)
  rw [wp_ret]
  iintro H; imodintro; iexact H

theorem Keeps.ite {α : Type} {P : Prop} [Decidable P] {p q : Prog (TpuEff nD τ sig Val Λ c.2) α}
    (hp : P → Keeps S defs 𝒱 c E bd p) (hq : ¬ P → Keeps S defs 𝒱 c E bd q) :
    Keeps S defs 𝒱 c E bd (if P then p else q) := by
  split
  · exact hp ‹_›
  · exact hq ‹_›

/-- Beside anything else. -/
theorem Keeps.beside {α : Type} {p : Prog (TpuEff nD τ sig Val Λ c.2) α} (h : Keeps S defs 𝒱 c E bd p) (R : sProp (MT nD τ sig Ix Val Name U Lvl)) :
    iprop(S ∗ R) ⊢ wp frame (wpE defs 𝒱 c bd) E p (fun _ => iprop(S ∗ R)) :=
  (sep_mono_left h).trans (wp_frame_r _ _ _)

/-- The same, with what follows. -/
theorem kept_beside {α : Type} {p : Prog (TpuEff nD τ sig Val Λ c.2) α} {P R : sProp (MT nD τ sig Ix Val Name U Lvl)}
    {Q Q' : sProp (MT nD τ sig Ix Val Name U Lvl)} (h : P ⊢ wp frame (wpE defs 𝒱 c bd) E p (fun _ => Q)) :
    iprop(P ∗ R ∗ (iprop(Q ∗ R) -∗ Q')) ⊢ wp frame (wpE defs 𝒱 c bd) E p (fun _ => Q') := by
  refine BIBase.Entails.trans ((sep_mono_left h).trans (wp_frame_r _ _ _)) (wp_mono _ _ _ fun _ => ?_)
  iintro ⟨HQ, HR, Hk⟩
  iapply Hk
  isplitl [HQ]; · iexact HQ
  iexact HR

/-- Owning a memref lends it for reading. -/
theorem Reads.owns (c : Thread nD τ) {sp : Space} {s : Shape} {e : EltTy} (m : Memref sig c.2.kind sp s e) (X : s.Idx → Val e) :
    Reads (Idealize.ShloMosaic.owns (Ix := Ix) (Name := Name) (U := U) (Lvl := Lvl) c m fullShare X) c m := by
  unfold Reads Idealize.ShloMosaic.owns
  iintro ⟨%f, %hf, H⟩
  iexists f
  isplitl [H]; · iexact H
  iintro H; iexists f
  isplitr; · ipureintro; exact hf
  iexact H

/-- Owning it at anything lends it for writing. -/
theorem Writes.owns (c : Thread nD τ) {sp : Space} {s : Shape} {e : EltTy} (m : Memref sig c.2.kind sp s e) :
    Writes (iprop(∃ d : s.Idx → Val e, Idealize.ShloMosaic.owns (Ix := Ix) (Name := Name) (U := U) (Lvl := Lvl) c m fullShare d)) c m := by
  unfold Writes Idealize.ShloMosaic.owns
  iintro ⟨%d, %f, %hf, H⟩
  iexists f
  isplitl [H]; · iexact H
  iintro %g H; iexists _; iexists g
  isplitr; swap; · iexact H
  ipureintro; rfl

section Beside

variable {T : sProp (MT nD τ sig Ix Val Name U Lvl)} {sp : Space} {m : Memref sig c.2.kind sp s e}

/-- What one of two resources lends, both lend. -/
theorem Reads.left (h : Reads S c m) : Reads iprop(S ∗ T) c m := by
  unfold Reads at *
  refine (sep_mono_left h).trans ?_
  iintro ⟨⟨%f, H, Hk⟩, HT⟩
  iexists f
  isplitl [H]; · iexact H
  iintro H
  isplitr [HT]
  · iapply Hk; iexact H
  iexact HT

theorem Reads.right (h : Reads T c m) : Reads iprop(S ∗ T) c m := by
  unfold Reads at *
  refine (sep_mono_right h).trans ?_
  iintro ⟨HS, ⟨%f, H, Hk⟩⟩
  iexists f
  isplitl [H]; · iexact H
  iintro H
  isplitl [HS]; · iexact HS
  iapply Hk; iexact H

theorem Writes.left (h : Writes S c m) : Writes iprop(S ∗ T) c m := by
  unfold Writes at *
  refine (sep_mono_left h).trans ?_
  iintro ⟨⟨%f, H, Hk⟩, HT⟩
  iexists f
  isplitl [H]; · iexact H
  iintro %g H
  isplitr [HT]
  · iapply Hk; iexact H
  iexact HT

theorem Writes.right (h : Writes T c m) : Writes iprop(S ∗ T) c m := by
  unfold Writes at *
  refine (sep_mono_right h).trans ?_
  iintro ⟨HS, ⟨%f, H, Hk⟩⟩
  iexists f
  isplitl [H]; · iexact H
  iintro %g H
  isplitl [HS]; · iexact HS
  iapply Hk; iexact H

end Beside

end Cert.Owned
end
-- ==== Proof.AttnKeysIdealSearch.lean ====
/-
  The attention body writes only its own buffers: past the fill of the key buffers it loads the query, the gate
  and the scratch, and stores the result and the scratch.
-/
module

public import proofs.«01_k».proof.Proof.Owned
public import proofs.«01_k».proof.Proof.Gen.AttnKeysIdeal.Skeleton
public import Idealize.ShloMosaic.Lib.Claim

@[expose] public section

set_option maxRecDepth 65536

noncomputable section

namespace Cert.AttnKeysIdeal.Run

open Cert.AttnKeysIdeal Cert.AttnKeysIdeal.Gen Cert.Owned
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the attention reads and writes: it only reads the query block and the gate block. -/
structure Lends (S : sProp (MT nD τ sig Unit (Elt F) ℕ (UR sig nD τ) ℕ)) (c : Dev nD)
    (arg2 : Memref sig .tc .vmem S256x896 .f32)
    (arg4 : Memref sig .tc .vmem S256x512 .f32)
    (arg5 : Memref sig .tc .vmem S256x512 .bf16)
    (arg9 : Memref sig .tc .vmem S2048x128 .bf16)
    (arg10 : Memref sig .tc .vmem S8x2x64x256 .bf16)
    (arg11 : Memref sig .tc .vmem S2048x128 .bf16)
    (arg12 : Memref sig .tc .vmem S8x256x256 .f32)
    (arg13 : Memref sig .tc .vmem S2x256x1024 .f32)
    (arg14 : Memref sig .tc .vmem S2x256x1024 .bf16)
    (arg15 : Memref sig .tc .vmem S2x64x1024 .f32) : Prop where
  r2 : Reads S (c : Thread nD τ) arg2
  r4 : Reads S (c : Thread nD τ) arg4
  w5 : Writes S (c : Thread nD τ) arg5
  w9 : Writes S (c : Thread nD τ) arg9
  w10 : Writes S (c : Thread nD τ) arg10
  w11 : Writes S (c : Thread nD τ) arg11
  w12 : Writes S (c : Thread nD τ) arg12
  w13 : Writes S (c : Thread nD τ) arg13
  w14 : Writes S (c : Thread nD τ) arg14
  w15 : Writes S (c : Thread nD τ) arg15

variable {S : sProp (MT nD τ sig Unit (Elt F) ℕ (UR sig nD τ) ℕ)} {c : Dev nD} {E : Set ℕ}

/-- The search's count goes up by one while it is below 2048. -/
theorem count_step (a : BitVec 32) (x : BitVec 1) (h : Scalar.andi (Scalar.cmpi .slt a 2048#32) x = 1#1) :
    ((2048 - a.toInt).toNat ≠ 0) ∧ (2048 - (Scalar.addi a 1#32).toInt).toNat = (2048 - a.toInt).toNat - 1 := by
  have h1 : a.slt 2048#32 = true := by
    by_contra hc
    simp only [Bool.not_eq_true] at hc
    have h0 : Scalar.cmpi .slt a 2048#32 = 0#1 := by
      simp [Scalar.cmpi, IntOp.cmpi, hc]
    rw [h0] at h
    have : ∀ x : BitVec 1, Scalar.andi 0#1 x ≠ 1#1 := by decide
    exact this x h
  have h2 : a.toInt < 2048 := by
    simpa [BitVec.slt] using h1
  have h3 : (Scalar.addi a 1#32).toInt = a.toInt + 1 := by
    show (a + 1#32).toInt = _
    have hl := BitVec.le_toInt a
    rw [BitVec.toInt_add, show (1#32 : BitVec 32).toInt = 1 from by decide, Int.bmod_eq_of_le] <;> omega
  rw [h3]
  omega

set_option maxHeartbeats 4000000 in
/-- The search, entered anywhere: its loops only read the scores. -/
theorem keeps_search_le (i : grid0.Coords) (arg12 : Memref sig .tc .vmem S8x256x256 .f32) (harg12 : arg12.IsWhole) (hS : Reads S (c : Thread nD τ) arg12) (n : ℕ) :
    ∀ (v198 : FVec F S8x256 .f32) (arg16 : BitVec 32) (arg17 : F .f32) (arg18 : FVec F S8x256 .f32) (arg19 : FVec F S8x256 .f32) (arg20 : FVec F S8x256 .f32) (arg21 : FVec F S8x256 .f32),
      (2048 - arg16.toInt).toNat ≤ n →
      Keeps S (defs₀ (F := F)) Variants.nat (c : Thread nD τ) E (some n) (cc0_while1 i arg12 harg12 v198 arg16 arg17 arg18 arg19 arg20 arg21) := by
  induction n with
  | zero =>
    intro v198 arg16 arg17 arg18 arg19 arg20 arg21 hn
    rw [cc0_while1_eq_skeleton]
    unfold cc0_while1_skel
    refine Keeps.ite (fun h => absurd (count_step _ _ h).1 (by omega)) fun _ => Keeps.pure _
  | succ n ih =>
    intro v198 arg16 arg17 arg18 arg19 arg20 arg21 hn
    rw [cc0_while1_eq_skeleton]
    unfold cc0_while1_skel
    refine Keeps.ite (fun h => ?_) fun _ => Keeps.pure _
    refine Keeps.bind ?_ ?_
    · rw [k0_part126_eq_skeleton]
      unfold k0_part126_skel
      refine Keeps.bind (Keeps.loop ?_) ?_
      · rintro _ _
        unfold k0_t6_body
        refine Keeps.bind ?_ ?_
        · rw [k0_part110_eq_skeleton]
          unfold k0_part110_skel
          refine Keeps.bind (Keeps.load hS) ?_
          intro _
          exact Keeps.pure _
        rintro ⟨_, _, _, _, _, _, _, _, _, _, _, _, _, _, _, _, _, _, _, _, _, _, _, _, _, _, _, _, _, _, _, _, _, _⟩
        refine Keeps.bind ?_ ?_
        · rw [k0_part111_eq_skeleton]
          unfold k0_part111_skel
          exact Keeps.pure _
        rintro ⟨_, _, _, _, _, _, _, _, _, _, _, _⟩
        refine Keeps.bind ?_ ?_
        · rw [k0_part112_eq_skeleton]
          unfold k0_part112_skel
          exact Keeps.pure _
        rintro ⟨_, _, _, _, _, _, _, _, _, _, _, _⟩
        refine Keeps.bind ?_ ?_
        · rw [k0_part113_eq_skeleton]
          unfold k0_part113_skel
          exact Keeps.pure _
        rintro ⟨_, _, _, _, _, _, _, _, _, _, _, _, _, _, _, _, _, _, _⟩
        exact Keeps.pure _
      intro _
      refine Keeps.bind (Keeps.loop ?_) ?_
      · rintro _ _
        unfold k0_t7_body
        refine Keeps.bind ?_ ?_
        · rw [k0_part114_eq_skeleton]
          unfold k0_part114_skel
          refine Keeps.bind (Keeps.load hS) ?_
          intro _
          exact Keeps.pure _
        rintro ⟨_, _, _, _, _, _, _, _, _, _, _, _, _, _, _, _, _, _, _, _, _, _, _, _, _, _, _, _, _, _, _, _, _, _⟩
        refine Keeps.bind ?_ ?_
        · rw [k0_part115_eq_skeleton]
          unfold k0_part115_skel
          exact Keeps.pure _
        rintro ⟨_, _, _, _, _, _, _, _, _, _, _, _⟩
        refine Keeps.bind ?_ ?_
        · rw [k0_part116_eq_skeleton]
          unfold k0_part116_skel
          exact Keeps.pure _
        rintro ⟨_, _, _, _, _, _, _, _, _, _, _, _⟩
        refine Keeps.bind ?_ ?_
        · rw [k0_part117_eq_skeleton]
          unfold k0_part117_skel
          exact Keeps.pure _
        rintro ⟨_, _, _, _, _, _, _, _, _, _, _, _, _, _, _, _, _, _, _⟩
        exact Keeps.pure _
      intro _
      refine Keeps.bind (Keeps.loop ?_) ?_
      · rintro _ _
        unfold k0_t8_body
        refine Keeps.bind ?_ ?_
        · rw [k0_part118_eq_skeleton]
          unfold k0_part118_skel
          refine Keeps.bind (Keeps.load hS) ?_
          intro _
          exact Keeps.pure _
        rintro ⟨_, _, _, _, _, _, _, _, _, _, _, _, _, _, _, _, _, _, _, _, _, _, _, _, _, _, _, _, _, _, _, _, _, _⟩
        refine Keeps.bind ?_ ?_
        · rw [k0_part119_eq_skeleton]
          unfold k0_part119_skel
          exact Keeps.pure _
        rintro ⟨_, _, _, _, _, _, _, _, _, _, _, _, _⟩
        refine Keeps.bind ?_ ?_
        · rw [k0_part120_eq_skeleton]
          unfold k0_part120_skel
          exact Keeps.pure _
        rintro ⟨_, _, _, _, _, _, _, _, _, _, _, _, _⟩
        refine Keeps.bind ?_ ?_
        · rw [k0_part121_eq_skeleton]
          unfold k0_part121_skel
          exact Keeps.pure _
        rintro ⟨_, _, _, _, _, _, _, _, _, _, _, _, _, _, _, _, _, _, _⟩
        exact Keeps.pure _
      intro _
      refine Keeps.bind (Keeps.loop ?_) ?_
      · rintro _ _
        unfold k0_t9_body
        refine Keeps.bind ?_ ?_
        · rw [k0_part122_eq_skeleton]
          unfold k0_part122_skel
          refine Keeps.bind (Keeps.load hS) ?_
          intro _
          exact Keeps.pure _
        rintro ⟨_, _, _, _, _, _, _, _, _, _, _, _, _, _, _, _, _, _, _, _, _, _, _, _, _, _, _, _, _, _, _, _, _, _⟩
        refine Keeps.bind ?_ ?_
        · rw [k0_part123_eq_skeleton]
          unfold k0_part123_skel
          exact Keeps.pure _
        rintro ⟨_, _, _, _, _, _, _, _, _, _, _, _, _⟩
        refine Keeps.bind ?_ ?_
        · rw [k0_part124_eq_skeleton]
          unfold k0_part124_skel
          exact Keeps.pure _
        rintro ⟨_, _, _, _, _, _, _, _, _, _, _, _, _⟩
        refine Keeps.bind ?_ ?_
        · rw [k0_part125_eq_skeleton]
          unfold k0_part125_skel
          exact Keeps.pure _
        rintro ⟨_, _, _, _, _, _, _, _, _, _, _, _, _, _, _, _, _, _, _⟩
        exact Keeps.pure _
      intro _
      exact Keeps.pure _
    rintro ⟨_, _, _, _, _⟩
    refine Keeps.call (n : ℕ) (fun u hu => ?_) ?_
    · cases hu; exact Nat.lt_succ_self n
    · exact ih _ _ _ _ _ _ _ (by have := count_step _ _ h; omega)

/-- The search, called from the body. -/
theorem keeps_search {i : grid0.Coords} {arg12 : Memref sig .tc .vmem S8x256x256 .f32} {harg12 : arg12.IsWhole} (hS : Reads S (c : Thread nD τ) arg12)
    {v198 : FVec F S8x256 .f32} {a} {x0} {x1 x2 x3 x4} :
    Keeps S (defs₀ (F := F)) Variants.nat (c : Thread nD τ) E none
      (Prog.lift (.call (1 : (Λ₀ F).Label) ⟨i, arg12, harg12, v198, a, x0, x1, x2, x3, x4⟩)) :=
  Keeps.call ((2048 - a.toInt).toNat : ℕ) (fun _ hu => by cases hu)
    (keeps_search_le i arg12 harg12 hS _ _ _ _ _ _ _ _ le_rfl)

end Cert.AttnKeysIdeal.Run

end
-- ==== Proof.AttnKeysIdealAttend.lean ====
/-
  The attention body writes only its own buffers: past the fill of the key buffers it loads the query, the gate
  and the scratch, and stores the result and the scratch.
-/
module

public import proofs.«01_k».proof.Proof.Owned
public import proofs.«01_k».proof.Proof.AttnKeysIdealSearch
public import Idealize.ShloMosaic.Lib.Claim

@[expose] public section

set_option maxRecDepth 65536

noncomputable section

namespace Cert.AttnKeysIdeal.Run

open Cert.AttnKeysIdeal Cert.AttnKeysIdeal.Gen Cert.Owned
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {S : sProp (MT nD τ sig Unit (Elt F) ℕ (UR sig nD τ) ℕ)} {c : Dev nD} {E : Set ℕ}

variable {i : grid0.Coords} {arg2 : Memref sig .tc .vmem S256x896 .f32} {harg2 : arg2.IsWhole} {arg3 : Memref sig .tc .vmem S2048x384 .f32} {harg3 : arg3.IsWhole} {arg4 : Memref sig .tc .vmem S256x512 .f32} {harg4 : arg4.IsWhole} {arg5 : Memref sig .tc .vmem S256x512 .bf16} {harg5 : arg5.IsWhole} {arg6 : Memref sig .tc .vmem S128x2048 .f32} {harg6 : arg6.IsWhole} {arg7 : Memref sig .tc .vmem S128x2048 .f32} {harg7 : arg7.IsWhole} {arg8 : Memref sig .tc .vmem S64x2048 .f32} {harg8 : arg8.IsWhole} {arg9 : Memref sig .tc .vmem S2048x128 .bf16} {harg9 : arg9.IsWhole} {arg10 : Memref sig .tc .vmem S8x2x64x256 .bf16} {harg10 : arg10.IsWhole} {arg11 : Memref sig .tc .vmem S2048x128 .bf16} {harg11 : arg11.IsWhole} {arg12 : Memref sig .tc .vmem S8x256x256 .f32} {harg12 : arg12.IsWhole} {arg13 : Memref sig .tc .vmem S2x256x1024 .f32} {harg13 : arg13.IsWhole} {arg14 : Memref sig .tc .vmem S2x256x1024 .bf16} {harg14 : arg14.IsWhole} {arg15 : Memref sig .tc .vmem S2x64x1024 .f32} {harg15 : arg15.IsWhole}

set_option maxHeartbeats 4000000 in
theorem keeps_part101 (hS : Lends S c arg2 arg4 arg5 arg9 arg10 arg11 arg12 arg13 arg14 arg15) (v24 : Vec F S256x896 .f32) (v27 : FVec F S256x256 .f32) (v28 : IVec S256x128 32) (c64_i32 : BitVec 32) (v30 : IVec S256x128 32) (v33 : IVec S256x128 32) (v35 : IVec S256x128 1) :
    Keeps S (defs₀ (F := F)) Variants.nat (c : Thread nD τ) E none (k0_part101 i arg2 harg2 arg3 harg3 arg4 harg4 arg5 harg5 arg6 harg6 arg7 harg7 arg8 harg8 arg9 harg9 arg10 harg10 arg11 harg11 arg12 harg12 arg13 harg13 arg14 harg14 arg15 harg15 v24 v27 v28 c64_i32 v30 v33 v35) := by
  rw [k0_part101_eq_skeleton]
  unfold k0_part101_skel
  exact Keeps.pure _

set_option maxHeartbeats 4000000 in
theorem keeps_part102 (hS : Lends S c arg2 arg4 arg5 arg9 arg10 arg11 arg12 arg13 arg14 arg15) (v26 : BitVec 32) (v83 : IVec S256x256 32) :
    Keeps S (defs₀ (F := F)) Variants.nat (c : Thread nD τ) E none (k0_part102 i arg2 harg2 arg3 harg3 arg4 harg4 arg5 harg5 arg6 harg6 arg7 harg7 arg8 harg8 arg9 harg9 arg10 harg10 arg11 harg11 arg12 harg12 arg13 harg13 arg14 harg14 arg15 harg15 v26 v83) := by
  rw [k0_part102_eq_skeleton]
  unfold k0_part102_skel
  exact Keeps.pure _

set_option maxHeartbeats 4000000 in
theorem keeps_part103 (hS : Lends S c arg2 arg4 arg5 arg9 arg10 arg11 arg12 arg13 arg14 arg15) (v23 : BitVec 32) (v26 : BitVec 32) (v73 : FVec F S1024x128 .bf16) (v78 : FVec F S1x256 .f32) (v79 : FVec F S1x256 .f32) (v80 : FVec F S1x256 .f32) (v81 : FVec F S1x256 .f32) (v82 : IVec S256x256 32) (v127 : IVec S256x256 32) (v128 : IVec S256x256 32) :
    Keeps S (defs₀ (F := F)) Variants.nat (c : Thread nD τ) E none (k0_part103 i arg2 harg2 arg3 harg3 arg4 harg4 arg5 harg5 arg6 harg6 arg7 harg7 arg8 harg8 arg9 harg9 arg10 harg10 arg11 harg11 arg12 harg12 arg13 harg13 arg14 harg14 arg15 harg15 v23 v26 v73 v78 v79 v80 v81 v82 v127 v128) := by
  rw [k0_part103_eq_skeleton]
  unfold k0_part103_skel
  refine Keeps.bind (Keeps.loop ?_) ?_
  · rintro _ ⟨_, _⟩
    unfold k0_t1_body
    refine Keeps.bind ?_ ?_
    · rw [k0_part10_eq_skeleton]
      unfold k0_part10_skel
      refine Keeps.bind (Keeps.load hS.w11.reads) ?_
      intro _
      refine Keeps.bind (Keeps.load hS.w12.reads) ?_
      intro _
      refine Keeps.bind (Keeps.store hS.w12) ?_
      intro _
      exact Keeps.pure _
    rintro ⟨_, _, _, _, _⟩
    refine Keeps.bind ?_ ?_
    · rw [k0_part11_eq_skeleton]
      unfold k0_part11_skel
      exact Keeps.pure _
    intro _
    refine Keeps.bind ?_ ?_
    · rw [k0_part12_eq_skeleton]
      unfold k0_part12_skel
      exact Keeps.pure _
    rintro ⟨_, _, _, _, _, _⟩
    exact Keeps.pure _
  rintro ⟨_, _⟩
  refine Keeps.bind (Keeps.loop ?_) ?_
  · rintro _ ⟨_, _⟩
    unfold k0_t2_body
    refine Keeps.bind ?_ ?_
    · rw [k0_part13_eq_skeleton]
      unfold k0_part13_skel
      refine Keeps.bind (Keeps.load hS.w11.reads) ?_
      intro _
      refine Keeps.bind (Keeps.load hS.w12.reads) ?_
      intro _
      refine Keeps.bind (Keeps.store hS.w12) ?_
      intro _
      exact Keeps.pure _
    rintro ⟨_, _, _, _, _⟩
    refine Keeps.bind ?_ ?_
    · rw [k0_part14_eq_skeleton]
      unfold k0_part14_skel
      exact Keeps.pure _
    intro _
    refine Keeps.bind ?_ ?_
    · rw [k0_part15_eq_skeleton]
      unfold k0_part15_skel
      exact Keeps.pure _
    rintro ⟨_, _, _, _, _, _⟩
    exact Keeps.pure _
  rintro ⟨_, _⟩
  exact Keeps.pure _

set_option maxHeartbeats 4000000 in
theorem keeps_part104 (hS : Lends S c arg2 arg4 arg5 arg9 arg10 arg11 arg12 arg13 arg14 arg15) (v140_0 : FVec F S8x256 .f32) (v146 : FVec F S8x256 .f32) (v165 : IVec S8x256 32) (c64_i32_55 : BitVec 32) (v167 : IVec S8x256 32) (v170 : IVec S8x256 32) :
    Keeps S (defs₀ (F := F)) Variants.nat (c : Thread nD τ) E none (k0_part104 i arg2 harg2 arg3 harg3 arg4 harg4 arg5 harg5 arg6 harg6 arg7 harg7 arg8 harg8 arg9 harg9 arg10 harg10 arg11 harg11 arg12 harg12 arg13 harg13 arg14 harg14 arg15 harg15 v140_0 v146 v165 c64_i32_55 v167 v170) := by
  rw [k0_part104_eq_skeleton]
  unfold k0_part104_skel
  exact Keeps.pure _

set_option maxHeartbeats 4000000 in
theorem keeps_part105 (hS : Lends S c arg2 arg4 arg5 arg9 arg10 arg11 arg12 arg13 arg14 arg15) (v23 : BitVec 32) (v24 : Vec F S256x896 .f32) (v82 : IVec S256x256 32) (v101 : IVec S256x256 32) (v131 : IVec S256x256 32) (v198 : FVec F S8x256 .f32) (v204 : FVec F S8x256 .f32) (v210 : FVec F S8x256 .f32) (v211 : FVec F S8x256 .f32) (v212 : FVec F S8x256 .f32) (c0_i32_72 : BitVec 32) :
    Keeps S (defs₀ (F := F)) Variants.nat (c : Thread nD τ) E none (k0_part105 i arg2 harg2 arg3 harg3 arg4 harg4 arg5 harg5 arg6 harg6 arg7 harg7 arg8 harg8 arg9 harg9 arg10 harg10 arg11 harg11 arg12 harg12 arg13 harg13 arg14 harg14 arg15 harg15 v23 v24 v82 v101 v131 v198 v204 v210 v211 v212 c0_i32_72) := by
  rw [k0_part105_eq_skeleton]
  unfold k0_part105_skel
  refine Keeps.bind (Keeps.loop ?_) ?_
  · rintro _ ⟨_, _, _, _⟩
    unfold k0_t3_body
    refine Keeps.bind (Keeps.loop ?_) ?_
    · rintro _ _
      unfold k0_t4_body
      refine Keeps.bind ?_ ?_
      · rw [k0_part16_eq_skeleton]
        unfold k0_part16_skel
        refine Keeps.bind (Keeps.load hS.w12.reads) ?_
        intro _
        exact Keeps.pure _
      rintro ⟨_, _, _, _, _, _, _, _, _, _, _, _, _, _, _, _, _, _, _, _, _, _, _, _, _, _, _, _, _, _, _, _, _, _⟩
      refine Keeps.bind ?_ ?_
      · rw [k0_part17_eq_skeleton]
        unfold k0_part17_skel
        exact Keeps.pure _
      rintro ⟨_, _, _, _, _, _, _, _, _, _, _, _, _⟩
      refine Keeps.bind ?_ ?_
      · rw [k0_part18_eq_skeleton]
        unfold k0_part18_skel
        exact Keeps.pure _
      rintro ⟨_, _, _, _, _, _, _, _, _, _, _, _, _⟩
      refine Keeps.bind ?_ ?_
      · rw [k0_part19_eq_skeleton]
        unfold k0_part19_skel
        exact Keeps.pure _
      rintro ⟨_, _, _, _, _, _, _, _, _, _, _, _, _, _, _, _, _, _, _⟩
      exact Keeps.pure _
    intro _
    refine Keeps.bind (Keeps.loop ?_) ?_
    · rintro _ _
      unfold k0_t5_body
      refine Keeps.bind ?_ ?_
      · rw [k0_part20_eq_skeleton]
        unfold k0_part20_skel
        refine Keeps.bind (Keeps.load hS.w12.reads) ?_
        intro _
        exact Keeps.pure _
      rintro ⟨_, _, _, _, _, _, _, _, _, _, _, _, _, _, _, _, _, _, _, _, _, _, _, _, _, _, _, _, _, _, _, _, _, _⟩
      refine Keeps.bind ?_ ?_
      · rw [k0_part21_eq_skeleton]
        unfold k0_part21_skel
        exact Keeps.pure _
      rintro ⟨_, _, _, _, _, _, _, _, _, _, _, _, _⟩
      refine Keeps.bind ?_ ?_
      · rw [k0_part22_eq_skeleton]
        unfold k0_part22_skel
        exact Keeps.pure _
      rintro ⟨_, _, _, _, _, _, _, _, _, _, _, _, _⟩
      refine Keeps.bind ?_ ?_
      · rw [k0_part23_eq_skeleton]
        unfold k0_part23_skel
        exact Keeps.pure _
      rintro ⟨_, _, _, _, _, _, _, _, _, _, _, _, _, _, _, _, _, _, _⟩
      exact Keeps.pure _
    intro _
    exact Keeps.pure _
  rintro ⟨_, _, _, _⟩
  refine Keeps.bind (keeps_search hS.w12.reads) ?_
  rintro ⟨_, _, _, _, _, _⟩
  refine Keeps.bind (Keeps.loop ?_) ?_
  · rintro _ _
    unfold k0_t10_body
    refine Keeps.bind (Keeps.load hS.w12.reads) ?_
    intro _
    refine Keeps.bind (Keeps.load hS.w12.reads) ?_
    intro _
    refine Keeps.bind (Keeps.store hS.w12) ?_
    intro _
    exact Keeps.pure _
  intro _
  refine Keeps.bind (Keeps.loop ?_) ?_
  · rintro _ _
    unfold k0_t11_body
    refine Keeps.bind (Keeps.load hS.w12.reads) ?_
    intro _
    refine Keeps.bind (Keeps.load hS.w12.reads) ?_
    intro _
    refine Keeps.bind (Keeps.store hS.w12) ?_
    intro _
    exact Keeps.pure _
  intro _
  exact Keeps.pure _

set_option maxHeartbeats 4000000 in
theorem keeps_part106 (hS : Lends S c arg2 arg4 arg5 arg9 arg10 arg11 arg12 arg13 arg14 arg15) (v24 : Vec F S256x896 .f32) (v244 : FVec F S256x256 .f32) (v245 : IVec S256x128 32) (c64_i32_84 : BitVec 32) (v247 : IVec S256x128 32) (v254 : IVec S256x128 32) (v256 : BitVec 32) (v257 : BitVec 1) :
    Keeps S (defs₀ (F := F)) Variants.nat (c : Thread nD τ) E none (k0_part106 i arg2 harg2 arg3 harg3 arg4 harg4 arg5 harg5 arg6 harg6 arg7 harg7 arg8 harg8 arg9 harg9 arg10 harg10 arg11 harg11 arg12 harg12 arg13 harg13 arg14 harg14 arg15 harg15 v24 v244 v245 c64_i32_84 v247 v254 v256 v257) := by
  rw [k0_part106_eq_skeleton]
  unfold k0_part106_skel
  exact Keeps.pure _

set_option maxHeartbeats 4000000 in
theorem keeps_part107 (hS : Lends S c arg2 arg4 arg5 arg9 arg10 arg11 arg12 arg13 arg14 arg15) (v290 : FVec F S256x256 .f32) (v291 : IVec S256x128 32) (c64_i32_99 : BitVec 32) (v293 : IVec S256x128 32) (v300 : IVec S256x128 32) (v302 : BitVec 32) (c0_i32_103 : BitVec 32) :
    Keeps S (defs₀ (F := F)) Variants.nat (c : Thread nD τ) E none (k0_part107 i arg2 harg2 arg3 harg3 arg4 harg4 arg5 harg5 arg6 harg6 arg7 harg7 arg8 harg8 arg9 harg9 arg10 harg10 arg11 harg11 arg12 harg12 arg13 harg13 arg14 harg14 arg15 harg15 v290 v291 c64_i32_99 v293 v300 v302 c0_i32_103) := by
  rw [k0_part107_eq_skeleton]
  unfold k0_part107_skel
  refine Keeps.bind (Keeps.load hS.w15.reads) ?_
  intro _
  refine Keeps.bind (Keeps.store hS.w15) ?_
  intro _
  refine Keeps.bind (Keeps.load hS.w14.reads) ?_
  intro _
  exact Keeps.pure _

set_option maxHeartbeats 4000000 in
theorem keeps_part108 (hS : Lends S c arg2 arg4 arg5 arg9 arg10 arg11 arg12 arg13 arg14 arg15) (v23 : BitVec 32) (v289 : FVec F S1024x128 .bf16) (v335 : FVec F S1024x128 .bf16) (v343 : FVec F S1x256x1024 .bf16) :
    Keeps S (defs₀ (F := F)) Variants.nat (c : Thread nD τ) E none (k0_part108 i arg2 harg2 arg3 harg3 arg4 harg4 arg5 harg5 arg6 harg6 arg7 harg7 arg8 harg8 arg9 harg9 arg10 harg10 arg11 harg11 arg12 harg12 arg13 harg13 arg14 harg14 arg15 harg15 v23 v289 v335 v343) := by
  rw [k0_part108_eq_skeleton]
  unfold k0_part108_skel
  refine Keeps.bind (Keeps.store hS.w14) ?_
  intro _
  refine Keeps.bind (Keeps.loop ?_) ?_
  · rintro _ ⟨_, _, _, _, _, _, _, _, _, _, _, _, _, _, _, _, _⟩
    unfold k0_t12_body
    refine Keeps.bind ?_ ?_
    · rw [k0_part61_eq_skeleton]
      unfold k0_part61_skel
      refine Keeps.bind ?_ ?_
      · rw [k0_part24_eq_skeleton]
        unfold k0_part24_skel
        refine Keeps.bind (Keeps.load hS.w9.reads) ?_
        intro _
        refine Keeps.bind (Keeps.load hS.w12.reads) ?_
        intro _
        refine Keeps.bind (Keeps.load hS.w13.reads) ?_
        intro _
        refine Keeps.bind (Keeps.store hS.w13) ?_
        intro _
        refine Keeps.bind (Keeps.load hS.w13.reads) ?_
        intro _
        refine Keeps.bind (Keeps.store hS.w13) ?_
        intro _
        refine Keeps.bind (Keeps.load hS.w10.reads) ?_
        intro _
        refine Keeps.bind (Keeps.load hS.w14.reads) ?_
        intro _
        refine Keeps.bind (Keeps.load hS.w15.reads) ?_
        intro _
        exact Keeps.pure _
      rintro ⟨_, _, _, _, _, _, _, _, _, _, _⟩
      refine Keeps.bind ?_ ?_
      · rw [k0_part25_eq_skeleton]
        unfold k0_part25_skel
        refine Keeps.bind (Keeps.load hS.w15.reads) ?_
        intro _
        refine Keeps.bind (Keeps.store hS.w15) ?_
        intro _
        refine Keeps.bind (Keeps.load hS.w13.reads) ?_
        intro _
        exact Keeps.pure _
      rintro ⟨_, _, _, _, _, _, _, _, _, _, _, _, _, _, _, _, _, _, _, _, _, _, _, _, _, _, _, _, _, _, _⟩
      refine Keeps.bind ?_ ?_
      · rw [k0_part26_eq_skeleton]
        unfold k0_part26_skel
        exact Keeps.pure _
      rintro ⟨_, _, _, _, _, _, _, _, _, _, _, _, _, _, _, _, _⟩
      refine Keeps.bind ?_ ?_
      · rw [k0_part27_eq_skeleton]
        unfold k0_part27_skel
        exact Keeps.pure _
      rintro ⟨_, _, _, _, _, _, _, _, _, _, _, _, _, _, _, _, _, _, _, _, _, _, _, _, _, _, _, _, _, _, _, _⟩
      refine Keeps.bind ?_ ?_
      · rw [k0_part28_eq_skeleton]
        unfold k0_part28_skel
        exact Keeps.pure _
      rintro ⟨_, _, _, _, _, _, _, _, _, _, _, _, _, _, _, _, _, _, _, _, _, _, _, _, _, _, _, _, _, _, _, _⟩
      refine Keeps.bind ?_ ?_
      · rw [k0_part29_eq_skeleton]
        unfold k0_part29_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _⟩
      refine Keeps.bind ?_ ?_
      · rw [k0_part30_eq_skeleton]
        unfold k0_part30_skel
        exact Keeps.pure _
      rintro ⟨_, _⟩
      refine Keeps.bind ?_ ?_
      · rw [k0_part31_eq_skeleton]
        unfold k0_part31_skel
        exact Keeps.pure _
      rintro ⟨_, _, _, _, _, _, _, _, _, _, _, _, _, _, _, _, _, _, _, _, _, _, _, _, _, _, _, _, _, _, _, _, _, _⟩
      refine Keeps.bind ?_ ?_
      · rw [k0_part32_eq_skeleton]
        unfold k0_part32_skel
        exact Keeps.pure _
      rintro ⟨_, _, _, _, _, _, _, _, _⟩
      refine Keeps.bind ?_ ?_
      · rw [k0_part33_eq_skeleton]
        unfold k0_part33_skel
        exact Keeps.pure _
      intro _
      refine Keeps.bind ?_ ?_
      · rw [k0_part34_eq_skeleton]
        unfold k0_part34_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _, _, _, _, _, _, _, _, _, _, _, _, _, _, _, _, _, _, _, _, _, _⟩
      refine Keeps.bind ?_ ?_
      · rw [k0_part35_eq_skeleton]
        unfold k0_part35_skel
        exact Keeps.pure _
      rintro ⟨_, _, _, _, _, _, _, _, _, _, _, _, _, _, _, _, _, _, _⟩
      refine Keeps.bind ?_ ?_
      · rw [k0_part36_eq_skeleton]
        unfold k0_part36_skel
        exact Keeps.pure _
      rintro ⟨_, _, _, _, _, _, _, _, _, _, _, _, _, _, _, _, _, _, _, _, _, _, _, _, _, _, _, _, _, _, _, _⟩
      refine Keeps.bind ?_ ?_
      · rw [k0_part37_eq_skeleton]
        unfold k0_part37_skel
        exact Keeps.pure _
      rintro ⟨_, _, _, _, _, _, _, _, _, _, _, _, _, _, _, _, _, _, _, _, _, _, _, _, _, _, _, _, _, _⟩
      refine Keeps.bind ?_ ?_
      · rw [k0_part38_eq_skeleton]
        unfold k0_part38_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _⟩
      refine Keeps.bind ?_ ?_
      · rw [k0_part39_eq_skeleton]
        unfold k0_part39_skel
        exact Keeps.pure _
      rintro ⟨_, _⟩
      refine Keeps.bind ?_ ?_
      · rw [k0_part40_eq_skeleton]
        unfold k0_part40_skel
        exact Keeps.pure _
      rintro ⟨_, _, _, _, _, _, _, _, _, _, _, _, _, _, _, _, _, _, _, _, _, _, _, _, _, _, _, _, _, _, _, _, _, _⟩
      refine Keeps.bind ?_ ?_
      · rw [k0_part41_eq_skeleton]
        unfold k0_part41_skel
        exact Keeps.pure _
      rintro ⟨_, _, _, _, _, _, _, _, _, _, _⟩
      refine Keeps.bind ?_ ?_
      · rw [k0_part42_eq_skeleton]
        unfold k0_part42_skel
        exact Keeps.pure _
      rintro ⟨_, _⟩
      refine Keeps.bind ?_ ?_
      · rw [k0_part43_eq_skeleton]
        unfold k0_part43_skel
        refine Keeps.bind (Keeps.load hS.w14.reads) ?_
        intro _
        refine Keeps.bind (Keeps.store hS.w14) ?_
        intro _
        refine Keeps.bind (Keeps.load hS.w10.reads) ?_
        intro _
        refine Keeps.bind (Keeps.load hS.w14.reads) ?_
        intro _
        refine Keeps.bind (Keeps.load hS.w15.reads) ?_
        intro _
        refine Keeps.bind (Keeps.load hS.w15.reads) ?_
        intro _
        refine Keeps.bind (Keeps.store hS.w15) ?_
        intro _
        exact Keeps.pure _
      intro _
      refine Keeps.bind ?_ ?_
      · rw [k0_part44_eq_skeleton]
        unfold k0_part44_skel
        refine Keeps.bind (Keeps.load hS.w13.reads) ?_
        intro _
        exact Keeps.pure _
      rintro ⟨_, _, _, _, _, _, _, _, _, _, _⟩
      refine Keeps.bind ?_ ?_
      · rw [k0_part45_eq_skeleton]
        unfold k0_part45_skel
        exact Keeps.pure _
      rintro ⟨_, _, _, _, _, _, _, _, _, _, _, _, _, _, _, _, _, _, _, _, _, _, _, _, _, _, _, _, _, _, _, _, _, _⟩
      refine Keeps.bind ?_ ?_
      · rw [k0_part46_eq_skeleton]
        unfold k0_part46_skel
        exact Keeps.pure _
      rintro ⟨_, _, _, _, _, _, _, _, _, _, _, _, _, _, _, _, _, _, _, _, _, _, _, _, _, _, _, _, _, _, _⟩
      refine Keeps.bind ?_ ?_
      · rw [k0_part47_eq_skeleton]
        unfold k0_part47_skel
        exact Keeps.pure _
      rintro ⟨_, _, _, _, _, _, _, _, _, _, _, _⟩
      refine Keeps.bind ?_ ?_
      · rw [k0_part48_eq_skeleton]
        unfold k0_part48_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _, _, _, _, _, _, _, _, _, _, _, _, _, _, _, _, _, _, _⟩
      refine Keeps.bind ?_ ?_
      · rw [k0_part49_eq_skeleton]
        unfold k0_part49_skel
        exact Keeps.pure _
      rintro ⟨_, _, _, _, _, _, _, _⟩
      refine Keeps.bind ?_ ?_
      · rw [k0_part50_eq_skeleton]
        unfold k0_part50_skel
        exact Keeps.pure _
      rintro ⟨_, _, _, _, _, _, _, _, _, _, _, _, _, _, _, _, _, _, _, _, _, _, _, _, _, _, _, _, _, _, _, _⟩
      refine Keeps.bind ?_ ?_
      · rw [k0_part51_eq_skeleton]
        unfold k0_part51_skel
        exact Keeps.pure _
      rintro ⟨_, _, _, _, _, _, _, _, _, _, _, _, _, _, _, _, _, _, _, _, _, _, _, _, _, _, _, _, _⟩
      refine Keeps.bind ?_ ?_
      · rw [k0_part52_eq_skeleton]
        unfold k0_part52_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _⟩
      refine Keeps.bind ?_ ?_
      · rw [k0_part53_eq_skeleton]
        unfold k0_part53_skel
        exact Keeps.pure _
      rintro ⟨_, _, _, _, _, _, _, _, _⟩
      refine Keeps.bind ?_ ?_
      · rw [k0_part54_eq_skeleton]
        unfold k0_part54_skel
        exact Keeps.pure _
      rintro ⟨_, _, _, _, _, _, _, _, _, _, _, _, _, _, _, _, _, _, _, _, _, _, _, _, _, _, _, _, _, _, _, _, _, _⟩
      refine Keeps.bind ?_ ?_
      · rw [k0_part55_eq_skeleton]
        unfold k0_part55_skel
        exact Keeps.pure _
      intro _
      refine Keeps.bind ?_ ?_
      · rw [k0_part56_eq_skeleton]
        unfold k0_part56_skel
        exact Keeps.pure _
      rintro ⟨_, _, _, _, _, _, _, _, _⟩
      refine Keeps.bind ?_ ?_
      · rw [k0_part57_eq_skeleton]
        unfold k0_part57_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _, _, _, _, _, _, _, _, _, _, _, _, _, _, _, _, _, _, _, _, _⟩
      refine Keeps.bind ?_ ?_
      · rw [k0_part58_eq_skeleton]
        unfold k0_part58_skel
        exact Keeps.pure _
      rintro ⟨_, _, _, _, _, _, _, _, _, _⟩
      refine Keeps.bind ?_ ?_
      · rw [k0_part59_eq_skeleton]
        unfold k0_part59_skel
        exact Keeps.pure _
      rintro ⟨_, _, _, _, _, _, _, _, _, _, _, _, _, _, _, _, _, _, _, _, _, _, _, _, _, _, _, _, _, _, _, _⟩
      refine Keeps.bind ?_ ?_
      · rw [k0_part60_eq_skeleton]
        unfold k0_part60_skel
        exact Keeps.pure _
      rintro ⟨_, _, _, _, _, _, _, _, _, _, _, _, _, _, _, _, _, _, _, _, _, _, _, _, _, _, _, _, _, _, _⟩
      exact Keeps.pure _
    rintro ⟨_, _, _, _, _, _, _, _, _, _, _, _, _, _, _, _, _, _, _, _, _, _, _, _, _, _, _, _, _, _, _, _, _, _⟩
    refine Keeps.bind (Keeps.load hS.w14.reads) ?_
    intro _
    refine Keeps.bind (Keeps.store hS.w14) ?_
    intro _
    exact Keeps.pure _
  rintro ⟨_, _, _, _, _, _, _, _, _, _, _, _, _, _, _, _, _⟩
  refine Keeps.bind (Keeps.loop ?_) ?_
  · rintro _ ⟨_, _, _, _, _, _, _, _, _, _, _, _, _, _, _, _, _⟩
    unfold k0_t13_body
    refine Keeps.bind ?_ ?_
    · rw [k0_part99_eq_skeleton]
      unfold k0_part99_skel
      refine Keeps.bind ?_ ?_
      · rw [k0_part62_eq_skeleton]
        unfold k0_part62_skel
        refine Keeps.bind (Keeps.load hS.w9.reads) ?_
        intro _
        refine Keeps.bind (Keeps.load hS.w12.reads) ?_
        intro _
        refine Keeps.bind (Keeps.load hS.w13.reads) ?_
        intro _
        refine Keeps.bind (Keeps.store hS.w13) ?_
        intro _
        refine Keeps.bind (Keeps.load hS.w13.reads) ?_
        intro _
        refine Keeps.bind (Keeps.store hS.w13) ?_
        intro _
        refine Keeps.bind (Keeps.load hS.w10.reads) ?_
        intro _
        refine Keeps.bind (Keeps.load hS.w14.reads) ?_
        intro _
        refine Keeps.bind (Keeps.load hS.w15.reads) ?_
        intro _
        exact Keeps.pure _
      rintro ⟨_, _, _, _, _, _, _, _, _, _, _⟩
      refine Keeps.bind ?_ ?_
      · rw [k0_part63_eq_skeleton]
        unfold k0_part63_skel
        refine Keeps.bind (Keeps.load hS.w15.reads) ?_
        intro _
        refine Keeps.bind (Keeps.store hS.w15) ?_
        intro _
        refine Keeps.bind (Keeps.load hS.w13.reads) ?_
        intro _
        exact Keeps.pure _
      rintro ⟨_, _, _, _, _, _, _, _, _, _, _, _, _, _, _, _, _, _, _, _, _, _, _, _, _, _, _, _, _, _, _⟩
      refine Keeps.bind ?_ ?_
      · rw [k0_part64_eq_skeleton]
        unfold k0_part64_skel
        exact Keeps.pure _
      rintro ⟨_, _, _, _, _, _, _, _, _, _, _, _, _, _, _, _, _⟩
      refine Keeps.bind ?_ ?_
      · rw [k0_part65_eq_skeleton]
        unfold k0_part65_skel
        exact Keeps.pure _
      rintro ⟨_, _, _, _, _, _, _, _, _, _, _, _, _, _, _, _, _, _, _, _, _, _, _, _, _, _, _, _, _, _, _, _⟩
      refine Keeps.bind ?_ ?_
      · rw [k0_part66_eq_skeleton]
        unfold k0_part66_skel
        exact Keeps.pure _
      rintro ⟨_, _, _, _, _, _, _, _, _, _, _, _, _, _, _, _, _, _, _, _, _, _, _, _, _, _, _, _, _, _, _, _⟩
      refine Keeps.bind ?_ ?_
      · rw [k0_part67_eq_skeleton]
        unfold k0_part67_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _⟩
      refine Keeps.bind ?_ ?_
      · rw [k0_part68_eq_skeleton]
        unfold k0_part68_skel
        exact Keeps.pure _
      rintro ⟨_, _⟩
      refine Keeps.bind ?_ ?_
      · rw [k0_part69_eq_skeleton]
        unfold k0_part69_skel
        exact Keeps.pure _
      rintro ⟨_, _, _, _, _, _, _, _, _, _, _, _, _, _, _, _, _, _, _, _, _, _, _, _, _, _, _, _, _, _, _, _, _, _⟩
      refine Keeps.bind ?_ ?_
      · rw [k0_part70_eq_skeleton]
        unfold k0_part70_skel
        exact Keeps.pure _
      rintro ⟨_, _, _, _, _, _, _, _, _⟩
      refine Keeps.bind ?_ ?_
      · rw [k0_part71_eq_skeleton]
        unfold k0_part71_skel
        exact Keeps.pure _
      intro _
      refine Keeps.bind ?_ ?_
      · rw [k0_part72_eq_skeleton]
        unfold k0_part72_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _, _, _, _, _, _, _, _, _, _, _, _, _, _, _, _, _, _, _, _, _, _⟩
      refine Keeps.bind ?_ ?_
      · rw [k0_part73_eq_skeleton]
        unfold k0_part73_skel
        exact Keeps.pure _
      rintro ⟨_, _, _, _, _, _, _, _, _, _, _, _, _, _, _, _, _, _, _⟩
      refine Keeps.bind ?_ ?_
      · rw [k0_part74_eq_skeleton]
        unfold k0_part74_skel
        exact Keeps.pure _
      rintro ⟨_, _, _, _, _, _, _, _, _, _, _, _, _, _, _, _, _, _, _, _, _, _, _, _, _, _, _, _, _, _, _, _⟩
      refine Keeps.bind ?_ ?_
      · rw [k0_part75_eq_skeleton]
        unfold k0_part75_skel
        exact Keeps.pure _
      rintro ⟨_, _, _, _, _, _, _, _, _, _, _, _, _, _, _, _, _, _, _, _, _, _, _, _, _, _, _, _, _, _⟩
      refine Keeps.bind ?_ ?_
      · rw [k0_part76_eq_skeleton]
        unfold k0_part76_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _⟩
      refine Keeps.bind ?_ ?_
      · rw [k0_part77_eq_skeleton]
        unfold k0_part77_skel
        exact Keeps.pure _
      rintro ⟨_, _⟩
      refine Keeps.bind ?_ ?_
      · rw [k0_part78_eq_skeleton]
        unfold k0_part78_skel
        exact Keeps.pure _
      rintro ⟨_, _, _, _, _, _, _, _, _, _, _, _, _, _, _, _, _, _, _, _, _, _, _, _, _, _, _, _, _, _, _, _, _, _⟩
      refine Keeps.bind ?_ ?_
      · rw [k0_part79_eq_skeleton]
        unfold k0_part79_skel
        exact Keeps.pure _
      rintro ⟨_, _, _, _, _, _, _, _, _, _, _⟩
      refine Keeps.bind ?_ ?_
      · rw [k0_part80_eq_skeleton]
        unfold k0_part80_skel
        exact Keeps.pure _
      rintro ⟨_, _⟩
      refine Keeps.bind ?_ ?_
      · rw [k0_part81_eq_skeleton]
        unfold k0_part81_skel
        refine Keeps.bind (Keeps.load hS.w14.reads) ?_
        intro _
        refine Keeps.bind (Keeps.store hS.w14) ?_
        intro _
        refine Keeps.bind (Keeps.load hS.w10.reads) ?_
        intro _
        refine Keeps.bind (Keeps.load hS.w14.reads) ?_
        intro _
        refine Keeps.bind (Keeps.load hS.w15.reads) ?_
        intro _
        refine Keeps.bind (Keeps.load hS.w15.reads) ?_
        intro _
        refine Keeps.bind (Keeps.store hS.w15) ?_
        intro _
        exact Keeps.pure _
      intro _
      refine Keeps.bind ?_ ?_
      · rw [k0_part82_eq_skeleton]
        unfold k0_part82_skel
        refine Keeps.bind (Keeps.load hS.w13.reads) ?_
        intro _
        exact Keeps.pure _
      rintro ⟨_, _, _, _, _, _, _, _, _, _, _⟩
      refine Keeps.bind ?_ ?_
      · rw [k0_part83_eq_skeleton]
        unfold k0_part83_skel
        exact Keeps.pure _
      rintro ⟨_, _, _, _, _, _, _, _, _, _, _, _, _, _, _, _, _, _, _, _, _, _, _, _, _, _, _, _, _, _, _, _, _, _⟩
      refine Keeps.bind ?_ ?_
      · rw [k0_part84_eq_skeleton]
        unfold k0_part84_skel
        exact Keeps.pure _
      rintro ⟨_, _, _, _, _, _, _, _, _, _, _, _, _, _, _, _, _, _, _, _, _, _, _, _, _, _, _, _, _, _, _⟩
      refine Keeps.bind ?_ ?_
      · rw [k0_part85_eq_skeleton]
        unfold k0_part85_skel
        exact Keeps.pure _
      rintro ⟨_, _, _, _, _, _, _, _, _, _, _, _⟩
      refine Keeps.bind ?_ ?_
      · rw [k0_part86_eq_skeleton]
        unfold k0_part86_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _, _, _, _, _, _, _, _, _, _, _, _, _, _, _, _, _, _, _⟩
      refine Keeps.bind ?_ ?_
      · rw [k0_part87_eq_skeleton]
        unfold k0_part87_skel
        exact Keeps.pure _
      rintro ⟨_, _, _, _, _, _, _, _⟩
      refine Keeps.bind ?_ ?_
      · rw [k0_part88_eq_skeleton]
        unfold k0_part88_skel
        exact Keeps.pure _
      rintro ⟨_, _, _, _, _, _, _, _, _, _, _, _, _, _, _, _, _, _, _, _, _, _, _, _, _, _, _, _, _, _, _, _⟩
      refine Keeps.bind ?_ ?_
      · rw [k0_part89_eq_skeleton]
        unfold k0_part89_skel
        exact Keeps.pure _
      rintro ⟨_, _, _, _, _, _, _, _, _, _, _, _, _, _, _, _, _, _, _, _, _, _, _, _, _, _, _, _, _⟩
      refine Keeps.bind ?_ ?_
      · rw [k0_part90_eq_skeleton]
        unfold k0_part90_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _⟩
      refine Keeps.bind ?_ ?_
      · rw [k0_part91_eq_skeleton]
        unfold k0_part91_skel
        exact Keeps.pure _
      rintro ⟨_, _, _, _, _, _, _, _, _⟩
      refine Keeps.bind ?_ ?_
      · rw [k0_part92_eq_skeleton]
        unfold k0_part92_skel
        exact Keeps.pure _
      rintro ⟨_, _, _, _, _, _, _, _, _, _, _, _, _, _, _, _, _, _, _, _, _, _, _, _, _, _, _, _, _, _, _, _, _, _⟩
      refine Keeps.bind ?_ ?_
      · rw [k0_part93_eq_skeleton]
        unfold k0_part93_skel
        exact Keeps.pure _
      intro _
      refine Keeps.bind ?_ ?_
      · rw [k0_part94_eq_skeleton]
        unfold k0_part94_skel
        exact Keeps.pure _
      rintro ⟨_, _, _, _, _, _, _, _, _⟩
      refine Keeps.bind ?_ ?_
      · rw [k0_part95_eq_skeleton]
        unfold k0_part95_skel
        refine Keeps.bind (Keeps.load hS.w14.reads) ?_
        intro _
        refine Keeps.bind (Keeps.store hS.w14) ?_
        intro _
        refine Keeps.bind (Keeps.load hS.w13.reads) ?_
        intro _
        exact Keeps.pure _
      rintro ⟨_, _, _, _, _, _, _, _, _, _, _, _, _, _, _, _, _, _, _, _, _, _, _, _, _, _, _, _, _⟩
      refine Keeps.bind ?_ ?_
      · rw [k0_part96_eq_skeleton]
        unfold k0_part96_skel
        exact Keeps.pure _
      rintro ⟨_, _, _, _, _, _, _, _, _, _⟩
      refine Keeps.bind ?_ ?_
      · rw [k0_part97_eq_skeleton]
        unfold k0_part97_skel
        exact Keeps.pure _
      rintro ⟨_, _, _, _, _, _, _, _, _, _, _, _, _, _, _, _, _, _, _, _, _, _, _, _, _, _, _, _, _, _, _, _⟩
      refine Keeps.bind ?_ ?_
      · rw [k0_part98_eq_skeleton]
        unfold k0_part98_skel
        exact Keeps.pure _
      rintro ⟨_, _, _, _, _, _, _, _, _, _, _, _, _, _, _, _, _, _, _, _, _, _, _, _, _, _, _, _, _, _, _⟩
      exact Keeps.pure _
    rintro ⟨_, _, _, _, _, _, _, _, _, _, _, _, _, _, _, _, _, _, _, _, _, _, _, _, _, _, _, _, _, _, _, _, _, _⟩
    refine Keeps.bind (Keeps.load hS.w14.reads) ?_
    intro _
    refine Keeps.bind (Keeps.store hS.w14) ?_
    intro _
    exact Keeps.pure _
  rintro ⟨_, _, _, _, _, _, _, _, _, _, _, _, _, _, _, _, _⟩
  refine Keeps.bind (Keeps.load hS.w10.reads) ?_
  intro _
  refine Keeps.bind (Keeps.load hS.w14.reads) ?_
  intro _
  exact Keeps.pure _

set_option maxHeartbeats 4000000 in
theorem keeps_part109 (hS : Lends S c arg2 arg4 arg5 arg9 arg10 arg11 arg12 arg13 arg14 arg15) (v367_8 : FVec F S8x256 .f32) (v367_9 : FVec F S8x256 .f32) (v367_10 : FVec F S8x256 .f32) (v367_11 : FVec F S8x256 .f32) (v367_16 : FVec F S8x1024 .f32) (v371 : FVec F S64x256 .bf16) (v373 : FVec F S256x1024 .bf16) (cst_149 : FVec F S64x1024 .f32) :
    Keeps S (defs₀ (F := F)) Variants.nat (c : Thread nD τ) E none (k0_part109 i arg2 harg2 arg3 harg3 arg4 harg4 arg5 harg5 arg6 harg6 arg7 harg7 arg8 harg8 arg9 harg9 arg10 harg10 arg11 harg11 arg12 harg12 arg13 harg13 arg14 harg14 arg15 harg15 v367_8 v367_9 v367_10 v367_11 v367_16 v371 v373 cst_149) := by
  rw [k0_part109_eq_skeleton]
  unfold k0_part109_skel
  refine Keeps.bind (Keeps.load hS.w15.reads) ?_
  intro _
  refine Keeps.bind (Keeps.load hS.w15.reads) ?_
  intro _
  refine Keeps.bind (Keeps.store hS.w15) ?_
  intro _
  refine Keeps.bind (Keeps.load hS.w15.reads) ?_
  intro _
  exact Keeps.pure _

/-- Where the keys are not filled, the first part only loads. -/
theorem keeps_first (hS : Lends S c arg2 arg4 arg5 arg9 arg10 arg11 arg12 arg13 arg14 arg15) (h : ¬ k0_cond1 i = 1#1) :
    Keeps S (defs₀ (F := F)) Variants.nat (c : Thread nD τ) E none (k0_part100 i arg2 harg2 arg3 harg3 arg4 harg4 arg5 harg5 arg6 harg6 arg7 harg7 arg8 harg8 arg9 harg9 arg10 harg10 arg11 harg11 arg12 harg12 arg13 harg13 arg14 harg14 arg15 harg15) := by
  rw [k0_part100_eq_skeleton]
  unfold k0_part100_skel
  rw [dif_neg h]
  refine Keeps.bind (Keeps.load hS.r2) ?_
  intro _
  refine Keeps.bind (Keeps.load hS.r4) ?_
  intro _
  exact Keeps.pure _

/-- The body, from what its first part does. -/
theorem body_after {P : sProp (MT nD τ sig Unit (Elt F) ℕ (UR sig nD τ) ℕ)} (hS : Lends S c arg2 arg4 arg5 arg9 arg10 arg11 arg12 arg13 arg14 arg15)
    (hfill : P ⊢ wp frame (wpE (defs₀ (F := F)) Variants.nat (c : Thread nD τ) none) E (k0_part100 i arg2 harg2 arg3 harg3 arg4 harg4 arg5 harg5 arg6 harg6 arg7 harg7 arg8 harg8 arg9 harg9 arg10 harg10 arg11 harg11 arg12 harg12 arg13 harg13 arg14 harg14 arg15 harg15) (fun _ => S)) :
    P ⊢ wp frame (wpE (defs₀ (F := F)) Variants.nat (c : Thread nD τ) none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15) (fun _ => S) := by
  rw [cc0_attn_prompt_eq_skeleton]
  unfold cc0_attn_prompt_skel
  rw [wp_bind]
  refine BIBase.Entails.trans hfill (wp_mono _ _ _ ?_)
  rintro ⟨_, _, _, _, _, _, _, _, _, _⟩
  show Keeps S (defs₀ (F := F)) Variants.nat (c : Thread nD τ) E none _
  refine Keeps.bind ?_ ?_
  · exact keeps_part101 hS _ _ _ _ _ _ _
  rintro ⟨_, _, _, _, _, _, _⟩
  refine Keeps.bind ?_ ?_
  · exact keeps_part102 hS _ _
  rintro ⟨_, _, _⟩
  refine Keeps.bind ?_ ?_
  · exact keeps_part103 hS _ _ _ _ _ _ _ _ _ _
  rintro ⟨_, _, _, _, _, _, _⟩
  refine Keeps.bind ?_ ?_
  · exact keeps_part104 hS _ _ _ _ _ _
  rintro ⟨_, _, _, _, _, _⟩
  refine Keeps.bind ?_ ?_
  · exact keeps_part105 hS _ _ _ _ _ _ _ _ _ _ _
  rintro ⟨_, _, _, _, _, _, _⟩
  refine Keeps.bind ?_ ?_
  · exact keeps_part106 hS _ _ _ _ _ _ _ _
  rintro ⟨_, _, _, _, _, _, _, _⟩
  refine Keeps.bind ?_ ?_
  · exact keeps_part107 hS _ _ _ _ _ _ _
  rintro ⟨_, _⟩
  refine Keeps.bind ?_ ?_
  · exact keeps_part108 hS _ _ _ _
  rintro ⟨_, _, _, _, _, _, _, _, _, _, _, _⟩
  refine Keeps.bind ?_ ?_
  · exact keeps_part109 hS _ _ _ _ _ _ _ _
  rintro ⟨_, _, _⟩
  refine Keeps.bind (Keeps.load hS.w15.reads) ?_
  intro _
  refine Keeps.bind (Keeps.load hS.w5.reads) ?_
  intro _
  refine Keeps.bind (Keeps.store hS.w5) ?_
  intro _
  exact Keeps.pure _

end Cert.AttnKeysIdeal.Run

end
-- ==== Proof.AttnKeysIdealFill.lean ====
/-
  The fill of the key buffers: on a batch's first block the attention transposes the batch's keys, values and
  index keys, 256 positions at a time, into the three buffers written back to its results.
-/
module

public import proofs.«01_k».proof.Proof.Owned
public import proofs.«01_k».proof.Proof.AttnKeysIdealAttend
public import Idealize.ShloMosaic.Lib.Claim
public import Idealize.ShloMosaic.Lib.Pipeline.FrameBody
public import Idealize.ShloMosaic.Lib.Ring
public import Idealize.ShloMosaic.Lib.Tactic

@[expose] public section

set_option maxRecDepth 65536

noncomputable section

namespace Cert.AttnKeysIdeal.Run

open Cert.AttnKeysIdeal Cert.AttnKeysIdeal.Gen Cert.Owned
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

/-- The keys of a batch, position by position along the rows' length. -/
def keysOutStrips (x : Vec F S2048x384 .f32) : List (View.Piece (Elt F) S128x2048 .f32) :=
  [⟨Rect.unit (s := S128x2048) ![0, 1792] S128x256.size inb_S128x2048_S128x256_0_1792, k0_pay9 (View.ld x (Rect.unit (s := S2048x384) ![1792, 0] S256x128.size inb_S2048x384_S256x128_1792_0))⟩,
    ⟨Rect.unit (s := S128x2048) ![0, 1536] S128x256.size inb_S128x2048_S128x256_0_1536, k0_pay9 (View.ld x (Rect.unit (s := S2048x384) ![1536, 0] S256x128.size inb_S2048x384_S256x128_1536_0))⟩,
    ⟨Rect.unit (s := S128x2048) ![0, 1280] S128x256.size inb_S128x2048_S128x256_0_1280, k0_pay9 (View.ld x (Rect.unit (s := S2048x384) ![1280, 0] S256x128.size inb_S2048x384_S256x128_1280_0))⟩,
    ⟨Rect.unit (s := S128x2048) ![0, 1024] S128x256.size inb_S128x2048_S128x256_0_1024, k0_pay9 (View.ld x (Rect.unit (s := S2048x384) ![1024, 0] S256x128.size inb_S2048x384_S256x128_1024_0))⟩,
    ⟨Rect.unit (s := S128x2048) ![0, 768] S128x256.size inb_S128x2048_S128x256_0_768, k0_pay9 (View.ld x (Rect.unit (s := S2048x384) ![768, 0] S256x128.size inb_S2048x384_S256x128_768_0))⟩,
    ⟨Rect.unit (s := S128x2048) ![0, 512] S128x256.size inb_S128x2048_S128x256_0_512, k0_pay9 (View.ld x (Rect.unit (s := S2048x384) ![512, 0] S256x128.size inb_S2048x384_S256x128_512_0))⟩,
    ⟨Rect.unit (s := S128x2048) ![0, 256] S128x256.size inb_S128x2048_S128x256_0_256, k0_pay9 (View.ld x (Rect.unit (s := S2048x384) ![256, 0] S256x128.size inb_S2048x384_S256x128_256_0))⟩,
    ⟨Rect.unit (s := S128x2048) ![0, 0] S128x256.size inb_S128x2048_S128x256_0_0, k0_pay9 (View.ld x (Rect.unit (s := S2048x384) ![0, 0] S256x128.size inb_S2048x384_S256x128_0_0))⟩]

theorem keysOut_cover (x : Vec F S2048x384 .f32) (y : S128x2048.Idx) : ∃ pc ∈ keysOutStrips x, y ∈ pc.1.set :=
  View.cover_of_tiledL (keysOutStrips x) S128x256.size (by sl_kernel_rfl) y

/-- The whole of them. -/
def keysOut (x : Vec F S2048x384 .f32) : Vec F S128x2048 .f32 := View.canon (keysOutStrips x)

/-- The values of a batch, the same way. -/
def valsOutStrips (x : Vec F S2048x384 .f32) : List (View.Piece (Elt F) S128x2048 .f32) :=
  [⟨Rect.unit (s := S128x2048) ![0, 1792] S128x256.size inb_S128x2048_S128x256_0_1792, k0_pay9 (View.ld x (Rect.unit (s := S2048x384) ![1792, 128] S256x128.size inb_S2048x384_S256x128_1792_128))⟩,
    ⟨Rect.unit (s := S128x2048) ![0, 1536] S128x256.size inb_S128x2048_S128x256_0_1536, k0_pay9 (View.ld x (Rect.unit (s := S2048x384) ![1536, 128] S256x128.size inb_S2048x384_S256x128_1536_128))⟩,
    ⟨Rect.unit (s := S128x2048) ![0, 1280] S128x256.size inb_S128x2048_S128x256_0_1280, k0_pay9 (View.ld x (Rect.unit (s := S2048x384) ![1280, 128] S256x128.size inb_S2048x384_S256x128_1280_128))⟩,
    ⟨Rect.unit (s := S128x2048) ![0, 1024] S128x256.size inb_S128x2048_S128x256_0_1024, k0_pay9 (View.ld x (Rect.unit (s := S2048x384) ![1024, 128] S256x128.size inb_S2048x384_S256x128_1024_128))⟩,
    ⟨Rect.unit (s := S128x2048) ![0, 768] S128x256.size inb_S128x2048_S128x256_0_768, k0_pay9 (View.ld x (Rect.unit (s := S2048x384) ![768, 128] S256x128.size inb_S2048x384_S256x128_768_128))⟩,
    ⟨Rect.unit (s := S128x2048) ![0, 512] S128x256.size inb_S128x2048_S128x256_0_512, k0_pay9 (View.ld x (Rect.unit (s := S2048x384) ![512, 128] S256x128.size inb_S2048x384_S256x128_512_128))⟩,
    ⟨Rect.unit (s := S128x2048) ![0, 256] S128x256.size inb_S128x2048_S128x256_0_256, k0_pay9 (View.ld x (Rect.unit (s := S2048x384) ![256, 128] S256x128.size inb_S2048x384_S256x128_256_128))⟩,
    ⟨Rect.unit (s := S128x2048) ![0, 0] S128x256.size inb_S128x2048_S128x256_0_0, k0_pay9 (View.ld x (Rect.unit (s := S2048x384) ![0, 128] S256x128.size inb_S2048x384_S256x128_0_128))⟩]

theorem valsOut_cover (x : Vec F S2048x384 .f32) (y : S128x2048.Idx) : ∃ pc ∈ valsOutStrips x, y ∈ pc.1.set :=
  View.cover_of_tiledL (valsOutStrips x) S128x256.size (by sl_kernel_rfl) y

/-- The whole of them. -/
def valsOut (x : Vec F S2048x384 .f32) : Vec F S128x2048 .f32 := View.canon (valsOutStrips x)

/-- The index keys of a batch, the same way. -/
def idxOutStrips (x : Vec F S2048x384 .f32) : List (View.Piece (Elt F) S64x2048 .f32) :=
  [⟨Rect.unit (s := S64x2048) ![0, 1792] S64x256.size inb_S64x2048_S64x256_0_1792, k0_pay10 (View.ld x (Rect.unit (s := S2048x384) ![1792, 256] S256x128.size inb_S2048x384_S256x128_1792_256))⟩,
    ⟨Rect.unit (s := S64x2048) ![0, 1536] S64x256.size inb_S64x2048_S64x256_0_1536, k0_pay10 (View.ld x (Rect.unit (s := S2048x384) ![1536, 256] S256x128.size inb_S2048x384_S256x128_1536_256))⟩,
    ⟨Rect.unit (s := S64x2048) ![0, 1280] S64x256.size inb_S64x2048_S64x256_0_1280, k0_pay10 (View.ld x (Rect.unit (s := S2048x384) ![1280, 256] S256x128.size inb_S2048x384_S256x128_1280_256))⟩,
    ⟨Rect.unit (s := S64x2048) ![0, 1024] S64x256.size inb_S64x2048_S64x256_0_1024, k0_pay10 (View.ld x (Rect.unit (s := S2048x384) ![1024, 256] S256x128.size inb_S2048x384_S256x128_1024_256))⟩,
    ⟨Rect.unit (s := S64x2048) ![0, 768] S64x256.size inb_S64x2048_S64x256_0_768, k0_pay10 (View.ld x (Rect.unit (s := S2048x384) ![768, 256] S256x128.size inb_S2048x384_S256x128_768_256))⟩,
    ⟨Rect.unit (s := S64x2048) ![0, 512] S64x256.size inb_S64x2048_S64x256_0_512, k0_pay10 (View.ld x (Rect.unit (s := S2048x384) ![512, 256] S256x128.size inb_S2048x384_S256x128_512_256))⟩,
    ⟨Rect.unit (s := S64x2048) ![0, 256] S64x256.size inb_S64x2048_S64x256_0_256, k0_pay10 (View.ld x (Rect.unit (s := S2048x384) ![256, 256] S256x128.size inb_S2048x384_S256x128_256_256))⟩,
    ⟨Rect.unit (s := S64x2048) ![0, 0] S64x256.size inb_S64x2048_S64x256_0_0, k0_pay10 (View.ld x (Rect.unit (s := S2048x384) ![0, 256] S256x128.size inb_S2048x384_S256x128_0_256))⟩]

theorem idxOut_cover (x : Vec F S2048x384 .f32) (y : S64x2048.Idx) : ∃ pc ∈ idxOutStrips x, y ∈ pc.1.set :=
  View.cover_of_tiledL (idxOutStrips x) S64x256.size (by sl_kernel_rfl) y

/-- The whole of them. -/
def idxOut (x : Vec F S2048x384 .f32) : Vec F S64x2048 .f32 := View.canon (idxOutStrips x)

set_option maxHeartbeats 8000000 in
/-- The fill leaves the three buffers at the batch's transposed keys, values and index keys. -/
theorem fill (c : Dev nD) (E : Set ℕ) (i : grid0.Coords) (arg2 : Memref sig .tc .vmem S256x896 .f32) (harg2 : arg2.IsWhole) (arg3 : Memref sig .tc .vmem S2048x384 .f32) (harg3 : arg3.IsWhole) (arg4 : Memref sig .tc .vmem S256x512 .f32) (harg4 : arg4.IsWhole) (arg5 : Memref sig .tc .vmem S256x512 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S64x2048 .f32) (harg8 : arg8.IsWhole) (arg9 : Memref sig .tc .vmem S2048x128 .bf16) (harg9 : arg9.IsWhole) (arg10 : Memref sig .tc .vmem S8x2x64x256 .bf16) (harg10 : arg10.IsWhole) (arg11 : Memref sig .tc .vmem S2048x128 .bf16) (harg11 : arg11.IsWhole) (arg12 : Memref sig .tc .vmem S8x256x256 .f32) (harg12 : arg12.IsWhole) (arg13 : Memref sig .tc .vmem S2x256x1024 .f32) (harg13 : arg13.IsWhole) (arg14 : Memref sig .tc .vmem S2x256x1024 .bf16) (harg14 : arg14.IsWhole) (arg15 : Memref sig .tc .vmem S2x64x1024 .f32) (harg15 : arg15.IsWhole) (h : k0_cond1 i = 1#1)
    (x2 : Vec F S256x896 .f32) (x3 : Vec F S2048x384 .f32) (x4 : Vec F S256x512 .f32) (K : _ → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (∀ v, iprop(owns (c : Thread nD τ) arg2 fullShare x2 ∗ owns (c : Thread nD τ) arg3 fullShare x3 ∗ owns (c : Thread nD τ) arg4 fullShare x4
          ∗ owns (c : Thread nD τ) arg6 fullShare (keysOut x3) ∗ owns (c : Thread nD τ) arg7 fullShare (valsOut x3) ∗ owns (c : Thread nD τ) arg8 fullShare (idxOut x3)
          ∗ (∃ d, owns (c : Thread nD τ) arg9 fullShare d) ∗ (∃ d, owns (c : Thread nD τ) arg10 fullShare d) ∗ (∃ d, owns (c : Thread nD τ) arg11 fullShare d)) -∗ K v))
      ⊢ wp frame (wpE (defs₀ (F := F)) Variants.nat (c : Thread nD τ) none) E (k0_part100 i arg2 harg2 arg3 harg3 arg4 harg4 arg5 harg5 arg6 harg6 arg7 harg7 arg8 harg8 arg9 harg9 arg10 harg10 arg11 harg11 arg12 harg12 arg13 harg13 arg14 harg14 arg15 harg15) K := by
  simp only [k0_part100_eq_skeleton]; unfold k0_part100_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact (View.read_writes_eq_canon arg6.view f6 (keysOutStrips (arg3.view.read (Elt F) f3)) (keysOut_cover _)).trans rfl
  isplitl [H7]
  · iexists _; isplitr
    swap; · iexact H7
    ipureintro
    exact (View.read_writes_eq_canon arg7.view f7 (valsOutStrips (arg3.view.read (Elt F) f3)) (valsOut_cover _)).trans rfl
  isplitl [H8]
  · iexists _; isplitr
    swap; · iexact H8
    ipureintro
    exact (View.read_writes_eq_canon arg8.view f8 (idxOutStrips (arg3.view.read (Elt F) f3)) (idxOut_cover _)).trans rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

end Cert.AttnKeysIdeal.Run

end
-- ==== Proof.AttnKeysIdealFrame.lean ====
/-
  The run of the attention's call, for the keys it lays out. At a batch's first block the key buffers are filled; at
  the batch's other blocks they are left alone, and after its last they are written back. Of the attention's own
  result nothing is said: it is some block at every point.
-/
module

public import proofs.«01_k».proof.Proof.AttnKeysIdealFill
public import proofs.«01_k».proof.Proof.Gen.AttnKeysIdeal.Launch
public import proofs.«01_k».proof.Proof.Gen.AttnKeysIdeal.Points
public import Idealize.ShloMosaic.Lib.Pipeline.TableIdle
public import Idealize.ShloMosaic.Lib.WordCmp
public import Idealize.ShloMosaic.PureOps

@[expose] public section

set_option maxRecDepth 16384

noncomputable section

namespace Cert.AttnKeysIdeal.Run

open Cert.AttnKeysIdeal Cert.AttnKeysIdeal.Gen Cert.Owned
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one point -/

/-- What the body holds once the key buffers are right: the query, the key and the gate block as they came, the key
    buffers at `y6`, `y7`, `y8`, and its own buffers at anything. -/
abbrev held (c : Dev nD) (arg2 : Memref sig .tc .vmem S256x896 .f32) (arg3 : Memref sig .tc .vmem S2048x384 .f32) (arg4 : Memref sig .tc .vmem S256x512 .f32) (arg5 : Memref sig .tc .vmem S256x512 .bf16) (arg6 : Memref sig .tc .vmem S128x2048 .f32) (arg7 : Memref sig .tc .vmem S128x2048 .f32) (arg8 : Memref sig .tc .vmem S64x2048 .f32) (arg9 : Memref sig .tc .vmem S2048x128 .bf16) (arg10 : Memref sig .tc .vmem S8x2x64x256 .bf16) (arg11 : Memref sig .tc .vmem S2048x128 .bf16) (arg12 : Memref sig .tc .vmem S8x256x256 .f32) (arg13 : Memref sig .tc .vmem S2x256x1024 .f32) (arg14 : Memref sig .tc .vmem S2x256x1024 .bf16) (arg15 : Memref sig .tc .vmem S2x64x1024 .f32) (x2 : Vec F S256x896 .f32) (x3 : Vec F S2048x384 .f32) (x4 : Vec F S256x512 .f32)
    (y6 : Vec F S128x2048 .f32) (y7 : Vec F S128x2048 .f32) (y8 : Vec F S64x2048 .f32) : sProp 𝕄 :=
  iprop(owns (c : Thread nD τ) arg2 fullShare x2 ∗ owns (c : Thread nD τ) arg4 fullShare x4 ∗ (∃ d, owns (c : Thread nD τ) arg5 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg3 fullShare x3 ∗ owns (c : Thread nD τ) arg6 fullShare y6 ∗ owns (c : Thread nD τ) arg7 fullShare y7 ∗ owns (c : Thread nD τ) arg8 fullShare y8)

set_option maxHeartbeats 2000000 in
/-- It lends the body what the body asks for. -/
theorem lends (c : Dev nD) (arg2 : Memref sig .tc .vmem S256x896 .f32) (arg3 : Memref sig .tc .vmem S2048x384 .f32) (arg4 : Memref sig .tc .vmem S256x512 .f32) (arg5 : Memref sig .tc .vmem S256x512 .bf16) (arg6 : Memref sig .tc .vmem S128x2048 .f32) (arg7 : Memref sig .tc .vmem S128x2048 .f32) (arg8 : Memref sig .tc .vmem S64x2048 .f32) (arg9 : Memref sig .tc .vmem S2048x128 .bf16) (arg10 : Memref sig .tc .vmem S8x2x64x256 .bf16) (arg11 : Memref sig .tc .vmem S2048x128 .bf16) (arg12 : Memref sig .tc .vmem S8x256x256 .f32) (arg13 : Memref sig .tc .vmem S2x256x1024 .f32) (arg14 : Memref sig .tc .vmem S2x256x1024 .bf16) (arg15 : Memref sig .tc .vmem S2x64x1024 .f32) (x2 : Vec F S256x896 .f32) (x3 : Vec F S2048x384 .f32) (x4 : Vec F S256x512 .f32)
    (y6 : Vec F S128x2048 .f32) (y7 : Vec F S128x2048 .f32) (y8 : Vec F S64x2048 .f32) :
    Lends (held c arg2 arg3 arg4 arg5 arg6 arg7 arg8 arg9 arg10 arg11 arg12 arg13 arg14 arg15 x2 x3 x4 y6 y7 y8) c arg2 arg4 arg5 arg9 arg10 arg11 arg12 arg13 arg14 arg15 where
  r2 := Reads.left (Reads.owns (c : Thread nD τ) arg2 x2)
  r4 := Reads.right (Reads.left (Reads.owns (c : Thread nD τ) arg4 x4))
  w5 := Writes.right (Writes.right (Writes.left (Writes.owns (c : Thread nD τ) arg5)))
  w9 := Writes.right (Writes.right (Writes.right (Writes.left (Writes.owns (c : Thread nD τ) arg9))))
  w10 := Writes.right (Writes.right (Writes.right (Writes.right (Writes.left (Writes.owns (c : Thread nD τ) arg10)))))
  w11 := Writes.right (Writes.right (Writes.right (Writes.right (Writes.right (Writes.left (Writes.owns (c : Thread nD τ) arg11))))))
  w12 := Writes.right (Writes.right (Writes.right (Writes.right (Writes.right (Writes.right (Writes.left (Writes.owns (c : Thread nD τ) arg12)))))))
  w13 := Writes.right (Writes.right (Writes.right (Writes.right (Writes.right (Writes.right (Writes.right (Writes.left (Writes.owns (c : Thread nD τ) arg13))))))))
  w14 := Writes.right (Writes.right (Writes.right (Writes.right (Writes.right (Writes.right (Writes.right (Writes.right (Writes.left (Writes.owns (c : Thread nD τ) arg14)))))))))
  w15 := Writes.right (Writes.right (Writes.right (Writes.right (Writes.right (Writes.right (Writes.right (Writes.right (Writes.right (Writes.left (Writes.owns (c : Thread nD τ) arg15))))))))))

set_option maxHeartbeats 4000000 in
/-- At a batch's first block the body leaves the key buffers filled, -/
theorem kernel_first (c : Dev nD) (E : Set ℕ) (i : grid0.Coords) (arg2 : Memref sig .tc .vmem S256x896 .f32) (harg2 : arg2.IsWhole) (arg3 : Memref sig .tc .vmem S2048x384 .f32) (harg3 : arg3.IsWhole) (arg4 : Memref sig .tc .vmem S256x512 .f32) (harg4 : arg4.IsWhole) (arg5 : Memref sig .tc .vmem S256x512 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S64x2048 .f32) (harg8 : arg8.IsWhole) (arg9 : Memref sig .tc .vmem S2048x128 .bf16) (harg9 : arg9.IsWhole) (arg10 : Memref sig .tc .vmem S8x2x64x256 .bf16) (harg10 : arg10.IsWhole) (arg11 : Memref sig .tc .vmem S2048x128 .bf16) (harg11 : arg11.IsWhole) (arg12 : Memref sig .tc .vmem S8x256x256 .f32) (harg12 : arg12.IsWhole) (arg13 : Memref sig .tc .vmem S2x256x1024 .f32) (harg13 : arg13.IsWhole) (arg14 : Memref sig .tc .vmem S2x256x1024 .bf16) (harg14 : arg14.IsWhole) (arg15 : Memref sig .tc .vmem S2x64x1024 .f32) (harg15 : arg15.IsWhole) (h : k0_cond1 i = 1#1)
    (x2 : Vec F S256x896 .f32) (x3 : Vec F S2048x384 .f32) (x4 : Vec F S256x512 .f32) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
      ⊢ wp frame (wpE (defs₀ (F := F)) Variants.nat (c : Thread nD τ) none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15)
          (fun _ => held c arg2 arg3 arg4 arg5 arg6 arg7 arg8 arg9 arg10 arg11 arg12 arg13 arg14 arg15 x2 x3 x4 (keysOut x3) (valsOut x3) (idxOut x3)) := by
  refine body_after (lends c arg2 arg3 arg4 arg5 arg6 arg7 arg8 arg9 arg10 arg11 arg12 arg13 arg14 arg15 x2 x3 x4 _ _ _) ?_
  iintro ⟨H2, H3, H4, H5, H6, H7, H8, H9, H10, H11, H12, H13, H14, H15⟩
  iapply (fill c E i arg2 harg2 arg3 harg3 arg4 harg4 arg5 harg5 arg6 harg6 arg7 harg7 arg8 harg8 arg9 harg9 arg10 harg10 arg11 harg11 arg12 harg12 arg13 harg13 arg14 harg14 arg15 harg15 h x2 x3 x4 _)
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  iintro %v ⟨H2, H3, H4, H6, H7, H8, H9, H10, H11⟩
  isplitl [H2]; · iexact H2
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H3]; · iexact H3
  isplitl [H6]; · iexact H6
  isplitl [H7]; · iexact H7
  iexact H8

/-- and at its other blocks it leaves them alone. -/
theorem kernel_later (c : Dev nD) (E : Set ℕ) (i : grid0.Coords) (arg2 : Memref sig .tc .vmem S256x896 .f32) (harg2 : arg2.IsWhole) (arg3 : Memref sig .tc .vmem S2048x384 .f32) (harg3 : arg3.IsWhole) (arg4 : Memref sig .tc .vmem S256x512 .f32) (harg4 : arg4.IsWhole) (arg5 : Memref sig .tc .vmem S256x512 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S64x2048 .f32) (harg8 : arg8.IsWhole) (arg9 : Memref sig .tc .vmem S2048x128 .bf16) (harg9 : arg9.IsWhole) (arg10 : Memref sig .tc .vmem S8x2x64x256 .bf16) (harg10 : arg10.IsWhole) (arg11 : Memref sig .tc .vmem S2048x128 .bf16) (harg11 : arg11.IsWhole) (arg12 : Memref sig .tc .vmem S8x256x256 .f32) (harg12 : arg12.IsWhole) (arg13 : Memref sig .tc .vmem S2x256x1024 .f32) (harg13 : arg13.IsWhole) (arg14 : Memref sig .tc .vmem S2x256x1024 .bf16) (harg14 : arg14.IsWhole) (arg15 : Memref sig .tc .vmem S2x64x1024 .f32) (harg15 : arg15.IsWhole) (h : ¬ k0_cond1 i = 1#1)
    (x2 : Vec F S256x896 .f32) (x3 : Vec F S2048x384 .f32) (x4 : Vec F S256x512 .f32)
    (y6 : Vec F S128x2048 .f32) (y7 : Vec F S128x2048 .f32) (y8 : Vec F S64x2048 .f32) :
    held c arg2 arg3 arg4 arg5 arg6 arg7 arg8 arg9 arg10 arg11 arg12 arg13 arg14 arg15 x2 x3 x4 y6 y7 y8
      ⊢ wp frame (wpE (defs₀ (F := F)) Variants.nat (c : Thread nD τ) none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15)
          (fun _ => held c arg2 arg3 arg4 arg5 arg6 arg7 arg8 arg9 arg10 arg11 arg12 arg13 arg14 arg15 x2 x3 x4 y6 y7 y8) :=
  body_after (lends c arg2 arg3 arg4 arg5 arg6 arg7 arg8 arg9 arg10 arg11 arg12 arg13 arg14 arg15 x2 x3 x4 y6 y7 y8) (keeps_first (lends c arg2 arg3 arg4 arg5 arg6 arg7 arg8 arg9 arg10 arg11 arg12 arg13 arg14 arg15 x2 x3 x4 y6 y7 y8) h)

/-! ## What the call finds -/

/-- The arrays as the call finds them: nothing runs before it. -/
abbrev V (c : Dev nD) (b : Ref sig .tc) : Buf (Elt F) ((c : Thread nD τ).loc b) := m ((c.tc : Thread nD τ).loc b)

/-- The whole program is the call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's buffer holds its block at every point, fetched there or not. -/
theorem held_0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not. -/
theorem held_2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The key window's blocks do not tile its array, but no block the grid reaches overhangs it. -/
theorem kv_size : ∀ t : Fin (cfg0 (F := F)).N, ∀ a, ((cfg0 (F := F)).win 1).xsize ((cfg0 (F := F)).grid.coords t) a = ((cfg0 (F := F)).win 1).size a :=
  (by decide +kernel : ∀ t : Fin grid0.N, ∀ a, win0_1.xsize (grid0.coords t) a = win0_1.size a)
/-- So every entry of its buffer is fetched, -/
theorem kv_moved (t : Fin (cfg0 (F := F)).N) (j : ((cfg0 (F := F)).win 1).block.Idx) : ((cfg0 (F := F)).win 1).moved ((cfg0 (F := F)).grid.coords t) j = true :=
  (((cfg0 (F := F)).win 1).moved_iff _ j).mpr fun a => by rw [kv_size t a]; exact (j a).isLt
/-- whatever it held. -/
theorem kv_fill (t : Fin (cfg0 (F := F)).N) (d d' : ((cfg0 (F := F)).win 1).block.Idx → Elt F ((cfg0 (F := F)).win 1).elt) (g) :
    ((cfg0 (F := F)).win 1).fill ((cfg0 (F := F)).grid.coords t) d g = ((cfg0 (F := F)).win 1).fill ((cfg0 (F := F)).grid.coords t) d' g := by
  funext j; unfold Pipeline.Window.fill; rw [dif_pos (kv_moved t j), dif_pos (kv_moved t j)]

/-- What stands where nothing is fetched: nowhere. -/
def rest : ((cfg0 (F := F)).win 1).block.Idx → Elt F ((cfg0 (F := F)).win 1).elt := fun _ => Classical.choice (Elt.nonempty F _)

/-- The key window's buffer at point `t`. -/
def kv (c : Dev nD) (t : Fin (cfg0 (F := F)).N) : Vec F S2048x384 .f32 := ((cfg0 (F := F)).win 1).fill ((cfg0 (F := F)).grid.coords t) rest (iblk m c 1 t)

/-- It holds that at every point, fetched there or not. -/
theorem held_1 {c : Dev nD} (dat : Dat τ (Elt F) Unit ℕ (UR sig nD τ) ℕ (cfg0 (F := F)) c) (hA : dat.A 1 = V m c (Pipeline.arrRef spec0 1))
    (hafter : ∀ t, dat.after 1 t = kv m c t) (t : Fin (cfg0 (F := F)).N) (d) : dat.before 1 t d = kv m c t :=
  (dat.before_in_eq_fetched 1 rfl (fun _ => rfl)
      (fun t t' h => funext fun a => congrArg (fun n => Pipeline.Clip.of n (((cfg0 (F := F)).win 1).size a) (S17408x384.size a)) (congrFun h a))
      (fun t => by rw [hafter]; exact (((cfg0 (F := F)).win 1).cut_fill _ _ _).trans (by unfold Dat.blockOf iblk; rw [hA]; try rfl)) t d).trans
    ((kv_fill t d rest _).trans (by unfold kv Dat.blockOf iblk; rw [hA]; try rfl))

/-! ## The schedule -/

/-- The key buffers are filled at a batch's first block. -/
theorem cond_first : ∀ t : Fin (cfg0 (F := F)).N, k0_cond1 (grid0.coords t) = 1#1 ↔ t.val % 8 = 0 :=
  (by decide +kernel : ∀ t : Fin grid0.N, k0_cond1 (grid0.coords t) = 1#1 ↔ t.val % 8 = 0)

/-- Window 4 is left alone at a batch's other blocks. -/
theorem idle_keys (t : Fin (cfg0 (F := F)).N) : (cfg0 (F := F)).idle 4 ((cfg0 (F := F)).grid.coords t) = decide (t.val % 8 ≠ 0) := by
  show (!(k0_cond1 (grid0.coords t) == 1#1)) = _
  by_cases h : t.val % 8 = 0
  · rw [(cond_first t).mpr h]; simp [h]
  · have h' := mt (cond_first t).mp h
    rw [beq_eq_false_iff_ne.mpr h']; simp [h]

/-- It is not written back before the batch's last block, -/
theorem flush_keys (t : Fin (cfg0 (F := F)).N) (h : t.val % 8 ≠ 7) : ((cfg0 (F := F)).win 4).flush t = false :=
  Bool.eq_false_iff.mpr fun e => h ((flush0_4 (F := F) t).mp e)
/-- and never fetched. -/
theorem fetch_keys : ∀ t : Fin (cfg0 (F := F)).N, ((cfg0 (F := F)).win 4).fetch t = false :=
  (by decide +kernel : ∀ t : Fin grid0.N, win0_4.fetch t = false)

/-- Window 5 is left alone at a batch's other blocks. -/
theorem idle_vals (t : Fin (cfg0 (F := F)).N) : (cfg0 (F := F)).idle 5 ((cfg0 (F := F)).grid.coords t) = decide (t.val % 8 ≠ 0) := by
  show (!(k0_cond1 (grid0.coords t) == 1#1)) = _
  by_cases h : t.val % 8 = 0
  · rw [(cond_first t).mpr h]; simp [h]
  · have h' := mt (cond_first t).mp h
    rw [beq_eq_false_iff_ne.mpr h']; simp [h]

/-- It is not written back before the batch's last block, -/
theorem flush_vals (t : Fin (cfg0 (F := F)).N) (h : t.val % 8 ≠ 7) : ((cfg0 (F := F)).win 5).flush t = false :=
  Bool.eq_false_iff.mpr fun e => h ((flush0_5 (F := F) t).mp e)
/-- and never fetched. -/
theorem fetch_vals : ∀ t : Fin (cfg0 (F := F)).N, ((cfg0 (F := F)).win 5).fetch t = false :=
  (by decide +kernel : ∀ t : Fin grid0.N, win0_5.fetch t = false)

/-- Window 6 is left alone at a batch's other blocks. -/
theorem idle_idx (t : Fin (cfg0 (F := F)).N) : (cfg0 (F := F)).idle 6 ((cfg0 (F := F)).grid.coords t) = decide (t.val % 8 ≠ 0) := by
  show (!(k0_cond1 (grid0.coords t) == 1#1)) = _
  by_cases h : t.val % 8 = 0
  · rw [(cond_first t).mpr h]; simp [h]
  · have h' := mt (cond_first t).mp h
    rw [beq_eq_false_iff_ne.mpr h']; simp [h]

/-- It is not written back before the batch's last block, -/
theorem flush_idx (t : Fin (cfg0 (F := F)).N) (h : t.val % 8 ≠ 7) : ((cfg0 (F := F)).win 6).flush t = false :=
  Bool.eq_false_iff.mpr fun e => h ((flush0_6 (F := F) t).mp e)
/-- and never fetched. -/
theorem fetch_idx : ∀ t : Fin (cfg0 (F := F)).N, ((cfg0 (F := F)).win 6).fetch t = false :=
  (by decide +kernel : ∀ t : Fin grid0.N, win0_6.fetch t = false)

/-! ## The proof data -/

set_option backward.isDefEq.respectTransparency.types false

/-- The first block of the batch of block `t`. -/
abbrev upto (t : Fin (cfg0 (F := F)).N) : Fin (cfg0 (F := F)).N := ⟨8 * (t.val / 8), by have := t.isLt; omega⟩

/-- The windows of which nothing is said: the attention's own result. -/
def quiet : Fin 7 → Bool := fun | 3 => true | _ => false

/-- What each buffer holds after the body: an input its block, a key buffer what the batch's first block filled it
    with. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => kv m c t
    | ⟨2, _⟩ => iblk m c 2 t
    | ⟨3, h⟩ => Dat.unnamed (cfg := (cfg0 (F := F))) ⟨3, h⟩ t
    | ⟨4, _⟩ => keysOut (kv m c (upto t))
    | ⟨5, _⟩ => valsOut (kv m c (upto t))
    | ⟨6, _⟩ => idxOut (kv m c (upto t))
    | ⟨_ + 7, h⟩ => absurd h (Nat.not_lt.2 (Nat.le_add_left _ _))
  Φ _ := Pipeline.ΦA spec0 c
  q _ := fullShare
  owed _ := 0

/-- The arrays are as the call finds them. -/
theorem A_eq (c : Dev nD) (w : Fin (cfg0 (F := F)).W) : (dats m 0 c).A w = V m c (Pipeline.arrRef spec0 w) := by
  dsimp only [dats]
/-- Input window 0 after the body, -/
theorem after_0 (c : Dev nD) (t : Fin (cfg0 (F := F)).N) : (dats m 0 c).after 0 t = iblk m c 0 t := rfl
/-- and before it. -/
theorem before_0 (c : Dev nD) (t : Fin (cfg0 (F := F)).N) (d) : (dats m 0 c).before 0 t d = iblk m c 0 t :=
  held_0 m (dats m 0 c) (A_eq m c 0) (after_0 m c) t d
/-- Input window 1 after the body, -/
theorem after_1 (c : Dev nD) (t : Fin (cfg0 (F := F)).N) : (dats m 0 c).after 1 t = kv m c t := rfl
/-- and before it. -/
theorem before_1 (c : Dev nD) (t : Fin (cfg0 (F := F)).N) (d) : (dats m 0 c).before 1 t d = kv m c t :=
  held_1 m (dats m 0 c) (A_eq m c 1) (after_1 m c) t d
/-- Input window 2 after the body, -/
theorem after_2 (c : Dev nD) (t : Fin (cfg0 (F := F)).N) : (dats m 0 c).after 2 t = iblk m c 2 t := rfl
/-- and before it. -/
theorem before_2 (c : Dev nD) (t : Fin (cfg0 (F := F)).N) (d) : (dats m 0 c).before 2 t d = iblk m c 2 t :=
  held_2 m (dats m 0 c) (A_eq m c 2) (after_2 m c) t d

/-- Window 4 after the body. -/
theorem after_4 (c : Dev nD) (t : Fin (cfg0 (F := F)).N) : (dats m 0 c).after 4 t = keysOut (kv m c (upto t)) := rfl

set_option maxHeartbeats 1000000 in
/-- What a block leaves in it for the next. -/
theorem kept_keys (c : Dev nD) (t : Fin (cfg0 (F := F)).N) (d) : (dats m 0 c).kept 4 t d = keysOut (kv m c (upto t)) := by
  refine Eq.trans ?_ (after_4 m c t)
  unfold Dat.kept
  generalize (dats m 0 c).after 4 t = X
  rfl

set_option maxHeartbeats 1000000 in
/-- At a batch's other blocks it still holds what the first filled it with. -/
theorem before_keys (c : Dev nD) (t : Fin (cfg0 (F := F)).N) (ht : t.val % 8 ≠ 0) (d) :
    (dats m 0 c).before 4 t d = keysOut (kv m c (upto t)) := by
  refine ((dats m 0 c).before_idle_run 4 fetch_keys d (t.val % 8 - 1) t (by omega) fun j h1 h2 =>
    ⟨by rw [idle_keys]; exact decide_eq_true (by omega), flush_keys (F := F) j (by omega)⟩).trans ?_
  rw [Dat.before_of_pos _ _ _ (by simp only; omega) (fetch_keys _), if_neg (by
    rw [flush_keys (F := F) _ (by simp only; omega)]; exact Bool.false_ne_true)]
  unfold Dat.left
  rw [idle_keys, decide_eq_false (by simp only; omega)]
  dsimp only
  refine (kept_keys m c _ d).trans ?_
  congr 2
  exact Fin.ext (by simp only; omega)

/-- At a batch's first block it is left filled, -/
theorem leaves_keys (c : Dev nD) (t : Fin (cfg0 (F := F)).N) (ht : t.val % 8 = 0) :
    (dats m 0 c).leavesExact 4 t = owns (c : Thread nD τ) (st0_4 t) fullShare (keysOut (kv m c t)) := by
  unfold Dat.leavesExact
  rw [idle_keys, decide_eq_false (by omega), after_4, show upto t = t from Fin.ext (by simp only; omega)]
/-- and at the others as it was, which at the last is what is written back. -/
theorem leaves_held_keys (c : Dev nD) (t : Fin (cfg0 (F := F)).N) (ht : t.val % 8 ≠ 0) (d) :
    owns (c : Thread nD τ) (st0_4 t) fullShare ((dats m 0 c).before 4 t d) ⊢ ((dats m 0 c).leavesExact 4 t : sProp 𝕄) := by
  unfold Dat.leavesExact
  rw [idle_keys, decide_eq_true ht]
  dsimp only
  cases ((cfg0 (F := F)).win 4).flush t
  · iintro H; iexists d; iexact H
  · rw [before_keys m c t ht d, after_4]

/-- Window 5 after the body. -/
theorem after_5 (c : Dev nD) (t : Fin (cfg0 (F := F)).N) : (dats m 0 c).after 5 t = valsOut (kv m c (upto t)) := rfl

set_option maxHeartbeats 1000000 in
/-- What a block leaves in it for the next. -/
theorem kept_vals (c : Dev nD) (t : Fin (cfg0 (F := F)).N) (d) : (dats m 0 c).kept 5 t d = valsOut (kv m c (upto t)) := by
  refine Eq.trans ?_ (after_5 m c t)
  unfold Dat.kept
  generalize (dats m 0 c).after 5 t = X
  rfl

set_option maxHeartbeats 1000000 in
/-- At a batch's other blocks it still holds what the first filled it with. -/
theorem before_vals (c : Dev nD) (t : Fin (cfg0 (F := F)).N) (ht : t.val % 8 ≠ 0) (d) :
    (dats m 0 c).before 5 t d = valsOut (kv m c (upto t)) := by
  refine ((dats m 0 c).before_idle_run 5 fetch_vals d (t.val % 8 - 1) t (by omega) fun j h1 h2 =>
    ⟨by rw [idle_vals]; exact decide_eq_true (by omega), flush_vals (F := F) j (by omega)⟩).trans ?_
  rw [Dat.before_of_pos _ _ _ (by simp only; omega) (fetch_vals _), if_neg (by
    rw [flush_vals (F := F) _ (by simp only; omega)]; exact Bool.false_ne_true)]
  unfold Dat.left
  rw [idle_vals, decide_eq_false (by simp only; omega)]
  dsimp only
  refine (kept_vals m c _ d).trans ?_
  congr 2
  exact Fin.ext (by simp only; omega)

/-- At a batch's first block it is left filled, -/
theorem leaves_vals (c : Dev nD) (t : Fin (cfg0 (F := F)).N) (ht : t.val % 8 = 0) :
    (dats m 0 c).leavesExact 5 t = owns (c : Thread nD τ) (st0_5 t) fullShare (valsOut (kv m c t)) := by
  unfold Dat.leavesExact
  rw [idle_vals, decide_eq_false (by omega), after_5, show upto t = t from Fin.ext (by simp only; omega)]
/-- and at the others as it was, which at the last is what is written back. -/
theorem leaves_held_vals (c : Dev nD) (t : Fin (cfg0 (F := F)).N) (ht : t.val % 8 ≠ 0) (d) :
    owns (c : Thread nD τ) (st0_5 t) fullShare ((dats m 0 c).before 5 t d) ⊢ ((dats m 0 c).leavesExact 5 t : sProp 𝕄) := by
  unfold Dat.leavesExact
  rw [idle_vals, decide_eq_true ht]
  dsimp only
  cases ((cfg0 (F := F)).win 5).flush t
  · iintro H; iexists d; iexact H
  · rw [before_vals m c t ht d, after_5]

/-- Window 6 after the body. -/
theorem after_6 (c : Dev nD) (t : Fin (cfg0 (F := F)).N) : (dats m 0 c).after 6 t = idxOut (kv m c (upto t)) := rfl

set_option maxHeartbeats 1000000 in
/-- What a block leaves in it for the next. -/
theorem kept_idx (c : Dev nD) (t : Fin (cfg0 (F := F)).N) (d) : (dats m 0 c).kept 6 t d = idxOut (kv m c (upto t)) := by
  refine Eq.trans ?_ (after_6 m c t)
  unfold Dat.kept
  generalize (dats m 0 c).after 6 t = X
  rfl

set_option maxHeartbeats 1000000 in
/-- At a batch's other blocks it still holds what the first filled it with. -/
theorem before_idx (c : Dev nD) (t : Fin (cfg0 (F := F)).N) (ht : t.val % 8 ≠ 0) (d) :
    (dats m 0 c).before 6 t d = idxOut (kv m c (upto t)) := by
  refine ((dats m 0 c).before_idle_run 6 fetch_idx d (t.val % 8 - 1) t (by omega) fun j h1 h2 =>
    ⟨by rw [idle_idx]; exact decide_eq_true (by omega), flush_idx (F := F) j (by omega)⟩).trans ?_
  rw [Dat.before_of_pos _ _ _ (by simp only; omega) (fetch_idx _), if_neg (by
    rw [flush_idx (F := F) _ (by simp only; omega)]; exact Bool.false_ne_true)]
  unfold Dat.left
  rw [idle_idx, decide_eq_false (by simp only; omega)]
  dsimp only
  refine (kept_idx m c _ d).trans ?_
  congr 2
  exact Fin.ext (by simp only; omega)

/-- At a batch's first block it is left filled, -/
theorem leaves_idx (c : Dev nD) (t : Fin (cfg0 (F := F)).N) (ht : t.val % 8 = 0) :
    (dats m 0 c).leavesExact 6 t = owns (c : Thread nD τ) (st0_6 t) fullShare (idxOut (kv m c t)) := by
  unfold Dat.leavesExact
  rw [idle_idx, decide_eq_false (by omega), after_6, show upto t = t from Fin.ext (by simp only; omega)]
/-- and at the others as it was, which at the last is what is written back. -/
theorem leaves_held_idx (c : Dev nD) (t : Fin (cfg0 (F := F)).N) (ht : t.val % 8 ≠ 0) (d) :
    owns (c : Thread nD τ) (st0_6 t) fullShare ((dats m 0 c).before 6 t d) ⊢ ((dats m 0 c).leavesExact 6 t : sProp 𝕄) := by
  unfold Dat.leavesExact
  rw [idle_idx, decide_eq_true ht]
  dsimp only
  cases ((cfg0 (F := F)).win 6).flush t
  · iintro H; iexists d; iexact H
  · rw [before_idx m c t ht d, after_6]

/-! ## The body at every point -/

/-- The body's own buffer 0. -/
abbrev own_0 : Memref sig .tc .vmem S2048x128 .bf16 := Memref.whole cc0_scratch0
/-- The body's own buffer 1. -/
abbrev own_1 : Memref sig .tc .vmem S8x2x64x256 .bf16 := Memref.whole cc0_scratch1
/-- The body's own buffer 2. -/
abbrev own_2 : Memref sig .tc .vmem S2048x128 .bf16 := Memref.whole cc0_scratch2
/-- The body's own buffer 3. -/
abbrev own_3 : Memref sig .tc .vmem S8x256x256 .f32 := Memref.whole cc0_scratch3
/-- The body's own buffer 4. -/
abbrev own_4 : Memref sig .tc .vmem S2x256x1024 .f32 := Memref.whole cc0_scratch4
/-- The body's own buffer 5. -/
abbrev own_5 : Memref sig .tc .vmem S2x256x1024 .bf16 := Memref.whole cc0_scratch5
/-- The body's own buffer 6. -/
abbrev own_6 : Memref sig .tc .vmem S2x64x1024 .f32 := Memref.whole cc0_scratch6

/-- What is kept between the points: the body's own buffers at anything, and the generator's register. -/
theorem kept_eq (c : Dev nD) :
    (Pipeline.ΦA spec0 c : sProp 𝕄)
      = iprop(iprop((∃ d, owns (c : Thread nD τ) own_0 fullShare d) ∗ (∃ d, owns (c : Thread nD τ) own_1 fullShare d) ∗ (∃ d, owns (c : Thread nD τ) own_2 fullShare d) ∗ (∃ d, owns (c : Thread nD τ) own_3 fullShare d) ∗ (∃ d, owns (c : Thread nD τ) own_4 fullShare d) ∗ (∃ d, owns (c : Thread nD τ) own_5 fullShare d) ∗ (∃ d, owns (c : Thread nD τ) own_6 fullShare d)) ∗ (∃ r, prngReg c r)) := by
  unfold Pipeline.ΦA; rw [scopedRest0_eq]; simp only [own_0, own_1, own_2, own_3, own_4, own_5, own_6, owns_whole]; try rfl

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (dats m 0 c).leavesExact 4 t ∗ (dats m 0 c).leavesExact 5 t ∗ (dats m 0 c).leavesExact 6 t)

set_option maxHeartbeats 4000000 in
/-- The body at a batch's first block. -/
theorem sound_first (c : Dev nD) (t : Fin (cfg0 (F := F)).N) (ht : t.val % 8 = 0) :
    bodyPre m c t ⊢ wp frame (wpE (defs₀ (F := F)) Variants.nat c none) Set.univ (bodyAt0 t) (fun _ => bodyPost m c t) := by
  unfold bodyPre bodyPost bodyAt0
  rw [leaves_keys m c t ht, leaves_vals m c t ht, leaves_idx m c t ht]
  simp only [before_0, before_1, before_2]
  rw [show (dats m 0 c).Φ t.succ = (dats m 0 c).Φ t.castSucc from rfl,
    show (dats m 0 c).owesAt () t.succ = (dats m 0 c).owesAt () t.castSucc from rfl, after_0, after_1, after_2]
  rw [show (dats m 0 c).Φ t.castSucc = Pipeline.ΦA spec0 c from rfl, kept_eq]
  iintro ⟨⟨⟨H9, H10, H11, H12, H13, H14, H15⟩, Hg⟩, Ho, ⟨%d2, H2⟩, ⟨%d3, H3⟩, ⟨%d4, H4⟩, H5, ⟨%d6, H6⟩, ⟨%d7, H7⟩, ⟨%d8, H8⟩⟩
  iapply (kept_beside (R := iprop((∃ r, prngReg c r) ∗ (dats m 0 c).owesAt () t.castSucc)) (kernel_first c Set.univ (grid0.coords t) (st0_0 t) _ (st0_1 t) _ (st0_2 t) _ (st0_3 t) _ (st0_4 t) _ (st0_5 t) _ (st0_6 t) _ own_0 (Memref.isWhole_whole _) own_1 (Memref.isWhole_whole _) own_2 (Memref.isWhole_whole _) own_3 (Memref.isWhole_whole _) own_4 (Memref.isWhole_whole _) own_5 (Memref.isWhole_whole _) own_6 (Memref.isWhole_whole _) ((cond_first t).mpr ht) (iblk m c 0 t) (kv m c t) (iblk m c 2 t)))
  isplitl [H2 H3 H4 H5 H6 H7 H8 H9 H10 H11 H12 H13 H14 H15]
  · isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexact H10
    isplitl [H11]; · iexact H11
    isplitl [H12]; · iexact H12
    isplitl [H13]; · iexact H13
    isplitl [H14]; · iexact H14
    iexact H15
  isplitl [Hg Ho]
  · isplitl [Hg]; · iexact Hg
    iexact Ho
  iintro ⟨⟨H2, H4, H5, H9, H10, H11, H12, H13, H14, H15, H3, H6, H7, H8⟩, Hg, Ho⟩
  isplitl [H9 H10 H11 H12 H13 H14 H15 Hg]
  · isplitl [H9 H10 H11 H12 H13 H14 H15]
    · isplitl [H9]; · iexact H9
      isplitl [H10]; · iexact H10
      isplitl [H11]; · iexact H11
      isplitl [H12]; · iexact H12
      isplitl [H13]; · iexact H13
      isplitl [H14]; · iexact H14
      iexact H15
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body at the batch's other blocks. -/
theorem sound_later (c : Dev nD) (t : Fin (cfg0 (F := F)).N) (ht : t.val % 8 ≠ 0) :
    bodyPre m c t ⊢ wp frame (wpE (defs₀ (F := F)) Variants.nat c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2]
  rw [show (dats m 0 c).Φ t.castSucc = Pipeline.ΦA spec0 c from rfl, kept_eq]
  iintro ⟨⟨⟨H9, H10, H11, H12, H13, H14, H15⟩, Hg⟩, Ho, ⟨%d2, H2⟩, ⟨%d3, H3⟩, ⟨%d4, H4⟩, H5, ⟨%d6, H6⟩, ⟨%d7, H7⟩, ⟨%d8, H8⟩⟩
  iapply (kept_beside (R := iprop((∃ r, prngReg c r) ∗ (dats m 0 c).owesAt () t.castSucc)) (kernel_later c Set.univ (grid0.coords t) (st0_0 t) _ (st0_1 t) _ (st0_2 t) _ (st0_3 t) _ (st0_4 t) _ (st0_5 t) _ (st0_6 t) _ own_0 (Memref.isWhole_whole _) own_1 (Memref.isWhole_whole _) own_2 (Memref.isWhole_whole _) own_3 (Memref.isWhole_whole _) own_4 (Memref.isWhole_whole _) own_5 (Memref.isWhole_whole _) own_6 (Memref.isWhole_whole _) (fun h => ht ((cond_first t).mp h)) (iblk m c 0 t) (kv m c t) (iblk m c 2 t) ((dats m 0 c).before 4 t d6) ((dats m 0 c).before 5 t d7) ((dats m 0 c).before 6 t d8)))
  isplitl [H2 H4 H5 H9 H10 H11 H12 H13 H14 H15 H3 H6 H7 H8]
  · isplitl [H2]; · iexact H2
    isplitl [H4]; · iexact H4
    isplitl [H5]; · iexact H5
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H3]; · iexact H3
    isplitl [H6]; · iexact H6
    isplitl [H7]; · iexact H7
    iexact H8
  isplitl [Hg Ho]
  · isplitl [Hg]; · iexact Hg
    iexact Ho
  iintro ⟨⟨H2, H4, H5, H9, H10, H11, H12, H13, H14, H15, H3, H6, H7, H8⟩, Hg, Ho⟩
  isplitl [H9 H10 H11 H12 H13 H14 H15 Hg]
  · isplitl [H9 H10 H11 H12 H13 H14 H15]
    · isplitl [H9]; · iexact H9
      isplitl [H10]; · iexact H10
      isplitl [H11]; · iexact H11
      isplitl [H12]; · iexact H12
      isplitl [H13]; · iexact H13
      isplitl [H14]; · iexact H14
      iexact H15
    iexact Hg
  isplitl [Ho]; · iexact Ho
  isplitl [H2]; · iexact H2
  isplitl [H3]; · iexact H3
  isplitl [H4]; · iexact H4
  isplitl [H5]; · iexact H5
  isplitl [H6]
  · iapply (leaves_held_keys m c t ht d6); iexact H6
  isplitl [H7]
  · iapply (leaves_held_vals m c t ht d7); iexact H7
  iapply (leaves_held_idx m c t ht d8); iexact H8

/-- The body table's row at point `t` is the body. -/
theorem defs_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body at every point. -/
theorem sound_body (c : Dev nD) (t : Fin (cfg0 (F := F)).N) :
    bodyPre m c t ⊢ wp frame (wpE (defs₀ (F := F)) Variants.nat c none) Set.univ (bodyAt0 t) (fun _ => bodyPost m c t) := by
  by_cases ht : t.val % 8 = 0
  · exact sound_first m c t ht
  · exact sound_later m c t ht

/-- The same, as the library asks for it. -/
theorem body_obligation (c : Dev nD) : BodyObligation (dats (F := F) m 0 c) (defs₀ (F := F)) Variants.nat () Set.univ quiet := fun t => by
  rw [bigSep_W0, bigSep_W0, defs_row]
  exact triple_restated (sound_body m c t) rfl .rfl fun _ => .rfl

/-! ## The run -/

/-- What a run ends with: the arrays at what the proof data say, but for the attention's own result. -/
abbrev Ends (r : PUnit × MemSt nD τ sig (Elt F)) : Prop :=
  RDat.FramePost (cfg0 (F := F)) (fun c => (dats m 0 c).toRForget quiet) (V m) r

set_option maxHeartbeats 800000 in
/-- The call runs to its end so, with every counter at zero. -/
theorem run_main_quiescent : θ_run defs (onTc (τ := τ) (main (F := F))) (s₀ m ρ) (fun r => Ends m r ∧ r.2.sem = fun _ => 0) :=
  Pipeline.θ_run_frame_forget (Q' := _) cfgs (dats m) (0 : Fin 1) launch0 defs₀ Variants.nat quiet m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- The same without the counters. -/
theorem run_main : θ_run defs (onTc (τ := τ) (main (F := F))) (s₀ m ρ) (Ends m) :=
  (θ_run defs _ _).mono (fun _ h => h.1) (run_main_quiescent m ρ)

/-- Window 4's array at the end. -/
theorem ends_keys {r : PUnit × MemSt nD τ sig (Elt F)} (h : Ends m r) (c : Dev nD) :
    r.2.mem (((cfg0 (F := F)).spec 4).arr.view.loc (c.tc : Thread nD τ)) = (dats m 0 c).arrAt 4 (cfg0 (F := F)).N :=
  ((dats m 0 c).toRForget_arrAt_iff (fgt := quiet) (w := 4) rfl _ _).mp ((h c).1 4)

/-- Window 5's array at the end. -/
theorem ends_vals {r : PUnit × MemSt nD τ sig (Elt F)} (h : Ends m r) (c : Dev nD) :
    r.2.mem (((cfg0 (F := F)).spec 5).arr.view.loc (c.tc : Thread nD τ)) = (dats m 0 c).arrAt 5 (cfg0 (F := F)).N :=
  ((dats m 0 c).toRForget_arrAt_iff (fgt := quiet) (w := 5) rfl _ _).mp ((h c).1 5)

/-- Window 6's array at the end. -/
theorem ends_idx {r : PUnit × MemSt nD τ sig (Elt F)} (h : Ends m r) (c : Dev nD) :
    r.2.mem (((cfg0 (F := F)).spec 6).arr.view.loc (c.tc : Thread nD τ)) = (dats m 0 c).arrAt 6 (cfg0 (F := F)).N :=
  ((dats m 0 c).toRForget_arrAt_iff (fgt := quiet) (w := 6) rfl _ _).mp ((h c).1 6)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(RDat.FramePost.arr_in h.1 c 0 rfl).trans (A_eq m c 0),
      (RDat.FramePost.arr_in h.1 c 1 rfl).trans (A_eq m c 1), (RDat.FramePost.arr_in h.1 c 2 rfl).trans (A_eq m c 2)⟩, h.2⟩)
    (run_main_quiescent m ρ)

end Cert.AttnKeysIdeal.Run

end
-- ==== Proof.AttnKeysRef.lean ====
module

public import proofs.«01_k».proof.Proof.Rows
public import proofs.«01_k».proof.Proof.Gen.AttnKeysRefIdeal.Read
public import Idealize.ShloMosaic.Lib.Pipeline.ValueKit

@[expose] public section

set_option maxRecDepth 16384

noncomputable section

/-! The attention's keys, values and index keys: the reference, entry by entry. -/

namespace Cert.AttnKeysRefIdeal.Hand

open Cert.AttnKeysRefIdeal Cert.AttnKeysRefIdeal.Read Idealize.ShloMosaic Idealize.ShloMosaic.TcCoe

/-- A key entry: the batch's row at that position. -/
theorem keys (x1) (i : Fin 1024) (s : Fin 2048) :
    val_main_v6 (F := Ideal) x1 (ix2 i s) = x1 (ix2 ⟨2048 * (i / 128) + s, by omega⟩ ⟨i % 128, by omega⟩) := by
  pointwise [val_main_v6, val_main_v3, val_main_v2, val_main_v1, val_main_v0]
  blk_ext

/-- A value entry. -/
theorem vals (x1) (i : Fin 1024) (s : Fin 2048) :
    val_main_v7 (F := Ideal) x1 (ix2 i s) = x1 (ix2 ⟨2048 * (i / 128) + s, by omega⟩ ⟨128 + i % 128, by omega⟩) := by
  pointwise [val_main_v7, val_main_v4, val_main_v2, val_main_v1, val_main_v0]
  blk_ext

/-- An index key entry. -/
theorem idxs (x1) (i : Fin 512) (s : Fin 2048) :
    val_main_v8 (F := Ideal) x1 (ix2 i s) = x1 (ix2 ⟨2048 * (i / 64) + s, by omega⟩ ⟨256 + i % 64, by omega⟩) := by
  pointwise [val_main_v8, val_main_v5, val_main_v2, val_main_v1, val_main_v0]
  blk_ext

end Cert.AttnKeysRefIdeal.Hand
end
-- ==== Proof.AttnKeysFinal.lean ====
module

public import proofs.«01_k».proof.Proof.AttnKeysIdealFrame
public import proofs.«01_k».proof.Proof.AttnKeysRef
public import Idealize.ShloMosaic.Lib.Pipeline.Value

@[expose] public section

set_option maxRecDepth 16384
set_option maxHeartbeats 1000000

noncomputable section

/-! The attention's call: the arrays of keys, values and index keys that it writes are the reference's. -/

namespace Cert.AttnKeysIdeal.Hand

open Cert.AttnKeysIdeal Cert.AttnKeysIdeal.Gen Idealize.ShloMosaic Idealize.ShloMosaic.TcCoe Idealize.SL.Sem
open Idealize.ShloMosaic.Pipeline (Dat)

/-- Two tiles turned beside each other are the strip turned. -/
theorem k0_pay9_row (x : Vec Ideal S256x128 .f32) (h : Fin 128) (s : Fin 256) : k0_pay9 x (ix2 h s) = x (ix2 s h) := by
  pointwise [k0_pay9]
  split <;> blk_ext

/-- The same of the index keys' strip, of which the first 64 columns are stored. -/
theorem k0_pay10_row (x : Vec Ideal S256x128 .f32) (h : Fin 64) (s : Fin 256) : k0_pay10 x (ix2 h s) = x (ix2 s ⟨h, by omega⟩) := by
  pointwise [k0_pay10]
  split <;> blk_ext

/-- `128` of the batch's columns, from the `a`th, as rows. -/
def turned128 (x : Vec Ideal S2048x384 .f32) (a : ℕ) (ha : a + 128 ≤ 384) : Vec Ideal S128x2048 .f32 :=
  fun y => x (ix2 (y 1) ⟨a + (y 0).val, Nat.lt_of_lt_of_le (Nat.add_lt_add_left (y 0).isLt a) ha⟩)

/-- One strip that the fill stores is a strip of them. -/
theorem strip128 (x : Vec Ideal S2048x384 .f32) (o a : ℕ) (hi) (ho) (ha : a + 128 ≤ 384) (z : S128x256.Idx) :
    k0_pay9 (View.ld x (Rect.unit (s := S2048x384) ![o, a] S256x128.size hi)) z
      = turned128 x a ha ((Rect.unit (s := S128x2048) ![0, o] S128x256.size ho).emb z) := by
  idx_vars z
  rw [k0_pay9_row]
  refine congrArg x (funext fun k => ?_)
  match k with
  | ⟨0, _⟩ => exact Fin.ext (show o + 1 * z1.val = o + 1 * z1.val from rfl)
  | ⟨1, _⟩ => exact Fin.ext (show a + 1 * z0.val = a + (0 + 1 * z0.val) by omega)

/-- `64` of the batch's columns, from the `a`th, as rows. -/
def turned64 (x : Vec Ideal S2048x384 .f32) (a : ℕ) (ha : a + 64 ≤ 384) : Vec Ideal S64x2048 .f32 :=
  fun y => x (ix2 (y 1) ⟨a + (y 0).val, Nat.lt_of_lt_of_le (Nat.add_lt_add_left (y 0).isLt a) ha⟩)

/-- One strip that the fill stores is a strip of them. -/
theorem strip64 (x : Vec Ideal S2048x384 .f32) (o a : ℕ) (hi) (ho) (ha : a + 64 ≤ 384) (z : S64x256.Idx) :
    k0_pay10 (View.ld x (Rect.unit (s := S2048x384) ![o, a] S256x128.size hi)) z
      = turned64 x a ha ((Rect.unit (s := S64x2048) ![0, o] S64x256.size ho).emb z) := by
  idx_vars z
  rw [k0_pay10_row]
  refine congrArg x (funext fun k => ?_)
  match k with
  | ⟨0, _⟩ => exact Fin.ext (show o + 1 * z1.val = o + 1 * z1.val from rfl)
  | ⟨1, _⟩ => exact Fin.ext (show a + 1 * z0.val = a + (0 + 1 * z0.val) by omega)

/-- The keys that the fill leaves: the batch's rows turned to columns. -/
theorem keys_entry (x : Vec Ideal S2048x384 .f32) (h : Fin 128) (s : Fin 2048) :
    Run.keysOut x (ix2 h s) = x (ix2 s ⟨0 + h, by omega⟩) := by
  refine (View.canon_apply_of_pieces (turned128 x 0 (by decide)) (Run.keysOutStrips x) ?_ _ (Run.keysOut_cover x _)).trans rfl
  unfold Run.keysOutStrips
  refine List.forall_mem_cons.mpr ⟨fun z => strip128 x 1792 0 inb_S2048x384_S256x128_1792_0 inb_S128x2048_S128x256_0_1792 (by decide) z, ?_⟩
  refine List.forall_mem_cons.mpr ⟨fun z => strip128 x 1536 0 inb_S2048x384_S256x128_1536_0 inb_S128x2048_S128x256_0_1536 (by decide) z, ?_⟩
  refine List.forall_mem_cons.mpr ⟨fun z => strip128 x 1280 0 inb_S2048x384_S256x128_1280_0 inb_S128x2048_S128x256_0_1280 (by decide) z, ?_⟩
  refine List.forall_mem_cons.mpr ⟨fun z => strip128 x 1024 0 inb_S2048x384_S256x128_1024_0 inb_S128x2048_S128x256_0_1024 (by decide) z, ?_⟩
  refine List.forall_mem_cons.mpr ⟨fun z => strip128 x 768 0 inb_S2048x384_S256x128_768_0 inb_S128x2048_S128x256_0_768 (by decide) z, ?_⟩
  refine List.forall_mem_cons.mpr ⟨fun z => strip128 x 512 0 inb_S2048x384_S256x128_512_0 inb_S128x2048_S128x256_0_512 (by decide) z, ?_⟩
  refine List.forall_mem_cons.mpr ⟨fun z => strip128 x 256 0 inb_S2048x384_S256x128_256_0 inb_S128x2048_S128x256_0_256 (by decide) z, ?_⟩
  refine List.forall_mem_cons.mpr ⟨fun z => strip128 x 0 0 inb_S2048x384_S256x128_0_0 inb_S128x2048_S128x256_0_0 (by decide) z, ?_⟩
  exact fun p hp => absurd hp List.not_mem_nil

/-- The values: the batch's rows turned to columns. -/
theorem vals_entry (x : Vec Ideal S2048x384 .f32) (h : Fin 128) (s : Fin 2048) :
    Run.valsOut x (ix2 h s) = x (ix2 s ⟨128 + h, by omega⟩) := by
  refine (View.canon_apply_of_pieces (turned128 x 128 (by decide)) (Run.valsOutStrips x) ?_ _ (Run.valsOut_cover x _)).trans rfl
  unfold Run.valsOutStrips
  refine List.forall_mem_cons.mpr ⟨fun z => strip128 x 1792 128 inb_S2048x384_S256x128_1792_128 inb_S128x2048_S128x256_0_1792 (by decide) z, ?_⟩
  refine List.forall_mem_cons.mpr ⟨fun z => strip128 x 1536 128 inb_S2048x384_S256x128_1536_128 inb_S128x2048_S128x256_0_1536 (by decide) z, ?_⟩
  refine List.forall_mem_cons.mpr ⟨fun z => strip128 x 1280 128 inb_S2048x384_S256x128_1280_128 inb_S128x2048_S128x256_0_1280 (by decide) z, ?_⟩
  refine List.forall_mem_cons.mpr ⟨fun z => strip128 x 1024 128 inb_S2048x384_S256x128_1024_128 inb_S128x2048_S128x256_0_1024 (by decide) z, ?_⟩
  refine List.forall_mem_cons.mpr ⟨fun z => strip128 x 768 128 inb_S2048x384_S256x128_768_128 inb_S128x2048_S128x256_0_768 (by decide) z, ?_⟩
  refine List.forall_mem_cons.mpr ⟨fun z => strip128 x 512 128 inb_S2048x384_S256x128_512_128 inb_S128x2048_S128x256_0_512 (by decide) z, ?_⟩
  refine List.forall_mem_cons.mpr ⟨fun z => strip128 x 256 128 inb_S2048x384_S256x128_256_128 inb_S128x2048_S128x256_0_256 (by decide) z, ?_⟩
  refine List.forall_mem_cons.mpr ⟨fun z => strip128 x 0 128 inb_S2048x384_S256x128_0_128 inb_S128x2048_S128x256_0_0 (by decide) z, ?_⟩
  exact fun p hp => absurd hp List.not_mem_nil

/-- The index keys: the batch's rows turned to columns. -/
theorem idxs_entry (x : Vec Ideal S2048x384 .f32) (h : Fin 64) (s : Fin 2048) :
    Run.idxOut x (ix2 h s) = x (ix2 s ⟨256 + h, by omega⟩) := by
  refine (View.canon_apply_of_pieces (turned64 x 256 (by decide)) (Run.idxOutStrips x) ?_ _ (Run.idxOut_cover x _)).trans rfl
  unfold Run.idxOutStrips
  refine List.forall_mem_cons.mpr ⟨fun z => strip64 x 1792 256 inb_S2048x384_S256x128_1792_256 inb_S64x2048_S64x256_0_1792 (by decide) z, ?_⟩
  refine List.forall_mem_cons.mpr ⟨fun z => strip64 x 1536 256 inb_S2048x384_S256x128_1536_256 inb_S64x2048_S64x256_0_1536 (by decide) z, ?_⟩
  refine List.forall_mem_cons.mpr ⟨fun z => strip64 x 1280 256 inb_S2048x384_S256x128_1280_256 inb_S64x2048_S64x256_0_1280 (by decide) z, ?_⟩
  refine List.forall_mem_cons.mpr ⟨fun z => strip64 x 1024 256 inb_S2048x384_S256x128_1024_256 inb_S64x2048_S64x256_0_1024 (by decide) z, ?_⟩
  refine List.forall_mem_cons.mpr ⟨fun z => strip64 x 768 256 inb_S2048x384_S256x128_768_256 inb_S64x2048_S64x256_0_768 (by decide) z, ?_⟩
  refine List.forall_mem_cons.mpr ⟨fun z => strip64 x 512 256 inb_S2048x384_S256x128_512_256 inb_S64x2048_S64x256_0_512 (by decide) z, ?_⟩
  refine List.forall_mem_cons.mpr ⟨fun z => strip64 x 256 256 inb_S2048x384_S256x128_256_256 inb_S64x2048_S64x256_0_256 (by decide) z, ?_⟩
  refine List.forall_mem_cons.mpr ⟨fun z => strip64 x 0 256 inb_S2048x384_S256x128_0_256 inb_S64x2048_S64x256_0_0 (by decide) z, ?_⟩
  exact fun p hp => absurd hp List.not_mem_nil

variable (m : (ℓ : Loc nD τ sig) → Buf (Elt Ideal) ℓ)

/-- Where each window stands at a grid point. -/
theorem idx : ∀ t : Fin (cfg0 (F := Ideal)).N, win0_1.index t = ![t.val / 8, 0] ∧ win0_4.index t = ![t.val / 8, 0] ∧ win0_5.index t = ![t.val / 8, 0] ∧ win0_6.index t = ![t.val / 8, 0] :=
  (by decide +kernel : ∀ t : Fin grid0.N, _)

/-- The key window's block, row by row. -/
theorem rows (c : Dev nD) (t : Fin (cfg0 (F := Ideal)).N) (s : Fin 2048) (a : Fin 17408) (ha : (a : ℕ) = 2048 * (t.val / 8) + s) (k : Fin 384) :
    Run.kv (F := Ideal) m c t (ix2 s k) = m (c, main_arg1) (ix2 a k) := by
  have ht : t.val < 64 := t.isLt
  unfold Run.kv Pipeline.Window.fill
  rw [dif_pos (Run.kv_moved t _)]
  blk_point [Run.iblk, Run.V, idx t]

/-- The array of keys after the run. -/
theorem final4 (c : Dev nD) : (Run.dats m 0 c).arrAt 4 (cfg0 (F := Ideal)).N = Cert.AttnKeysRefIdeal.Read.val_main_v6 (F := Ideal) (m (c, main_arg1)) := by
  refine (Run.dats m 0 c).arrAt_eq_of_covers 4 _ (by decide +kernel) fun t hf y => ?_
  blk_simp
  rw [Run.after_4]
  have ht : t.val < 64 := t.isLt
  idx_vars y
  rw [keys_entry, rows m c (Run.upto t) y1 ⟨2048 * (t.val / 8) + y1.val, by omega⟩ (by show 2048 * (t.val / 8) + y1.val = 2048 * (8 * (t.val / 8) / 8) + y1.val; omega)]
  refine Eq.trans ?_ ((Cert.AttnKeysRefIdeal.Hand.keys (m (c, main_arg1)) ⟨128 * (t.val / 8) + y0.val, by omega⟩ y1).symm.trans ?_)
  · blk_ext
  · blk_ext [idx t]

/-- The array of values after the run. -/
theorem final5 (c : Dev nD) : (Run.dats m 0 c).arrAt 5 (cfg0 (F := Ideal)).N = Cert.AttnKeysRefIdeal.Read.val_main_v7 (F := Ideal) (m (c, main_arg1)) := by
  refine (Run.dats m 0 c).arrAt_eq_of_covers 5 _ (by decide +kernel) fun t hf y => ?_
  blk_simp
  rw [Run.after_5]
  have ht : t.val < 64 := t.isLt
  idx_vars y
  rw [vals_entry, rows m c (Run.upto t) y1 ⟨2048 * (t.val / 8) + y1.val, by omega⟩ (by show 2048 * (t.val / 8) + y1.val = 2048 * (8 * (t.val / 8) / 8) + y1.val; omega)]
  refine Eq.trans ?_ ((Cert.AttnKeysRefIdeal.Hand.vals (m (c, main_arg1)) ⟨128 * (t.val / 8) + y0.val, by omega⟩ y1).symm.trans ?_)
  · blk_ext
  · blk_ext [idx t]

/-- The array of index keys after the run. -/
theorem final6 (c : Dev nD) : (Run.dats m 0 c).arrAt 6 (cfg0 (F := Ideal)).N = Cert.AttnKeysRefIdeal.Read.val_main_v8 (F := Ideal) (m (c, main_arg1)) := by
  refine (Run.dats m 0 c).arrAt_eq_of_covers 6 _ (by decide +kernel) fun t hf y => ?_
  blk_simp
  rw [Run.after_6]
  have ht : t.val < 64 := t.isLt
  idx_vars y
  rw [idxs_entry, rows m c (Run.upto t) y1 ⟨2048 * (t.val / 8) + y1.val, by omega⟩ (by show 2048 * (t.val / 8) + y1.val = 2048 * (8 * (t.val / 8) / 8) + y1.val; omega)]
  refine Eq.trans ?_ ((Cert.AttnKeysRefIdeal.Hand.idxs (m (c, main_arg1)) ⟨64 * (t.val / 8) + y0.val, by omega⟩ y1).symm.trans ?_)
  · blk_ext
  · blk_ext [idx t]

end Cert.AttnKeysIdeal.Hand
end
-- ==== Proof.AttnKeysClaim.lean ====
module

public import proofs.«01_k».proof.Defs
public import proofs.«01_k».proof.Proof.AttnKeysFinal
public import proofs.«01_k».proof.Proof.Gen.AttnKeysRefIdeal.Run

@[expose] public section

set_option maxRecDepth 16384
set_option maxHeartbeats 4000000

noncomputable section

namespace Cert.AttnKeysIdeal.Hand

open Idealize.ShloMosaic Idealize.ShloMosaic.TcCoe Idealize.SL.Sem
open Idealize.ShloMosaic.Pipeline (RDat)

/-- The attention's laying out of keys and its reference, from equal arguments, end with equal results. -/
theorem algebraic : Cert.algebraic_AttnKeysIdeal_AttnKeysRefIdeal (hAttnKeysIdeal := Cert.AttnKeysIdeal.Gen.facts) (hAttnKeysRefIdeal := Cert.AttnKeysRefIdeal.Gen.facts) := by
  intro m g m' g' hpre hagree
  refine ⟨fun c => Cert.AttnKeysRefIdeal.Read.val_main_v6 (F := Ideal) (m (c, Cert.AttnKeysIdeal.main_arg1)), fun c => Cert.AttnKeysRefIdeal.Read.val_main_v7 (F := Ideal) (m (c, Cert.AttnKeysIdeal.main_arg1)), fun c => Cert.AttnKeysRefIdeal.Read.val_main_v8 (F := Ideal) (m (c, Cert.AttnKeysIdeal.main_arg1)), ?_, ?_⟩
  · refine (θ_run _ _ _).mono (fun r h c => ?_) (Run.run_main m g)
    refine ⟨(Run.ends_keys m h c).trans (final4 m c), (Run.ends_vals m h c).trans (final5 m c), (Run.ends_idx m h c).trans (final6 m c),
      (RDat.FramePost.arr_in h c 0 rfl).trans (Run.A_eq m c 0), (RDat.FramePost.arr_in h c 1 rfl).trans (Run.A_eq m c 1),
      (RDat.FramePost.arr_in h c 2 rfl).trans (Run.A_eq m c 2)⟩
  · refine (θ_run _ _ _).mono (fun r h c => ?_) (Cert.AttnKeysRefIdeal.Value.run m' g')
    obtain ⟨h0, h1, h2⟩ := hagree c
    obtain ⟨r0, r1, r2, a0, a1, a2⟩ := h c
    refine ⟨r0.trans ?_, r1.trans ?_, r2.trans ?_, a0, a1, a2⟩
    · exact (Cert.AttnKeysRefIdeal.Read.val_main_v6_eq ..).trans (by change Cert.AttnKeysRefIdeal.Read.val_main_v6 (F := Ideal) (m' (c.tc.loc Cert.AttnKeysRefIdeal.main_arg1)) = _; rw [h1])
    · exact (Cert.AttnKeysRefIdeal.Read.val_main_v7_eq ..).trans (by change Cert.AttnKeysRefIdeal.Read.val_main_v7 (F := Ideal) (m' (c.tc.loc Cert.AttnKeysRefIdeal.main_arg1)) = _; rw [h1])
    · exact (Cert.AttnKeysRefIdeal.Read.val_main_v8_eq ..).trans (by change Cert.AttnKeysRefIdeal.Read.val_main_v8 (F := Ideal) (m' (c.tc.loc Cert.AttnKeysRefIdeal.main_arg1)) = _; rw [h1])

end Cert.AttnKeysIdeal.Hand
end
-- ==== Proof.UnitRows.lean ====
module

public import Idealize.ShloMosaic.Lib.Pipeline.ValueKit

@[expose] public section

noncomputable section

/-! The arithmetic of the gated unit's and the convolution's rows, shared by the kernels and their references. -/

namespace Cert.Rows

open Idealize.ShloMosaic

/-- A bounded number is its value. -/
theorem eq_of_val {n : ℕ} {a : Fin n} {v : ℕ} (h : (a : ℕ) = v) : a = ⟨v, h ▸ a.isLt⟩ := Fin.ext h

/-- The error function of a value is the real one. -/
theorem erf_eq (x : Ideal .f32) : FloatOps.erf x = Ideal.erf x := rfl

/-- The mean of a row of 512. -/
def mean512 (x : Fin 512 → EReal) : EReal := Ideal.div (∑ j, x j) (Ideal.ofBits .f32 0x44000000#32)

/-- One row under layer normalisation: centred, over the root of the mean square (and a small constant), times the gain
    and shifted. -/
def layered (x g b : Fin 512 → EReal) (k : Fin 512) : EReal :=
  (x k - mean512 x) * Ideal.rsqrt (mean512 (fun j => (x j - mean512 x) * (x j - mean512 x)) + Ideal.ofBits .f32 0x358637BD#32) * g k + b k

/-- The exact gelu. -/
def gelu (x : EReal) : EReal :=
  Ideal.ofBits .f32 0x3F000000#32 * x * (Ideal.ofBits .f32 0x3F800000#32 + Ideal.erf (x * Ideal.ofBits .f32 0x3F3504F3#32))

/-- A value times its own logistic. -/
def silu (x : EReal) : EReal := x * Ideal.logistic x

/-- The unit's `v` of one row: the second half under gelu, layer-normalised. -/
def unitV (uv : Fin 1024 → EReal) (g b : Fin 512 → EReal) (k : Fin 512) : EReal :=
  layered (fun k => gelu (uv ⟨512 + k, by omega⟩)) g b k

/-- Rows of a block of 512 fall in four groups of 128: the group and the place in it, in numbers. -/
theorem group_of {a : ℕ} (h : a < 128) :
    a / 128 = 0 ∧ (128 + a) / 128 = 1 ∧ (256 + a) / 128 = 2 ∧ (384 + a) / 128 = 3
      ∧ a % 128 = a ∧ (128 + a) % 128 = a ∧ (256 + a) % 128 = a ∧ (384 + a) % 128 = a := by omega

/-- A sum over 128 places whose terms outside the `b`-th group of 32 are zero is the sum over that group. -/
theorem sum_group (f : Fin 128 → EReal) (b : ℕ) (hb : b < 4) (h : ∀ q : Fin 128, q.val / 32 ≠ b → f q = 0) :
    ∑ q, f q = ∑ q : Fin 32, f ⟨b * 32 + q, by omega⟩ := by
  refine (Finset.sum_of_injOn (fun q : Fin 32 => (⟨b * 32 + q, by omega⟩ : Fin 128)) ?_ (fun _ _ => Finset.mem_coe.2 (Finset.mem_univ _)) ?_ (fun _ _ => rfl)).symm
  · intro x _ y _ e
    have e' : b * 32 + x.val = b * 32 + y.val := congrArg Fin.val e
    exact Fin.ext (by omega)
  · intro i _ hi
    refine h i fun e => hi ⟨⟨i.val % 32, by omega⟩, Finset.mem_coe.2 (Finset.mem_univ _), Fin.ext ?_⟩
    show b * 32 + i.val % 32 = i.val
    omega

end Cert.Rows
end
-- ==== Proof.GmlpSampleBody.lean ====
module

public import proofs.«01_k».proof.Proof.UnitRows
public import proofs.«01_k».proof.Proof.Gen.GmlpSampleIdeal.Value
public import Idealize.ShloMosaic.Lib.Pipeline.ValueKit

@[expose] public section

set_option maxRecDepth 16384

noncomputable section

namespace Cert.GmlpSampleIdeal.Hand

open Cert.GmlpSampleIdeal Cert.GmlpSampleIdeal.Gen Idealize.ShloMosaic Idealize.ShloMosaic.TcCoe Idealize.SL.Sem
open Cert.Rows

/-- What a point leaves in the block of `v`, row by row. -/
theorem out7_row (x0 : Vec Ideal S512x1024 .f32) (x1 : Vec Ideal S512x512 .f32) (x2 x3 : Vec Ideal S1x512 .f32)
    (x4 : Vec Ideal S4x128x128 .f32) (x5 : Vec Ideal S4x128x1 .f32) (y : S512x512.Idx) :
    out0_7 (F := Ideal) x0 x1 x2 x3 x4 x5 y
      = unitV (fun k => x0 (ix2 (y 0) k)) (fun k => x2 (ix2 0 k)) (fun k => x3 (ix2 0 k)) (y 1) := by
  unfold unitV layered mean512 gelu
  unfold_out out0_7
  frame_out
  canon_tiles x h
  all_goals
    have e0 : y 0 = _ := eq_of_val h0
    have e1 : y 1 = _ := eq_of_val h1
    simp only [e0, e1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, erf_eq]

/-- What a point leaves in the block of the unit's result, row by row. -/
theorem out6_row (x0 : Vec Ideal S512x1024 .f32) (x1 : Vec Ideal S512x512 .f32) (x2 x3 : Vec Ideal S1x512 .f32)
    (x4 : Vec Ideal S4x128x128 .f32) (x5 : Vec Ideal S4x128x1 .f32) (y : S512x512.Idx) (r j : Fin 512) (yr : y 0 = r) (yj : y 1 = j) :
    out0_6 (F := Ideal) x0 x1 x2 x3 x4 x5 y
      = gelu (x0 (ix2 r ⟨j, by omega⟩))
        * (∑ q : Fin 128, x4 (ix3 ⟨j.val / 128, by omega⟩ ⟨r.val % 128, by omega⟩ q)
              * unitV (fun k => x0 (ix2 ⟨r.val / 128 * 128 + q, by omega⟩ k)) (fun k => x2 (ix2 0 k)) (fun k => x3 (ix2 0 k)) j
            + x5 (ix3 ⟨j.val / 128, by omega⟩ ⟨r.val % 128, by omega⟩ 0))
        * silu (x1 (ix2 r j)) := by
  unfold unitV layered mean512 gelu silu
  unfold_out out0_6
  frame_out
  canon_tiles x h
  all_goals
    have e0 : r = _ := eq_of_val ((congrArg Fin.val yr).symm.trans h0)
    have e1 : j = _ := eq_of_val ((congrArg Fin.val yj).symm.trans h1)
    have g0 := group_of x0_lt
    have g1 := group_of x1_lt
    simp only [e0, e1, g0, g1, Nat.zero_mul, Nat.one_mul, Nat.reduceMul]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, erf_eq]

end Cert.GmlpSampleIdeal.Hand
end
-- ==== Proof.GmlpSampleRef.lean ====
module

public import proofs.«01_k».proof.Proof.UnitRows
public import proofs.«01_k».proof.Proof.Gen.GmlpSampleRefIdeal.Read
public import Idealize.ShloMosaic.Lib.Pipeline.ValueKit

@[expose] public section

set_option maxRecDepth 16384

noncomputable section

/-! The gated unit's reference at decode, row by row. -/

namespace Cert.GmlpSampleRefIdeal.Hand

open Cert.GmlpSampleRefIdeal Cert.GmlpSampleRefIdeal.Read Idealize.ShloMosaic Idealize.ShloMosaic.TcCoe
open Cert.Rows

/-- The exact gelu of the unit's input. -/
theorem act (x0) (i j : Fin 1024) : val_main_v7 (F := Ideal) x0 (ix2 i j) = gelu (x0 (ix2 ⟨16384 + i, by omega⟩ j)) := by
  unfold gelu
  pointwise [val_main_v7, val_main_v6, val_main_v5, val_main_v4, val_main_v3, val_main_v2, val_main_v1, val_main_v0, val_main_cst, val_main_cst_0]
  rw [EReal.neg_mul, Ideal.erfc_neg]

/-- The unit's `v`. -/
theorem v_row (x0 x2 x3) (i : Fin 1024) (k : Fin 512) :
    val_main_v31 (F := Ideal) x0 x2 x3 (ix2 i k)
      = unitV (fun k => x0 (ix2 ⟨16384 + i, by omega⟩ k)) (fun k => x2 (ix1 k)) (fun k => x3 (ix1 k)) k := by
  unfold unitV
  rw [← funext (fun k : Fin 512 => act x0 i ⟨512 + k, by omega⟩)]
  unfold layered mean512
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4, val_main_cst_5]

/-- The first 32 rows lie in the first chunk (as columns of the mask). -/
theorem chunk_col (j : Fin 32) : val_main_v34 (F := Ideal) (ix2 0 ⟨j, by omega⟩) = 0#32 := by
  pointwise [val_main_v34, val_main_v33, val_main_v32, val_main_c, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0]
  revert j
  decide +kernel

/-- The first 32 rows lie in the first chunk (as rows of the mask). -/
theorem chunk_row (i : Fin 32) : val_main_v36 (F := Ideal) (ix2 ⟨i, by omega⟩ 0) = 0#32 := by
  pointwise [val_main_v36, val_main_v35, val_main_v32, val_main_c_6, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0]
  revert i
  decide +kernel

/-- Within a chunk every row sees every other. -/
theorem mask (i j : Fin 32) : val_main_v41 (F := Ideal) (ix3 0 ⟨i, by omega⟩ ⟨j, by omega⟩) = 1 := by
  pointwise [val_main_v41, val_main_v40, val_main_v39, val_main_v38, val_main_v37]
  rw [chunk_col, chunk_row]
  rw [show IntOp.cmpi CmpIPredicate.sle 0#32 0#32 = 1#1 from by decide]
  show (((1#1 : BitVec 1).toNat : ℝ) : EReal) = 1
  norm_num

/-- The unit's result. -/
theorem y_row (x0 x1 x2 x3 x4 x5) (i : Fin 1024) (j : Fin 512) :
    val_main_v58 (F := Ideal) x0 x1 x2 x3 x4 x5 (ix2 i j)
      = gelu (x0 (ix2 ⟨16384 + i, by omega⟩ ⟨j, by omega⟩))
        * (∑ q : Fin 32, x4 (ix3 ⟨j.val / 128, by omega⟩ ⟨i.val % 32, by omega⟩ ⟨q, by omega⟩)
              * unitV (fun k => x0 (ix2 ⟨16384 + (i.val / 32 * 32 + q), by omega⟩ k)) (fun k => x2 (ix1 k)) (fun k => x3 (ix1 k)) j
            + x5 (ix2 ⟨j.val / 128, by omega⟩ ⟨i.val % 32, by omega⟩))
        * silu (x1 (ix2 ⟨16384 + i, by omega⟩ j)) := by
  unfold silu Ideal.logistic
  rw [← act]
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v8, val_main_call2_v0, val_main_call2_v1, val_main_call2_v2, val_main_call2_v3, val_main_call2_v4, val_main_call2_v5, val_main_call2_cst, val_main_call2_cst_0]
  have hv : ∀ q : Fin 32, val_main_v31 (F := Ideal) x0 x2 x3 (ix2 ⟨i.val / 32 * 32 + q, by omega⟩ j)
      = unitV (fun k => x0 (ix2 ⟨16384 + (i.val / 32 * 32 + q), by omega⟩ k)) (fun k => x2 (ix1 k)) (fun k => x3 (ix1 k)) j :=
    fun q => v_row x0 x2 x3 ⟨i.val / 32 * 32 + q, by omega⟩ j
  have hm : ∀ q : Fin 32, val_main_v41 (F := Ideal) (ix3 0 ⟨i.val % 32, by omega⟩ ⟨q, by omega⟩) = 1 :=
    fun q => mask ⟨i.val % 32, by omega⟩ q
  simp only [hv, hm, mul_one, mul_comm (unitV _ _ _ _)]

end Cert.GmlpSampleRefIdeal.Hand
end
-- ==== Proof.GmlpSampleFinal.lean ====
module

public import proofs.«01_k».proof.Proof.GmlpSampleBody
public import proofs.«01_k».proof.Proof.GmlpSampleRef

@[expose] public section

set_option maxRecDepth 16384
set_option maxHeartbeats 4000000

noncomputable section

/-! The gated unit's two result arrays at decode are the reference's, row by row. -/

namespace Cert.GmlpSampleIdeal.Hand

open Cert.GmlpSampleIdeal Cert.GmlpSampleIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- Where each window stands at a grid point. -/
theorem idx : ∀ t : Fin cfg0.N, win0_0.index t = ![32 + t.val, 0] ∧ win0_1.index t = ![32 + t.val, 0] ∧ win0_2.index t = ![0, 0] ∧ win0_3.index t = ![0, 0] ∧ win0_4.index t = ![0, 0, 0] ∧ win0_5.index t = ![0, 0, 0] ∧ win0_6.index t = ![t.val, 0] ∧ win0_7.index t = ![t.val, 0] :=
  (by decide +kernel : ∀ t : Fin grid0.N, _)

/-- The unit's input block. -/
theorem block0 (c : Dev nD) (t : Fin cfg0.N) (r : Fin 512) (a : Fin 17408) (ha : (a : ℕ) = 16384 + 512 * t.val + r) (k : Fin 1024) :
    iblk m c 0 t (ix2 r k) = m (c, main_arg0) (ix2 a k) := by
  have ht : t.val < 2 := t.isLt
  blk_point [iblk, V, idx t]

/-- The gate's block. -/
theorem block1 (c : Dev nD) (t : Fin cfg0.N) (r : Fin 512) (a : Fin 17408) (ha : (a : ℕ) = 16384 + 512 * t.val + r) (k : Fin 512) :
    iblk m c 1 t (ix2 r k) = m (c, main_arg1) (ix2 a k) := by
  have ht : t.val < 2 := t.isLt
  blk_point [iblk, V, idx t]

/-- The normalisation's gain. -/
theorem gain (c : Dev nD) (t : Fin cfg0.N) (k : Fin 512) : iblk m c 2 t (ix2 0 k) = m (c, main_arg2) (ix1 k) := by
  have e : iblk m c 2 t (ix2 0 k) = V m c main_v18 (ix2 0 k) := by blk_point [iblk, idx t]
  rw [e]; entry_read; pointwise

/-- The normalisation's shift. -/
theorem shift (c : Dev nD) (t : Fin cfg0.N) (k : Fin 512) : iblk m c 3 t (ix2 0 k) = m (c, main_arg3) (ix1 k) := by
  have e : iblk m c 3 t (ix2 0 k) = V m c main_v19 (ix2 0 k) := by blk_point [iblk, idx t]
  rw [e]; entry_read; pointwise

/-- The identity of order four, as the host builds it. -/
theorem eye : ∀ p q : Fin 4, IntOp.cmpi CmpIPredicate.eq (IntOp.addi (BitVec.ofNat 32 p.val) 0#32) (BitVec.ofNat 32 q.val) = if p = q then 1#1 else 0#1 := by
  decide +kernel

/-- The mixing weights the region finds: the leading 32 by 32 block of each group, four times along the diagonal. -/
theorem weights (c : Dev nD) (t : Fin cfg0.N) (g : Fin 4) (a b : Fin 128) : iblk m c 4 t (ix3 g a b)
    = FloatOps.uitofp (F := Ideal) .f32 (if (⟨a.val / 32, by omega⟩ : Fin 4) = ⟨b.val / 32, by omega⟩ then 1#1 else 0#1) * (m (c, main_arg4) (ix3 g ⟨a.val % 32, by omega⟩ ⟨b.val % 32, by omega⟩) : EReal) := by
  have e : iblk m c 4 t (ix3 g a b) = V m c main_v12 (ix3 g a b) := by blk_point [iblk, idx t]
  rw [← eye, e]; entry_read; pointwise

/-- Off the diagonal blocks the weights are zero. -/
theorem weights_off (c : Dev nD) (t : Fin cfg0.N) (g : Fin 4) (a b : Fin 128) (h : b.val / 32 ≠ a.val / 32) : iblk m c 4 t (ix3 g a b) = (0 : EReal) := by
  rw [weights, if_neg (fun e => h (congrArg Fin.val e).symm), show FloatOps.uitofp (F := Ideal) .f32 0#1 = (0 : EReal) from by show (((0#1 : BitVec 1).toNat : ℝ) : EReal) = 0; norm_num]
  exact zero_mul (M₀ := EReal) _

/-- On a diagonal block they are the leading block. -/
theorem weights_on (c : Dev nD) (t : Fin cfg0.N) (g : Fin 4) (a b a' b' : Fin 128) (h : b.val / 32 = a.val / 32) (ha : a'.val = a.val % 32) (hb : b'.val = b.val % 32) :
    iblk m c 4 t (ix3 g a b) = m (c, main_arg4) (ix3 g a' b') := by
  rw [weights, if_pos (Fin.ext h.symm), show FloatOps.uitofp (F := Ideal) .f32 1#1 = (1 : EReal) from by show (((1#1 : BitVec 1).toNat : ℝ) : EReal) = 1; norm_num]
  rw [show a' = ⟨a.val % 32, by omega⟩ from Fin.ext ha, show b' = ⟨b.val % 32, by omega⟩ from Fin.ext hb]
  exact one_mul (M := EReal) _

/-- The mixing bias the region finds: the leading 32 of each group, four times. -/
theorem bias (c : Dev nD) (t : Fin cfg0.N) (g : Fin 4) (a a' : Fin 128) (ha : a'.val = a.val % 32) : iblk m c 5 t (ix3 g a 0)
    = m (c, main_arg5) (ix2 g a') := by
  rw [show a' = ⟨a.val % 32, by omega⟩ from Fin.ext ha]
  have e : iblk m c 5 t (ix3 g a 0) = V m c main_v17 (ix3 g a 0) := by blk_point [iblk, idx t]
  rw [e]; entry_read; pointwise

/-- One entry of `v` as a point leaves it is the reference's. -/
theorem point7 (c : Dev nD) (t : Fin cfg0.N) (r j : Fin 512) (i : Fin 1024) (hi : (i : ℕ) = 512 * t.val + r) :
    out0_7 (F := Ideal) (iblk m c 0 t) (iblk m c 1 t) (iblk m c 2 t) (iblk m c 3 t) (iblk m c 4 t) (iblk m c 5 t) (ix2 r j)
      = Cert.GmlpSampleRefIdeal.Read.val_main_v31 (F := Ideal) (m (c, main_arg0)) (m (c, main_arg2)) (m (c, main_arg3)) (ix2 i j) := by
  rw [out7_row, Cert.GmlpSampleRefIdeal.Hand.v_row]
  pointwise
  simp only [gain, shift, block0 m c t r ⟨16384 + i, by omega⟩ (by simp [hi, Nat.add_assoc])]

/-- One entry of the unit's result as a point leaves it is the reference's. -/
theorem point6 (c : Dev nD) (t : Fin cfg0.N) (r j : Fin 512) (i : Fin 1024) (hi : (i : ℕ) = 512 * t.val + r) :
    out0_6 (F := Ideal) (iblk m c 0 t) (iblk m c 1 t) (iblk m c 2 t) (iblk m c 3 t) (iblk m c 4 t) (iblk m c 5 t) (ix2 r j)
      = Cert.GmlpSampleRefIdeal.Read.val_main_v58 (F := Ideal) (m (c, main_arg0)) (m (c, main_arg1)) (m (c, main_arg2)) (m (c, main_arg3)) (m (c, main_arg4)) (m (c, main_arg5)) (ix2 i j) := by
  have ht : t.val < 2 := t.isLt
  rw [out6_row _ _ _ _ _ _ (ix2 r j) r j rfl rfl, Cert.GmlpSampleRefIdeal.Hand.y_row]
  rw [sum_group _ (r.val % 128 / 32) (by omega) (fun q hq => by rw [weights_off m c t _ _ _ hq]; exact zero_mul (M₀ := EReal) _)]
  rw [bias m c t _ _ ⟨i.val % 32, by omega⟩ (by show i.val % 32 = r.val % 128 % 32; omega),
    block0 m c t r ⟨16384 + i, by omega⟩ (by show 16384 + i.val = _; omega), block1 m c t r ⟨16384 + i, by omega⟩ (by show 16384 + i.val = _; omega)]
  have hr : ∀ x : Fin 32, (fun k => iblk m c 0 t (ix2 (⟨r.val / 128 * 128 + (r.val % 128 / 32 * 32 + x.val), by omega⟩ : Fin 512) k))
      = fun k => m (c, main_arg0) (ix2 ⟨16384 + (i.val / 32 * 32 + x.val), by omega⟩ k) :=
    fun x => funext fun k => block0 m c t _ _ (by show 16384 + (i.val / 32 * 32 + x.val) = 16384 + 512 * t.val + (r.val / 128 * 128 + (r.val % 128 / 32 * 32 + x.val)); omega) k
  have hw : ∀ x : Fin 32, iblk m c 4 t (ix3 ⟨j.val / 128, by omega⟩ (⟨r.val % 128, by omega⟩ : Fin 128) (⟨r.val % 128 / 32 * 32 + x.val, by omega⟩ : Fin 128))
      = m (c, main_arg4) (ix3 ⟨j.val / 128, by omega⟩ ⟨i.val % 32, by omega⟩ ⟨x.val, by omega⟩) :=
    fun x => weights_on m c t _ _ _ _ _ (by show (r.val % 128 / 32 * 32 + x.val) / 32 = r.val % 128 / 32; omega) (by show i.val % 32 = r.val % 128 % 32; omega) (by show x.val = (r.val % 128 / 32 * 32 + x.val) % 32; omega)
  simp only [gain, shift, hr, hw]

/-- The array of `v` after the run. -/
theorem final7 (c : Dev nD) : (dats m 0 c).arrAt 7 (cfgs 0).N = Cert.GmlpSampleRefIdeal.Read.val_main_v31 (F := Ideal) (m (c, main_arg0)) (m (c, main_arg2)) (m (c, main_arg3)) := by
  refine (dats m 0 c).arrAt_eq_of_covers 7 _ (by decide +kernel) fun t _ y => ?_
  blk_simp
  rw [after0_7]
  have ht : t.val < 2 := t.isLt
  idx_vars y
  refine (point7 m c t y0 y1 ⟨512 * t.val + y0.val, by omega⟩ rfl).trans ?_
  blk_ext [idx t]

/-- The array of the unit's result after the run. -/
theorem final6 (c : Dev nD) : (dats m 0 c).arrAt 6 (cfgs 0).N = Cert.GmlpSampleRefIdeal.Read.val_main_v58 (F := Ideal) (m (c, main_arg0)) (m (c, main_arg1)) (m (c, main_arg2)) (m (c, main_arg3)) (m (c, main_arg4)) (m (c, main_arg5)) := by
  refine (dats m 0 c).arrAt_eq_of_covers 6 _ (by decide +kernel) fun t _ y => ?_
  blk_simp
  rw [after0_6]
  have ht : t.val < 2 := t.isLt
  idx_vars y
  refine (point6 m c t y0 y1 ⟨512 * t.val + y0.val, by omega⟩ rfl).trans ?_
  blk_ext [idx t]

end Cert.GmlpSampleIdeal.Hand
end
-- ==== Proof.GmlpSampleClaim.lean ====
module

public import proofs.«01_k».proof.Defs
public import proofs.«01_k».proof.Proof.GmlpSampleFinal
public import proofs.«01_k».proof.Proof.Gen.GmlpSampleRefIdeal.Run

@[expose] public section

set_option maxRecDepth 16384
set_option maxHeartbeats 4000000

noncomputable section

namespace Cert.GmlpSampleIdeal.Hand

open Idealize.ShloMosaic Idealize.ShloMosaic.TcCoe Idealize.SL.Sem

/-- The gated unit at decode and its reference, from equal arguments, end with equal results. -/
theorem algebraic : Cert.algebraic_GmlpSampleIdeal_GmlpSampleRefIdeal (hGmlpSampleIdeal := Cert.GmlpSampleIdeal.Gen.facts) (hGmlpSampleRefIdeal := Cert.GmlpSampleRefIdeal.Gen.facts) := by
  intro m g m' g' hpre hagree
  refine ⟨fun c => Cert.GmlpSampleRefIdeal.Read.val_main_v58 (F := Ideal) (m (c, Cert.GmlpSampleIdeal.main_arg0)) (m (c, Cert.GmlpSampleIdeal.main_arg1)) (m (c, Cert.GmlpSampleIdeal.main_arg2)) (m (c, Cert.GmlpSampleIdeal.main_arg3)) (m (c, Cert.GmlpSampleIdeal.main_arg4)) (m (c, Cert.GmlpSampleIdeal.main_arg5)), fun c => Cert.GmlpSampleRefIdeal.Read.val_main_v31 (F := Ideal) (m (c, Cert.GmlpSampleIdeal.main_arg0)) (m (c, Cert.GmlpSampleIdeal.main_arg2)) (m (c, Cert.GmlpSampleIdeal.main_arg3)), ?_, ?_⟩
  · run_from Cert.GmlpSampleIdeal.Gen.run_main m g
    · exact final6 m c
    · exact final7 m c
  · refine (θ_run _ _ _).mono (fun r h c => ?_) (Cert.GmlpSampleRefIdeal.Value.run m' g')
    obtain ⟨h0, h1, h2, h3, h4, h5⟩ := hagree c
    obtain ⟨r0, r1, a0, a1, a2, a3, a4, a5⟩ := h c
    refine ⟨r0.trans ?_, r1.trans ?_, a0, a1, a2, a3, a4, a5⟩
    · exact (Cert.GmlpSampleRefIdeal.Read.val_main_v58_eq ..).trans (by rw [h0, h1, h2, h3, h4, h5])
    · exact (Cert.GmlpSampleRefIdeal.Read.val_main_v31_eq ..).trans (by rw [h0, h2, h3])

end Cert.GmlpSampleIdeal.Hand
end
-- ==== Proof.ConvRows.lean ====
module

public import proofs.«01_k».proof.Proof.UnitRows
public import Idealize.ShloMosaic.Lib.Pipeline.ValueKit
public import Idealize.ShloMosaic.Lib.Pipeline.ReadBack

/-!
The rows of the convolution's window: two rows of zeros, the thirty rows kept from before, and the new rows. The kernel keeps eight copies of them
in its scratch, copy `s` moved up by `s` rows; `Good n L` says that the pieces `L` written so far make the copies 0 to `n`.
-/

@[expose] public section

set_option maxRecDepth 16384

noncomputable section
namespace Cert.Rows

open Idealize.ShloMosaic

/-- Row `n` of the window: zeros, then the kept rows, then the new rows. -/
def line (past : Fin 30 → Fin 512 → EReal) (now : Fin 32 → Fin 512 → EReal) (n : ℕ) (k : Fin 512) : EReal :=
  if n < 2 then 0 else if h : n - 2 < 30 then past ⟨n - 2, h⟩ k else if h : n - 32 < 32 then now ⟨n - 32, h⟩ k else 0

/-- The shape of the eight copies. -/
abbrev Copies : Shape := ⟨3, ![8, 64, 512]⟩

/-- What the copies hold: at copy `s`, row `r`, the row `s + r` of the window. -/
def copies (past : Fin 30 → Fin 512 → EReal) (now : Fin 32 → Fin 512 → EReal) (y : Copies.Idx) : EReal :=
  line past now ((y 0).val + (y 1).val) (y 2)

/-- Copies 0 to `n` are written: every piece is a block of the copies, all of copy 0 is covered, and the first 56 rows of the others. -/
structure Good (past : Fin 30 → Fin 512 → EReal) (now : Fin 32 → Fin 512 → EReal) (n : ℕ)
    (L : List (View.Piece (Elt Ideal) Copies .f32)) : Prop where
  of : View.PiecesOf (e := .f32) (copies past now : Copies.Idx → Elt Ideal .f32) L
  cov : ∀ y : Copies.Idx, ((y 0).val = 0 ∨ ((y 0).val ≤ n ∧ (y 1).val < 56)) → ∃ p ∈ L, y ∈ p.1.set

variable {past : Fin 30 → Fin 512 → EReal} {now : Fin 32 → Fin 512 → EReal} {n : ℕ} {L : List (View.Piece (Elt Ideal) Copies .f32)}

/-- Inside the covered rows, the pieces hold the copies. -/
theorem Good.canon (h : Good past now n L) (y : Copies.Idx) (hy : (y 0).val = 0 ∨ ((y 0).val ≤ n ∧ (y 1).val < 56)) :
    View.canon L y = copies past now y :=
  View.canon_apply_of_pieces (copies past now : Copies.Idx → Elt Ideal .f32) L h.of.mem y (h.cov y hy)

/-- One more copy: rows `n + 1` to `n + 56` of copy 0 are written as copy `n + 1`. -/
theorem Good.step {sig : RefSig} {κ : Kind} {sp : Space} (v : View sig κ sp Copies .f32) (h : Good past now n L)
    (inbR : ∀ a, (![n + 1, 0, 0] : Fin 3 → ℕ) a + (![1, 56, 512] : Fin 3 → ℕ) a ≤ Copies.size a)
    (inbB : ∀ a, (![0, n + 1, 0] : Fin 3 → ℕ) a + (![1, 56, 512] : Fin 3 → ℕ) a ≤ Copies.size a)
    (f : FVec Ideal ⟨3, ![1, 56, 512]⟩ .f32 → FVec Ideal ⟨3, ![1, 56, 512]⟩ .f32) (hf : ∀ x, f x = x) :
    Good past now (n + 1) (⟨Rect.unit (s := Copies) ![n + 1, 0, 0] ![1, 56, 512] inbR,
      f (v.readCov L (Rect.unit (s := Copies) ![0, n + 1, 0] ![1, 56, 512] inbB).toLoadRect)⟩ :: L) where
  of := by
    refine ⟨fun x => ?_, h.of⟩
    have x0 : (x 0).val < 1 := (x 0).isLt
    have x1 : (x 1).val < 56 := (x 1).isLt
    simp only [hf]
    rw [View.readCov_eq_canon']
    refine (h.canon _ (.inl ?_)).trans ?_
    · show 0 + 1 * (x 0).val = 0
      omega
    · show line past now ((0 + 1 * (x 0).val) + (n + 1 + 1 * (x 1).val)) _ = line past now ((n + 1 + 1 * (x 0).val) + (0 + 1 * (x 1).val)) _
      congr 1
      omega
  cov := by
    intro y hy
    by_cases hm : (y 0).val = n + 1 ∧ (y 1).val < 56
    · refine ⟨_, List.mem_cons_self, ?_⟩
      have y2 : (y 2).val < 512 := (y 2).isLt
      rw [LoadRect.mem_set]
      intro a
      match a with
      | ⟨0, _⟩ => exact ⟨0, Nat.one_pos, show (y 0).val = n + 1 + 1 * 0 by omega⟩
      | ⟨1, _⟩ => exact ⟨(y 1).val, hm.2, show (y 1).val = 0 + 1 * (y 1).val by omega⟩
      | ⟨2, _⟩ => exact ⟨(y 2).val, y2, show (y 2).val = 0 + 1 * (y 2).val by omega⟩
    · obtain ⟨p, hp, hyp⟩ := h.cov y (by omega)
      exact ⟨p, List.mem_cons_of_mem _ hp, hyp⟩

/-- A load from copy `s`, rows `o` and on. -/
theorem Good.read {sig : RefSig} {κ : Kind} {sp : Space} (v : View sig κ sp Copies .f32) (h : Good past now n L) (s o r : ℕ)
    (inb : ∀ a, (![s, o, 0] : Fin 3 → ℕ) a + (![1, r, 512] : Fin 3 → ℕ) a ≤ Copies.size a)
    (hs : s = 0 ∨ (s ≤ n ∧ o + r ≤ 56)) :
    (v.readCov L (Rect.unit (s := Copies) ![s, o, 0] ![1, r, 512] inb).toLoadRect : FVec Ideal ⟨3, ![1, r, 512]⟩ .f32)
      = fun x => line past now (s + o + (x 1).val) (x 2) := by
  rw [View.readCov_eq_canon']
  funext x
  have x0 : (x 0).val < 1 := (x 0).isLt
  have x1 : (x 1).val < r := (x 1).isLt
  refine (h.canon _ ?_).trans ?_
  · show s + 1 * (x 0).val = 0 ∨ (s + 1 * (x 0).val ≤ n ∧ o + 1 * (x 1).val < 56)
    omega
  · have e : (⟨0 + 1 * (x 2).val, by have := (x 2).isLt; simp at this; omega⟩ : Fin 512) = x 2 := Fin.ext (by simp)
    show line past now ((s + 1 * (x 0).val) + (o + 1 * (x 1).val)) ⟨0 + 1 * (x 2).val, _⟩ = _
    rw [e]
    congr 1
    omega

/-- The sum of taps 0 to `n`, one after another. -/
def taps (v w : ℕ → EReal) : ℕ → EReal
  | 0 => v 0 * w 0
  | n + 1 => taps v w n + v (n + 1) * w (n + 1)

end Cert.Rows
end
-- ==== Proof.ConvSampleBody.lean ====
module

public import proofs.«01_k».proof.Proof.ConvRows
public import proofs.«01_k».proof.Proof.Gen.ConvSampleIdeal.Value

/-!
What one grid point of the sample's convolution leaves, as functions of the blocks it reads.
-/

@[expose] public section

set_option maxRecDepth 16384

noncomputable section
namespace Cert.ConvSampleIdeal.Hand

open Cert.ConvSampleIdeal Cert.ConvSampleIdeal.Gen Idealize.ShloMosaic Idealize.ShloMosaic.TcCoe Idealize.SL.Sem
open Idealize.ShloMosaic.Pipeline (Dat)
open Cert.Rows

/-- The kept rows of a block. -/
def kept (s : Vec Ideal S1x30x512 .f32) (r : Fin 30) (k : Fin 512) : EReal := s (ix3 (0 : Fin 1) r k)

/-- The new rows of a block: the left half times the logistic of the right half. -/
def fresh (g : Vec Ideal S32x1024 .f32) (r : Fin 32) (k : Fin 512) : EReal :=
  g (ix2 r (⟨k.val, by omega⟩ : Fin 1024)) * Ideal.logistic (g (ix2 r (⟨512 + k.val, by omega⟩ : Fin 1024)))

variable (g : Vec Ideal S32x1024 .f32) (s : Vec Ideal S1x30x512 .f32)

/-- The first three stores. -/
def copy0 (g : Vec Ideal S32x1024 .f32) (s : Vec Ideal S1x30x512 .f32) : List (View.Piece (Elt Ideal) S8x64x512 .f32) :=
    [⟨Rect.unit ![0, 32, 0] ![1, 32, 512] inb_S8x64x512_S1x32x512_0_32_0,
        k0_pay4 (View.ld g (Rect.unit ![0, 0] ![32, 512] inb_S32x1024_S32x512_0_0))
          (View.ld g (Rect.unit ![0, 512] ![32, 512] inb_S32x1024_S32x512_0_512))⟩,
      ⟨Rect.unit ![0, 2, 0] ![1, 30, 512] inb_S8x64x512_S1x30x512_0_2_0, k0_pay3 s⟩,
      ⟨Rect.unit ![0, 0, 0] ![1, 2, 512] inb_S8x64x512_S1x2x512_0_0_0, k0_pay2 (F := Ideal)⟩]

/-- The stores up to copy 1. -/
def copy1 (g : Vec Ideal S32x1024 .f32) (s : Vec Ideal S1x30x512 .f32) : List (View.Piece (Elt Ideal) S8x64x512 .f32) :=
  ⟨Rect.unit ![1, 0, 0] ![1, 56, 512] inb_S8x64x512_S1x56x512_1_0_0, k0_pay5 ((View.whole cc0_scratch0).readCov (copy0 g s)
    (Rect.unit ![0, 1, 0] ![1, 56, 512] inb_S8x64x512_S1x56x512_0_1_0).toLoadRect)⟩ :: copy0 g s

/-- The stores up to copy 2. -/
def copy2 (g : Vec Ideal S32x1024 .f32) (s : Vec Ideal S1x30x512 .f32) : List (View.Piece (Elt Ideal) S8x64x512 .f32) :=
  ⟨Rect.unit ![2, 0, 0] ![1, 56, 512] inb_S8x64x512_S1x56x512_2_0_0, k0_pay6 ((View.whole cc0_scratch0).readCov (copy1 g s)
    (Rect.unit ![0, 2, 0] ![1, 56, 512] inb_S8x64x512_S1x56x512_0_2_0).toLoadRect)⟩ :: copy1 g s

/-- The stores up to copy 3. -/
def copy3 (g : Vec Ideal S32x1024 .f32) (s : Vec Ideal S1x30x512 .f32) : List (View.Piece (Elt Ideal) S8x64x512 .f32) :=
  ⟨Rect.unit ![3, 0, 0] ![1, 56, 512] inb_S8x64x512_S1x56x512_3_0_0, k0_pay7 ((View.whole cc0_scratch0).readCov (copy2 g s)
    (Rect.unit ![0, 3, 0] ![1, 56, 512] inb_S8x64x512_S1x56x512_0_3_0).toLoadRect)⟩ :: copy2 g s

/-- The stores up to copy 4. -/
def copy4 (g : Vec Ideal S32x1024 .f32) (s : Vec Ideal S1x30x512 .f32) : List (View.Piece (Elt Ideal) S8x64x512 .f32) :=
  ⟨Rect.unit ![4, 0, 0] ![1, 56, 512] inb_S8x64x512_S1x56x512_4_0_0, k0_pay8 ((View.whole cc0_scratch0).readCov (copy3 g s)
    (Rect.unit ![0, 4, 0] ![1, 56, 512] inb_S8x64x512_S1x56x512_0_4_0).toLoadRect)⟩ :: copy3 g s

/-- The stores up to copy 5. -/
def copy5 (g : Vec Ideal S32x1024 .f32) (s : Vec Ideal S1x30x512 .f32) : List (View.Piece (Elt Ideal) S8x64x512 .f32) :=
  ⟨Rect.unit ![5, 0, 0] ![1, 56, 512] inb_S8x64x512_S1x56x512_5_0_0, k0_pay9 ((View.whole cc0_scratch0).readCov (copy4 g s)
    (Rect.unit ![0, 5, 0] ![1, 56, 512] inb_S8x64x512_S1x56x512_0_5_0).toLoadRect)⟩ :: copy4 g s

/-- The stores up to copy 6. -/
def copy6 (g : Vec Ideal S32x1024 .f32) (s : Vec Ideal S1x30x512 .f32) : List (View.Piece (Elt Ideal) S8x64x512 .f32) :=
  ⟨Rect.unit ![6, 0, 0] ![1, 56, 512] inb_S8x64x512_S1x56x512_6_0_0, k0_pay10 ((View.whole cc0_scratch0).readCov (copy5 g s)
    (Rect.unit ![0, 6, 0] ![1, 56, 512] inb_S8x64x512_S1x56x512_0_6_0).toLoadRect)⟩ :: copy5 g s

/-- The stores up to copy 7. -/
def copy7 (g : Vec Ideal S32x1024 .f32) (s : Vec Ideal S1x30x512 .f32) : List (View.Piece (Elt Ideal) S8x64x512 .f32) :=
  ⟨Rect.unit ![7, 0, 0] ![1, 56, 512] inb_S8x64x512_S1x56x512_7_0_0, k0_pay11 ((View.whole cc0_scratch0).readCov (copy6 g s)
    (Rect.unit ![0, 7, 0] ![1, 56, 512] inb_S8x64x512_S1x56x512_0_7_0).toLoadRect)⟩ :: copy6 g s

/-- The first three stores make copy 0. -/
theorem base : Good (kept s) (fresh g) 0 (copy0 g s) where
  of := by
    refine ⟨fun x => ?_, fun x => ?_, fun x => ?_, trivial⟩
    · have x0 : (x 0).val < 1 := (x 0).isLt
      have x1 : (x 1).val < 32 := (x 1).isLt
      show _ = line (kept s) (fresh g) ((0 + 1 * (x 0).val) + (32 + 1 * (x 1).val)) ⟨0 + 1 * (x 2).val, _⟩
      unfold line
      rw [if_neg (by omega), dif_neg (by omega), dif_pos (by omega)]
      unfold fresh
      pointwise [k0_pay4]
    · have x0 : (x 0).val < 1 := (x 0).isLt
      have x1 : (x 1).val < 30 := (x 1).isLt
      show _ = line (kept s) (fresh g) ((0 + 1 * (x 0).val) + (2 + 1 * (x 1).val)) ⟨0 + 1 * (x 2).val, _⟩
      unfold line
      rw [if_neg (by omega), dif_pos (by omega)]
      unfold kept
      pointwise [k0_pay3]
      refine congrArg s (funext fun a => ?_)
      match a with
      | ⟨0, _⟩ => exact Fin.ext (show (x 0).val = 0 by omega)
      | ⟨1, _⟩ => rfl
      | ⟨2, _⟩ => rfl
    · have x0 : (x 0).val < 1 := (x 0).isLt
      have x1 : (x 1).val < 2 := (x 1).isLt
      show _ = line (kept s) (fresh g) ((0 + 1 * (x 0).val) + (0 + 1 * (x 1).val)) ⟨0 + 1 * (x 2).val, _⟩
      unfold line
      rw [if_pos (by omega)]
      pointwise [k0_pay2]
  cov := by
    intro y hy
    have y0 : (y 0).val = 0 := by omega
    have y1 : (y 1).val < 64 := (y 1).isLt
    have y2 : (y 2).val < 512 := (y 2).isLt
    by_cases h32 : 32 ≤ (y 1).val
    · refine ⟨_, List.mem_cons_self, ?_⟩
      rw [LoadRect.mem_set]
      intro a
      match a with
      | ⟨0, _⟩ => exact ⟨0, Nat.one_pos, show (y 0).val = 0 + 1 * 0 by omega⟩
      | ⟨1, _⟩ => exact ⟨(y 1).val - 32, show (y 1).val - 32 < 32 by omega, show (y 1).val = 32 + 1 * ((y 1).val - 32) by omega⟩
      | ⟨2, _⟩ => exact ⟨(y 2).val, y2, show (y 2).val = 0 + 1 * (y 2).val by omega⟩
    by_cases h2 : 2 ≤ (y 1).val
    · refine ⟨_, List.mem_cons_of_mem _ List.mem_cons_self, ?_⟩
      rw [LoadRect.mem_set]
      intro a
      match a with
      | ⟨0, _⟩ => exact ⟨0, Nat.one_pos, show (y 0).val = 0 + 1 * 0 by omega⟩
      | ⟨1, _⟩ => exact ⟨(y 1).val - 2, show (y 1).val - 2 < 30 by omega, show (y 1).val = 2 + 1 * ((y 1).val - 2) by omega⟩
      | ⟨2, _⟩ => exact ⟨(y 2).val, y2, show (y 2).val = 0 + 1 * (y 2).val by omega⟩
    · refine ⟨_, List.mem_cons_of_mem _ (List.mem_cons_of_mem _ List.mem_cons_self), ?_⟩
      rw [LoadRect.mem_set]
      intro a
      match a with
      | ⟨0, _⟩ => exact ⟨0, Nat.one_pos, show (y 0).val = 0 + 1 * 0 by omega⟩
      | ⟨1, _⟩ => exact ⟨(y 1).val, show (y 1).val < 2 by omega, show (y 1).val = 0 + 1 * (y 1).val by omega⟩
      | ⟨2, _⟩ => exact ⟨(y 2).val, y2, show (y 2).val = 0 + 1 * (y 2).val by omega⟩

/-- This step only reshapes. -/
theorem pay5 (v : Vec Ideal S1x56x512 .f32) : k0_pay5 (F := Ideal) v = v := by funext x; pointwise [k0_pay5]
/-- This step only reshapes. -/
theorem pay6 (v : Vec Ideal S1x56x512 .f32) : k0_pay6 (F := Ideal) v = v := by funext x; pointwise [k0_pay6]
/-- This step only reshapes. -/
theorem pay7 (v : Vec Ideal S1x56x512 .f32) : k0_pay7 (F := Ideal) v = v := by funext x; pointwise [k0_pay7]
/-- This step only reshapes. -/
theorem pay8 (v : Vec Ideal S1x56x512 .f32) : k0_pay8 (F := Ideal) v = v := by funext x; pointwise [k0_pay8]
/-- This step only reshapes. -/
theorem pay9 (v : Vec Ideal S1x56x512 .f32) : k0_pay9 (F := Ideal) v = v := by funext x; pointwise [k0_pay9]
/-- This step only reshapes. -/
theorem pay10 (v : Vec Ideal S1x56x512 .f32) : k0_pay10 (F := Ideal) v = v := by funext x; pointwise [k0_pay10]
/-- This step only reshapes. -/
theorem pay11 (v : Vec Ideal S1x56x512 .f32) : k0_pay11 (F := Ideal) v = v := by funext x; pointwise [k0_pay11]

/-- One tap: the four groups of eight rows, each times the eight rows of the weight. -/
theorem tap_eq (v : FVec Ideal S32x512 .f32) (w : FVec Ideal S8x512 .f32) (r : Fin 32) (k : Fin 512) :
    concatenate S32x512 0
      [⟨S8x512, mulf (extractStridedSlice S8x512 ![0, 0] v slices_S32x512_o0_0_S8x512) w⟩,
        ⟨S8x512, mulf (extractStridedSlice S8x512 ![8, 0] v slices_S32x512_o8_0_S8x512) w⟩,
        ⟨S8x512, mulf (extractStridedSlice S8x512 ![16, 0] v slices_S32x512_o16_0_S8x512) w⟩,
        ⟨S8x512, mulf (extractStridedSlice S8x512 ![24, 0] v slices_S32x512_o24_0_S8x512) w⟩]
      concatenates_S8x512_S8x512_S8x512_S8x512_S32x512_d0 (ix2 r k)
      = v (ix2 r k) * w (ix2 (⟨r.val % 8, by omega⟩ : Fin 8) k) := by
  pointwise
  split_ifs with h1 h2 h3
  all_goals
    congr 3
    all_goals
      apply Fin.ext
      dsimp only
      omega

/-- The same, as a function of the place. -/
theorem tap_fun (v : FVec Ideal S32x512 .f32) (w : FVec Ideal S8x512 .f32) :
    concatenate S32x512 0
      [⟨S8x512, mulf (extractStridedSlice S8x512 ![0, 0] v slices_S32x512_o0_0_S8x512) w⟩,
        ⟨S8x512, mulf (extractStridedSlice S8x512 ![8, 0] v slices_S32x512_o8_0_S8x512) w⟩,
        ⟨S8x512, mulf (extractStridedSlice S8x512 ![16, 0] v slices_S32x512_o16_0_S8x512) w⟩,
        ⟨S8x512, mulf (extractStridedSlice S8x512 ![24, 0] v slices_S32x512_o24_0_S8x512) w⟩]
      concatenates_S8x512_S8x512_S8x512_S8x512_S32x512_d0
      = fun y => v y * w (ix2 (⟨(y 0).val % 8, by omega⟩ : Fin 8) (y 1)) := by
  funext y
  idx_vars y
  exact tap_eq v w y0 y1

/-- The stores make all eight copies. -/
theorem good7 : Good (kept s) (fresh g) 7 (copy7 g s) := by
  refine Good.step _ (n := 6) ?_ _ _ (k0_pay11 (F := Ideal)) pay11
  refine Good.step _ (n := 5) ?_ _ _ (k0_pay10 (F := Ideal)) pay10
  refine Good.step _ (n := 4) ?_ _ _ (k0_pay9 (F := Ideal)) pay9
  refine Good.step _ (n := 3) ?_ _ _ (k0_pay8 (F := Ideal)) pay8
  refine Good.step _ (n := 2) ?_ _ _ (k0_pay7 (F := Ideal)) pay7
  refine Good.step _ (n := 1) ?_ _ _ (k0_pay6 (F := Ideal)) pay6
  refine Good.step _ (n := 0) ?_ _ _ (k0_pay5 (F := Ideal)) pay5
  exact base _ _

/-- A load from the copies. -/
theorem load (s' o r : ℕ) (inb : ∀ a, (![s', o, 0] : Fin 3 → ℕ) a + (![1, r, 512] : Fin 3 → ℕ) a ≤ Copies.size a)
    (hs : s' = 0 ∨ (s' ≤ 7 ∧ o + r ≤ 56)) :
    ((View.whole cc0_scratch0).readCov (copy7 g s) (Rect.unit (s := Copies) ![s', o, 0] ![1, r, 512] inb).toLoadRect : FVec Ideal ⟨3, ![1, r, 512]⟩ .f32)
      = fun x => line (kept s) (fresh g) (s' + o + (x 1).val) (x 2) :=
  Good.read _ (good7 g s) s' o r inb hs

variable (m : (ℓ : Loc nD τ sig) → Buf (Elt Ideal) ℓ)

/-- The tail a grid point leaves: the last thirty rows of the window. -/
theorem tail_row (c : Dev nD) (t : Fin cfg0.N) (r : Fin 30) (k : Fin 512) :
    (outsAt0 m c t).2 (ix3 (0 : Fin 1) r k) = line (kept (iblk m c 2 t)) (fresh (iblk m c 0 t)) (34 + r.val) k := by
  unfold outsAt0
  frame_out
  refine (congrFun (congrArg k0_pay1 (load (iblk m c 0 t) (iblk m c 2 t) 0 34 30 _ (.inl rfl))) _).trans ?_
  pointwise [k0_pay1]

end Cert.ConvSampleIdeal.Hand
end
-- ==== Proof.ConvSampleTaps.lean ====
module

public import proofs.«01_k».proof.Proof.ConvSampleBody

/-!
The thirty-one taps of the sample's convolution, added up one after another.
-/

@[expose] public section

set_option maxRecDepth 16384

noncomputable section
namespace Cert.ConvSampleIdeal.Hand

open Cert.ConvSampleIdeal Cert.ConvSampleIdeal.Gen Idealize.ShloMosaic Idealize.ShloMosaic.TcCoe Idealize.SL.Sem
open Idealize.ShloMosaic.Pipeline (Dat)
open Cert.Rows

/-- The sum of taps 0 to `n` at one place: `w n` the eight rows of tap `n`, `v n` the rows it meets. -/
def sums (w : ℕ → Vec Ideal S8x512 .f32) (v : ℕ → Vec Ideal S1x32x512 .f32) (r : Fin 32) (k : Fin 512) : ℕ → EReal :=
  taps (fun n => v n (ix3 (0 : Fin 1) r k)) (fun n => w n (ix2 (⟨r.val % 8, by omega⟩ : Fin 8) k))

variable (w : ℕ → Vec Ideal S8x512 .f32) (v : ℕ → Vec Ideal S1x32x512 .f32)

/-- Taps 0 to 1. -/
def acc1 : FVec Ideal S32x512 .f32 :=
  k0_pay12 (w 0) (v 0) (w 1) (v 1)

/-- At one place it is the sum of those taps. -/
theorem acc1_row (r : Fin 32) (k : Fin 512) : acc1 w v (ix2 r k) = sums w v r k 1 := by
  unfold acc1
  unfold sums
  unfold k0_pay12
  simp only [tap_fun]
  pointwise [taps]

/-- Taps 0 to 4. -/
def acc2 : FVec Ideal S32x512 .f32 :=
  k0_pay15 (acc1 w v) (k0_pay13 (w 2)) (k0_pay14 (v 2)) (w 3) (v 3) (w 4) (v 4)

/-- At one place it is the sum of those taps. -/
theorem acc2_row (r : Fin 32) (k : Fin 512) : acc2 w v (ix2 r k) = sums w v r k 4 := by
  unfold acc2
  have e := acc1_row w v r k
  unfold sums at e ⊢
  generalize acc1 w v = a at e ⊢
  unfold k0_pay13 k0_pay14 k0_pay15
  simp only [tap_fun]
  pointwise [taps]
  simp only [taps, Nat.reduceAdd] at e ⊢
  rw [e]

/-- Taps 0 to 7. -/
def acc3 : FVec Ideal S32x512 .f32 :=
  k0_pay17 (acc2 w v) (k0_pay16 (w 5)) (v 5) (w 6) (v 6) (w 7) (v 7)

/-- At one place it is the sum of those taps. -/
theorem acc3_row (r : Fin 32) (k : Fin 512) : acc3 w v (ix2 r k) = sums w v r k 7 := by
  unfold acc3
  have e := acc2_row w v r k
  unfold sums at e ⊢
  generalize acc2 w v = a at e ⊢
  unfold k0_pay16 k0_pay17
  simp only [tap_fun]
  pointwise [taps]
  simp only [taps, Nat.reduceAdd] at e ⊢
  rw [e]

/-- Taps 0 to 10. -/
def acc4 : FVec Ideal S32x512 .f32 :=
  k0_pay19 (acc3 w v) (k0_pay18 (w 8)) (v 8) (w 9) (v 9) (w 10) (v 10)

/-- At one place it is the sum of those taps. -/
theorem acc4_row (r : Fin 32) (k : Fin 512) : acc4 w v (ix2 r k) = sums w v r k 10 := by
  unfold acc4
  have e := acc3_row w v r k
  unfold sums at e ⊢
  generalize acc3 w v = a at e ⊢
  unfold k0_pay18 k0_pay19
  simp only [tap_fun]
  pointwise [taps]
  simp only [taps, Nat.reduceAdd] at e ⊢
  rw [e]

/-- Taps 0 to 12. -/
def acc5 : FVec Ideal S32x512 .f32 :=
  k0_pay20 (acc4 w v) (w 11) (v 11) (w 12) (v 12)

/-- At one place it is the sum of those taps. -/
theorem acc5_row (r : Fin 32) (k : Fin 512) : acc5 w v (ix2 r k) = sums w v r k 12 := by
  unfold acc5
  have e := acc4_row w v r k
  unfold sums at e ⊢
  generalize acc4 w v = a at e ⊢
  unfold k0_pay20
  simp only [tap_fun]
  pointwise [taps]
  simp only [taps, Nat.reduceAdd] at e ⊢
  rw [e]

/-- Taps 0 to 15. -/
def acc6 : FVec Ideal S32x512 .f32 :=
  k0_pay22 (acc5 w v) (k0_pay21 (w 13) (v 13)) (w 14) (v 14) (w 15) (v 15)

/-- At one place it is the sum of those taps. -/
theorem acc6_row (r : Fin 32) (k : Fin 512) : acc6 w v (ix2 r k) = sums w v r k 15 := by
  unfold acc6
  have e := acc5_row w v r k
  unfold sums at e ⊢
  generalize acc5 w v = a at e ⊢
  unfold k0_pay21 k0_pay22
  simp only [tap_fun]
  pointwise [taps]
  simp only [taps, Nat.reduceAdd] at e ⊢
  rw [e]

/-- Taps 0 to 18. -/
def acc7 : FVec Ideal S32x512 .f32 :=
  k0_pay29 (acc6 w v) (k0_pay23 (w 16)) (k0_pay25 (v 16)) (k0_pay26 (v 16)) (k0_pay27 (w 16) (v 16)) (k0_pay28 (w 16) (v 16)) (w 17) (v 17) (w 18) (v 18)

/-- At one place it is the sum of those taps. -/
theorem acc7_row (r : Fin 32) (k : Fin 512) : acc7 w v (ix2 r k) = sums w v r k 18 := by
  unfold acc7
  have e := acc6_row w v r k
  unfold sums at e ⊢
  generalize acc6 w v = a at e ⊢
  unfold k0_pay25 k0_pay26 k0_pay27 k0_pay28 k0_pay29 k0_pay23 k0_pay24
  simp only [tap_fun]
  pointwise [taps]
  simp only [taps, Nat.reduceAdd] at e ⊢
  rw [e]

/-- Taps 0 to 21. -/
def acc8 : FVec Ideal S32x512 .f32 :=
  k0_pay35 (acc7 w v) (k0_pay30 (w 19)) (k0_pay31 (v 19)) (k0_pay32 (v 19)) (k0_pay33 (v 19)) (k0_pay34 (v 19)) (w 20) (v 20) (w 21) (v 21)

/-- At one place it is the sum of those taps. -/
theorem acc8_row (r : Fin 32) (k : Fin 512) : acc8 w v (ix2 r k) = sums w v r k 21 := by
  unfold acc8
  have e := acc7_row w v r k
  unfold sums at e ⊢
  generalize acc7 w v = a at e ⊢
  unfold k0_pay30 k0_pay32 k0_pay33 k0_pay34 k0_pay35 k0_pay31
  simp only [tap_fun]
  pointwise [taps]
  simp only [taps, Nat.reduceAdd] at e ⊢
  rw [e]

/-- Taps 0 to 24. -/
def acc9 : FVec Ideal S32x512 .f32 :=
  k0_pay38 (acc8 w v) (k0_pay36 (w 22)) (k0_pay37 (v 22)) (w 23) (v 23) (w 24) (v 24)

/-- At one place it is the sum of those taps. -/
theorem acc9_row (r : Fin 32) (k : Fin 512) : acc9 w v (ix2 r k) = sums w v r k 24 := by
  unfold acc9
  have e := acc8_row w v r k
  unfold sums at e ⊢
  generalize acc8 w v = a at e ⊢
  unfold k0_pay36 k0_pay37 k0_pay38
  simp only [tap_fun]
  pointwise [taps]
  simp only [taps, Nat.reduceAdd] at e ⊢
  rw [e]

/-- Taps 0 to 27. -/
def acc10 : FVec Ideal S32x512 .f32 :=
  k0_pay40 (acc9 w v) (k0_pay39 (w 25)) (v 25) (w 26) (v 26) (w 27) (v 27)

/-- At one place it is the sum of those taps. -/
theorem acc10_row (r : Fin 32) (k : Fin 512) : acc10 w v (ix2 r k) = sums w v r k 27 := by
  unfold acc10
  have e := acc9_row w v r k
  unfold sums at e ⊢
  generalize acc9 w v = a at e ⊢
  unfold k0_pay39 k0_pay40
  simp only [tap_fun]
  pointwise [taps]
  simp only [taps, Nat.reduceAdd] at e ⊢
  rw [e]

/-- Taps 0 to 30. -/
def acc11 : FVec Ideal S32x512 .f32 :=
  k0_pay42 (acc10 w v) (k0_pay41 (w 28)) (v 28) (w 29) (v 29) (w 30) (v 30)

/-- At one place it is the sum of those taps. -/
theorem acc11_row (r : Fin 32) (k : Fin 512) : acc11 w v (ix2 r k) = sums w v r k 30 := by
  unfold acc11
  have e := acc10_row w v r k
  unfold sums at e ⊢
  generalize acc10 w v = a at e ⊢
  unfold k0_pay41 k0_pay42
  simp only [tap_fun]
  pointwise [taps]
  simp only [taps, Nat.reduceAdd] at e ⊢
  rw [e]

variable (m : (ℓ : Loc nD τ sig) → Buf (Elt Ideal) ℓ)

/-- The eight rows of tap `n`. -/
def tapW (W : Vec Ideal S248x512 .f32) (n : ℕ) : Vec Ideal S8x512 .f32 :=
  if h : ∀ a, (![8 * n, 0] : Fin 2 → ℕ) a + S8x512.size a ≤ S248x512.size a then View.ld W (Rect.unit ![8 * n, 0] S8x512.size h) else fun _ => 0

/-- The rows tap `n` meets. -/
def tapV (g : Vec Ideal S32x1024 .f32) (s : Vec Ideal S1x30x512 .f32) (n : ℕ) : Vec Ideal S1x32x512 .f32 :=
  fun x => line (kept s) (fresh g) (2 + n + (x 1).val) (x 2)

set_option maxHeartbeats 4000000 in
/-- What a grid point stores in the first result, by its own steps. -/
theorem stored (c : Dev nD) (t : Fin cfg0.N) :
    (outsAt0 m c t).1 = k0_pay44 (k0_pay43 (acc11 (tapW (iblk m c 3 t)) (tapV (iblk m c 0 t) (iblk m c 2 t)))) (iblk m c 4 t) (iblk m c 5 t)
      (iblk m c 6 t) (iblk m c 1 t) := by
  funext y
  unfold outsAt0
  frame_out
  have hv : ∀ (n s' o : ℕ) (inb : ∀ a, (![s', o, 0] : Fin 3 → ℕ) a + (![1, 32, 512] : Fin 3 → ℕ) a ≤ Copies.size a), 2 + n = s' + o →
      (s' = 0 ∨ (s' ≤ 7 ∧ o + 32 ≤ 56)) → tapV (iblk m c 0 t) (iblk m c 2 t) n
        = (View.whole cc0_scratch0).readCov (copy7 (iblk m c 0 t) (iblk m c 2 t)) (Rect.unit (s := Copies) ![s', o, 0] ![1, 32, 512] inb).toLoadRect := by
    intro n s' o inb e h
    rw [load _ _ s' o 32 inb h]
    funext x
    show line _ _ (2 + n + (x 1).val) _ = _
    rw [e]
  have hw : ∀ (n : ℕ) (h : ∀ a, (![8 * n, 0] : Fin 2 → ℕ) a + S8x512.size a ≤ S248x512.size a),
      tapW (iblk m c 3 t) n = View.ld (iblk m c 3 t) (Rect.unit ![8 * n, 0] S8x512.size h) := fun n h => dif_pos h
  unfold acc11 acc10 acc9 acc8 acc7 acc6 acc5 acc4 acc3 acc2 acc1
  rw [hv 0 2 0 (by decide) rfl (by decide), hv 1 3 0 (by decide) rfl (by decide), hv 2 4 0 (by decide) rfl (by decide), hv 3 5 0 (by decide) rfl (by decide), hv 4 6 0 (by decide) rfl (by decide), hv 5 7 0 (by decide) rfl (by decide), hv 6 0 8 (by decide) rfl (by decide), hv 7 1 8 (by decide) rfl (by decide), hv 8 2 8 (by decide) rfl (by decide), hv 9 3 8 (by decide) rfl (by decide), hv 10 4 8 (by decide) rfl (by decide), hv 11 5 8 (by decide) rfl (by decide), hv 12 6 8 (by decide) rfl (by decide), hv 13 7 8 (by decide) rfl (by decide), hv 14 0 16 (by decide) rfl (by decide), hv 15 1 16 (by decide) rfl (by decide), hv 16 2 16 (by decide) rfl (by decide), hv 17 3 16 (by decide) rfl (by decide), hv 18 4 16 (by decide) rfl (by decide), hv 19 5 16 (by decide) rfl (by decide), hv 20 6 16 (by decide) rfl (by decide), hv 21 7 16 (by decide) rfl (by decide), hv 22 0 24 (by decide) rfl (by decide), hv 23 1 24 (by decide) rfl (by decide), hv 24 2 24 (by decide) rfl (by decide), hv 25 3 24 (by decide) rfl (by decide), hv 26 4 24 (by decide) rfl (by decide), hv 27 5 24 (by decide) rfl (by decide), hv 28 6 24 (by decide) rfl (by decide), hv 29 7 24 (by decide) rfl (by decide), hv 30 0 32 (by decide) rfl (by decide)]
  rw [hw 0 (by decide), hw 1 (by decide), hw 2 (by decide), hw 3 (by decide), hw 4 (by decide), hw 5 (by decide), hw 6 (by decide), hw 7 (by decide), hw 8 (by decide), hw 9 (by decide), hw 10 (by decide), hw 11 (by decide), hw 12 (by decide), hw 13 (by decide), hw 14 (by decide), hw 15 (by decide), hw 16 (by decide), hw 17 (by decide), hw 18 (by decide), hw 19 (by decide), hw 20 (by decide), hw 21 (by decide), hw 22 (by decide), hw 23 (by decide), hw 24 (by decide), hw 25 (by decide), hw 26 (by decide), hw 27 (by decide), hw 28 (by decide), hw 29 (by decide), hw 30 (by decide)]
  rfl
end Cert.ConvSampleIdeal.Hand
end
-- ==== Proof.ConvSampleRef.lean ====
module

public import proofs.«01_k».proof.Proof.ConvRows
public import proofs.«01_k».proof.Proof.Gen.ConvSampleRefIdeal.Read

/-!
The convolution's reference at decode, row by row.
-/

@[expose] public section

set_option maxRecDepth 16384

noncomputable section
namespace Cert.ConvSampleRefIdeal.Hand

open Cert.ConvSampleRefIdeal Cert.ConvSampleRefIdeal.Read Idealize.ShloMosaic Idealize.ShloMosaic.TcCoe
open Cert.Rows

variable (x0 : (⟨S17408x1024, .f32⟩ : BufTy).Contents (Elt Ideal)) (x1 : (⟨S17408x512, .f32⟩ : BufTy).Contents (Elt Ideal))
  (x2 : (⟨S32x30x512, .f32⟩ : BufTy).Contents (Elt Ideal)) (x3 : (⟨S31x512, .f32⟩ : BufTy).Contents (Elt Ideal))
  (x4 x5 x6 : (⟨S512, .f32⟩ : BufTy).Contents (Elt Ideal))

/-- The kept rows of sequence `b`. -/
def kept (b : Fin 32) (r : Fin 30) (k : Fin 512) : EReal := x2 (ix3 b r k)

/-- The new rows of sequence `b`. -/
def fresh (b : Fin 32) (r : Fin 32) (k : Fin 512) : EReal :=
  x0 (ix2 (⟨16384 + (b.val * 32 + r.val), by omega⟩ : Fin 17408) (⟨k.val, by omega⟩ : Fin 1024))
    * Ideal.logistic (x0 (ix2 (⟨16384 + (b.val * 32 + r.val), by omega⟩ : Fin 17408) (⟨512 + k.val, by omega⟩ : Fin 1024)))

/-- The weights by their number. -/
def weight (k : Fin 512) (n : ℕ) : EReal := if h : n < 31 then x3 (ix2 (⟨n, h⟩ : Fin 31) k) else 0

/-- The rows of sequence `b`'s window that row `r` meets. -/
def met (b r : Fin 32) (k : Fin 512) (n : ℕ) : EReal := line (kept x2 b) (fresh x0 b) (2 + n + r.val) k

/-- The new rows, as the reference makes them. -/
theorem fresh_row (b r : Fin 32) (k : Fin 512) : val_main_v10 (F := Ideal) x0 (ix3 b r k) = fresh x0 b r k := by
  unfold fresh Ideal.logistic
  pointwise [val_main_v10, val_main_v9, val_main_v8, val_main_v7, val_main_v6, val_main_v5, val_main_v4, val_main_v3, val_main_v2, val_main_v1, val_main_v0, val_main_cst, val_main_cst_0]

/-- The window. -/
theorem ext_row (b : Fin 32) (n : Fin 62) (k : Fin 512) : val_main_v11 (F := Ideal) x0 x2 (ix3 b n k) = line (kept x2 b) (fresh x0 b) (2 + n.val) k := by
  unfold line
  rw [if_neg (by omega)]
  by_cases h : n.val < 30
  · rw [dif_pos (by omega)]
    unfold kept
    pointwise [val_main_v11]
    rw [dif_pos h]
  · rw [dif_neg (by omega), dif_pos (by omega)]
    rw [← fresh_row]
    pointwise [val_main_v11]
    rw [dif_neg h]
    congr 2
    exact Fin.ext (show n.val - 30 = 2 + n.val - 32 by omega)

/-- The sum of taps 0 to 0. -/
theorem tap0 (b r : Fin 32) (k : Fin 512) : val_main_v17 (F := Ideal) x0 x2 x3 (ix3 b r k) = taps (met x0 x2 b r k) (weight x3 k) 0 := by
  have e := ext_row x0 x2 b ⟨0 + r.val, by omega⟩ k
  show _ = met x0 x2 b r k 0 * weight x3 k 0
  rw [show met x0 x2 b r k 0 = line (kept x2 b) (fresh x0 b) (2 + (0 + r.val)) k from by unfold met; rw [Nat.add_assoc], ← e]
  rw [show weight x3 k 0 = x3 (ix2 ⟨0, by omega⟩ k) from rfl]
  pointwise [val_main_v17, val_main_v16, val_main_v15, val_main_v14, val_main_v13, val_main_v12]

/-- The sum of taps 0 to 1. -/
theorem tap1 (b r : Fin 32) (k : Fin 512) : val_main_v24 (F := Ideal) x0 x2 x3 (ix3 b r k) = taps (met x0 x2 b r k) (weight x3 k) 1 := by
  have e := ext_row x0 x2 b ⟨1 + r.val, by omega⟩ k
  show _ = taps _ _ 0 + met x0 x2 b r k 1 * weight x3 k 1
  rw [← tap0]
  rw [show met x0 x2 b r k 1 = line (kept x2 b) (fresh x0 b) (2 + (1 + r.val)) k from by unfold met; rw [Nat.add_assoc], ← e]
  rw [show weight x3 k 1 = x3 (ix2 ⟨1, by omega⟩ k) from rfl]
  pointwise [val_main_v24, val_main_v23, val_main_v22, val_main_v21, val_main_v20, val_main_v19, val_main_v18]

/-- The sum of taps 0 to 2. -/
theorem tap2 (b r : Fin 32) (k : Fin 512) : val_main_v31 (F := Ideal) x0 x2 x3 (ix3 b r k) = taps (met x0 x2 b r k) (weight x3 k) 2 := by
  have e := ext_row x0 x2 b ⟨2 + r.val, by omega⟩ k
  show _ = taps _ _ 1 + met x0 x2 b r k 2 * weight x3 k 2
  rw [← tap1]
  rw [show met x0 x2 b r k 2 = line (kept x2 b) (fresh x0 b) (2 + (2 + r.val)) k from by unfold met; rw [Nat.add_assoc], ← e]
  rw [show weight x3 k 2 = x3 (ix2 ⟨2, by omega⟩ k) from rfl]
  pointwise [val_main_v31, val_main_v30, val_main_v29, val_main_v28, val_main_v27, val_main_v26, val_main_v25]

/-- The sum of taps 0 to 3. -/
theorem tap3 (b r : Fin 32) (k : Fin 512) : val_main_v38 (F := Ideal) x0 x2 x3 (ix3 b r k) = taps (met x0 x2 b r k) (weight x3 k) 3 := by
  have e := ext_row x0 x2 b ⟨3 + r.val, by omega⟩ k
  show _ = taps _ _ 2 + met x0 x2 b r k 3 * weight x3 k 3
  rw [← tap2]
  rw [show met x0 x2 b r k 3 = line (kept x2 b) (fresh x0 b) (2 + (3 + r.val)) k from by unfold met; rw [Nat.add_assoc], ← e]
  rw [show weight x3 k 3 = x3 (ix2 ⟨3, by omega⟩ k) from rfl]
  pointwise [val_main_v38, val_main_v37, val_main_v36, val_main_v35, val_main_v34, val_main_v33, val_main_v32]

/-- The sum of taps 0 to 4. -/
theorem tap4 (b r : Fin 32) (k : Fin 512) : val_main_v45 (F := Ideal) x0 x2 x3 (ix3 b r k) = taps (met x0 x2 b r k) (weight x3 k) 4 := by
  have e := ext_row x0 x2 b ⟨4 + r.val, by omega⟩ k
  show _ = taps _ _ 3 + met x0 x2 b r k 4 * weight x3 k 4
  rw [← tap3]
  rw [show met x0 x2 b r k 4 = line (kept x2 b) (fresh x0 b) (2 + (4 + r.val)) k from by unfold met; rw [Nat.add_assoc], ← e]
  rw [show weight x3 k 4 = x3 (ix2 ⟨4, by omega⟩ k) from rfl]
  pointwise [val_main_v45, val_main_v44, val_main_v43, val_main_v42, val_main_v41, val_main_v40, val_main_v39]

/-- The sum of taps 0 to 5. -/
theorem tap5 (b r : Fin 32) (k : Fin 512) : val_main_v52 (F := Ideal) x0 x2 x3 (ix3 b r k) = taps (met x0 x2 b r k) (weight x3 k) 5 := by
  have e := ext_row x0 x2 b ⟨5 + r.val, by omega⟩ k
  show _ = taps _ _ 4 + met x0 x2 b r k 5 * weight x3 k 5
  rw [← tap4]
  rw [show met x0 x2 b r k 5 = line (kept x2 b) (fresh x0 b) (2 + (5 + r.val)) k from by unfold met; rw [Nat.add_assoc], ← e]
  rw [show weight x3 k 5 = x3 (ix2 ⟨5, by omega⟩ k) from rfl]
  pointwise [val_main_v52, val_main_v51, val_main_v50, val_main_v49, val_main_v48, val_main_v47, val_main_v46]

/-- The sum of taps 0 to 6. -/
theorem tap6 (b r : Fin 32) (k : Fin 512) : val_main_v59 (F := Ideal) x0 x2 x3 (ix3 b r k) = taps (met x0 x2 b r k) (weight x3 k) 6 := by
  have e := ext_row x0 x2 b ⟨6 + r.val, by omega⟩ k
  show _ = taps _ _ 5 + met x0 x2 b r k 6 * weight x3 k 6
  rw [← tap5]
  rw [show met x0 x2 b r k 6 = line (kept x2 b) (fresh x0 b) (2 + (6 + r.val)) k from by unfold met; rw [Nat.add_assoc], ← e]
  rw [show weight x3 k 6 = x3 (ix2 ⟨6, by omega⟩ k) from rfl]
  pointwise [val_main_v59, val_main_v58, val_main_v57, val_main_v56, val_main_v55, val_main_v54, val_main_v53]

/-- The sum of taps 0 to 7. -/
theorem tap7 (b r : Fin 32) (k : Fin 512) : val_main_v66 (F := Ideal) x0 x2 x3 (ix3 b r k) = taps (met x0 x2 b r k) (weight x3 k) 7 := by
  have e := ext_row x0 x2 b ⟨7 + r.val, by omega⟩ k
  show _ = taps _ _ 6 + met x0 x2 b r k 7 * weight x3 k 7
  rw [← tap6]
  rw [show met x0 x2 b r k 7 = line (kept x2 b) (fresh x0 b) (2 + (7 + r.val)) k from by unfold met; rw [Nat.add_assoc], ← e]
  rw [show weight x3 k 7 = x3 (ix2 ⟨7, by omega⟩ k) from rfl]
  pointwise [val_main_v66, val_main_v65, val_main_v64, val_main_v63, val_main_v62, val_main_v61, val_main_v60]

/-- The sum of taps 0 to 8. -/
theorem tap8 (b r : Fin 32) (k : Fin 512) : val_main_v73 (F := Ideal) x0 x2 x3 (ix3 b r k) = taps (met x0 x2 b r k) (weight x3 k) 8 := by
  have e := ext_row x0 x2 b ⟨8 + r.val, by omega⟩ k
  show _ = taps _ _ 7 + met x0 x2 b r k 8 * weight x3 k 8
  rw [← tap7]
  rw [show met x0 x2 b r k 8 = line (kept x2 b) (fresh x0 b) (2 + (8 + r.val)) k from by unfold met; rw [Nat.add_assoc], ← e]
  rw [show weight x3 k 8 = x3 (ix2 ⟨8, by omega⟩ k) from rfl]
  pointwise [val_main_v73, val_main_v72, val_main_v71, val_main_v70, val_main_v69, val_main_v68, val_main_v67]

/-- The sum of taps 0 to 9. -/
theorem tap9 (b r : Fin 32) (k : Fin 512) : val_main_v80 (F := Ideal) x0 x2 x3 (ix3 b r k) = taps (met x0 x2 b r k) (weight x3 k) 9 := by
  have e := ext_row x0 x2 b ⟨9 + r.val, by omega⟩ k
  show _ = taps _ _ 8 + met x0 x2 b r k 9 * weight x3 k 9
  rw [← tap8]
  rw [show met x0 x2 b r k 9 = line (kept x2 b) (fresh x0 b) (2 + (9 + r.val)) k from by unfold met; rw [Nat.add_assoc], ← e]
  rw [show weight x3 k 9 = x3 (ix2 ⟨9, by omega⟩ k) from rfl]
  pointwise [val_main_v80, val_main_v79, val_main_v78, val_main_v77, val_main_v76, val_main_v75, val_main_v74]

/-- The sum of taps 0 to 10. -/
theorem tap10 (b r : Fin 32) (k : Fin 512) : val_main_v87 (F := Ideal) x0 x2 x3 (ix3 b r k) = taps (met x0 x2 b r k) (weight x3 k) 10 := by
  have e := ext_row x0 x2 b ⟨10 + r.val, by omega⟩ k
  show _ = taps _ _ 9 + met x0 x2 b r k 10 * weight x3 k 10
  rw [← tap9]
  rw [show met x0 x2 b r k 10 = line (kept x2 b) (fresh x0 b) (2 + (10 + r.val)) k from by unfold met; rw [Nat.add_assoc], ← e]
  rw [show weight x3 k 10 = x3 (ix2 ⟨10, by omega⟩ k) from rfl]
  pointwise [val_main_v87, val_main_v86, val_main_v85, val_main_v84, val_main_v83, val_main_v82, val_main_v81]

/-- The sum of taps 0 to 11. -/
theorem tap11 (b r : Fin 32) (k : Fin 512) : val_main_v94 (F := Ideal) x0 x2 x3 (ix3 b r k) = taps (met x0 x2 b r k) (weight x3 k) 11 := by
  have e := ext_row x0 x2 b ⟨11 + r.val, by omega⟩ k
  show _ = taps _ _ 10 + met x0 x2 b r k 11 * weight x3 k 11
  rw [← tap10]
  rw [show met x0 x2 b r k 11 = line (kept x2 b) (fresh x0 b) (2 + (11 + r.val)) k from by unfold met; rw [Nat.add_assoc], ← e]
  rw [show weight x3 k 11 = x3 (ix2 ⟨11, by omega⟩ k) from rfl]
  pointwise [val_main_v94, val_main_v93, val_main_v92, val_main_v91, val_main_v90, val_main_v89, val_main_v88]

/-- The sum of taps 0 to 12. -/
theorem tap12 (b r : Fin 32) (k : Fin 512) : val_main_v101 (F := Ideal) x0 x2 x3 (ix3 b r k) = taps (met x0 x2 b r k) (weight x3 k) 12 := by
  have e := ext_row x0 x2 b ⟨12 + r.val, by omega⟩ k
  show _ = taps _ _ 11 + met x0 x2 b r k 12 * weight x3 k 12
  rw [← tap11]
  rw [show met x0 x2 b r k 12 = line (kept x2 b) (fresh x0 b) (2 + (12 + r.val)) k from by unfold met; rw [Nat.add_assoc], ← e]
  rw [show weight x3 k 12 = x3 (ix2 ⟨12, by omega⟩ k) from rfl]
  pointwise [val_main_v101, val_main_v100, val_main_v99, val_main_v98, val_main_v97, val_main_v96, val_main_v95]

/-- The sum of taps 0 to 13. -/
theorem tap13 (b r : Fin 32) (k : Fin 512) : val_main_v108 (F := Ideal) x0 x2 x3 (ix3 b r k) = taps (met x0 x2 b r k) (weight x3 k) 13 := by
  have e := ext_row x0 x2 b ⟨13 + r.val, by omega⟩ k
  show _ = taps _ _ 12 + met x0 x2 b r k 13 * weight x3 k 13
  rw [← tap12]
  rw [show met x0 x2 b r k 13 = line (kept x2 b) (fresh x0 b) (2 + (13 + r.val)) k from by unfold met; rw [Nat.add_assoc], ← e]
  rw [show weight x3 k 13 = x3 (ix2 ⟨13, by omega⟩ k) from rfl]
  pointwise [val_main_v108, val_main_v107, val_main_v106, val_main_v105, val_main_v104, val_main_v103, val_main_v102]

/-- The sum of taps 0 to 14. -/
theorem tap14 (b r : Fin 32) (k : Fin 512) : val_main_v115 (F := Ideal) x0 x2 x3 (ix3 b r k) = taps (met x0 x2 b r k) (weight x3 k) 14 := by
  have e := ext_row x0 x2 b ⟨14 + r.val, by omega⟩ k
  show _ = taps _ _ 13 + met x0 x2 b r k 14 * weight x3 k 14
  rw [← tap13]
  rw [show met x0 x2 b r k 14 = line (kept x2 b) (fresh x0 b) (2 + (14 + r.val)) k from by unfold met; rw [Nat.add_assoc], ← e]
  rw [show weight x3 k 14 = x3 (ix2 ⟨14, by omega⟩ k) from rfl]
  pointwise [val_main_v115, val_main_v114, val_main_v113, val_main_v112, val_main_v111, val_main_v110, val_main_v109]

/-- The sum of taps 0 to 15. -/
theorem tap15 (b r : Fin 32) (k : Fin 512) : val_main_v122 (F := Ideal) x0 x2 x3 (ix3 b r k) = taps (met x0 x2 b r k) (weight x3 k) 15 := by
  have e := ext_row x0 x2 b ⟨15 + r.val, by omega⟩ k
  show _ = taps _ _ 14 + met x0 x2 b r k 15 * weight x3 k 15
  rw [← tap14]
  rw [show met x0 x2 b r k 15 = line (kept x2 b) (fresh x0 b) (2 + (15 + r.val)) k from by unfold met; rw [Nat.add_assoc], ← e]
  rw [show weight x3 k 15 = x3 (ix2 ⟨15, by omega⟩ k) from rfl]
  pointwise [val_main_v122, val_main_v121, val_main_v120, val_main_v119, val_main_v118, val_main_v117, val_main_v116]

/-- The sum of taps 0 to 16. -/
theorem tap16 (b r : Fin 32) (k : Fin 512) : val_main_v129 (F := Ideal) x0 x2 x3 (ix3 b r k) = taps (met x0 x2 b r k) (weight x3 k) 16 := by
  have e := ext_row x0 x2 b ⟨16 + r.val, by omega⟩ k
  show _ = taps _ _ 15 + met x0 x2 b r k 16 * weight x3 k 16
  rw [← tap15]
  rw [show met x0 x2 b r k 16 = line (kept x2 b) (fresh x0 b) (2 + (16 + r.val)) k from by unfold met; rw [Nat.add_assoc], ← e]
  rw [show weight x3 k 16 = x3 (ix2 ⟨16, by omega⟩ k) from rfl]
  pointwise [val_main_v129, val_main_v128, val_main_v127, val_main_v126, val_main_v125, val_main_v124, val_main_v123]

/-- The sum of taps 0 to 17. -/
theorem tap17 (b r : Fin 32) (k : Fin 512) : val_main_v136 (F := Ideal) x0 x2 x3 (ix3 b r k) = taps (met x0 x2 b r k) (weight x3 k) 17 := by
  have e := ext_row x0 x2 b ⟨17 + r.val, by omega⟩ k
  show _ = taps _ _ 16 + met x0 x2 b r k 17 * weight x3 k 17
  rw [← tap16]
  rw [show met x0 x2 b r k 17 = line (kept x2 b) (fresh x0 b) (2 + (17 + r.val)) k from by unfold met; rw [Nat.add_assoc], ← e]
  rw [show weight x3 k 17 = x3 (ix2 ⟨17, by omega⟩ k) from rfl]
  pointwise [val_main_v136, val_main_v135, val_main_v134, val_main_v133, val_main_v132, val_main_v131, val_main_v130]

/-- The sum of taps 0 to 18. -/
theorem tap18 (b r : Fin 32) (k : Fin 512) : val_main_v143 (F := Ideal) x0 x2 x3 (ix3 b r k) = taps (met x0 x2 b r k) (weight x3 k) 18 := by
  have e := ext_row x0 x2 b ⟨18 + r.val, by omega⟩ k
  show _ = taps _ _ 17 + met x0 x2 b r k 18 * weight x3 k 18
  rw [← tap17]
  rw [show met x0 x2 b r k 18 = line (kept x2 b) (fresh x0 b) (2 + (18 + r.val)) k from by unfold met; rw [Nat.add_assoc], ← e]
  rw [show weight x3 k 18 = x3 (ix2 ⟨18, by omega⟩ k) from rfl]
  pointwise [val_main_v143, val_main_v142, val_main_v141, val_main_v140, val_main_v139, val_main_v138, val_main_v137]

/-- The sum of taps 0 to 19. -/
theorem tap19 (b r : Fin 32) (k : Fin 512) : val_main_v150 (F := Ideal) x0 x2 x3 (ix3 b r k) = taps (met x0 x2 b r k) (weight x3 k) 19 := by
  have e := ext_row x0 x2 b ⟨19 + r.val, by omega⟩ k
  show _ = taps _ _ 18 + met x0 x2 b r k 19 * weight x3 k 19
  rw [← tap18]
  rw [show met x0 x2 b r k 19 = line (kept x2 b) (fresh x0 b) (2 + (19 + r.val)) k from by unfold met; rw [Nat.add_assoc], ← e]
  rw [show weight x3 k 19 = x3 (ix2 ⟨19, by omega⟩ k) from rfl]
  pointwise [val_main_v150, val_main_v149, val_main_v148, val_main_v147, val_main_v146, val_main_v145, val_main_v144]

/-- The sum of taps 0 to 20. -/
theorem tap20 (b r : Fin 32) (k : Fin 512) : val_main_v157 (F := Ideal) x0 x2 x3 (ix3 b r k) = taps (met x0 x2 b r k) (weight x3 k) 20 := by
  have e := ext_row x0 x2 b ⟨20 + r.val, by omega⟩ k
  show _ = taps _ _ 19 + met x0 x2 b r k 20 * weight x3 k 20
  rw [← tap19]
  rw [show met x0 x2 b r k 20 = line (kept x2 b) (fresh x0 b) (2 + (20 + r.val)) k from by unfold met; rw [Nat.add_assoc], ← e]
  rw [show weight x3 k 20 = x3 (ix2 ⟨20, by omega⟩ k) from rfl]
  pointwise [val_main_v157, val_main_v156, val_main_v155, val_main_v154, val_main_v153, val_main_v152, val_main_v151]

/-- The sum of taps 0 to 21. -/
theorem tap21 (b r : Fin 32) (k : Fin 512) : val_main_v164 (F := Ideal) x0 x2 x3 (ix3 b r k) = taps (met x0 x2 b r k) (weight x3 k) 21 := by
  have e := ext_row x0 x2 b ⟨21 + r.val, by omega⟩ k
  show _ = taps _ _ 20 + met x0 x2 b r k 21 * weight x3 k 21
  rw [← tap20]
  rw [show met x0 x2 b r k 21 = line (kept x2 b) (fresh x0 b) (2 + (21 + r.val)) k from by unfold met; rw [Nat.add_assoc], ← e]
  rw [show weight x3 k 21 = x3 (ix2 ⟨21, by omega⟩ k) from rfl]
  pointwise [val_main_v164, val_main_v163, val_main_v162, val_main_v161, val_main_v160, val_main_v159, val_main_v158]

/-- The sum of taps 0 to 22. -/
theorem tap22 (b r : Fin 32) (k : Fin 512) : val_main_v171 (F := Ideal) x0 x2 x3 (ix3 b r k) = taps (met x0 x2 b r k) (weight x3 k) 22 := by
  have e := ext_row x0 x2 b ⟨22 + r.val, by omega⟩ k
  show _ = taps _ _ 21 + met x0 x2 b r k 22 * weight x3 k 22
  rw [← tap21]
  rw [show met x0 x2 b r k 22 = line (kept x2 b) (fresh x0 b) (2 + (22 + r.val)) k from by unfold met; rw [Nat.add_assoc], ← e]
  rw [show weight x3 k 22 = x3 (ix2 ⟨22, by omega⟩ k) from rfl]
  pointwise [val_main_v171, val_main_v170, val_main_v169, val_main_v168, val_main_v167, val_main_v166, val_main_v165]

/-- The sum of taps 0 to 23. -/
theorem tap23 (b r : Fin 32) (k : Fin 512) : val_main_v178 (F := Ideal) x0 x2 x3 (ix3 b r k) = taps (met x0 x2 b r k) (weight x3 k) 23 := by
  have e := ext_row x0 x2 b ⟨23 + r.val, by omega⟩ k
  show _ = taps _ _ 22 + met x0 x2 b r k 23 * weight x3 k 23
  rw [← tap22]
  rw [show met x0 x2 b r k 23 = line (kept x2 b) (fresh x0 b) (2 + (23 + r.val)) k from by unfold met; rw [Nat.add_assoc], ← e]
  rw [show weight x3 k 23 = x3 (ix2 ⟨23, by omega⟩ k) from rfl]
  pointwise [val_main_v178, val_main_v177, val_main_v176, val_main_v175, val_main_v174, val_main_v173, val_main_v172]

/-- The sum of taps 0 to 24. -/
theorem tap24 (b r : Fin 32) (k : Fin 512) : val_main_v185 (F := Ideal) x0 x2 x3 (ix3 b r k) = taps (met x0 x2 b r k) (weight x3 k) 24 := by
  have e := ext_row x0 x2 b ⟨24 + r.val, by omega⟩ k
  show _ = taps _ _ 23 + met x0 x2 b r k 24 * weight x3 k 24
  rw [← tap23]
  rw [show met x0 x2 b r k 24 = line (kept x2 b) (fresh x0 b) (2 + (24 + r.val)) k from by unfold met; rw [Nat.add_assoc], ← e]
  rw [show weight x3 k 24 = x3 (ix2 ⟨24, by omega⟩ k) from rfl]
  pointwise [val_main_v185, val_main_v184, val_main_v183, val_main_v182, val_main_v181, val_main_v180, val_main_v179]

/-- The sum of taps 0 to 25. -/
theorem tap25 (b r : Fin 32) (k : Fin 512) : val_main_v192 (F := Ideal) x0 x2 x3 (ix3 b r k) = taps (met x0 x2 b r k) (weight x3 k) 25 := by
  have e := ext_row x0 x2 b ⟨25 + r.val, by omega⟩ k
  show _ = taps _ _ 24 + met x0 x2 b r k 25 * weight x3 k 25
  rw [← tap24]
  rw [show met x0 x2 b r k 25 = line (kept x2 b) (fresh x0 b) (2 + (25 + r.val)) k from by unfold met; rw [Nat.add_assoc], ← e]
  rw [show weight x3 k 25 = x3 (ix2 ⟨25, by omega⟩ k) from rfl]
  pointwise [val_main_v192, val_main_v191, val_main_v190, val_main_v189, val_main_v188, val_main_v187, val_main_v186]

/-- The sum of taps 0 to 26. -/
theorem tap26 (b r : Fin 32) (k : Fin 512) : val_main_v199 (F := Ideal) x0 x2 x3 (ix3 b r k) = taps (met x0 x2 b r k) (weight x3 k) 26 := by
  have e := ext_row x0 x2 b ⟨26 + r.val, by omega⟩ k
  show _ = taps _ _ 25 + met x0 x2 b r k 26 * weight x3 k 26
  rw [← tap25]
  rw [show met x0 x2 b r k 26 = line (kept x2 b) (fresh x0 b) (2 + (26 + r.val)) k from by unfold met; rw [Nat.add_assoc], ← e]
  rw [show weight x3 k 26 = x3 (ix2 ⟨26, by omega⟩ k) from rfl]
  pointwise [val_main_v199, val_main_v198, val_main_v197, val_main_v196, val_main_v195, val_main_v194, val_main_v193]

/-- The sum of taps 0 to 27. -/
theorem tap27 (b r : Fin 32) (k : Fin 512) : val_main_v206 (F := Ideal) x0 x2 x3 (ix3 b r k) = taps (met x0 x2 b r k) (weight x3 k) 27 := by
  have e := ext_row x0 x2 b ⟨27 + r.val, by omega⟩ k
  show _ = taps _ _ 26 + met x0 x2 b r k 27 * weight x3 k 27
  rw [← tap26]
  rw [show met x0 x2 b r k 27 = line (kept x2 b) (fresh x0 b) (2 + (27 + r.val)) k from by unfold met; rw [Nat.add_assoc], ← e]
  rw [show weight x3 k 27 = x3 (ix2 ⟨27, by omega⟩ k) from rfl]
  pointwise [val_main_v206, val_main_v205, val_main_v204, val_main_v203, val_main_v202, val_main_v201, val_main_v200]

/-- The sum of taps 0 to 28. -/
theorem tap28 (b r : Fin 32) (k : Fin 512) : val_main_v213 (F := Ideal) x0 x2 x3 (ix3 b r k) = taps (met x0 x2 b r k) (weight x3 k) 28 := by
  have e := ext_row x0 x2 b ⟨28 + r.val, by omega⟩ k
  show _ = taps _ _ 27 + met x0 x2 b r k 28 * weight x3 k 28
  rw [← tap27]
  rw [show met x0 x2 b r k 28 = line (kept x2 b) (fresh x0 b) (2 + (28 + r.val)) k from by unfold met; rw [Nat.add_assoc], ← e]
  rw [show weight x3 k 28 = x3 (ix2 ⟨28, by omega⟩ k) from rfl]
  pointwise [val_main_v213, val_main_v212, val_main_v211, val_main_v210, val_main_v209, val_main_v208, val_main_v207]

/-- The sum of taps 0 to 29. -/
theorem tap29 (b r : Fin 32) (k : Fin 512) : val_main_v220 (F := Ideal) x0 x2 x3 (ix3 b r k) = taps (met x0 x2 b r k) (weight x3 k) 29 := by
  have e := ext_row x0 x2 b ⟨29 + r.val, by omega⟩ k
  show _ = taps _ _ 28 + met x0 x2 b r k 29 * weight x3 k 29
  rw [← tap28]
  rw [show met x0 x2 b r k 29 = line (kept x2 b) (fresh x0 b) (2 + (29 + r.val)) k from by unfold met; rw [Nat.add_assoc], ← e]
  rw [show weight x3 k 29 = x3 (ix2 ⟨29, by omega⟩ k) from rfl]
  pointwise [val_main_v220, val_main_v219, val_main_v218, val_main_v217, val_main_v216, val_main_v215, val_main_v214]

/-- The sum of taps 0 to 30. -/
theorem tap30 (b r : Fin 32) (k : Fin 512) : val_main_v227 (F := Ideal) x0 x2 x3 (ix3 b r k) = taps (met x0 x2 b r k) (weight x3 k) 30 := by
  have e := ext_row x0 x2 b ⟨30 + r.val, by omega⟩ k
  show _ = taps _ _ 29 + met x0 x2 b r k 30 * weight x3 k 30
  rw [← tap29]
  rw [show met x0 x2 b r k 30 = line (kept x2 b) (fresh x0 b) (2 + (30 + r.val)) k from by unfold met; rw [Nat.add_assoc], ← e]
  rw [show weight x3 k 30 = x3 (ix2 ⟨30, by omega⟩ k) from rfl]
  pointwise [val_main_v227, val_main_v226, val_main_v225, val_main_v224, val_main_v223, val_main_v222, val_main_v221]

/-- The tail. -/
theorem tail_row (b : Fin 32) (r : Fin 30) (k : Fin 512) : val_main_v254 (F := Ideal) x0 x2 (ix3 b r k) = line (kept x2 b) (fresh x0 b) (34 + r.val) k := by
  have e := ext_row x0 x2 b ⟨32 + r.val, by omega⟩ k
  rw [show 34 + r.val = 2 + (32 + r.val) from by omega, ← e]
  pointwise [val_main_v254]

/-- The convolution's sum and bias under layer normalisation. -/
theorem layer_row (b r : Fin 32) (k : Fin 512) : val_main_v252 (F := Ideal) x0 x2 x3 x4 x5 x6 (ix3 b r k)
    = layered (fun j => taps (met x0 x2 b r j) (weight x3 j) 30 + x4 (ix1 j)) (fun j => x5 (ix1 j)) (fun j => x6 (ix1 j)) k := by
  rw [← funext (fun j : Fin 512 => congrArg (· + x4 (ix1 j)) (tap30 x0 x2 x3 b r j))]
  unfold layered mean512
  pointwise [val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_cst_1, val_main_cst_2, val_main_cst_3, val_main_cst_4, val_main_cst_5]

/-- The convolution's result. -/
theorem y_row (i : Fin 1024) (k : Fin 512) : val_main_v259 (F := Ideal) x0 x1 x2 x3 x4 x5 x6 (ix2 i k)
    = silu (layered (fun j => taps (met x0 x2 ⟨i.val / 32, by omega⟩ ⟨i.val % 32, by omega⟩ j) (weight x3 j) 30 + x4 (ix1 j)) (fun j => x5 (ix1 j)) (fun j => x6 (ix1 j)) k)
      * silu (x1 (ix2 (⟨16384 + i.val, by omega⟩ : Fin 17408) k)) := by
  unfold silu Ideal.logistic
  rw [← layer_row]
  pointwise [val_main_v259, val_main_v258, val_main_v257, val_main_v256, val_main_v255, val_main_v253, val_main_call0_v0, val_main_call0_v1, val_main_call0_v2, val_main_call0_v3, val_main_call0_v4, val_main_call0_v5, val_main_call0_cst, val_main_call0_cst_0, val_main_call1_v0, val_main_call1_v1, val_main_call1_v2, val_main_call1_v3, val_main_call1_v4, val_main_call1_v5, val_main_call1_cst, val_main_call1_cst_0]

end Cert.ConvSampleRefIdeal.Hand
end
-- ==== Proof.ConvSampleFinal.lean ====
module

public import proofs.«01_k».proof.Proof.ConvSampleTaps
public import proofs.«01_k».proof.Proof.ConvSampleRef

/-! The convolution's two result arrays at decode are the reference's. -/

@[expose] public section

set_option maxRecDepth 16384
set_option maxHeartbeats 4000000

noncomputable section
namespace Cert.ConvSampleIdeal.Hand

open Cert.ConvSampleIdeal Cert.ConvSampleIdeal.Gen Idealize.ShloMosaic Idealize.ShloMosaic.TcCoe Idealize.SL.Sem
open Idealize.ShloMosaic.Pipeline (Dat)
open Cert.Rows

/-- What follows the taps, at one place: the bias, the normalisation, and the gate. -/
theorem pay44_row (y z : Vec Ideal S32x512 .f32) (b g h : Vec Ideal S1x512 .f32) (r : Fin 32) (k : Fin 512) :
    k0_pay44 (k0_pay43 y) b g h z (ix2 r k)
      = silu (layered (fun j => y (ix2 r j) + b (ix2 (0 : Fin 1) j)) (fun j => g (ix2 (0 : Fin 1) j)) (fun j => h (ix2 (0 : Fin 1) j)) k) * silu (z (ix2 r k)) := by
  unfold silu layered mean512
  pointwise [k0_pay43, k0_pay44]

variable (m : (ℓ : Loc nD τ sig) → Buf (Elt Ideal) ℓ)

/-- Where each window stands at a grid point. -/
theorem idx : ∀ t : Fin cfg0.N, win0_0.index t = ![512 + t.val, 0] ∧ win0_1.index t = ![512 + t.val, 0] ∧ win0_2.index t = ![t.val, 0, 0] ∧ win0_3.index t = ![0, 0] ∧ win0_4.index t = ![0, 0] ∧ win0_5.index t = ![0, 0] ∧ win0_6.index t = ![0, 0] ∧ win0_7.index t = ![t.val, 0] ∧ win0_8.index t = ![t.val, 0, 0] :=
  (by decide +kernel : ∀ t : Fin grid0.N, _)

/-- What window 0 holds at a grid point, in terms of the arguments. -/
theorem block0 (c : Dev nD) (t : Fin cfg0.N) (r : Fin 32) (a : Fin 17408) (ha : (a : ℕ) = 16384 + 32 * t.val + r) (k : Fin 1024) :
    iblk m c 0 t (ix2 r k) = m (c, main_arg0) (ix2 a k) := by
  have ht : t.val < 32 := t.isLt
  blk_point [iblk, V, idx t]

/-- What window 1 holds at a grid point, in terms of the arguments. -/
theorem block1 (c : Dev nD) (t : Fin cfg0.N) (r : Fin 32) (a : Fin 17408) (ha : (a : ℕ) = 16384 + 32 * t.val + r) (k : Fin 512) :
    iblk m c 1 t (ix2 r k) = m (c, main_arg1) (ix2 a k) := by
  have ht : t.val < 32 := t.isLt
  blk_point [iblk, V, idx t]

/-- What window 2 holds at a grid point, in terms of the arguments. -/
theorem block2 (c : Dev nD) (t : Fin cfg0.N) (a : Fin 32) (ha : (a : ℕ) = t.val) (r : Fin 30) (k : Fin 512) :
    iblk m c 2 t (ix3 (0 : Fin 1) r k) = m (c, main_arg2) (ix3 a r k) := by
  have ht : t.val < 32 := t.isLt
  blk_point [iblk, V, idx t]

/-- The weights as the region finds them: each row eight times. -/
theorem block3 (c : Dev nD) (t : Fin cfg0.N) (a : Fin 248) (n : Fin 31) (hn : n.val = a.val / 8) (k : Fin 512) :
    iblk m c 3 t (ix2 a k) = m (c, main_arg3) (ix2 n k) := by
  have e : iblk m c 3 t (ix2 a k) = V m c main_v1 (ix2 a k) := by blk_point [iblk, idx t]
  rw [e]; entry_read; pointwise
  rw [show n = ⟨a.val / 8, by omega⟩ from Fin.ext hn]

/-- What window 4 holds at a grid point, in terms of the arguments. -/
theorem block4 (c : Dev nD) (t : Fin cfg0.N) (k : Fin 512) : iblk m c 4 t (ix2 (0 : Fin 1) k) = m (c, main_arg4) (ix1 k) := by
  have e : iblk m c 4 t (ix2 0 k) = V m c main_v2 (ix2 0 k) := by blk_point [iblk, idx t]
  rw [e]; entry_read; pointwise

/-- What window 5 holds at a grid point, in terms of the arguments. -/
theorem block5 (c : Dev nD) (t : Fin cfg0.N) (k : Fin 512) : iblk m c 5 t (ix2 (0 : Fin 1) k) = m (c, main_arg5) (ix1 k) := by
  have e : iblk m c 5 t (ix2 0 k) = V m c main_v3 (ix2 0 k) := by blk_point [iblk, idx t]
  rw [e]; entry_read; pointwise

/-- What window 6 holds at a grid point, in terms of the arguments. -/
theorem block6 (c : Dev nD) (t : Fin cfg0.N) (k : Fin 512) : iblk m c 6 t (ix2 (0 : Fin 1) k) = m (c, main_arg6) (ix1 k) := by
  have e : iblk m c 6 t (ix2 0 k) = V m c main_v4 (ix2 0 k) := by blk_point [iblk, idx t]
  rw [e]; entry_read; pointwise

/-- The window of a grid point is the reference's window of its sequence. -/
theorem window (c : Dev nD) (t : Fin cfg0.N) (a : Fin 32) (ha : (a : ℕ) = t.val) :
    line (kept (iblk m c 2 t)) (fresh (iblk m c 0 t))
      = line (Cert.ConvSampleRefIdeal.Hand.kept (m (c, main_arg2)) a) (Cert.ConvSampleRefIdeal.Hand.fresh (m (c, main_arg0)) a) := by
  have e2 : kept (iblk m c 2 t) = Cert.ConvSampleRefIdeal.Hand.kept (m (c, main_arg2)) a :=
    funext fun r => funext fun k => block2 m c t a ha r k
  have e0 : fresh (iblk m c 0 t) = Cert.ConvSampleRefIdeal.Hand.fresh (m (c, main_arg0)) a := by
    funext r k
    unfold fresh Cert.ConvSampleRefIdeal.Hand.fresh
    rw [block0 m c t r ⟨16384 + (a.val * 32 + r.val), by omega⟩ (by show 16384 + (a.val * 32 + r.val) = _; omega),
      block0 m c t r ⟨16384 + (a.val * 32 + r.val), by omega⟩ (by show 16384 + (a.val * 32 + r.val) = _; omega)]
  rw [e2, e0]

/-- The rows of tap `n`, at one place. -/
theorem tapW_row (c : Dev nD) (t : Fin cfg0.N) (n : ℕ) (r : Fin 8) (k : Fin 512) :
    tapW (iblk m c 3 t) n (ix2 r k) = Cert.ConvSampleRefIdeal.Hand.weight (m (c, main_arg3)) k n := by
  unfold tapW Cert.ConvSampleRefIdeal.Hand.weight
  by_cases h : n < 31
  · rw [dif_pos h, dif_pos (by intro a; match a with | ⟨0, _⟩ => (show 8 * n + 8 ≤ 248; omega) | ⟨1, _⟩ => (show 0 + 512 ≤ 512; omega))]
    refine Eq.trans ?_ (block3 m c t ⟨8 * n + r.val, by omega⟩ ⟨n, h⟩ (by show n = (8 * n + r.val) / 8; omega) k)
    refine congrArg (iblk m c 3 t) (funext fun a => ?_)
    match a with
    | ⟨0, _⟩ => exact Fin.ext (show 8 * n + 1 * r.val = 8 * n + r.val by omega)
    | ⟨1, _⟩ => exact Fin.ext (show 0 + 1 * k.val = k.val by omega)
  · rw [dif_neg h, dif_neg (by intro e; have := e 0; change 8 * n + 8 ≤ 248 at this; omega)]

/-- One entry of the first result as a point leaves it is the reference's. -/
theorem point7 (c : Dev nD) (t : Fin cfg0.N) (r : Fin 32) (k : Fin 512) (i : Fin 1024) (hi : (i : ℕ) = 32 * t.val + r) :
    (outsAt0 m c t).1 (ix2 r k) = Cert.ConvSampleRefIdeal.Read.val_main_v259 (F := Ideal) (m (c, main_arg0)) (m (c, main_arg1)) (m (c, main_arg2)) (m (c, main_arg3)) (m (c, main_arg4)) (m (c, main_arg5)) (m (c, main_arg6)) (ix2 i k) := by
  have ht : t.val < 32 := t.isLt
  rw [stored, pay44_row, Cert.ConvSampleRefIdeal.Hand.y_row]
  have hy : ∀ j : Fin 512, acc11 (tapW (iblk m c 3 t)) (tapV (iblk m c 0 t) (iblk m c 2 t)) (ix2 r j)
      = taps (Cert.ConvSampleRefIdeal.Hand.met (m (c, main_arg0)) (m (c, main_arg2)) ⟨i.val / 32, by omega⟩ ⟨i.val % 32, by omega⟩ j)
          (Cert.ConvSampleRefIdeal.Hand.weight (m (c, main_arg3)) j) 30 := by
    intro j
    rw [acc11_row]
    unfold sums
    have e1 : (fun n => tapV (iblk m c 0 t) (iblk m c 2 t) n (ix3 (0 : Fin 1) r j))
        = Cert.ConvSampleRefIdeal.Hand.met (m (c, main_arg0)) (m (c, main_arg2)) ⟨i.val / 32, by omega⟩ ⟨i.val % 32, by omega⟩ j := by
      funext n
      unfold Cert.ConvSampleRefIdeal.Hand.met
      rw [← window m c t ⟨i.val / 32, by omega⟩ (by show i.val / 32 = _; omega)]
      show line _ _ (2 + n + r.val) j = line _ _ (2 + n + i.val % 32) j
      rw [show i.val % 32 = r.val by omega]
    rw [e1, show (fun n => tapW (iblk m c 3 t) n (ix2 (⟨r.val % 8, by omega⟩ : Fin 8) j)) = Cert.ConvSampleRefIdeal.Hand.weight (m (c, main_arg3)) j from
      funext fun n => tapW_row m c t n _ j]
  simp only [hy, block4, block5, block6, block1 m c t r ⟨16384 + i.val, by omega⟩ (by show 16384 + i.val = _; omega)]

/-- The first result's array after the run. -/
theorem final7 (c : Dev nD) : (dats m 0 c).arrAt 7 (cfgs 0).N = Cert.ConvSampleRefIdeal.Read.val_main_v259 (F := Ideal) (m (c, main_arg0)) (m (c, main_arg1)) (m (c, main_arg2)) (m (c, main_arg3)) (m (c, main_arg4)) (m (c, main_arg5)) (m (c, main_arg6)) := by
  refine (dats m 0 c).arrAt_eq_of_covers 7 _ (by decide +kernel) fun t _ y => ?_
  blk_simp
  rw [after0_7]
  have ht : t.val < 32 := t.isLt
  idx_vars y
  refine (point7 m c t y0 y1 ⟨32 * t.val + y0.val, by omega⟩ rfl).trans ?_
  blk_ext [idx t]

/-- The tail's array after the run. -/
theorem final8 (c : Dev nD) : (dats m 0 c).arrAt 8 (cfgs 0).N = Cert.ConvSampleRefIdeal.Read.val_main_v254 (F := Ideal) (m (c, main_arg0)) (m (c, main_arg2)) := by
  refine (dats m 0 c).arrAt_eq_of_covers 8 _ (by decide +kernel) fun t _ y => ?_
  blk_simp
  rw [after0_8]
  have ht : t.val < 32 := t.isLt
  idx_vars y
  obtain rfl : y0 = (0 : Fin 1) := Fin.ext (by omega)
  refine (tail_row m c t y1 y2).trans ?_
  rw [window m c t ⟨t.val, ht⟩ rfl, ← Cert.ConvSampleRefIdeal.Hand.tail_row]
  blk_ext [idx t]

end Cert.ConvSampleIdeal.Hand
end
-- ==== Proof.ConvSampleClaim.lean ====
module

public import proofs.«01_k».proof.Defs
public import proofs.«01_k».proof.Proof.ConvSampleFinal
public import proofs.«01_k».proof.Proof.Gen.ConvSampleRefIdeal.Run

@[expose] public section

set_option maxRecDepth 16384
set_option maxHeartbeats 4000000

noncomputable section

namespace Cert.ConvSampleIdeal.Hand

open Idealize.ShloMosaic Idealize.ShloMosaic.TcCoe Idealize.SL.Sem

/-- The convolution at decode and its reference, from equal arguments, end with equal results. -/
theorem algebraic : Cert.algebraic_ConvSampleIdeal_ConvSampleRefIdeal (hConvSampleIdeal := Cert.ConvSampleIdeal.Gen.facts) (hConvSampleRefIdeal := Cert.ConvSampleRefIdeal.Gen.facts) := by
  intro m g m' g' hpre hagree
  refine ⟨fun c => Cert.ConvSampleRefIdeal.Read.val_main_v259 (F := Ideal) (m (c, Cert.ConvSampleIdeal.main_arg0)) (m (c, Cert.ConvSampleIdeal.main_arg1)) (m (c, Cert.ConvSampleIdeal.main_arg2)) (m (c, Cert.ConvSampleIdeal.main_arg3)) (m (c, Cert.ConvSampleIdeal.main_arg4)) (m (c, Cert.ConvSampleIdeal.main_arg5)) (m (c, Cert.ConvSampleIdeal.main_arg6)), fun c => Cert.ConvSampleRefIdeal.Read.val_main_v254 (F := Ideal) (m (c, Cert.ConvSampleIdeal.main_arg0)) (m (c, Cert.ConvSampleIdeal.main_arg2)), ?_, ?_⟩
  · run_from Cert.ConvSampleIdeal.Gen.run_main m g
    · exact final7 m c
    · exact final8 m c
  · refine (θ_run _ _ _).mono (fun r h c => ?_) (Cert.ConvSampleRefIdeal.Value.run m' g')
    obtain ⟨h0, h1, h2, h3, h4, h5, h6⟩ := hagree c
    obtain ⟨r0, r1, a0, a1, a2, a3, a4, a5, a6⟩ := h c
    refine ⟨r0.trans ?_, r1.trans ?_, a0, a1, a2, a3, a4, a5, a6⟩
    · exact (Cert.ConvSampleRefIdeal.Read.val_main_v259_eq ..).trans (by change Cert.ConvSampleRefIdeal.Read.val_main_v259 (F := Ideal) (m' (c.tc.loc Cert.ConvSampleRefIdeal.main_arg0)) (m' (c.tc.loc Cert.ConvSampleRefIdeal.main_arg1)) (m' (c.tc.loc Cert.ConvSampleRefIdeal.main_arg2)) (m' (c.tc.loc Cert.ConvSampleRefIdeal.main_arg3)) (m' (c.tc.loc Cert.ConvSampleRefIdeal.main_arg4)) (m' (c.tc.loc Cert.ConvSampleRefIdeal.main_arg5)) (m' (c.tc.loc Cert.ConvSampleRefIdeal.main_arg6)) = _; rw [h0, h1, h2, h3, h4, h5, h6])
    · exact (Cert.ConvSampleRefIdeal.Read.val_main_v254_eq ..).trans (by change Cert.ConvSampleRefIdeal.Read.val_main_v254 (F := Ideal) (m' (c.tc.loc Cert.ConvSampleRefIdeal.main_arg0)) (m' (c.tc.loc Cert.ConvSampleRefIdeal.main_arg2)) = _; rw [h0, h2])

end Cert.ConvSampleIdeal.Hand
end
-- ==== Proof.MergeBody.lean ====
module

public import proofs.«01_k».proof.Proof.Rows
public import proofs.«01_k».proof.Proof.Gen.MergeIdeal.Value
public import Idealize.ShloMosaic.Lib.Pipeline.ValueKit

@[expose] public section

set_option maxRecDepth 16384

noncomputable section

namespace Cert.MergeIdeal.Hand

open Cert.MergeIdeal Cert.MergeIdeal.Gen Idealize.ShloMosaic Idealize.ShloMosaic.TcCoe Idealize.SL.Sem
open Cert.Rows

/-- The merged rows with their residual, entry by entry. -/
theorem pay6_apply (i : grid0.Coords) (v0 v10 v21 v33 v35 : Vec Ideal S256x1024 .f32) (v3 v4 v13 v14 v24 v25 : Vec Ideal S256x512 .bf16)
    (v6 v16 v27 : Vec Ideal S512x1024 .bf16) (v39 : Vec Ideal S1024x1024 .bf16) (r : Fin 256) (j : Fin 1024) :
    k0_pay6 (F := Ideal) (BitVec.ofNat 32 (i 0).val) (k0_pay2 i v0 v3 v4 v6 v10 v13 v14 v16) (k0_pay3 v21) (k0_pay4 i v24 v25) (k0_pay5 v27) (constant S256x1024 .f32 0x00000000#32) v33 v35 v39 (ix2 r j)
      = resid (fun j => if (i 0).val < 64 then v33 (ix2 r j) else v35 (ix2 r j))
          (merged (fun j => v0 (ix2 r j)) (fun j => v10 (ix2 r j)) (fun j => v21 (ix2 r j))
            (fun k => if (i 0).val < 64 then v3 (ix2 r k) else v4 (ix2 r k)) (fun k => if (i 0).val < 64 then v13 (ix2 r k) else v14 (ix2 r k))
            (fun k => if (i 0).val < 64 then v24 (ix2 r k) else v25 (ix2 r k))
            (fun k j => v6 (ix2 k j)) (fun k j => v16 (ix2 k j)) (fun k j => v27 (ix2 k j)))
          (fun k j => v39 (ix2 k j)) j := by
  unfold resid merged
  simp only [← select_prompt (i 0).val (i 0).isLt]
  pointwise [k0_pay6, k0_pay5, k0_pay4, k0_pay3, k0_pay2]

/-- What is stored: the row and its gated embedding. -/
theorem pay1_apply (i : grid0.Coords) (x v61' : FVec Ideal S256x1024 .f32) (v63 v65 : Vec Ideal S256x256 .f32) (v69 : Vec Ideal S256x1024 .bf16) (r : Fin 256) (j : Fin 1024) :
    k0_pay1 (F := Ideal) x v61' (k0_pay8 (BitVec.ofNat 32 (i 0).val) v63 v65) v69 (ix2 r j)
      = x (ix2 r j) + v61' (ix2 r j) * ∑ k : Fin 256, (if (i 0).val < 64 then v63 (ix2 r k) else v65 (ix2 r k)) * v69 (ix2 k j) := by
  simp only [← select_prompt (i 0).val (i 0).isLt]
  pointwise [k0_pay1, k0_pay8]

/-- The gate of the embedding, read off the normalised row. -/
theorem pay7_apply (arg0 : BitVec 32) (v20 v22 : FVec Ideal S256x1024 .f32) (v26 : Vec Ideal S256x512 .bf16) (v28 : FVec Ideal S512x1024 .bf16) (cst : FVec Ideal S256x1024 .f32)
    (v33 v35 : Vec Ideal S256x1024 .f32) (v39 : Vec Ideal S1024x1024 .bf16) (v43 : Vec Ideal S1x1024 .f32) (v58 : Vec Ideal S1024x1024 .bf16)
    (y : FVec Ideal S256x1024 .f32) (hy : k0_pay6 (F := Ideal) arg0 v20 v22 v26 v28 cst v33 v35 v39 = y) (r : Fin 256) (j : Fin 1024) :
    k0_pay7 (F := Ideal) arg0 v20 v22 v26 v28 cst v33 v35 v39 v43 v58 (ix2 r j)
      = Ideal.logistic (∑ k, normed (fun k => y (ix2 r k)) (fun k => v43 (ix2 0 k)) k * v58 (ix2 k j)) := by
  unfold normed
  unfold k0_pay7
  rw [hy]
  pointwise

/-- What a point leaves in the result's block, row by row: the merge of that row of its input blocks. -/
theorem out_row (i : grid0.Coords) (x0 x1 x2 x3 x4 x5 : Vec Ideal S256x512 .bf16) (x6 x7 : Vec Ideal S256x1024 .f32)
    (x8 x9 : Vec Ideal S256x256 .f32) (x10 : Vec Ideal S256x3072 .f32) (x11 x12 x13 : Vec Ideal S512x1024 .bf16) (x14 : Vec Ideal S1024x1024 .bf16)
    (x15 : Vec Ideal S1x1024 .f32) (x16 : Vec Ideal S1024x1024 .bf16) (x17 : Vec Ideal S256x1024 .bf16) (x18 : Vec Ideal S1x1024 .f32) (r : Fin 256) (j : Fin 1024) :
    out0_19 (F := Ideal) i x0 x1 x2 x3 x4 x5 x6 x7 x8 x9 x10 x11 x12 x13 x14 x15 x16 x17 x18 (ix2 r j)
      = mergeRow (fun k => if (i 0).val < 64 then x0 (ix2 r k) else x1 (ix2 r k)) (fun k => if (i 0).val < 64 then x2 (ix2 r k) else x3 (ix2 r k)) (fun k => if (i 0).val < 64 then x4 (ix2 r k) else x5 (ix2 r k)) (fun k => if (i 0).val < 64 then x6 (ix2 r k) else x7 (ix2 r k)) (fun k => if (i 0).val < 64 then x8 (ix2 r k) else x9 (ix2 r k))
          (fun j => x10 (ix2 r j)) (fun k j => x11 (ix2 k j)) (fun k j => x12 (ix2 k j)) (fun k j => x13 (ix2 k j)) (fun k j => x14 (ix2 k j))
          (fun k => x15 (ix2 0 k)) (fun k j => x16 (ix2 k j)) (fun k j => x17 (ix2 k j)) j := by
  unfold_out out0_19
  frame_out
  rw [pay1_apply, pay7_apply _ _ _ _ _ _ _ _ _ _ _ _ rfl, pay6_apply]
  simp only [pay6_apply]
  unfold mergeRow gated
  pointwise

end Cert.MergeIdeal.Hand
end
-- ==== Proof.MergeRef.lean ====
module

public import proofs.«01_k».proof.Proof.Rows
public import proofs.«01_k».proof.Proof.Gen.MergeRefIdeal.Read
public import Idealize.ShloMosaic.Lib.Pipeline.ValueKit

@[expose] public section

set_option maxRecDepth 16384

noncomputable section

/-! The merge's reference, row by row. -/

namespace Cert.MergeRefIdeal.Hand

open Cert.MergeRefIdeal Cert.MergeRefIdeal.Read Idealize.ShloMosaic Idealize.ShloMosaic.TcCoe
open Cert.Rows

/-- A prompt row: the merged branches with their residual. -/
theorem prompt_resid (x0 x2 x4 x6 x10 x11 x12 x13 x14) (i : Fin 16384) (j : Fin 1024) :
    val_main_v26 (F := Ideal) x0 x2 x4 x6 x10 x11 x12 x13 x14 (ix2 i j)
      = resid (fun j => x6 (ix3 ⟨i / 2048, by omega⟩ ⟨i % 2048, by omega⟩ j)) (merged (fun j => (fun j : Fin 3072 => x10 (ix2 ⟨i, by omega⟩ j)) ⟨j, by omega⟩) (fun j => (fun j : Fin 3072 => x10 (ix2 ⟨i, by omega⟩ j)) ⟨1024 + j, by omega⟩) (fun j => (fun j : Fin 3072 => x10 (ix2 ⟨i, by omega⟩ j)) ⟨2048 + j, by omega⟩)
          (fun k => x0 (ix2 i k)) (fun k => x2 (ix2 i k)) (fun k => x4 (ix2 i k)) (fun k j => x11 (ix2 k j)) (fun k j => x12 (ix2 k j)) (fun k j => x13 (ix2 k j))) (fun k j => x14 (ix2 k j)) j := by
  unfold resid merged Ideal.logistic
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v3, val_main_v2, val_main_v1, val_main_v0, val_main_cst, val_main_cst_0]

/-- A prompt row: the whole row. -/
theorem prompt (x0 x2 x4 x6 x8 x10 x11 x12 x13 x14 x15 x16 x17) (i : Fin 16384) (j : Fin 1024) :
    val_main_v49 (F := Ideal) x0 x2 x4 x6 x8 x10 x11 x12 x13 x14 x15 x16 x17 (ix2 i j)
      = mergeRow (fun k => x0 (ix2 i k)) (fun k => x2 (ix2 i k)) (fun k => x4 (ix2 i k)) (fun j => x6 (ix3 ⟨i / 2048, by omega⟩ ⟨i % 2048, by omega⟩ j)) (fun k => x8 (ix4 0 ⟨i / 2048, by omega⟩ ⟨i % 2048, by omega⟩ k)) (fun j : Fin 3072 => x10 (ix2 ⟨i, by omega⟩ j)) (fun k j => x11 (ix2 k j)) (fun k j => x12 (ix2 k j)) (fun k j => x13 (ix2 k j)) (fun k j => x14 (ix2 k j)) (fun k => x15 (ix1 k)) (fun k j => x16 (ix2 k j)) (fun k j => x17 (ix2 k j)) j := by
  unfold mergeRow
  rw [← funext (prompt_resid x0 x2 x4 x6 x10 x11 x12 x13 x14 i)]
  unfold gated normed Ideal.logistic
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v6, val_main_v5, val_main_v4, val_main_cst_1, val_main_cst_2, val_main_cst_3, val_main_cst_4, val_main_cst_5]

/-- A sample row: the merged branches with their residual. -/
theorem sample_resid (x1 x3 x5 x7 x10 x11 x12 x13 x14) (i : Fin 1024) (j : Fin 1024) :
    val_main_v76 (F := Ideal) x1 x3 x5 x7 x10 x11 x12 x13 x14 (ix2 i j)
      = resid (fun j => x7 (ix3 ⟨i / 32, by omega⟩ ⟨i % 32, by omega⟩ j)) (merged (fun j => (fun j : Fin 3072 => x10 (ix2 ⟨16384 + i, by omega⟩ j)) ⟨j, by omega⟩) (fun j => (fun j : Fin 3072 => x10 (ix2 ⟨16384 + i, by omega⟩ j)) ⟨1024 + j, by omega⟩) (fun j => (fun j : Fin 3072 => x10 (ix2 ⟨16384 + i, by omega⟩ j)) ⟨2048 + j, by omega⟩)
          (fun k => x1 (ix2 i k)) (fun k => x3 (ix2 i k)) (fun k => x5 (ix2 i k)) (fun k j => x11 (ix2 k j)) (fun k j => x12 (ix2 k j)) (fun k j => x13 (ix2 k j))) (fun k j => x14 (ix2 k j)) j := by
  unfold resid merged Ideal.logistic
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v53, val_main_v52, val_main_v51, val_main_v50, val_main_cst_6, val_main_cst_7]

/-- A sample row: the whole row. -/
theorem sample (x1 x3 x5 x7 x9 x10 x11 x12 x13 x14 x15 x16 x17) (i : Fin 1024) (j : Fin 1024) :
    val_main_v99 (F := Ideal) x1 x3 x5 x7 x9 x10 x11 x12 x13 x14 x15 x16 x17 (ix2 i j)
      = mergeRow (fun k => x1 (ix2 i k)) (fun k => x3 (ix2 i k)) (fun k => x5 (ix2 i k)) (fun j => x7 (ix3 ⟨i / 32, by omega⟩ ⟨i % 32, by omega⟩ j)) (fun k => x9 (ix4 0 ⟨i / 32, by omega⟩ ⟨i % 32, by omega⟩ k)) (fun j : Fin 3072 => x10 (ix2 ⟨16384 + i, by omega⟩ j)) (fun k j => x11 (ix2 k j)) (fun k j => x12 (ix2 k j)) (fun k j => x13 (ix2 k j)) (fun k j => x14 (ix2 k j)) (fun k => x15 (ix1 k)) (fun k j => x16 (ix2 k j)) (fun k j => x17 (ix2 k j)) j := by
  unfold mergeRow
  rw [← funext (sample_resid x1 x3 x5 x7 x10 x11 x12 x13 x14 i)]
  unfold gated normed Ideal.logistic
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v56, val_main_v55, val_main_v54, val_main_cst_8, val_main_cst_9, val_main_cst_10, val_main_cst_11, val_main_cst_12]

end Cert.MergeRefIdeal.Hand
end
-- ==== Proof.MergeFinal.lean ====
module

public import proofs.«01_k».proof.Proof.MergeBody
public import proofs.«01_k».proof.Proof.MergeRef

@[expose] public section

set_option maxRecDepth 16384

noncomputable section

/-! The merge's result array is the reference's, row by row. -/

namespace Cert.MergeIdeal.Hand

open Cert.MergeIdeal Cert.MergeIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- Where each window stands at a grid point. -/
theorem idx : ∀ t : Fin cfg0.N, win0_0.index t = ![min t.val 63, 0] ∧ win0_1.index t = ![t.val - 64, 0] ∧ win0_2.index t = ![min t.val 63, 0] ∧ win0_3.index t = ![t.val - 64, 0] ∧ win0_4.index t = ![min t.val 63, 0] ∧ win0_5.index t = ![t.val - 64, 0] ∧ win0_6.index t = ![min t.val 63, 0] ∧ win0_7.index t = ![t.val - 64, 0] ∧ win0_8.index t = ![min t.val 63, 0] ∧ win0_9.index t = ![t.val - 64, 0] ∧ win0_10.index t = ![t.val, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![t.val, 0] ∧ (grid0.coords t 0).val = t.val :=
  (by decide +kernel : ∀ t : Fin grid0.N, _)

/-- A grid point's number, read off its coordinates. -/
theorem coord_val (t : Fin cfg0.N) : (grid0.coords t 0).val = t.val :=
  (by decide +kernel : ∀ t : Fin grid0.N, (grid0.coords t 0).val = t.val) t

/-- What the region finds in `main_v0`. -/
theorem entry_v0 (c : Dev nD) (a : Fin 32768) (ha : (a : ℕ) < 16384) (k : Fin 256) : V m c main_v0 (ix2 a k) = m (c, main_arg8) (ix4 0 ⟨a / 2048, by omega⟩ ⟨a % 2048, by omega⟩ k) := by
  entry_read; pointwise
  blk_ext

/-- What the region finds in `main_v1`. -/
theorem entry_v1 (c : Dev nD) (a : Fin 2048) (ha : (a : ℕ) < 1024) (k : Fin 256) : V m c main_v1 (ix2 a k) = m (c, main_arg9) (ix4 0 ⟨a / 32, by omega⟩ ⟨a % 32, by omega⟩ k) := by
  entry_read; pointwise
  blk_ext

/-- What the region finds in `main_v2`. -/
theorem entry_v2 (c : Dev nD) (a : Fin 16384) (k : Fin 1024) : V m c main_v2 (ix2 a k) = m (c, main_arg6) (ix3 ⟨a / 2048, by omega⟩ ⟨a % 2048, by omega⟩ k) := by
  entry_read; pointwise

/-- What the region finds in `main_v3`. -/
theorem entry_v3 (c : Dev nD) (a : Fin 1024) (k : Fin 1024) : V m c main_v3 (ix2 a k) = m (c, main_arg7) (ix3 ⟨a / 32, by omega⟩ ⟨a % 32, by omega⟩ k) := by
  entry_read; pointwise

theorem weight11 (c : Dev nD) (t : Fin cfg0.N) (k : Fin 512) (j : Fin 1024) : iblk m c 11 t (ix2 k j) = m (c, main_arg11) (ix2 k j) := by
  have e : iblk m c 11 t (ix2 k j) = V m c main_v4 (ix2 k j) := by blk_point [iblk, idx t]
  rw [e]; entry_read; pointwise

theorem weight12 (c : Dev nD) (t : Fin cfg0.N) (k : Fin 512) (j : Fin 1024) : iblk m c 12 t (ix2 k j) = m (c, main_arg12) (ix2 k j) := by
  have e : iblk m c 12 t (ix2 k j) = V m c main_v5 (ix2 k j) := by blk_point [iblk, idx t]
  rw [e]; entry_read; pointwise

theorem weight13 (c : Dev nD) (t : Fin cfg0.N) (k : Fin 512) (j : Fin 1024) : iblk m c 13 t (ix2 k j) = m (c, main_arg13) (ix2 k j) := by
  have e : iblk m c 13 t (ix2 k j) = V m c main_v6 (ix2 k j) := by blk_point [iblk, idx t]
  rw [e]; entry_read; pointwise

theorem weight14 (c : Dev nD) (t : Fin cfg0.N) (k : Fin 1024) (j : Fin 1024) : iblk m c 14 t (ix2 k j) = m (c, main_arg14) (ix2 k j) := by
  have e : iblk m c 14 t (ix2 k j) = V m c main_v7 (ix2 k j) := by blk_point [iblk, idx t]
  rw [e]; entry_read; pointwise

theorem weight16 (c : Dev nD) (t : Fin cfg0.N) (k : Fin 1024) (j : Fin 1024) : iblk m c 16 t (ix2 k j) = m (c, main_arg16) (ix2 k j) := by
  have e : iblk m c 16 t (ix2 k j) = V m c main_v9 (ix2 k j) := by blk_point [iblk, idx t]
  rw [e]; entry_read; pointwise

theorem weight17 (c : Dev nD) (t : Fin cfg0.N) (k : Fin 256) (j : Fin 1024) : iblk m c 17 t (ix2 k j) = m (c, main_arg17) (ix2 k j) := by
  have e : iblk m c 17 t (ix2 k j) = V m c main_v10 (ix2 k j) := by blk_point [iblk, idx t]
  rw [e]; entry_read; pointwise

theorem gain (c : Dev nD) (t : Fin cfg0.N) (k : Fin 1024) : iblk m c 15 t (ix2 0 k) = m (c, main_arg15) (ix1 k) := by
  have e : iblk m c 15 t (ix2 0 k) = V m c main_v8 (ix2 0 k) := by blk_point [iblk, idx t]
  rw [e]; entry_read; pointwise

theorem block0 (c : Dev nD) (t : Fin cfg0.N) (h : t.val < 64) (r : Fin 256) (a : Fin 16384) (ha : (a : ℕ) = 256 * t.val + r) (k : Fin 512) :
    iblk m c 0 t (ix2 r k) = m (c, main_arg0) (ix2 a k) := by
  have ht : t.val < 68 := t.isLt
  blk_point [iblk, V, idx t]

theorem block2 (c : Dev nD) (t : Fin cfg0.N) (h : t.val < 64) (r : Fin 256) (a : Fin 16384) (ha : (a : ℕ) = 256 * t.val + r) (k : Fin 512) :
    iblk m c 2 t (ix2 r k) = m (c, main_arg2) (ix2 a k) := by
  have ht : t.val < 68 := t.isLt
  blk_point [iblk, V, idx t]

theorem block4 (c : Dev nD) (t : Fin cfg0.N) (h : t.val < 64) (r : Fin 256) (a : Fin 16384) (ha : (a : ℕ) = 256 * t.val + r) (k : Fin 512) :
    iblk m c 4 t (ix2 r k) = m (c, main_arg4) (ix2 a k) := by
  have ht : t.val < 68 := t.isLt
  blk_point [iblk, V, idx t]

theorem block6 (c : Dev nD) (t : Fin cfg0.N) (h : t.val < 64) (r : Fin 256) (a : Fin 16384) (ha : (a : ℕ) = 256 * t.val + r) (k : Fin 1024) :
    iblk m c 6 t (ix2 r k) = m (c, main_arg6) (ix3 ⟨a / 2048, by omega⟩ ⟨a % 2048, by omega⟩ k) := by
  have ht : t.val < 68 := t.isLt
  have e : iblk m c 6 t (ix2 r k) = V m c main_v2 (ix2 a k) := by blk_point [iblk, idx t]
  rw [e, entry_v2]

theorem block8 (c : Dev nD) (t : Fin cfg0.N) (h : t.val < 64) (r : Fin 256) (a : Fin 16384) (ha : (a : ℕ) = 256 * t.val + r) (k : Fin 256) :
    iblk m c 8 t (ix2 r k) = m (c, main_arg8) (ix4 0 ⟨a / 2048, by omega⟩ ⟨a % 2048, by omega⟩ k) := by
  have ht : t.val < 68 := t.isLt
  have e : iblk m c 8 t (ix2 r k) = V m c main_v0 (ix2 ⟨a, by omega⟩ k) := by blk_point [iblk, idx t]
  rw [e, entry_v0 _ _ _ (by simp)]

theorem block1 (c : Dev nD) (t : Fin cfg0.N) (h : ¬ t.val < 64) (r : Fin 256) (a : Fin 1024) (ha : (a : ℕ) = 256 * (t.val - 64) + r) (k : Fin 512) :
    iblk m c 1 t (ix2 r k) = m (c, main_arg1) (ix2 a k) := by
  have ht : t.val < 68 := t.isLt
  blk_point [iblk, V, idx t]

theorem block3 (c : Dev nD) (t : Fin cfg0.N) (h : ¬ t.val < 64) (r : Fin 256) (a : Fin 1024) (ha : (a : ℕ) = 256 * (t.val - 64) + r) (k : Fin 512) :
    iblk m c 3 t (ix2 r k) = m (c, main_arg3) (ix2 a k) := by
  have ht : t.val < 68 := t.isLt
  blk_point [iblk, V, idx t]

theorem block5 (c : Dev nD) (t : Fin cfg0.N) (h : ¬ t.val < 64) (r : Fin 256) (a : Fin 1024) (ha : (a : ℕ) = 256 * (t.val - 64) + r) (k : Fin 512) :
    iblk m c 5 t (ix2 r k) = m (c, main_arg5) (ix2 a k) := by
  have ht : t.val < 68 := t.isLt
  blk_point [iblk, V, idx t]

theorem block7 (c : Dev nD) (t : Fin cfg0.N) (h : ¬ t.val < 64) (r : Fin 256) (a : Fin 1024) (ha : (a : ℕ) = 256 * (t.val - 64) + r) (k : Fin 1024) :
    iblk m c 7 t (ix2 r k) = m (c, main_arg7) (ix3 ⟨a / 32, by omega⟩ ⟨a % 32, by omega⟩ k) := by
  have ht : t.val < 68 := t.isLt
  have e : iblk m c 7 t (ix2 r k) = V m c main_v3 (ix2 a k) := by blk_point [iblk, idx t]
  rw [e, entry_v3]

theorem block9 (c : Dev nD) (t : Fin cfg0.N) (h : ¬ t.val < 64) (r : Fin 256) (a : Fin 1024) (ha : (a : ℕ) = 256 * (t.val - 64) + r) (k : Fin 256) :
    iblk m c 9 t (ix2 r k) = m (c, main_arg9) (ix4 0 ⟨a / 32, by omega⟩ ⟨a % 32, by omega⟩ k) := by
  have ht : t.val < 68 := t.isLt
  have e : iblk m c 9 t (ix2 r k) = V m c main_v1 (ix2 ⟨a, by omega⟩ k) := by blk_point [iblk, idx t]
  rw [e, entry_v1 _ _ _ (by simp)]

theorem gates (c : Dev nD) (t : Fin cfg0.N) (r : Fin 256) (a : Fin 17408) (ha : (a : ℕ) = 256 * t.val + r) (k : Fin 3072) :
    iblk m c 10 t (ix2 r k) = m (c, main_arg10) (ix2 a k) := by
  blk_point [iblk, V, idx t]

/-- One entry of what a point leaves is the reference's entry there. -/
theorem point (c : Dev nD) (t : Fin cfg0.N) (r : Fin 256) (j : Fin 1024) (i : Fin 17408) (hi : (i : ℕ) = 256 * t.val + r) :
    out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 r j)
      = Cert.MergeRefIdeal.Read.val_main_v100 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)) (m (c, main_arg15)) (m (c, main_arg16)) (m (c, main_arg17)) (ix2 i j) := by
  have ht : t.val < 68 := t.isLt
  rw [out_row, coord_val]
  simp only [weight11, weight12, weight13, weight14, weight16, weight17, gain, gates m c t r i hi]
  unfold Cert.MergeRefIdeal.Read.val_main_v100
  pointwise
  by_cases h : t.val < 64
  · rw [dif_pos (by omega), Cert.MergeRefIdeal.Hand.prompt]
    simp only [h, if_true, block0 m c t h r ⟨i, by omega⟩ hi, block2 m c t h r ⟨i, by omega⟩ hi, block4 m c t h r ⟨i, by omega⟩ hi, block6 m c t h r ⟨i, by omega⟩ hi, block8 m c t h r ⟨i, by omega⟩ hi]
  · rw [dif_neg (by omega), Cert.MergeRefIdeal.Hand.sample]
    have hs : (i : ℕ) - 16384 = 256 * (t.val - 64) + r := by omega
    simp only [h, if_false, block1 m c t h r ⟨i - 16384, by omega⟩ hs, block3 m c t h r ⟨i - 16384, by omega⟩ hs, block5 m c t h r ⟨i - 16384, by omega⟩ hs, block7 m c t h r ⟨i - 16384, by omega⟩ hs, block9 m c t h r ⟨i - 16384, by omega⟩ hs]
    have e : ∀ q, (⟨16384 + ((i : ℕ) - 16384), q⟩ : Fin 17408) = i := fun _ => Fin.ext (by show 16384 + (i.val - 16384) = i.val; omega)
    simp only [e]

/-- The result array after the run. -/
theorem final (c : Dev nD) : (dats m 0 c).arrAt 19 (cfgs 0).N = Cert.MergeRefIdeal.Read.val_main_v100 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)) (m (c, main_arg15)) (m (c, main_arg16)) (m (c, main_arg17)) := by
  refine (dats m 0 c).arrAt_eq_of_covers 19 _ (by decide +kernel) fun t _ y => ?_
  blk_simp
  rw [after0_19]
  have ht : t.val < 68 := t.isLt
  idx_vars y
  refine (point m c t y0 y1 ⟨256 * t.val + y0.val, by omega⟩ rfl).trans ?_
  blk_ext [idx t]

end Cert.MergeIdeal.Hand
end
-- ==== Proof.MergeClaim.lean ====
module

public import proofs.«01_k».proof.Defs
public import proofs.«01_k».proof.Proof.MergeFinal
public import proofs.«01_k».proof.Proof.Gen.MergeRefIdeal.Run

@[expose] public section

set_option maxRecDepth 16384
set_option maxHeartbeats 4000000

noncomputable section

namespace Cert.MergeIdeal.Hand

open Idealize.ShloMosaic Idealize.ShloMosaic.TcCoe Idealize.SL.Sem

/-- The merge and its reference, from equal arguments, end with equal results. -/
theorem algebraic : Cert.algebraic_MergeIdeal_MergeRefIdeal (hMergeIdeal := Cert.MergeIdeal.Gen.facts) (hMergeRefIdeal := Cert.MergeRefIdeal.Gen.facts) := by
  intro m g m' g' hpre hagree
  refine ⟨fun c => Cert.MergeRefIdeal.Read.val_main_v100 (F := Ideal) (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) (m (c, Cert.MergeIdeal.main_arg9)) (m (c, Cert.MergeIdeal.main_arg10)) (m (c, Cert.MergeIdeal.main_arg11)) (m (c, Cert.MergeIdeal.main_arg12)) (m (c, Cert.MergeIdeal.main_arg13)) (m (c, Cert.MergeIdeal.main_arg14)) (m (c, Cert.MergeIdeal.main_arg15)) (m (c, Cert.MergeIdeal.main_arg16)) (m (c, Cert.MergeIdeal.main_arg17)), ?_, ?_⟩
  · run_from Cert.MergeIdeal.Gen.run_main m g
    exact (hc.1 19).trans (final m c)
  · run_from Cert.MergeRefIdeal.Value.run m' g'
    obtain ⟨h0, h1, h2, h3, h4, h5, h6, h7, h8, h9, h10, h11, h12, h13, h14, h15, h16, h17, h18⟩ := hagree c
    rw [Cert.MergeRefIdeal.Read.val_main_v100_eq, h0, h1, h2, h3, h4, h5, h6, h7, h8, h9, h10, h11, h12, h13, h14, h15, h16, h17]

end Cert.MergeIdeal.Hand
end
-- ==== Proof.MergeLastIdealFrame.lean ====
/-
  The run of the last merge call. Its prompt result is stored at the first 64 grid points and its sample
  result at the last 4, so each of the two result buffers is left alone at some points: the prompt buffer
  then keeps the block stored at point 63 until it is written back at the last point, and the sample buffer
  is not written back before its first store.
-/
module

public import proofs.«01_k».proof.Proof.Gen.MergeLastIdeal.Frame
public import proofs.«01_k».proof.Proof.Gen.MergeLastIdeal.Skeleton
public import Idealize.ShloMosaic.Lib.Claim
public import Idealize.ShloMosaic.Lib.Pipeline.TableIdle

@[expose] public section

set_option maxRecDepth 16384

noncomputable section

namespace Cert.MergeLastIdeal.Run

open Cert.MergeLastIdeal Cert.MergeLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of a 256-row block. -/
abbrev rOut : Rect S256x1024 := Rect.unit (s := S256x1024) ![0, 0] S256x1024.size inb_S256x1024_S256x1024_0_0
/-- The gate block's columns for branch a, -/
abbrev rA : Rect S256x3072 := Rect.unit (s := S256x3072) ![0, 0] S256x1024.size inb_S256x3072_S256x1024_0_0
/-- for branch b, -/
abbrev rB : Rect S256x3072 := Rect.unit (s := S256x3072) ![0, 1024] S256x1024.size inb_S256x3072_S256x1024_0_1024
/-- and for branch c. -/
abbrev rC : Rect S256x3072 := Rect.unit (s := S256x3072) ![0, 2048] S256x1024.size inb_S256x3072_S256x1024_0_2048
/-- A branch block, whole. -/
abbrev rBranch : Rect S256x512 := Rect.unit (s := S256x512) ![0, 0] S256x512.size inb_S256x512_S256x512_0_0
/-- A branch's weights, whole. -/
abbrev rWeight : Rect S512x1024 := Rect.unit (s := S512x1024) ![0, 0] S512x1024.size inb_S512x1024_S512x1024_0_0
/-- A square weight, whole. -/
abbrev rSquare : Rect S1024x1024 := Rect.unit (s := S1024x1024) ![0, 0] S1024x1024.size inb_S1024x1024_S1024x1024_0_0
/-- A gain, whole. -/
abbrev rGain : Rect S1x1024 := Rect.unit (s := S1x1024) ![0, 0] S1x1024.size inb_S1x1024_S1x1024_0_0
/-- A block of per-layer embeddings, whole. -/
abbrev rEmb : Rect S256x256 := Rect.unit (s := S256x256) ![0, 0] S256x256.size inb_S256x256_S256x256_0_0

/-- The sum of the first two gated branches, as the body binds it. -/
def twoBranches (i : grid0.Coords) (x0 : Vec F S256x512 .bf16) (x1 : Vec F S256x512 .bf16) (x2 : Vec F S256x512 .bf16) (x3 : Vec F S256x512 .bf16) (x4 : Vec F S256x512 .bf16) (x5 : Vec F S256x512 .bf16) (x6 : Vec F S256x1024 .f32) (x7 : Vec F S256x1024 .f32) (x8 : Vec F S256x256 .f32) (x9 : Vec F S256x256 .f32) (x10 : Vec F S256x3072 .f32) (x11 : Vec F S512x1024 .bf16) (x12 : Vec F S512x1024 .bf16) (x13 : Vec F S512x1024 .bf16) (x14 : Vec F S1024x1024 .bf16) (x15 : Vec F S1x1024 .f32) (x16 : Vec F S1024x1024 .bf16) (x17 : Vec F S256x1024 .bf16) (x18 : Vec F S1x1024 .f32) : FVec F S256x1024 .f32 :=
  k0_pay2 i (View.ld x10 rA) (View.ld x0 rBranch) (View.ld x1 rBranch) (View.ld x11 rWeight) (View.ld x10 rB) (View.ld x2 rBranch) (View.ld x3 rBranch) (View.ld x12 rWeight)

/-- The block the body stores, from the input blocks. -/
def stored (i : grid0.Coords) (x0 : Vec F S256x512 .bf16) (x1 : Vec F S256x512 .bf16) (x2 : Vec F S256x512 .bf16) (x3 : Vec F S256x512 .bf16) (x4 : Vec F S256x512 .bf16) (x5 : Vec F S256x512 .bf16) (x6 : Vec F S256x1024 .f32) (x7 : Vec F S256x1024 .f32) (x8 : Vec F S256x256 .f32) (x9 : Vec F S256x256 .f32) (x10 : Vec F S256x3072 .f32) (x11 : Vec F S512x1024 .bf16) (x12 : Vec F S512x1024 .bf16) (x13 : Vec F S512x1024 .bf16) (x14 : Vec F S1024x1024 .bf16) (x15 : Vec F S1x1024 .f32) (x16 : Vec F S1024x1024 .bf16) (x17 : Vec F S256x1024 .bf16) (x18 : Vec F S1x1024 .f32) : FVec F S256x1024 .f32 :=
  k0_pay1
    (k0_pay6 (BitVec.ofNat 32 (i 0).val) (twoBranches i x0 x1 x2 x3 x4 x5 x6 x7 x8 x9 x10 x11 x12 x13 x14 x15 x16 x17 x18) (k0_pay3 (View.ld x10 rC)) (k0_pay4 i (View.ld x4 rBranch) (View.ld x5 rBranch)) (k0_pay5 (View.ld x13 rWeight)) (constant S256x1024 .f32 0x00000000#32) (View.ld x6 rOut) (View.ld x7 rOut) (View.ld x14 rSquare))
    (k0_pay7 (BitVec.ofNat 32 (i 0).val) (twoBranches i x0 x1 x2 x3 x4 x5 x6 x7 x8 x9 x10 x11 x12 x13 x14 x15 x16 x17 x18) (k0_pay3 (View.ld x10 rC)) (k0_pay4 i (View.ld x4 rBranch) (View.ld x5 rBranch)) (k0_pay5 (View.ld x13 rWeight)) (constant S256x1024 .f32 0x00000000#32) (View.ld x6 rOut) (View.ld x7 rOut) (View.ld x14 rSquare) (View.ld x15 rGain) (View.ld x16 rSquare))
    (k0_pay8 (BitVec.ofNat 32 (i 0).val) (View.ld x8 rEmb) (View.ld x9 rEmb)) (View.ld x17 rOut) (View.ld x18 rGain)

/-- The result buffer after a store of that block. -/
def out (i : grid0.Coords) (x0 : Vec F S256x512 .bf16) (x1 : Vec F S256x512 .bf16) (x2 : Vec F S256x512 .bf16) (x3 : Vec F S256x512 .bf16) (x4 : Vec F S256x512 .bf16) (x5 : Vec F S256x512 .bf16) (x6 : Vec F S256x1024 .f32) (x7 : Vec F S256x1024 .f32) (x8 : Vec F S256x256 .f32) (x9 : Vec F S256x256 .f32) (x10 : Vec F S256x3072 .f32) (x11 : Vec F S512x1024 .bf16) (x12 : Vec F S512x1024 .bf16) (x13 : Vec F S512x1024 .bf16) (x14 : Vec F S1024x1024 .bf16) (x15 : Vec F S1x1024 .f32) (x16 : Vec F S1024x1024 .bf16) (x17 : Vec F S256x1024 .bf16) (x18 : Vec F S1x1024 .f32) : Vec F S256x1024 .f32 :=
  View.canon [⟨rOut, stored i x0 x1 x2 x3 x4 x5 x6 x7 x8 x9 x10 x11 x12 x13 x14 x15 x16 x17 x18⟩]

/-- One store fills the buffer. -/
theorem cover_out (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

set_option maxHeartbeats 2000000 in
/-- The body at a point of the prompt: it stores the prompt block and leaves the sample buffer alone. -/
theorem kernel_prompt (c : Dev nD) (E : Set ℕ) (i : grid0.Coords) (h1 : k0_cond1 i = 1#1) (h2 : ¬ k0_cond2 i = 1#1) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x3072 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S256x1024 .f32) (harg20 : arg20.IsWhole) (arg21 : Memref sig .tc .vmem S256x1024 .f32) (harg21 : arg21.IsWhole)
    (x0 : Vec F S256x512 .bf16) (x1 : Vec F S256x512 .bf16) (x2 : Vec F S256x512 .bf16) (x3 : Vec F S256x512 .bf16) (x4 : Vec F S256x512 .bf16) (x5 : Vec F S256x512 .bf16) (x6 : Vec F S256x1024 .f32) (x7 : Vec F S256x1024 .f32) (x8 : Vec F S256x256 .f32) (x9 : Vec F S256x256 .f32) (x10 : Vec F S256x3072 .f32) (x11 : Vec F S512x1024 .bf16) (x12 : Vec F S512x1024 .bf16) (x13 : Vec F S512x1024 .bf16) (x14 : Vec F S1024x1024 .bf16) (x15 : Vec F S1x1024 .f32) (x16 : Vec F S1024x1024 .bf16) (x17 : Vec F S256x1024 .bf16) (x18 : Vec F S1x1024 .f32) (y : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
        ∗ (∃ d, owns (c : Thread nD τ) arg20 fullShare d) ∗ owns (c : Thread nD τ) arg21 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
            ∗ owns (c : Thread nD τ) arg20 fullShare (out i x0 x1 x2 x3 x4 x5 x6 x7 x8 x9 x10 x11 x12 x13 x14 x15 x16 x17 x18) ∗ owns (c : Thread nD τ) arg21 fullShare y) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_merge_eq_skeleton]; unfold cc0_merge_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact (View.read_writes_eq_canon _ _ _ (cover_out _)).trans rfl
  iexists _; isplitr
  swap; · iexact H20
  ipureintro
  exact hf20

set_option maxHeartbeats 2000000 in
/-- The body at a point of the sample: it stores the sample block and leaves the prompt buffer alone. -/
theorem kernel_sample (c : Dev nD) (E : Set ℕ) (i : grid0.Coords) (h1 : ¬ k0_cond1 i = 1#1) (h2 : k0_cond2 i = 1#1) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x3072 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S256x1024 .f32) (harg20 : arg20.IsWhole) (arg21 : Memref sig .tc .vmem S256x1024 .f32) (harg21 : arg21.IsWhole)
    (x0 : Vec F S256x512 .bf16) (x1 : Vec F S256x512 .bf16) (x2 : Vec F S256x512 .bf16) (x3 : Vec F S256x512 .bf16) (x4 : Vec F S256x512 .bf16) (x5 : Vec F S256x512 .bf16) (x6 : Vec F S256x1024 .f32) (x7 : Vec F S256x1024 .f32) (x8 : Vec F S256x256 .f32) (x9 : Vec F S256x256 .f32) (x10 : Vec F S256x3072 .f32) (x11 : Vec F S512x1024 .bf16) (x12 : Vec F S512x1024 .bf16) (x13 : Vec F S512x1024 .bf16) (x14 : Vec F S1024x1024 .bf16) (x15 : Vec F S1x1024 .f32) (x16 : Vec F S1024x1024 .bf16) (x17 : Vec F S256x1024 .bf16) (x18 : Vec F S1x1024 .f32) (y : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
        ∗ owns (c : Thread nD τ) arg20 fullShare y ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18
            ∗ owns (c : Thread nD τ) arg20 fullShare y ∗ owns (c : Thread nD τ) arg21 fullShare (out i x0 x1 x2 x3 x4 x5 x6 x7 x8 x9 x10 x11 x12 x13 x14 x15 x16 x17 x18)) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_merge_eq_skeleton]; unfold cc0_merge_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact hf19
  iexists _; isplitr
  swap; · iexact H20
  ipureintro
  exact (View.read_writes_eq_canon _ _ _ (cover_out _)).trans rfl

/-! ## The schedule of the two results -/

/-- The prompt's store runs at the first 64 points, -/
theorem cond_prompt : ∀ t : Fin cfg0.N, k0_cond1 (grid0.coords t) = 1#1 ↔ t.val < 64 :=
  (by decide +kernel : ∀ t : Fin grid0.N, k0_cond1 (grid0.coords t) = 1#1 ↔ t.val < 64)
/-- and the sample's at the others. -/
theorem cond_sample : ∀ t : Fin cfg0.N, k0_cond2 (grid0.coords t) = 1#1 ↔ 64 ≤ t.val :=
  (by decide +kernel : ∀ t : Fin grid0.N, k0_cond2 (grid0.coords t) = 1#1 ↔ 64 ≤ t.val)

/-- The prompt's result is left alone from point 64 on, -/
theorem idle_prompt (t : Fin cfg0.N) : cfg0.idle 19 (cfg0.grid.coords t) = decide (64 ≤ t.val) := by
  show (!(k0_cond1 (grid0.coords t) == 1#1)) = _
  by_cases h : t.val < 64
  · rw [(cond_prompt t).mpr h]; simp; omega
  · have h' := mt (cond_prompt t).mp h
    rw [beq_eq_false_iff_ne.mpr h']; simp; omega
/-- and the sample's before it. -/
theorem idle_sample (t : Fin cfg0.N) : cfg0.idle 20 (cfg0.grid.coords t) = decide (t.val < 64) := by
  show (!(k0_cond2 (grid0.coords t) == 1#1)) = _
  by_cases h : 64 ≤ t.val
  · rw [(cond_sample t).mpr h]; simp; omega
  · have h' := mt (cond_sample t).mp h
    rw [beq_eq_false_iff_ne.mpr h']; simp; omega

/-- The prompt's result is not written back at points 63 to 66, -/
theorem flush_prompt : ∀ t : Fin cfg0.N, 63 ≤ t.val → t.val < 67 → (cfg0.win 19).flush t = false :=
  (by decide +kernel : ∀ t : Fin grid0.N, 63 ≤ t.val → t.val < 67 → win0_19.flush t = false)
/-- and the sample's not before point 64. -/
theorem flush_sample : ∀ t : Fin cfg0.N, t.val < 64 → (cfg0.win 20).flush t = false :=
  (by decide +kernel : ∀ t : Fin grid0.N, t.val < 64 → win0_20.flush t = false)

/-! ## The proof data -/

/-- The block stored at point `t`, from the input blocks there. -/
def outAt (c : Dev nD) (t : Fin cfg0.N) : Vec F S256x1024 .f32 :=
  out (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The last prompt point at or before `t`. -/
abbrev upto (t : Fin cfg0.N) : Fin cfg0.N := ⟨min t.val 63, Nat.lt_of_le_of_lt (Nat.min_le_left _ _) t.isLt⟩

/-- What each buffer holds after the body: an input its block, the prompt's result the block stored at the last
    prompt point, the sample's the block of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outAt m c (upto t)
    | ⟨20, _⟩ => outAt m c t
    | ⟨_ + 21, h⟩ => absurd h (Nat.not_lt.2 (Nat.le_add_left _ _))
  Φ _ := Pipeline.ΦA spec0 c
  q w := Pipeline.shareOf spec0 w
  owed _ := 0

/-- The arrays are as the call finds them. -/
theorem A_eq (c : Dev nD) (w : Fin cfg0.W) : (dats m 0 c).A w = V m c (Pipeline.arrRef spec0 w) := by
  dsimp only [dats]

/-- Input 0 after the body. -/
theorem after_0 (c : Dev nD) (t : Fin cfg0.N) : (dats m 0 c).after 0 t = iblk m c 0 t := by dsimp only [dats]
/-- Input 1 after the body. -/
theorem after_1 (c : Dev nD) (t : Fin cfg0.N) : (dats m 0 c).after 1 t = iblk m c 1 t := by dsimp only [dats]
/-- Input 2 after the body. -/
theorem after_2 (c : Dev nD) (t : Fin cfg0.N) : (dats m 0 c).after 2 t = iblk m c 2 t := by dsimp only [dats]
/-- Input 3 after the body. -/
theorem after_3 (c : Dev nD) (t : Fin cfg0.N) : (dats m 0 c).after 3 t = iblk m c 3 t := by dsimp only [dats]
/-- Input 4 after the body. -/
theorem after_4 (c : Dev nD) (t : Fin cfg0.N) : (dats m 0 c).after 4 t = iblk m c 4 t := by dsimp only [dats]
/-- Input 5 after the body. -/
theorem after_5 (c : Dev nD) (t : Fin cfg0.N) : (dats m 0 c).after 5 t = iblk m c 5 t := by dsimp only [dats]
/-- Input 6 after the body. -/
theorem after_6 (c : Dev nD) (t : Fin cfg0.N) : (dats m 0 c).after 6 t = iblk m c 6 t := by dsimp only [dats]
/-- Input 7 after the body. -/
theorem after_7 (c : Dev nD) (t : Fin cfg0.N) : (dats m 0 c).after 7 t = iblk m c 7 t := by dsimp only [dats]
/-- Input 8 after the body. -/
theorem after_8 (c : Dev nD) (t : Fin cfg0.N) : (dats m 0 c).after 8 t = iblk m c 8 t := by dsimp only [dats]
/-- Input 9 after the body. -/
theorem after_9 (c : Dev nD) (t : Fin cfg0.N) : (dats m 0 c).after 9 t = iblk m c 9 t := by dsimp only [dats]
/-- Input 10 after the body. -/
theorem after_10 (c : Dev nD) (t : Fin cfg0.N) : (dats m 0 c).after 10 t = iblk m c 10 t := by dsimp only [dats]
/-- Input 11 after the body. -/
theorem after_11 (c : Dev nD) (t : Fin cfg0.N) : (dats m 0 c).after 11 t = iblk m c 11 t := by dsimp only [dats]
/-- Input 12 after the body. -/
theorem after_12 (c : Dev nD) (t : Fin cfg0.N) : (dats m 0 c).after 12 t = iblk m c 12 t := by dsimp only [dats]
/-- Input 13 after the body. -/
theorem after_13 (c : Dev nD) (t : Fin cfg0.N) : (dats m 0 c).after 13 t = iblk m c 13 t := by dsimp only [dats]
/-- Input 14 after the body. -/
theorem after_14 (c : Dev nD) (t : Fin cfg0.N) : (dats m 0 c).after 14 t = iblk m c 14 t := by dsimp only [dats]
/-- Input 15 after the body. -/
theorem after_15 (c : Dev nD) (t : Fin cfg0.N) : (dats m 0 c).after 15 t = iblk m c 15 t := by dsimp only [dats]
/-- Input 16 after the body. -/
theorem after_16 (c : Dev nD) (t : Fin cfg0.N) : (dats m 0 c).after 16 t = iblk m c 16 t := by dsimp only [dats]
/-- Input 17 after the body. -/
theorem after_17 (c : Dev nD) (t : Fin cfg0.N) : (dats m 0 c).after 17 t = iblk m c 17 t := by dsimp only [dats]
/-- Input 18 after the body. -/
theorem after_18 (c : Dev nD) (t : Fin cfg0.N) : (dats m 0 c).after 18 t = iblk m c 18 t := by dsimp only [dats]
/-- The prompt's result after the body. -/
theorem after_19 (c : Dev nD) (t : Fin cfg0.N) : (dats m 0 c).after 19 t = outAt m c (upto t) := by dsimp only [dats]
/-- The sample's result after the body. -/
theorem after_20 (c : Dev nD) (t : Fin cfg0.N) : (dats m 0 c).after 20 t = outAt m c t := by dsimp only [dats]

/-- Input 0 before the body. -/
theorem before_0 (c : Dev nD) (t : Fin cfg0.N) (d) : (dats m 0 c).before 0 t d = iblk m c 0 t :=
  before0_0_of m (dats m 0 c) (A_eq m c 0) (after_0 m c) t d
/-- Input 1 before the body. -/
theorem before_1 (c : Dev nD) (t : Fin cfg0.N) (d) : (dats m 0 c).before 1 t d = iblk m c 1 t :=
  before0_1_of m (dats m 0 c) (A_eq m c 1) (after_1 m c) t d
/-- Input 2 before the body. -/
theorem before_2 (c : Dev nD) (t : Fin cfg0.N) (d) : (dats m 0 c).before 2 t d = iblk m c 2 t :=
  before0_2_of m (dats m 0 c) (A_eq m c 2) (after_2 m c) t d
/-- Input 3 before the body. -/
theorem before_3 (c : Dev nD) (t : Fin cfg0.N) (d) : (dats m 0 c).before 3 t d = iblk m c 3 t :=
  before0_3_of m (dats m 0 c) (A_eq m c 3) (after_3 m c) t d
/-- Input 4 before the body. -/
theorem before_4 (c : Dev nD) (t : Fin cfg0.N) (d) : (dats m 0 c).before 4 t d = iblk m c 4 t :=
  before0_4_of m (dats m 0 c) (A_eq m c 4) (after_4 m c) t d
/-- Input 5 before the body. -/
theorem before_5 (c : Dev nD) (t : Fin cfg0.N) (d) : (dats m 0 c).before 5 t d = iblk m c 5 t :=
  before0_5_of m (dats m 0 c) (A_eq m c 5) (after_5 m c) t d
/-- Input 6 before the body. -/
theorem before_6 (c : Dev nD) (t : Fin cfg0.N) (d) : (dats m 0 c).before 6 t d = iblk m c 6 t :=
  before0_6_of m (dats m 0 c) (A_eq m c 6) (after_6 m c) t d
/-- Input 7 before the body. -/
theorem before_7 (c : Dev nD) (t : Fin cfg0.N) (d) : (dats m 0 c).before 7 t d = iblk m c 7 t :=
  before0_7_of m (dats m 0 c) (A_eq m c 7) (after_7 m c) t d
/-- Input 8 before the body. -/
theorem before_8 (c : Dev nD) (t : Fin cfg0.N) (d) : (dats m 0 c).before 8 t d = iblk m c 8 t :=
  before0_8_of m (dats m 0 c) (A_eq m c 8) (after_8 m c) t d
/-- Input 9 before the body. -/
theorem before_9 (c : Dev nD) (t : Fin cfg0.N) (d) : (dats m 0 c).before 9 t d = iblk m c 9 t :=
  before0_9_of m (dats m 0 c) (A_eq m c 9) (after_9 m c) t d
/-- Input 10 before the body. -/
theorem before_10 (c : Dev nD) (t : Fin cfg0.N) (d) : (dats m 0 c).before 10 t d = iblk m c 10 t :=
  before0_10_of m (dats m 0 c) (A_eq m c 10) (after_10 m c) t d
/-- Input 11 before the body. -/
theorem before_11 (c : Dev nD) (t : Fin cfg0.N) (d) : (dats m 0 c).before 11 t d = iblk m c 11 t :=
  before0_11_of m (dats m 0 c) (A_eq m c 11) (after_11 m c) t d
/-- Input 12 before the body. -/
theorem before_12 (c : Dev nD) (t : Fin cfg0.N) (d) : (dats m 0 c).before 12 t d = iblk m c 12 t :=
  before0_12_of m (dats m 0 c) (A_eq m c 12) (after_12 m c) t d
/-- Input 13 before the body. -/
theorem before_13 (c : Dev nD) (t : Fin cfg0.N) (d) : (dats m 0 c).before 13 t d = iblk m c 13 t :=
  before0_13_of m (dats m 0 c) (A_eq m c 13) (after_13 m c) t d
/-- Input 14 before the body. -/
theorem before_14 (c : Dev nD) (t : Fin cfg0.N) (d) : (dats m 0 c).before 14 t d = iblk m c 14 t :=
  before0_14_of m (dats m 0 c) (A_eq m c 14) (after_14 m c) t d
/-- Input 15 before the body. -/
theorem before_15 (c : Dev nD) (t : Fin cfg0.N) (d) : (dats m 0 c).before 15 t d = iblk m c 15 t :=
  before0_15_of m (dats m 0 c) (A_eq m c 15) (after_15 m c) t d
/-- Input 16 before the body. -/
theorem before_16 (c : Dev nD) (t : Fin cfg0.N) (d) : (dats m 0 c).before 16 t d = iblk m c 16 t :=
  before0_16_of m (dats m 0 c) (A_eq m c 16) (after_16 m c) t d
/-- Input 17 before the body. -/
theorem before_17 (c : Dev nD) (t : Fin cfg0.N) (d) : (dats m 0 c).before 17 t d = iblk m c 17 t :=
  before0_17_of m (dats m 0 c) (A_eq m c 17) (after_17 m c) t d
/-- Input 18 before the body. -/
theorem before_18 (c : Dev nD) (t : Fin cfg0.N) (d) : (dats m 0 c).before 18 t d = iblk m c 18 t :=
  before0_18_of m (dats m 0 c) (A_eq m c 18) (after_18 m c) t d

set_option maxHeartbeats 1000000 in
/-- What a point leaves in the prompt's buffer for the next. -/
theorem kept_prompt (c : Dev nD) (t : Fin cfg0.N) (d) : (dats m 0 c).kept 19 t d = outAt m c (upto t) := by
  refine Eq.trans ?_ (after_19 m c t)
  unfold Dat.kept
  generalize (dats m 0 c).after 19 t = X
  rfl
/-- A result is never fetched. -/
theorem fetch_prompt : ∀ t : Fin cfg0.N, (cfg0.win 19).fetch t = false :=
  (by decide +kernel : ∀ t : Fin grid0.N, win0_19.fetch t = false)

set_option maxHeartbeats 1000000 in
/-- From point 64 on the prompt's buffer still holds the block stored at point 63. -/
theorem before_held (c : Dev nD) (t : Fin cfg0.N) (ht : 64 ≤ t.val) (d) :
    (dats m 0 c).before 19 t d = outAt m c (upto t) := by
  have hN : t.val < 68 := N_0 ▸ t.isLt
  refine ((dats m 0 c).before_idle_run 19 fetch_prompt d (t.val - 64) t (by omega) fun j h1 h2 =>
    ⟨by rw [idle_prompt]; exact decide_eq_true (by omega), flush_prompt j (by omega) (by omega)⟩).trans ?_
  rw [Dat.before_of_pos _ _ _ (by simp only; omega) (fetch_prompt _), if_neg (by
    rw [flush_prompt _ (by simp only; omega) (by simp only; omega)]; exact Bool.false_ne_true)]
  unfold Dat.left
  rw [idle_prompt, decide_eq_false (by simp only; omega)]
  dsimp only
  refine (kept_prompt m c _ d).trans ?_
  congr 1
  exact Fin.ext (by simp only; omega)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (dats m 0 c).leavesExact 19 t ∗ (dats m 0 c).leavesExact 20 t)

/-- At a prompt point the prompt's buffer is left at the block stored, -/
theorem leaves_prompt (c : Dev nD) (t : Fin cfg0.N) (ht : t.val < 64) :
    (dats m 0 c).leavesExact 19 t = owns (c : Thread nD τ) (st0_19 t) fullShare (out (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  unfold Dat.leavesExact
  rw [idle_prompt, decide_eq_false (by omega), after_19, show upto t = t from Fin.ext (by simp only; omega)]
  rfl
/-- and the sample's as it was. -/
theorem leaves_unsampled (c : Dev nD) (t : Fin cfg0.N) (ht : t.val < 64) :
    (dats m 0 c).leavesExact 20 t = iprop(∃ d, owns (c : Thread nD τ) (st0_20 t) fullShare ((dats m 0 c).before 20 t d)) :=
  (dats m 0 c).leavesExact_idle 20 t (by rw [idle_sample]; exact decide_eq_true ht) (flush_sample t ht)
/-- At a sample point the sample's buffer is left at the block stored, -/
theorem leaves_sample (c : Dev nD) (t : Fin cfg0.N) (ht : 64 ≤ t.val) :
    (dats m 0 c).leavesExact 20 t = owns (c : Thread nD τ) (st0_20 t) fullShare (out (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  unfold Dat.leavesExact
  rw [idle_sample, decide_eq_false (by omega), after_20]
  rfl
/-- and the prompt's as it was, which at the last point is what is written back. -/
theorem leaves_held (c : Dev nD) (t : Fin cfg0.N) (ht : 64 ≤ t.val) (d) :
    owns (c : Thread nD τ) (st0_19 t) fullShare ((dats m 0 c).before 19 t d) ⊢ ((dats m 0 c).leavesExact 19 t : sProp 𝕄) := by
  unfold Dat.leavesExact
  rw [idle_prompt, decide_eq_true ht]
  dsimp only
  cases (cfg0.win 19).flush t
  · iintro H; iexists d; iexact H
  · rw [before_held m c t ht d, after_19]

set_option maxHeartbeats 1000000 in
/-- The body at a point of the prompt. -/
theorem sound_prompt (c : Dev nD) (t : Fin cfg0.N) (ht : t.val < 64) :
    bodyPre m c t ⊢ wp frame (wpE (defs₀ (F := F)) Variants.none c none) Set.univ (bodyAt0 t) (fun _ => bodyPost m c t) := by
  unfold bodyPre bodyPost bodyAt0
  rw [leaves_prompt m c t ht, leaves_unsampled m c t ht]
  simp only [before_0, before_1, before_2, before_3, before_4, before_5, before_6, before_7, before_8, before_9, before_10, before_11, before_12, before_13, before_14, before_15, before_16, before_17, before_18]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (kernel_prompt c Set.univ (grid0.coords t) ((cond_prompt t).mpr ht) (fun h => absurd ((cond_sample t).mp h) (by omega)) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexists _; iexact H20

set_option maxHeartbeats 1000000 in
/-- The body at a point of the sample. -/
theorem sound_sample (c : Dev nD) (t : Fin cfg0.N) (ht : 64 ≤ t.val) :
    bodyPre m c t ⊢ wp frame (wpE (defs₀ (F := F)) Variants.none c none) Set.univ (bodyAt0 t) (fun _ => bodyPost m c t) := by
  unfold bodyPre bodyPost bodyAt0
  rw [leaves_sample m c t ht]
  simp only [before_0, before_1, before_2, before_3, before_4, before_5, before_6, before_7, before_8, before_9, before_10, before_11, before_12, before_13, before_14, before_15, before_16, before_17, before_18]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (kernel_sample c Set.univ (grid0.coords t) (fun h => absurd ((cond_prompt t).mp h) (by omega)) ((cond_sample t).mpr ht) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iapply (leaves_held m c t ht d19); iexact H19
  iexact H20

/-- The body table's row at point `t` is the body. -/
theorem defs_row (t : Fin cfg0.N) :
    defs₀ (F := F) .tc cfg0.body (cfg0.bodyArgs t (cfg0.slots t)) = bodyAt0 t := by
  unfold defs₀; rw [Defs.onTc_tc]

/-- The body at every point. -/
theorem sound_body (c : Dev nD) (t : Fin cfg0.N) :
    bodyPre m c t ⊢ wp frame (wpE (defs₀ (F := F)) Variants.none c none) Set.univ (bodyAt0 t) (fun _ => bodyPost m c t) := by
  by_cases ht : t.val < 64
  · exact sound_prompt m c t ht
  · exact sound_sample m c t (by omega)

/-- The same, as the library asks for it. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
set_option maxHeartbeats 800000 in
/-- The call runs to its end with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) (run_main m ρ)) ((θ_run defs _ _).mono (fun _ h => h.2) (run_main_quiescent m ρ))
end Cert.MergeLastIdeal.Run

end
-- ==== Proof.MergeLastBody.lean ====
module

public import proofs.«01_k».proof.Proof.Rows
public import proofs.«01_k».proof.Proof.MergeLastIdealFrame
public import Idealize.ShloMosaic.Lib.Pipeline.ValueKit

@[expose] public section

set_option maxRecDepth 16384

noncomputable section

namespace Cert.MergeLastIdeal.Hand

open Cert.MergeLastIdeal Cert.MergeLastIdeal.Gen Idealize.ShloMosaic Idealize.ShloMosaic.TcCoe Idealize.SL.Sem
open Cert.Rows

/-- The merged rows with their residual, entry by entry. -/
theorem pay6_apply (i : grid0.Coords) (v0 v10 v21 v33 v35 : Vec Ideal S256x1024 .f32) (v3 v4 v13 v14 v24 v25 : Vec Ideal S256x512 .bf16)
    (v6 v16 v27 : Vec Ideal S512x1024 .bf16) (v39 : Vec Ideal S1024x1024 .bf16) (r : Fin 256) (j : Fin 1024) :
    k0_pay6 (F := Ideal) (BitVec.ofNat 32 (i 0).val) (k0_pay2 i v0 v3 v4 v6 v10 v13 v14 v16) (k0_pay3 v21) (k0_pay4 i v24 v25) (k0_pay5 v27) (constant S256x1024 .f32 0x00000000#32) v33 v35 v39 (ix2 r j)
      = resid (fun j => if (i 0).val < 64 then v33 (ix2 r j) else v35 (ix2 r j))
          (merged (fun j => v0 (ix2 r j)) (fun j => v10 (ix2 r j)) (fun j => v21 (ix2 r j))
            (fun k => if (i 0).val < 64 then v3 (ix2 r k) else v4 (ix2 r k)) (fun k => if (i 0).val < 64 then v13 (ix2 r k) else v14 (ix2 r k))
            (fun k => if (i 0).val < 64 then v24 (ix2 r k) else v25 (ix2 r k))
            (fun k j => v6 (ix2 k j)) (fun k j => v16 (ix2 k j)) (fun k j => v27 (ix2 k j)))
          (fun k j => v39 (ix2 k j)) j := by
  unfold resid merged
  simp only [← select_prompt (i 0).val (i 0).isLt]
  pointwise [k0_pay6, k0_pay5, k0_pay4, k0_pay3, k0_pay2]

/-- What is stored: the row and its gated embedding, normalised. -/
theorem pay1_apply (i : grid0.Coords) (x v61' : FVec Ideal S256x1024 .f32) (v63 v65 : Vec Ideal S256x256 .f32) (v69 : Vec Ideal S256x1024 .bf16) (v72 : Vec Ideal S1x1024 .f32) (r : Fin 256) (j : Fin 1024) :
    k0_pay1 (F := Ideal) x v61' (k0_pay8 (BitVec.ofNat 32 (i 0).val) v63 v65) v69 v72 (ix2 r j)
      = normed (fun j => x (ix2 r j) + v61' (ix2 r j) * ∑ k : Fin 256, (if (i 0).val < 64 then v63 (ix2 r k) else v65 (ix2 r k)) * v69 (ix2 k j)) (fun k => v72 (ix2 0 k)) j := by
  unfold normed
  simp only [← select_prompt (i 0).val (i 0).isLt]
  pointwise [k0_pay1, k0_pay8]

/-- The gate of the embedding, read off the normalised row. -/
theorem pay7_apply (arg0 : BitVec 32) (v20 v22 : FVec Ideal S256x1024 .f32) (v26 : Vec Ideal S256x512 .bf16) (v28 : FVec Ideal S512x1024 .bf16) (cst : FVec Ideal S256x1024 .f32)
    (v33 v35 : Vec Ideal S256x1024 .f32) (v39 : Vec Ideal S1024x1024 .bf16) (v43 : Vec Ideal S1x1024 .f32) (v58 : Vec Ideal S1024x1024 .bf16)
    (y : FVec Ideal S256x1024 .f32) (hy : k0_pay6 (F := Ideal) arg0 v20 v22 v26 v28 cst v33 v35 v39 = y) (r : Fin 256) (j : Fin 1024) :
    k0_pay7 (F := Ideal) arg0 v20 v22 v26 v28 cst v33 v35 v39 v43 v58 (ix2 r j)
      = Ideal.logistic (∑ k, normed (fun k => y (ix2 r k)) (fun k => v43 (ix2 0 k)) k * v58 (ix2 k j)) := by
  unfold normed
  unfold k0_pay7
  rw [hy]
  pointwise

/-- What a point leaves in the result's block, row by row: the merge of that row of its input blocks. -/
theorem out_row (i : grid0.Coords) (x0 x1 x2 x3 x4 x5 : Vec Ideal S256x512 .bf16) (x6 x7 : Vec Ideal S256x1024 .f32)
    (x8 x9 : Vec Ideal S256x256 .f32) (x10 : Vec Ideal S256x3072 .f32) (x11 x12 x13 : Vec Ideal S512x1024 .bf16) (x14 : Vec Ideal S1024x1024 .bf16)
    (x15 : Vec Ideal S1x1024 .f32) (x16 : Vec Ideal S1024x1024 .bf16) (x17 : Vec Ideal S256x1024 .bf16) (x18 : Vec Ideal S1x1024 .f32) (r : Fin 256) (j : Fin 1024) :
    Run.out (F := Ideal) i x0 x1 x2 x3 x4 x5 x6 x7 x8 x9 x10 x11 x12 x13 x14 x15 x16 x17 x18 (ix2 r j)
      = normed (mergeRow (fun k => if (i 0).val < 64 then x0 (ix2 r k) else x1 (ix2 r k)) (fun k => if (i 0).val < 64 then x2 (ix2 r k) else x3 (ix2 r k)) (fun k => if (i 0).val < 64 then x4 (ix2 r k) else x5 (ix2 r k)) (fun k => if (i 0).val < 64 then x6 (ix2 r k) else x7 (ix2 r k)) (fun k => if (i 0).val < 64 then x8 (ix2 r k) else x9 (ix2 r k))
          (fun j => x10 (ix2 r j)) (fun k j => x11 (ix2 k j)) (fun k j => x12 (ix2 k j)) (fun k j => x13 (ix2 k j)) (fun k j => x14 (ix2 k j))
          (fun k => x15 (ix2 0 k)) (fun k j => x16 (ix2 k j)) (fun k j => x17 (ix2 k j))) (fun k => x18 (ix2 0 k)) j := by
  unfold Run.out Run.stored Run.twoBranches
  frame_out
  rw [pay1_apply]
  refine congrArg (fun f => normed f (fun k => x18 (ix2 0 k)) j) (funext fun j => ?_)
  rw [pay7_apply _ _ _ _ _ _ _ _ _ _ _ _ rfl, pay6_apply]
  simp only [pay6_apply]
  unfold mergeRow gated
  pointwise

end Cert.MergeLastIdeal.Hand
end
-- ==== Proof.MergeLastRef.lean ====
module

public import proofs.«01_k».proof.Proof.Rows
public import proofs.«01_k».proof.Proof.Gen.MergeLastRefIdeal.Read
public import Idealize.ShloMosaic.Lib.Pipeline.ValueKit

@[expose] public section

set_option maxRecDepth 16384

noncomputable section

/-! The last layer's merge: the reference, row by row. -/

namespace Cert.MergeLastRefIdeal.Hand

open Cert.MergeLastRefIdeal Cert.MergeLastRefIdeal.Read Idealize.ShloMosaic Idealize.ShloMosaic.TcCoe
open Cert.Rows

/-- A prompt row: the merged branches with their residual. -/
theorem prompt_resid (x0 x2 x4 x6 x9 x10 x11 x12 x13) (i : Fin 16384) (j : Fin 1024) :
    val_main_v26 (F := Ideal) x0 x2 x4 x6 x9 x10 x11 x12 x13 (ix2 i j)
      = resid (fun j => x6 (ix2 ⟨i, by omega⟩ j)) (merged (fun j => (fun j : Fin 3072 => x9 (ix2 ⟨i, by omega⟩ j)) ⟨j, by omega⟩) (fun j => (fun j : Fin 3072 => x9 (ix2 ⟨i, by omega⟩ j)) ⟨1024 + j, by omega⟩) (fun j => (fun j : Fin 3072 => x9 (ix2 ⟨i, by omega⟩ j)) ⟨2048 + j, by omega⟩)
          (fun k => x0 (ix2 i k)) (fun k => x2 (ix2 i k)) (fun k => x4 (ix2 i k)) (fun k j => x10 (ix2 k j)) (fun k j => x11 (ix2 k j)) (fun k j => x12 (ix2 k j))) (fun k j => x13 (ix2 k j)) j := by
  unfold resid merged Ideal.logistic
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v3, val_main_v2, val_main_v1, val_main_v0, val_main_cst, val_main_cst_0]

/-- A prompt row: the whole row. -/
theorem prompt (x0 x2 x4 x6 x7 x9 x10 x11 x12 x13 x14 x15 x16) (i : Fin 16384) (j : Fin 1024) :
    val_main_v49 (F := Ideal) x0 x2 x4 x6 x7 x9 x10 x11 x12 x13 x14 x15 x16 (ix2 i j)
      = mergeRow (fun k => x0 (ix2 i k)) (fun k => x2 (ix2 i k)) (fun k => x4 (ix2 i k)) (fun j => x6 (ix2 ⟨i, by omega⟩ j)) (fun k => x7 (ix4 1 ⟨i / 2048, by omega⟩ ⟨i % 2048, by omega⟩ k)) (fun j : Fin 3072 => x9 (ix2 ⟨i, by omega⟩ j)) (fun k j => x10 (ix2 k j)) (fun k j => x11 (ix2 k j)) (fun k j => x12 (ix2 k j)) (fun k j => x13 (ix2 k j)) (fun k => x14 (ix1 k)) (fun k j => x15 (ix2 k j)) (fun k j => x16 (ix2 k j)) j := by
  unfold mergeRow
  rw [← funext (prompt_resid x0 x2 x4 x6 x9 x10 x11 x12 x13 i)]
  unfold gated normed Ideal.logistic
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v6, val_main_v5, val_main_v4, val_main_cst_1, val_main_cst_2, val_main_cst_3, val_main_cst_4, val_main_cst_5]

/-- A sample row: the merged branches with their residual. -/
theorem sample_resid (x1 x3 x5 x6 x9 x10 x11 x12 x13) (i : Fin 1024) (j : Fin 1024) :
    val_main_v76 (F := Ideal) x1 x3 x5 x6 x9 x10 x11 x12 x13 (ix2 i j)
      = resid (fun j => x6 (ix2 ⟨16384 + i, by omega⟩ j)) (merged (fun j => (fun j : Fin 3072 => x9 (ix2 ⟨16384 + i, by omega⟩ j)) ⟨j, by omega⟩) (fun j => (fun j : Fin 3072 => x9 (ix2 ⟨16384 + i, by omega⟩ j)) ⟨1024 + j, by omega⟩) (fun j => (fun j : Fin 3072 => x9 (ix2 ⟨16384 + i, by omega⟩ j)) ⟨2048 + j, by omega⟩)
          (fun k => x1 (ix2 i k)) (fun k => x3 (ix2 i k)) (fun k => x5 (ix2 i k)) (fun k j => x10 (ix2 k j)) (fun k j => x11 (ix2 k j)) (fun k j => x12 (ix2 k j))) (fun k j => x13 (ix2 k j)) j := by
  unfold resid merged Ideal.logistic
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v53, val_main_v52, val_main_v51, val_main_v50, val_main_cst_6, val_main_cst_7]

/-- A sample row: the whole row. -/
theorem sample (x1 x3 x5 x6 x8 x9 x10 x11 x12 x13 x14 x15 x16) (i : Fin 1024) (j : Fin 1024) :
    val_main_v99 (F := Ideal) x1 x3 x5 x6 x8 x9 x10 x11 x12 x13 x14 x15 x16 (ix2 i j)
      = mergeRow (fun k => x1 (ix2 i k)) (fun k => x3 (ix2 i k)) (fun k => x5 (ix2 i k)) (fun j => x6 (ix2 ⟨16384 + i, by omega⟩ j)) (fun k => x8 (ix4 1 ⟨i / 32, by omega⟩ ⟨i % 32, by omega⟩ k)) (fun j : Fin 3072 => x9 (ix2 ⟨16384 + i, by omega⟩ j)) (fun k j => x10 (ix2 k j)) (fun k j => x11 (ix2 k j)) (fun k j => x12 (ix2 k j)) (fun k j => x13 (ix2 k j)) (fun k => x14 (ix1 k)) (fun k j => x15 (ix2 k j)) (fun k j => x16 (ix2 k j)) j := by
  unfold mergeRow
  rw [← funext (sample_resid x1 x3 x5 x6 x9 x10 x11 x12 x13 i)]
  unfold gated normed Ideal.logistic
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v56, val_main_v55, val_main_v54, val_main_cst_8, val_main_cst_9, val_main_cst_10, val_main_cst_11, val_main_cst_12]

/-- A prompt row as returned: the whole row, normalised. -/
theorem prompt_normed (x0 x2 x4 x6 x7 x9 x10 x11 x12 x13 x14 x15 x16 x17) (i : Fin 16384) (j : Fin 1024) :
    val_main_v112 (F := Ideal) x0 x2 x4 x6 x7 x9 x10 x11 x12 x13 x14 x15 x16 x17 (ix2 i j)
      = normed (mergeRow (fun k => x0 (ix2 i k)) (fun k => x2 (ix2 i k)) (fun k => x4 (ix2 i k)) (fun j => x6 (ix2 ⟨i, by omega⟩ j)) (fun k => x7 (ix4 1 ⟨i / 2048, by omega⟩ ⟨i % 2048, by omega⟩ k)) (fun j : Fin 3072 => x9 (ix2 ⟨i, by omega⟩ j)) (fun k j => x10 (ix2 k j)) (fun k j => x11 (ix2 k j)) (fun k j => x12 (ix2 k j)) (fun k j => x13 (ix2 k j)) (fun k => x14 (ix1 k)) (fun k j => x15 (ix2 k j)) (fun k j => x16 (ix2 k j))) (fun k => x17 (ix1 k)) j := by
  rw [← funext (prompt x0 x2 x4 x6 x7 x9 x10 x11 x12 x13 x14 x15 x16 i)]
  unfold normed
  pointwise [val_main_v112, val_main_v111, val_main_v110, val_main_v109, val_main_v108, val_main_v107, val_main_v106, val_main_v105, val_main_v104, val_main_v103, val_main_v102, val_main_v101, val_main_v100, val_main_cst_13, val_main_cst_14, val_main_cst_15]

/-- A sample row as returned: the whole row, normalised. -/
theorem sample_normed (x1 x3 x5 x6 x8 x9 x10 x11 x12 x13 x14 x15 x16 x17) (i : Fin 1024) (j : Fin 1024) :
    val_main_v125 (F := Ideal) x1 x3 x5 x6 x8 x9 x10 x11 x12 x13 x14 x15 x16 x17 (ix2 i j)
      = normed (mergeRow (fun k => x1 (ix2 i k)) (fun k => x3 (ix2 i k)) (fun k => x5 (ix2 i k)) (fun j => x6 (ix2 ⟨16384 + i, by omega⟩ j)) (fun k => x8 (ix4 1 ⟨i / 32, by omega⟩ ⟨i % 32, by omega⟩ k)) (fun j : Fin 3072 => x9 (ix2 ⟨16384 + i, by omega⟩ j)) (fun k j => x10 (ix2 k j)) (fun k j => x11 (ix2 k j)) (fun k j => x12 (ix2 k j)) (fun k j => x13 (ix2 k j)) (fun k => x14 (ix1 k)) (fun k j => x15 (ix2 k j)) (fun k j => x16 (ix2 k j))) (fun k => x17 (ix1 k)) j := by
  rw [← funext (sample x1 x3 x5 x6 x8 x9 x10 x11 x12 x13 x14 x15 x16 i)]
  unfold normed
  pointwise [val_main_v125, val_main_v124, val_main_v123, val_main_v122, val_main_v121, val_main_v120, val_main_v119, val_main_v118, val_main_v117, val_main_v116, val_main_v115, val_main_v114, val_main_v113, val_main_cst_16, val_main_cst_17, val_main_cst_18]

end Cert.MergeLastRefIdeal.Hand
end
-- ==== Proof.MergeLastFinal.lean ====
module

public import proofs.«01_k».proof.Proof.MergeLastBody
public import proofs.«01_k».proof.Proof.MergeLastRef

@[expose] public section

set_option maxRecDepth 16384

noncomputable section

/-! The last layer's merge: its two result arrays are the reference's, row by row. -/

namespace Cert.MergeLastIdeal.Hand

open Cert.MergeLastIdeal Cert.MergeLastIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- Where each window stands at a grid point. -/
theorem idx : ∀ t : Fin cfg0.N, win0_0.index t = ![min t.val 63, 0] ∧ win0_2.index t = ![min t.val 63, 0] ∧ win0_4.index t = ![min t.val 63, 0] ∧ win0_6.index t = ![min t.val 63, 0] ∧ win0_19.index t = ![min t.val 63, 0] ∧ win0_1.index t = ![t.val - 64, 0] ∧ win0_3.index t = ![t.val - 64, 0] ∧ win0_5.index t = ![t.val - 64, 0] ∧ win0_20.index t = ![t.val - 64, 0] ∧ win0_7.index t = ![64 + (t.val - 64), 0] ∧ win0_8.index t = ![64 + min t.val 63, 0] ∧ win0_9.index t = ![4 + (t.val - 64), 0] ∧ win0_10.index t = ![t.val, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] :=
  (by decide +kernel : ∀ t : Fin grid0.N, _)

/-- A grid point's number, read off its coordinates. -/
theorem coord_val (t : Fin cfg0.N) : (grid0.coords t 0).val = t.val :=
  (by decide +kernel : ∀ t : Fin grid0.N, (grid0.coords t 0).val = t.val) t

/-- What the region finds in `main_v0`: the prompt's per-layer embeddings, this layer's half last. -/
theorem entry_v0 (c : Dev nD) (a : Fin 32768) (ha : 16384 ≤ (a : ℕ)) (k : Fin 256) : V m c main_v0 (ix2 a k) = m (c, main_arg7) (ix4 1 ⟨(a - 16384) / 2048, by omega⟩ ⟨(a - 16384) % 2048, by omega⟩ k) := by
  entry_read; pointwise
  blk_ext

/-- What the region finds in `main_v1`: the sample's, this layer's half last. -/
theorem entry_v1 (c : Dev nD) (a : Fin 2048) (ha : 1024 ≤ (a : ℕ)) (k : Fin 256) : V m c main_v1 (ix2 a k) = m (c, main_arg8) (ix4 1 ⟨(a - 1024) / 32, by omega⟩ ⟨(a - 1024) % 32, by omega⟩ k) := by
  entry_read; pointwise
  blk_ext

/-- Window 11's block is its whole weight. -/
theorem weight11 (c : Dev nD) (t : Fin cfg0.N) (k : Fin 512) (j : Fin 1024) : iblk m c 11 t (ix2 k j) = m (c, main_arg10) (ix2 k j) := by
  have e : iblk m c 11 t (ix2 k j) = V m c main_v2 (ix2 k j) := by blk_point [iblk, idx t]
  rw [e]; entry_read; pointwise

/-- Window 12's block is its whole weight. -/
theorem weight12 (c : Dev nD) (t : Fin cfg0.N) (k : Fin 512) (j : Fin 1024) : iblk m c 12 t (ix2 k j) = m (c, main_arg11) (ix2 k j) := by
  have e : iblk m c 12 t (ix2 k j) = V m c main_v3 (ix2 k j) := by blk_point [iblk, idx t]
  rw [e]; entry_read; pointwise

/-- Window 13's block is its whole weight. -/
theorem weight13 (c : Dev nD) (t : Fin cfg0.N) (k : Fin 512) (j : Fin 1024) : iblk m c 13 t (ix2 k j) = m (c, main_arg12) (ix2 k j) := by
  have e : iblk m c 13 t (ix2 k j) = V m c main_v4 (ix2 k j) := by blk_point [iblk, idx t]
  rw [e]; entry_read; pointwise

/-- Window 14's block is its whole weight. -/
theorem weight14 (c : Dev nD) (t : Fin cfg0.N) (k : Fin 1024) (j : Fin 1024) : iblk m c 14 t (ix2 k j) = m (c, main_arg13) (ix2 k j) := by
  have e : iblk m c 14 t (ix2 k j) = V m c main_v5 (ix2 k j) := by blk_point [iblk, idx t]
  rw [e]; entry_read; pointwise

/-- Window 16's block is its whole weight. -/
theorem weight16 (c : Dev nD) (t : Fin cfg0.N) (k : Fin 1024) (j : Fin 1024) : iblk m c 16 t (ix2 k j) = m (c, main_arg15) (ix2 k j) := by
  have e : iblk m c 16 t (ix2 k j) = V m c main_v7 (ix2 k j) := by blk_point [iblk, idx t]
  rw [e]; entry_read; pointwise

/-- Window 17's block is its whole weight. -/
theorem weight17 (c : Dev nD) (t : Fin cfg0.N) (k : Fin 256) (j : Fin 1024) : iblk m c 17 t (ix2 k j) = m (c, main_arg16) (ix2 k j) := by
  have e : iblk m c 17 t (ix2 k j) = V m c main_v8 (ix2 k j) := by blk_point [iblk, idx t]
  rw [e]; entry_read; pointwise

/-- Window 15's block is its whole gain. -/
theorem gain15 (c : Dev nD) (t : Fin cfg0.N) (k : Fin 1024) : iblk m c 15 t (ix2 0 k) = m (c, main_arg14) (ix1 k) := by
  have e : iblk m c 15 t (ix2 0 k) = V m c main_v6 (ix2 0 k) := by blk_point [iblk, idx t]
  rw [e]; entry_read; pointwise

/-- Window 18's block is its whole gain. -/
theorem gain18 (c : Dev nD) (t : Fin cfg0.N) (k : Fin 1024) : iblk m c 18 t (ix2 0 k) = m (c, main_arg17) (ix1 k) := by
  have e : iblk m c 18 t (ix2 0 k) = V m c main_v9 (ix2 0 k) := by blk_point [iblk, idx t]
  rw [e]; entry_read; pointwise

/-- Window 0's block, row by row. -/
theorem block0 (c : Dev nD) (t : Fin cfg0.N) (h : t.val < 64) (r : Fin 256) (a : Fin 16384) (ha : (a : ℕ) = 256 * t.val + r) (k : Fin 512) :
    iblk m c 0 t (ix2 r k) = m (c, main_arg0) (ix2 a k) := by
  have ht : t.val < 68 := t.isLt
  blk_point [iblk, V, idx t]

/-- Window 2's block, row by row. -/
theorem block2 (c : Dev nD) (t : Fin cfg0.N) (h : t.val < 64) (r : Fin 256) (a : Fin 16384) (ha : (a : ℕ) = 256 * t.val + r) (k : Fin 512) :
    iblk m c 2 t (ix2 r k) = m (c, main_arg2) (ix2 a k) := by
  have ht : t.val < 68 := t.isLt
  blk_point [iblk, V, idx t]

/-- Window 4's block, row by row. -/
theorem block4 (c : Dev nD) (t : Fin cfg0.N) (h : t.val < 64) (r : Fin 256) (a : Fin 16384) (ha : (a : ℕ) = 256 * t.val + r) (k : Fin 512) :
    iblk m c 4 t (ix2 r k) = m (c, main_arg4) (ix2 a k) := by
  have ht : t.val < 68 := t.isLt
  blk_point [iblk, V, idx t]

/-- Window 1's block, row by row. -/
theorem block1 (c : Dev nD) (t : Fin cfg0.N) (h : ¬ t.val < 64) (r : Fin 256) (a : Fin 1024) (ha : (a : ℕ) = 256 * (t.val - 64) + r) (k : Fin 512) :
    iblk m c 1 t (ix2 r k) = m (c, main_arg1) (ix2 a k) := by
  have ht : t.val < 68 := t.isLt
  blk_point [iblk, V, idx t]

/-- Window 3's block, row by row. -/
theorem block3 (c : Dev nD) (t : Fin cfg0.N) (h : ¬ t.val < 64) (r : Fin 256) (a : Fin 1024) (ha : (a : ℕ) = 256 * (t.val - 64) + r) (k : Fin 512) :
    iblk m c 3 t (ix2 r k) = m (c, main_arg3) (ix2 a k) := by
  have ht : t.val < 68 := t.isLt
  blk_point [iblk, V, idx t]

/-- Window 5's block, row by row. -/
theorem block5 (c : Dev nD) (t : Fin cfg0.N) (h : ¬ t.val < 64) (r : Fin 256) (a : Fin 1024) (ha : (a : ℕ) = 256 * (t.val - 64) + r) (k : Fin 512) :
    iblk m c 5 t (ix2 r k) = m (c, main_arg5) (ix2 a k) := by
  have ht : t.val < 68 := t.isLt
  blk_point [iblk, V, idx t]

/-- Window 6's block, row by row. -/
theorem block6 (c : Dev nD) (t : Fin cfg0.N) (h : t.val < 64) (r : Fin 256) (a : Fin 16384) (ha : (a : ℕ) = 256 * t.val + r) (k : Fin 1024) :
    iblk m c 6 t (ix2 r k) = m (c, main_arg6) (ix2 ⟨a, by omega⟩ k) := by
  have ht : t.val < 68 := t.isLt
  blk_point [iblk, V, idx t]

/-- Window 7's block, row by row. -/
theorem block7 (c : Dev nD) (t : Fin cfg0.N) (h : ¬ t.val < 64) (r : Fin 256) (a : Fin 1024) (ha : (a : ℕ) = 256 * (t.val - 64) + r) (k : Fin 1024) :
    iblk m c 7 t (ix2 r k) = m (c, main_arg6) (ix2 ⟨16384 + a, by omega⟩ k) := by
  have ht : t.val < 68 := t.isLt
  blk_point [iblk, V, idx t]

/-- Window 8's block, row by row. -/
theorem block8 (c : Dev nD) (t : Fin cfg0.N) (h : t.val < 64) (r : Fin 256) (a : Fin 16384) (ha : (a : ℕ) = 256 * t.val + r) (k : Fin 256) :
    iblk m c 8 t (ix2 r k) = m (c, main_arg7) (ix4 1 ⟨a / 2048, by omega⟩ ⟨a % 2048, by omega⟩ k) := by
  have ht : t.val < 68 := t.isLt
  have e : iblk m c 8 t (ix2 r k) = V m c main_v0 (ix2 ⟨16384 + a, by omega⟩ k) := by blk_point [iblk, idx t]
  rw [e, entry_v0 _ _ _ (by simp)]
  blk_ext

/-- Window 9's block, row by row. -/
theorem block9 (c : Dev nD) (t : Fin cfg0.N) (h : ¬ t.val < 64) (r : Fin 256) (a : Fin 1024) (ha : (a : ℕ) = 256 * (t.val - 64) + r) (k : Fin 256) :
    iblk m c 9 t (ix2 r k) = m (c, main_arg8) (ix4 1 ⟨a / 32, by omega⟩ ⟨a % 32, by omega⟩ k) := by
  have ht : t.val < 68 := t.isLt
  have e : iblk m c 9 t (ix2 r k) = V m c main_v1 (ix2 ⟨1024 + a, by omega⟩ k) := by blk_point [iblk, idx t]
  rw [e, entry_v1 _ _ _ (by simp)]
  blk_ext

/-- The gates' block, row by row. -/
theorem gates (c : Dev nD) (t : Fin cfg0.N) (r : Fin 256) (a : Fin 17408) (ha : (a : ℕ) = 256 * t.val + r) (k : Fin 3072) :
    iblk m c 10 t (ix2 r k) = m (c, main_arg9) (ix2 a k) := by
  blk_point [iblk, V, idx t]

/-- One entry of what a prompt point leaves is the reference's entry there. -/
theorem point_prompt (c : Dev nD) (t : Fin cfg0.N) (h : t.val < 64) (r : Fin 256) (j : Fin 1024) (i : Fin 16384) (hi : (i : ℕ) = 256 * t.val + r) :
    Run.outAt (F := Ideal) m c t (ix2 r j)
      = Cert.MergeLastRefIdeal.Read.val_main_v112 (F := Ideal) (m (c, main_arg0)) (m (c, main_arg2)) (m (c, main_arg4)) (m (c, main_arg6)) (m (c, main_arg7)) (m (c, main_arg9)) (m (c, main_arg10)) (m (c, main_arg11)) (m (c, main_arg12)) (m (c, main_arg13)) (m (c, main_arg14)) (m (c, main_arg15)) (m (c, main_arg16)) (m (c, main_arg17)) (ix2 i j) := by
  have ht : t.val < 68 := t.isLt
  unfold Run.outAt
  rw [out_row, coord_val, Cert.MergeLastRefIdeal.Hand.prompt_normed]
  simp only [weight11, weight12, weight13, weight14, weight16, weight17, gain15, gain18, gates m c t r ⟨i, by omega⟩ hi, h, if_true, block0 m c t h r i hi, block2 m c t h r i hi, block4 m c t h r i hi, block6 m c t h r i hi, block8 m c t h r i hi]

/-- One entry of what a sample point leaves is the reference's entry there. -/
theorem point_sample (c : Dev nD) (t : Fin cfg0.N) (h : ¬ t.val < 64) (r : Fin 256) (j : Fin 1024) (i : Fin 1024) (hi : (i : ℕ) = 256 * (t.val - 64) + r) :
    Run.outAt (F := Ideal) m c t (ix2 r j)
      = Cert.MergeLastRefIdeal.Read.val_main_v125 (F := Ideal) (m (c, main_arg1)) (m (c, main_arg3)) (m (c, main_arg5)) (m (c, main_arg6)) (m (c, main_arg8)) (m (c, main_arg9)) (m (c, main_arg10)) (m (c, main_arg11)) (m (c, main_arg12)) (m (c, main_arg13)) (m (c, main_arg14)) (m (c, main_arg15)) (m (c, main_arg16)) (m (c, main_arg17)) (ix2 i j) := by
  have ht : t.val < 68 := t.isLt
  unfold Run.outAt
  rw [out_row, coord_val, Cert.MergeLastRefIdeal.Hand.sample_normed]
  simp only [weight11, weight12, weight13, weight14, weight16, weight17, gain15, gain18, gates m c t r ⟨16384 + i, by omega⟩ (by show 16384 + i.val = 256 * t.val + r.val; omega), h, if_false, block1 m c t h r i hi, block3 m c t h r i hi, block5 m c t h r i hi, block7 m c t h r i hi, block9 m c t h r i hi]

/-- The prompt result's array after the run. -/
theorem final19 (c : Dev nD) : (Run.dats m 0 c).arrAt 19 (cfgs 0).N = Cert.MergeLastRefIdeal.Read.val_main_v112 (F := Ideal) (m (c, main_arg0)) (m (c, main_arg2)) (m (c, main_arg4)) (m (c, main_arg6)) (m (c, main_arg7)) (m (c, main_arg9)) (m (c, main_arg10)) (m (c, main_arg11)) (m (c, main_arg12)) (m (c, main_arg13)) (m (c, main_arg14)) (m (c, main_arg15)) (m (c, main_arg16)) (m (c, main_arg17)) := by
  refine (Run.dats m 0 c).arrAt_eq_of_covers 19 _ (by decide +kernel) fun t hf y => ?_
  blk_simp
  rw [Run.after_19]
  have ht : t.val < 68 := t.isLt
  have h : (Run.upto t).val < 64 := by show min t.val 63 < 64; omega
  idx_vars y
  refine (point_prompt m c (Run.upto t) h y0 y1 ⟨256 * min t.val 63 + y0.val, by omega⟩ rfl).trans ?_
  blk_ext [idx t]

/-- The sample result's array after the run. -/
theorem final20 (c : Dev nD) : (Run.dats m 0 c).arrAt 20 (cfgs 0).N = Cert.MergeLastRefIdeal.Read.val_main_v125 (F := Ideal) (m (c, main_arg1)) (m (c, main_arg3)) (m (c, main_arg5)) (m (c, main_arg6)) (m (c, main_arg8)) (m (c, main_arg9)) (m (c, main_arg10)) (m (c, main_arg11)) (m (c, main_arg12)) (m (c, main_arg13)) (m (c, main_arg14)) (m (c, main_arg15)) (m (c, main_arg16)) (m (c, main_arg17)) := by
  refine (Run.dats m 0 c).arrAt_eq_of_covers 20 _ (by decide +kernel) fun t hf y => ?_
  blk_simp
  rw [Run.after_20]
  have ht : t.val < 68 := t.isLt
  have h : ¬ t.val < 64 := fun hl => by rw [Run.flush_sample t hl] at hf; exact absurd hf (by decide)
  idx_vars y
  refine (point_sample m c t h y0 y1 ⟨256 * (t.val - 64) + y0.val, by omega⟩ rfl).trans ?_
  blk_ext [idx t]

end Cert.MergeLastIdeal.Hand
end
-- ==== Proof.MergeLastClaim.lean ====
module

public import proofs.«01_k».proof.Defs
public import proofs.«01_k».proof.Proof.MergeLastFinal
public import proofs.«01_k».proof.Proof.Gen.MergeLastRefIdeal.Run

@[expose] public section

set_option maxRecDepth 16384
set_option maxHeartbeats 4000000

noncomputable section

namespace Cert.MergeLastIdeal.Hand

open Idealize.ShloMosaic Idealize.ShloMosaic.TcCoe Idealize.SL.Sem

/-- The last layer's merge and its reference, from equal arguments, end with equal results. -/
theorem algebraic : Cert.algebraic_MergeLastIdeal_MergeLastRefIdeal (hMergeLastIdeal := Cert.MergeLastIdeal.Gen.facts) (hMergeLastRefIdeal := Cert.MergeLastRefIdeal.Gen.facts) := by
  intro m g m' g' hpre hagree
  refine ⟨fun c => Cert.MergeLastRefIdeal.Read.val_main_v112 (F := Ideal) (m (c, Cert.MergeLastIdeal.main_arg0)) (m (c, Cert.MergeLastIdeal.main_arg2)) (m (c, Cert.MergeLastIdeal.main_arg4)) (m (c, Cert.MergeLastIdeal.main_arg6)) (m (c, Cert.MergeLastIdeal.main_arg7)) (m (c, Cert.MergeLastIdeal.main_arg9)) (m (c, Cert.MergeLastIdeal.main_arg10)) (m (c, Cert.MergeLastIdeal.main_arg11)) (m (c, Cert.MergeLastIdeal.main_arg12)) (m (c, Cert.MergeLastIdeal.main_arg13)) (m (c, Cert.MergeLastIdeal.main_arg14)) (m (c, Cert.MergeLastIdeal.main_arg15)) (m (c, Cert.MergeLastIdeal.main_arg16)) (m (c, Cert.MergeLastIdeal.main_arg17)), fun c => Cert.MergeLastRefIdeal.Read.val_main_v125 (F := Ideal) (m (c, Cert.MergeLastIdeal.main_arg1)) (m (c, Cert.MergeLastIdeal.main_arg3)) (m (c, Cert.MergeLastIdeal.main_arg5)) (m (c, Cert.MergeLastIdeal.main_arg6)) (m (c, Cert.MergeLastIdeal.main_arg8)) (m (c, Cert.MergeLastIdeal.main_arg9)) (m (c, Cert.MergeLastIdeal.main_arg10)) (m (c, Cert.MergeLastIdeal.main_arg11)) (m (c, Cert.MergeLastIdeal.main_arg12)) (m (c, Cert.MergeLastIdeal.main_arg13)) (m (c, Cert.MergeLastIdeal.main_arg14)) (m (c, Cert.MergeLastIdeal.main_arg15)) (m (c, Cert.MergeLastIdeal.main_arg16)) (m (c, Cert.MergeLastIdeal.main_arg17)), ?_, ?_⟩
  · run_from Cert.MergeLastIdeal.Run.run_main m g
    · exact (hc.1 19).trans (final19 m c)
    · exact (hc.1 20).trans (final20 m c)
  · refine (θ_run _ _ _).mono (fun r h c => ?_) (Cert.MergeLastRefIdeal.Value.run m' g')
    obtain ⟨h0, h1, h2, h3, h4, h5, h6, h7, h8, h9, h10, h11, h12, h13, h14, h15, h16, h17⟩ := hagree c
    obtain ⟨r0, r1, a0, a1, a2, a3, a4, a5, a6, a7, a8, a9, a10, a11, a12, a13, a14, a15, a16, a17⟩ := h c
    refine ⟨r0.trans ?_, r1.trans ?_, a0, a1, a2, a3, a4, a5, a6, a7, a8, a9, a10, a11, a12, a13, a14, a15, a16, a17⟩
    · exact (Cert.MergeLastRefIdeal.Read.val_main_v112_eq ..).trans (by change Cert.MergeLastRefIdeal.Read.val_main_v112 (F := Ideal) (m' (c.tc.loc Cert.MergeLastRefIdeal.main_arg0)) (m' (c.tc.loc Cert.MergeLastRefIdeal.main_arg2)) (m' (c.tc.loc Cert.MergeLastRefIdeal.main_arg4)) (m' (c.tc.loc Cert.MergeLastRefIdeal.main_arg6)) (m' (c.tc.loc Cert.MergeLastRefIdeal.main_arg7)) (m' (c.tc.loc Cert.MergeLastRefIdeal.main_arg9)) (m' (c.tc.loc Cert.MergeLastRefIdeal.main_arg10)) (m' (c.tc.loc Cert.MergeLastRefIdeal.main_arg11)) (m' (c.tc.loc Cert.MergeLastRefIdeal.main_arg12)) (m' (c.tc.loc Cert.MergeLastRefIdeal.main_arg13)) (m' (c.tc.loc Cert.MergeLastRefIdeal.main_arg14)) (m' (c.tc.loc Cert.MergeLastRefIdeal.main_arg15)) (m' (c.tc.loc Cert.MergeLastRefIdeal.main_arg16)) (m' (c.tc.loc Cert.MergeLastRefIdeal.main_arg17)) = _; rw [h0, h2, h4, h6, h7, h9, h10, h11, h12, h13, h14, h15, h16, h17])
    · exact (Cert.MergeLastRefIdeal.Read.val_main_v125_eq ..).trans (by change Cert.MergeLastRefIdeal.Read.val_main_v125 (F := Ideal) (m' (c.tc.loc Cert.MergeLastRefIdeal.main_arg1)) (m' (c.tc.loc Cert.MergeLastRefIdeal.main_arg3)) (m' (c.tc.loc Cert.MergeLastRefIdeal.main_arg5)) (m' (c.tc.loc Cert.MergeLastRefIdeal.main_arg6)) (m' (c.tc.loc Cert.MergeLastRefIdeal.main_arg8)) (m' (c.tc.loc Cert.MergeLastRefIdeal.main_arg9)) (m' (c.tc.loc Cert.MergeLastRefIdeal.main_arg10)) (m' (c.tc.loc Cert.MergeLastRefIdeal.main_arg11)) (m' (c.tc.loc Cert.MergeLastRefIdeal.main_arg12)) (m' (c.tc.loc Cert.MergeLastRefIdeal.main_arg13)) (m' (c.tc.loc Cert.MergeLastRefIdeal.main_arg14)) (m' (c.tc.loc Cert.MergeLastRefIdeal.main_arg15)) (m' (c.tc.loc Cert.MergeLastRefIdeal.main_arg16)) (m' (c.tc.loc Cert.MergeLastRefIdeal.main_arg17)) = _; rw [h1, h3, h5, h6, h8, h9, h10, h11, h12, h13, h14, h15, h16, h17])

end Cert.MergeLastIdeal.Hand
end
-- ==== Proof.lean ====
/- The certificate of the layer's calls: each call and its reference run to an end, and their results agree
   when the operations are exact. The work is in the modules under Proof/. -/
module

public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.ProjClaim
public import proofs.«01_k».proof.Proof.AttnKeysFrame
public import proofs.«01_k».proof.Proof.AttnKeysIdealFrame
public import proofs.«01_k».proof.Proof.Gen.AttnKeysRefIdeal.Run
public import proofs.«01_k».proof.Proof.AttnKeysClaim
public import proofs.«01_k».proof.Proof.Gen.GmlpSample.Frame
public import proofs.«01_k».proof.Proof.Gen.GmlpSampleIdeal.Frame
public import proofs.«01_k».proof.Proof.Gen.GmlpSampleRefIdeal.Run
public import proofs.«01_k».proof.Proof.GmlpSampleClaim
public import proofs.«01_k».proof.Proof.Gen.ConvSample.Frame
public import proofs.«01_k».proof.Proof.Gen.ConvSampleIdeal.Frame
public import proofs.«01_k».proof.Proof.Gen.ConvSampleRefIdeal.Run
public import proofs.«01_k».proof.Proof.ConvSampleClaim
public import proofs.«01_k».proof.Proof.Gen.Merge.Frame
public import proofs.«01_k».proof.Proof.Gen.MergeIdeal.Frame
public import proofs.«01_k».proof.Proof.Gen.MergeRefIdeal.Run
public import proofs.«01_k».proof.Proof.MergeClaim
public import proofs.«01_k».proof.Proof.MergeLastFrame
public import proofs.«01_k».proof.Proof.MergeLastIdealFrame
public import proofs.«01_k».proof.Proof.Gen.MergeLastRefIdeal.Run
public import proofs.«01_k».proof.Proof.MergeLastClaim
public import Idealize.ShloMosaic.Adequacy
public import Idealize.ShloMosaic.Init

@[expose] public section

noncomputable section

namespace Cert.Proof

open Idealize.ShloMosaic Idealize.SL.Sem

/-- Proj's reference ends, with its arguments and counters as the claim asks. -/
theorem endsProjRef : Cert.quiescent_ProjRefIdeal (hProjRefIdeal := Cert.ProjRefIdeal.Gen.facts) := by
  intro m g _
  exact (θ_run _ _ _).mono (fun r h => ⟨fun c => (h c).2.2.2.2.2.2.2.2, sem_eq_zero_of_no_sems rfl _⟩)
    (Cert.ProjRefIdeal.Value.run m g)

/-- AttnKeys's reference ends, with its arguments and counters as the claim asks. -/
theorem endsAttnKeysRef : Cert.quiescent_AttnKeysRefIdeal (hAttnKeysRefIdeal := Cert.AttnKeysRefIdeal.Gen.facts) := by
  intro m g _
  exact (θ_run _ _ _).mono (fun r h => ⟨fun c => (h c).2.2.2, sem_eq_zero_of_no_sems rfl _⟩)
    (Cert.AttnKeysRefIdeal.Value.run m g)

/-- GmlpSample's reference ends, with its arguments and counters as the claim asks. -/
theorem endsGmlpSampleRef : Cert.quiescent_GmlpSampleRefIdeal (hGmlpSampleRefIdeal := Cert.GmlpSampleRefIdeal.Gen.facts) := by
  intro m g _
  exact (θ_run _ _ _).mono (fun r h => ⟨fun c => (h c).2.2, sem_eq_zero_of_no_sems rfl _⟩)
    (Cert.GmlpSampleRefIdeal.Value.run m g)

/-- ConvSample's reference ends, with its arguments and counters as the claim asks. -/
theorem endsConvSampleRef : Cert.quiescent_ConvSampleRefIdeal (hConvSampleRefIdeal := Cert.ConvSampleRefIdeal.Gen.facts) := by
  intro m g _
  exact (θ_run _ _ _).mono (fun r h => ⟨fun c => (h c).2.2, sem_eq_zero_of_no_sems rfl _⟩)
    (Cert.ConvSampleRefIdeal.Value.run m g)

/-- Merge's reference ends, with its arguments and counters as the claim asks. -/
theorem endsMergeRef : Cert.quiescent_MergeRefIdeal (hMergeRefIdeal := Cert.MergeRefIdeal.Gen.facts) := by
  intro m g _
  exact (θ_run _ _ _).mono (fun r h => ⟨fun c => (h c).2, sem_eq_zero_of_no_sems rfl _⟩)
    (Cert.MergeRefIdeal.Value.run m g)

/-- MergeLast's reference ends, with its arguments and counters as the claim asks. -/
theorem endsMergeLastRef : Cert.quiescent_MergeLastRefIdeal (hMergeLastRefIdeal := Cert.MergeLastRefIdeal.Gen.facts) := by
  intro m g _
  exact (θ_run _ _ _).mono (fun r h => ⟨fun c => (h c).2.2, sem_eq_zero_of_no_sems rfl _⟩)
    (Cert.MergeLastRefIdeal.Value.run m g)

/-- Every claim, in the order in which the certificate lists them. -/
theorem claim : Cert.Claim :=
  ⟨Cert.Proj.Gen.facts,
   Cert.ProjIdeal.Gen.facts,
   Cert.ProjRefIdeal.Gen.facts,
   Cert.AttnKeys.Gen.facts,
   Cert.AttnKeysIdeal.Gen.facts,
   Cert.AttnKeysRefIdeal.Gen.facts,
   Cert.GmlpSample.Gen.facts,
   Cert.GmlpSampleIdeal.Gen.facts,
   Cert.GmlpSampleRefIdeal.Gen.facts,
   Cert.ConvSample.Gen.facts,
   Cert.ConvSampleIdeal.Gen.facts,
   Cert.ConvSampleRefIdeal.Gen.facts,
   Cert.Merge.Gen.facts,
   Cert.MergeIdeal.Gen.facts,
   Cert.MergeRefIdeal.Gen.facts,
   Cert.MergeLast.Gen.facts,
   Cert.MergeLastIdeal.Gen.facts,
   Cert.MergeLastRefIdeal.Gen.facts,
   fun m ρ _ => Cert.Proj.Gen.frame m ρ,
   fun m ρ _ => Cert.ProjIdeal.Gen.frame m ρ,
   endsProjRef,
   fun m ρ _ => Cert.AttnKeys.Run.frame m ρ,
   fun m ρ _ => Cert.AttnKeysIdeal.Run.frame m ρ,
   endsAttnKeysRef,
   fun m ρ _ => Cert.GmlpSample.Gen.frame m ρ,
   fun m ρ _ => Cert.GmlpSampleIdeal.Gen.frame m ρ,
   endsGmlpSampleRef,
   fun m ρ _ => Cert.ConvSample.Gen.frame m ρ,
   fun m ρ _ => Cert.ConvSampleIdeal.Gen.frame m ρ,
   endsConvSampleRef,
   fun m ρ _ => Cert.Merge.Gen.frame m ρ,
   fun m ρ _ => Cert.MergeIdeal.Gen.frame m ρ,
   endsMergeRef,
   fun m ρ _ => Cert.MergeLast.Run.frame m ρ,
   fun m ρ _ => Cert.MergeLastIdeal.Run.frame m ρ,
   endsMergeLastRef,
   trivial,
   Cert.ProjIdeal.Hand.algebraic,
   trivial,
   Cert.AttnKeysIdeal.Hand.algebraic,
   trivial,
   Cert.GmlpSampleIdeal.Hand.algebraic,
   trivial,
   Cert.ConvSampleIdeal.Hand.algebraic,
   trivial,
   Cert.MergeIdeal.Hand.algebraic,
   trivial,
   Cert.MergeLastIdeal.Hand.algebraic⟩

end Cert.Proof

end
